-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_sorted_cuts [hPre_sorted_cuts : Cert.Pre_sorted_cuts.Facts] (m : (ℓ : Loc Cert.AttnIdeal.nD Cert.AttnIdeal.τ Cert.AttnIdeal.sig) → Buf (Elt Ideal) ℓ) : Prop :=
  ∀ c : Dev Cert.AttnIdeal.nD,
    (Cert.Pre_sorted_cuts.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_sorted_cuts [hPre_sorted_cuts : Cert.Pre_sorted_cuts.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_sorted_cuts.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvIdeal_nonzero_scales [hPre_nonzero_scales : Cert.Pre_nonzero_scales.Facts] (m : (ℓ : Loc Cert.QkvIdeal.nD Cert.QkvIdeal.τ Cert.QkvIdeal.sig) → Buf (Elt Ideal) ℓ) : Prop :=
  ∀ c : Dev Cert.QkvIdeal.nD,
    (Cert.Pre_nonzero_scales.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)) (m ((c.tc : Thread Cert.QkvIdeal.nD Cert.QkvIdeal.τ).loc Cert.QkvIdeal.main_arg8)) (m ((c.tc : Thread Cert.QkvIdeal.nD Cert.QkvIdeal.τ).loc Cert.QkvIdeal.main_arg9))) = (fun _ => 1#1)

def Pre_QkvRefIdeal (m : (ℓ : Loc Cert.QkvRefIdeal.nD Cert.QkvRefIdeal.τ Cert.QkvRefIdeal.sig) → Buf (Elt Ideal) ℓ) : Prop :=
  True

def Pre_QkvRefIdeal_nonzero_scales [hPre_nonzero_scales : Cert.Pre_nonzero_scales.Facts] (m : (ℓ : Loc Cert.QkvRefIdeal.nD Cert.QkvRefIdeal.τ Cert.QkvRefIdeal.sig) → Buf (Elt Ideal) ℓ) : Prop :=
  ∀ c : Dev Cert.QkvRefIdeal.nD,
    (Cert.Pre_nonzero_scales.fn (F := Ideal) (m ((c.tc : Thread Cert.QkvRefIdeal.nD Cert.QkvRefIdeal.τ).loc Cert.QkvRefIdeal.main_arg0)) (m ((c.tc : Thread Cert.QkvRefIdeal.nD Cert.QkvRefIdeal.τ).loc Cert.QkvRefIdeal.main_arg1)) (m ((c.tc : Thread Cert.QkvRefIdeal.nD Cert.QkvRefIdeal.τ).loc Cert.QkvRefIdeal.main_arg2)) (m ((c.tc : Thread Cert.QkvRefIdeal.nD Cert.QkvRefIdeal.τ).loc Cert.QkvRefIdeal.main_arg3)) (m ((c.tc : Thread Cert.QkvRefIdeal.nD Cert.QkvRefIdeal.τ).loc Cert.QkvRefIdeal.main_arg4)) (m ((c.tc : Thread Cert.QkvRefIdeal.nD Cert.QkvRefIdeal.τ).loc Cert.QkvRefIdeal.main_arg5)) (m ((c.tc : Thread Cert.QkvRefIdeal.nD Cert.QkvRefIdeal.τ).loc Cert.QkvRefIdeal.main_arg6)) (m ((c.tc : Thread Cert.QkvRefIdeal.nD Cert.QkvRefIdeal.τ).loc Cert.QkvRefIdeal.main_arg7)) (m ((c.tc : Thread Cert.QkvRefIdeal.nD Cert.QkvRefIdeal.τ).loc Cert.QkvRefIdeal.main_arg8)) (m ((c.tc : Thread Cert.QkvRefIdeal.nD Cert.QkvRefIdeal.τ).loc Cert.QkvRefIdeal.main_arg9))) = (fun _ => 1#1)

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_sorted_cuts [hAttnIdeal : Cert.AttnIdeal.Facts] [hPre_sorted_cuts : Cert.Pre_sorted_cuts.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_sorted_cuts m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_sorted_cuts [hAttnRefIdeal : Cert.AttnRefIdeal.Facts] [hPre_sorted_cuts : Cert.Pre_sorted_cuts.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_sorted_cuts m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8)
      ∧ r.2.mem ((c.tc : Thread Cert.Qkv.nD Cert.Qkv.τ).loc Cert.Qkv.main_arg9) = m ((c.tc : Thread Cert.Qkv.nD Cert.Qkv.τ).loc Cert.Qkv.main_arg9))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9))
      ∧ r.2.sem = fun _ => 0)

def quiescent_QkvIdeal_pre_nonzero_scales [hQkvIdeal : Cert.QkvIdeal.Facts] [hPre_nonzero_scales : Cert.Pre_nonzero_scales.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal_nonzero_scales m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9))
      ∧ r.2.sem = fun _ => 0)

def quiescent_QkvRefIdeal_pre_nonzero_scales [hQkvRefIdeal : Cert.QkvRefIdeal.Facts] [hPre_nonzero_scales : Cert.Pre_nonzero_scales.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal_nonzero_scales m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4)
      ∧ r.2.mem ((c.tc : Thread Cert.OprojRefIdeal.nD Cert.OprojRefIdeal.τ).loc Cert.OprojRefIdeal.main_arg5) = m ((c.tc : Thread Cert.OprojRefIdeal.nD Cert.OprojRefIdeal.τ).loc Cert.OprojRefIdeal.main_arg5))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def preserves_Attn_AttnIdeal : Prop :=
  True

def algebraic_AttnIdeal_AttnRefIdeal_pre_sorted_cuts [hAttnIdeal : Cert.AttnIdeal.Facts] [hAttnRefIdeal : Cert.AttnRefIdeal.Facts] [hPre_sorted_cuts : Cert.Pre_sorted_cuts.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_sorted_cuts m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v2_0)) (v1 : (c : Dev Cert.AttnIdeal.nD) → Buf (Elt Ideal) ((c.tc : Thread Cert.AttnIdeal.nD Cert.AttnIdeal.τ).loc Cert.AttnIdeal.main_v2_1)) (v2 : (c : Dev Cert.AttnIdeal.nD) → Buf (Elt Ideal) ((c.tc : Thread Cert.AttnIdeal.nD Cert.AttnIdeal.τ).loc Cert.AttnIdeal.main_v2_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v2_0) = v0 c
          ∧ r.2.mem ((c.tc : Thread Cert.AttnIdeal.nD Cert.AttnIdeal.τ).loc Cert.AttnIdeal.main_v2_1) = v1 c
          ∧ r.2.mem ((c.tc : Thread Cert.AttnIdeal.nD Cert.AttnIdeal.τ).loc Cert.AttnIdeal.main_v2_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v12_0) = v0 c
          ∧ r.2.mem ((c.tc : Thread Cert.AttnRefIdeal.nD Cert.AttnRefIdeal.τ).loc Cert.AttnRefIdeal.main_v12_1) = v1 c
          ∧ r.2.mem ((c.tc : Thread Cert.AttnRefIdeal.nD Cert.AttnRefIdeal.τ).loc Cert.AttnRefIdeal.main_v12_2) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Qkv_QkvIdeal : Prop :=
  True

def algebraic_QkvIdeal_QkvRefIdeal_pre_nonzero_scales [hQkvIdeal : Cert.QkvIdeal.Facts] [hQkvRefIdeal : Cert.QkvRefIdeal.Facts] [hPre_nonzero_scales : Cert.Pre_nonzero_scales.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal_nonzero_scales m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)
      ∧ m' ((c.tc : Thread Cert.QkvRefIdeal.nD Cert.QkvRefIdeal.τ).loc Cert.QkvRefIdeal.main_arg9) = m ((c.tc : Thread Cert.QkvIdeal.nD Cert.QkvIdeal.τ).loc Cert.QkvIdeal.main_arg9)) →
    ∃ (v0 : (c : Dev Cert.QkvIdeal.nD) → Buf (Elt Ideal) ((c.tc : Thread Cert.QkvIdeal.nD Cert.QkvIdeal.τ).loc Cert.QkvIdeal.main_v6_0)) (v1 : (c : Dev Cert.QkvIdeal.nD) → Buf (Elt Ideal) ((c.tc : Thread Cert.QkvIdeal.nD Cert.QkvIdeal.τ).loc Cert.QkvIdeal.main_v6_1)) (v2 : (c : Dev Cert.QkvIdeal.nD) → Buf (Elt Ideal) ((c.tc : Thread Cert.QkvIdeal.nD Cert.QkvIdeal.τ).loc Cert.QkvIdeal.main_v6_2)) (v3 : (c : Dev Cert.QkvIdeal.nD) → Buf (Elt Ideal) ((c.tc : Thread Cert.QkvIdeal.nD Cert.QkvIdeal.τ).loc Cert.QkvIdeal.main_v6_3)) (v4 : (c : Dev Cert.QkvIdeal.nD) → Buf (Elt Ideal) ((c.tc : Thread Cert.QkvIdeal.nD Cert.QkvIdeal.τ).loc Cert.QkvIdeal.main_v6_4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v6_0) = v0 c
          ∧ r.2.mem ((c.tc : Thread Cert.QkvIdeal.nD Cert.QkvIdeal.τ).loc Cert.QkvIdeal.main_v6_1) = v1 c
          ∧ r.2.mem ((c.tc : Thread Cert.QkvIdeal.nD Cert.QkvIdeal.τ).loc Cert.QkvIdeal.main_v6_2) = v2 c
          ∧ r.2.mem ((c.tc : Thread Cert.QkvIdeal.nD Cert.QkvIdeal.τ).loc Cert.QkvIdeal.main_v6_3) = v3 c
          ∧ r.2.mem ((c.tc : Thread Cert.QkvIdeal.nD Cert.QkvIdeal.τ).loc Cert.QkvIdeal.main_v6_4) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
          ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v2_0) = v0 c
          ∧ r.2.mem ((c.tc : Thread Cert.QkvRefIdeal.nD Cert.QkvRefIdeal.τ).loc Cert.QkvRefIdeal.main_v2_1) = v1 c
          ∧ r.2.mem ((c.tc : Thread Cert.QkvRefIdeal.nD Cert.QkvRefIdeal.τ).loc Cert.QkvRefIdeal.main_v2_2) = v2 c
          ∧ r.2.mem ((c.tc : Thread Cert.QkvRefIdeal.nD Cert.QkvRefIdeal.τ).loc Cert.QkvRefIdeal.main_v2_3) = v3 c
          ∧ r.2.mem ((c.tc : Thread Cert.QkvRefIdeal.nD Cert.QkvRefIdeal.τ).loc Cert.QkvRefIdeal.main_v2_4) = v4 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8)
          ∧ r.2.mem ((c.tc : Thread Cert.QkvRefIdeal.nD Cert.QkvRefIdeal.τ).loc Cert.QkvRefIdeal.main_arg9) = m' ((c.tc : Thread Cert.QkvRefIdeal.nD Cert.QkvRefIdeal.τ).loc Cert.QkvRefIdeal.main_arg9))

def preserves_Oproj_OprojIdeal : Prop :=
  True

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)
      ∧ m' ((c.tc : Thread Cert.OprojRefIdeal.nD Cert.OprojRefIdeal.τ).loc Cert.OprojRefIdeal.main_arg5) = m ((c.tc : Thread Cert.OprojIdeal.nD Cert.OprojIdeal.τ).loc Cert.OprojIdeal.main_arg5)) →
    ∃ (v0 : (c : Dev Cert.OprojIdeal.nD) → Buf (Elt Ideal) ((c.tc : Thread Cert.OprojIdeal.nD Cert.OprojIdeal.τ).loc Cert.OprojIdeal.main_v4_0)) (v1 : (c : Dev Cert.OprojIdeal.nD) → Buf (Elt Ideal) ((c.tc : Thread Cert.OprojIdeal.nD Cert.OprojIdeal.τ).loc Cert.OprojIdeal.main_v4_1)) (v2 : (c : Dev Cert.OprojIdeal.nD) → Buf (Elt Ideal) ((c.tc : Thread Cert.OprojIdeal.nD Cert.OprojIdeal.τ).loc Cert.OprojIdeal.main_v4_2)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v4_0) = v0 c
          ∧ r.2.mem ((c.tc : Thread Cert.OprojIdeal.nD Cert.OprojIdeal.τ).loc Cert.OprojIdeal.main_v4_1) = v1 c
          ∧ r.2.mem ((c.tc : Thread Cert.OprojIdeal.nD Cert.OprojIdeal.τ).loc Cert.OprojIdeal.main_v4_2) = v2 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
          ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v3_0) = v0 c
          ∧ r.2.mem ((c.tc : Thread Cert.OprojRefIdeal.nD Cert.OprojRefIdeal.τ).loc Cert.OprojRefIdeal.main_v3_1) = v1 c
          ∧ r.2.mem ((c.tc : Thread Cert.OprojRefIdeal.nD Cert.OprojRefIdeal.τ).loc Cert.OprojRefIdeal.main_v3_2) = v2 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4)
          ∧ r.2.mem ((c.tc : Thread Cert.OprojRefIdeal.nD Cert.OprojRefIdeal.τ).loc Cert.OprojRefIdeal.main_arg5) = m' ((c.tc : Thread Cert.OprojRefIdeal.nD Cert.OprojRefIdeal.τ).loc Cert.OprojRefIdeal.main_arg5))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)) →
    ∃ (v0 : (c : Dev Cert.GateUpIdeal.nD) → Buf (Elt Ideal) ((c.tc : Thread Cert.GateUpIdeal.nD Cert.GateUpIdeal.τ).loc Cert.GateUpIdeal.main_v2_0)) (v1 : (c : Dev Cert.GateUpIdeal.nD) → Buf (Elt Ideal) ((c.tc : Thread Cert.GateUpIdeal.nD Cert.GateUpIdeal.τ).loc Cert.GateUpIdeal.main_v2_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v2_0) = v0 c
          ∧ r.2.mem ((c.tc : Thread Cert.GateUpIdeal.nD Cert.GateUpIdeal.τ).loc Cert.GateUpIdeal.main_v2_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v0_0) = v0 c
          ∧ r.2.mem ((c.tc : Thread Cert.GateUpRefIdeal.nD Cert.GateUpRefIdeal.τ).loc Cert.GateUpRefIdeal.main_v0_1) = v1 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def Claim : Prop :=
  ∃ (hAttn : Cert.Attn.Facts) (hAttnIdeal : Cert.AttnIdeal.Facts) (hAttnRefIdeal : Cert.AttnRefIdeal.Facts) (hQkv : Cert.Qkv.Facts) (hQkvIdeal : Cert.QkvIdeal.Facts) (hQkvRefIdeal : Cert.QkvRefIdeal.Facts) (hOproj : Cert.Oproj.Facts) (hOprojIdeal : Cert.OprojIdeal.Facts) (hOprojRefIdeal : Cert.OprojRefIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hPre_sorted_cuts : Cert.Pre_sorted_cuts.Facts) (hPre_nonzero_scales : Cert.Pre_nonzero_scales.Facts),
    quiescent_Attn (hAttn := hAttn)
    ∧ quiescent_AttnIdeal (hAttnIdeal := hAttnIdeal)
    ∧ quiescent_AttnIdeal_pre_sorted_cuts (hAttnIdeal := hAttnIdeal) (hPre_sorted_cuts := hPre_sorted_cuts)
    ∧ quiescent_AttnRefIdeal (hAttnRefIdeal := hAttnRefIdeal)
    ∧ quiescent_AttnRefIdeal_pre_sorted_cuts (hAttnRefIdeal := hAttnRefIdeal) (hPre_sorted_cuts := hPre_sorted_cuts)
    ∧ quiescent_Qkv (hQkv := hQkv)
    ∧ quiescent_QkvIdeal (hQkvIdeal := hQkvIdeal)
    ∧ quiescent_QkvIdeal_pre_nonzero_scales (hQkvIdeal := hQkvIdeal) (hPre_nonzero_scales := hPre_nonzero_scales)
    ∧ quiescent_QkvRefIdeal (hQkvRefIdeal := hQkvRefIdeal)
    ∧ quiescent_QkvRefIdeal_pre_nonzero_scales (hQkvRefIdeal := hQkvRefIdeal) (hPre_nonzero_scales := hPre_nonzero_scales)
    ∧ quiescent_Oproj (hOproj := hOproj)
    ∧ quiescent_OprojIdeal (hOprojIdeal := hOprojIdeal)
    ∧ quiescent_OprojRefIdeal (hOprojRefIdeal := hOprojRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ preserves_Attn_AttnIdeal
    ∧ algebraic_AttnIdeal_AttnRefIdeal_pre_sorted_cuts (hAttnIdeal := hAttnIdeal) (hAttnRefIdeal := hAttnRefIdeal) (hPre_sorted_cuts := hPre_sorted_cuts)
    ∧ preserves_Qkv_QkvIdeal
    ∧ algebraic_QkvIdeal_QkvRefIdeal_pre_nonzero_scales (hQkvIdeal := hQkvIdeal) (hQkvRefIdeal := hQkvRefIdeal) (hPre_nonzero_scales := hPre_nonzero_scales)
    ∧ preserves_Oproj_OprojIdeal
    ∧ algebraic_OprojIdeal_OprojRefIdeal (hOprojIdeal := hOprojIdeal) (hOprojRefIdeal := hOprojRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
-- ==== Pre_nonzero_scales.lean ====
abbrev S6144x5120 : Shape := ⟨2, ![6144, 5120]⟩
abbrev S6144x64 : Shape := ⟨2, ![6144, 64]⟩
abbrev S5120 : Shape := ⟨1, ![5120]⟩
abbrev S5120x3584 : Shape := ⟨2, ![5120, 3584]⟩
abbrev S3584 : Shape := ⟨1, ![3584]⟩
abbrev S128 : Shape := ⟨1, ![128]⟩
abbrev S_ : Shape := ⟨0, ![]⟩

class Facts : Prop where

variable [Facts]

def fn {F : FTy → Type} [FloatOps F] (main_arg0 : FVec F S6144x5120 .bf16) (main_arg1 : FVec F S6144x64 .f32) (main_arg2 : FVec F S6144x64 .f32) (main_arg3 : FVec F S5120 .f32) (main_arg4 : FVec F S5120x3584 .fp8e4m3) (main_arg5 : FVec F S3584 .f32) (main_arg6 : FVec F S128 .f32) (main_arg7 : FVec F S128 .f32) (main_arg8 : FVec F S_ .f32) (main_arg9 : FVec F S_ .f32) : IVec S_ 1 :=
  let main_cst : FVec F S_ .f32 := constant S_ .f32 0x00000000#32
  let main_v0 : IVec S_ 1 := cmpf .une main_arg8 main_cst
  let main_cst_0 : FVec F S_ .f32 := constant S_ .f32 0x00000000#32
  let main_v1 : IVec S_ 1 := cmpf .une main_arg9 main_cst_0
  let main_v2 : IVec S_ 1 := andi main_v0 main_v1
  main_v2
-- ==== Pre_sorted_cuts.lean ====
abbrev S7 : Shape := ⟨1, ![7]⟩
abbrev S_ : Shape := ⟨0, ![]⟩
abbrev S6144x2560 : Shape := ⟨2, ![6144, 2560]⟩
abbrev S6144x512 : Shape := ⟨2, ![6144, 512]⟩
abbrev S5 : Shape := ⟨1, ![5]⟩
abbrev S4 : Shape := ⟨1, ![4]⟩

class Facts : Prop where
  slices_S7_S5_1 : S7.Slices ![1] S5
  bcast_S_S5 : S_.BroadcastsInDim S5 (![] : Fin 0 → Fin S5.rank)
  reducesTo_S5_S_d0 : S5.ReducesTo [0] S_
  h_S_ : 0 < S_.numel
  slices_S5_S4_0 : S5.Slices ![0] S4
  slices_S5_S4_1 : S5.Slices ![1] S4
  reducesTo_S4_S_d0 : S4.ReducesTo [0] S_

variable [Facts]

def fn {F : FTy → Type} [FloatOps F] (main_arg0 : IVec S7 32) (main_arg1 : FVec F S_ .f32) (main_arg2 : FVec F S_ .f32) (main_arg3 : FVec F S6144x2560 .bf16) (main_arg4 : FVec F S6144x512 .fp8e4m3) (main_arg5 : FVec F S6144x512 .fp8e4m3) : IVec S_ 1 :=
  let main_v0 : IVec S5 32 := (extractStridedSlice S5 ![1] · slices_S7_S5_1) main_arg0
  let main_c : IVec S_ 32 := constantI S_ 32 0#32
  let main_v1 : IVec S5 32 := broadcastInDim S5 ![] bcast_S_S5 main_c
  let main_v2 : IVec S5 1 := cmpi .sge main_v0 main_v1
  let main_c_0 : IVec S_ 1 := constantI S_ 1 1#1
  let main_v3 : IVec S_ 1 := (fun x v => Host.reduce IntOp.andi x v reducesTo_S5_S_d0 h_S_) main_v2 main_c_0
  let main_v4 : IVec S4 32 := (extractStridedSlice S4 ![0] · slices_S5_S4_0) main_v0
  let main_v5 : IVec S4 32 := (extractStridedSlice S4 ![1] · slices_S5_S4_1) main_v0
  let main_v6 : IVec S4 1 := cmpi .sle main_v4 main_v5
  let main_c_1 : IVec S_ 1 := constantI S_ 1 1#1
  let main_v7 : IVec S_ 1 := (fun x v => Host.reduce IntOp.andi x v reducesTo_S4_S_d0 h_S_) main_v6 main_c_1
  let main_v8 : IVec S_ 1 := andi main_v3 main_v7
  main_v8
-- ==== Attn.lean ====
abbrev S7 : Shape := ⟨1, ![7]⟩
abbrev S_ : Shape := ⟨0, ![]⟩
abbrev S6144x2560 : Shape := ⟨2, ![6144, 2560]⟩
abbrev S6144x512 : Shape := ⟨2, ![6144, 512]⟩
abbrev S1 : Shape := ⟨1, ![1]⟩
abbrev S20x6144x128 : Shape := ⟨3, ![20, 6144, 128]⟩
abbrev S24x1x256 : Shape := ⟨3, ![24, 1, 256]⟩
abbrev S256x2560 : Shape := ⟨2, ![256, 2560]⟩
abbrev S20x256x128 : Shape := ⟨3, ![20, 256, 128]⟩
abbrev S1x1x256 : Shape := ⟨3, ![1, 1, 256]⟩
abbrev S512x6144 : Shape := ⟨2, ![512, 6144]⟩
abbrev S20x128x256 : Shape := ⟨3, ![20, 128, 256]⟩
abbrev S24x256 : Shape := ⟨2, ![24, 256]⟩
abbrev S256x512 : Shape := ⟨2, ![256, 512]⟩
abbrev S256x128 : Shape := ⟨2, ![256, 128]⟩
abbrev S128x256 : Shape := ⟨2, ![128, 256]⟩
abbrev S1x256 : Shape := ⟨2, ![1, 256]⟩
abbrev S256x256 : Shape := ⟨2, ![256, 256]⟩
abbrev S256 : Shape := ⟨1, ![256]⟩
abbrev S1x128x256 : Shape := ⟨3, ![1, 128, 256]⟩
abbrev S1x256x128 : Shape := ⟨3, ![1, 256, 128]⟩

abbrev nBuf : Space → Nat
  | .hbm => 11
  | .vmem => 15
  | .smem => 3
  | _ => 0

abbrev bufTy : (tb : Table) → Fin (tcTables nBuf tb) → BufTy
  | .hbm, ⟨0, _⟩ => ⟨S7, .i32⟩
  | .hbm, ⟨1, _⟩ => ⟨S_, .f32⟩
  | .hbm, ⟨2, _⟩ => ⟨S_, .f32⟩
  | .hbm, ⟨3, _⟩ => ⟨S6144x2560, .bf16⟩
  | .hbm, ⟨4, _⟩ => ⟨S6144x512, .fp8e4m3⟩
  | .hbm, ⟨5, _⟩ => ⟨S6144x512, .fp8e4m3⟩
  | .hbm, ⟨6, _⟩ => ⟨S1, .f32⟩
  | .hbm, ⟨7, _⟩ => ⟨S1, .f32⟩
  | .hbm, ⟨8, _⟩ => ⟨S20x6144x128, .f32⟩
  | .hbm, ⟨9, _⟩ => ⟨S20x6144x128, .fp8e4m3⟩
  | .hbm, ⟨10, _⟩ => ⟨S24x1x256, .f32⟩
  | .local _ .vmem, ⟨0, _⟩ => ⟨S256x2560, .bf16⟩
  | .local _ .vmem, ⟨1, _⟩ => ⟨S256x2560, .bf16⟩
  | .local _ .vmem, ⟨2, _⟩ => ⟨S6144x512, .fp8e4m3⟩
  | .local _ .vmem, ⟨3, _⟩ => ⟨S6144x512, .fp8e4m3⟩
  | .local _ .vmem, ⟨4, _⟩ => ⟨S20x256x128, .f32⟩
  | .local _ .vmem, ⟨5, _⟩ => ⟨S20x256x128, .f32⟩
  | .local _ .vmem, ⟨6, _⟩ => ⟨S20x256x128, .fp8e4m3⟩
  | .local _ .vmem, ⟨7, _⟩ => ⟨S20x256x128, .fp8e4m3⟩
  | .local _ .vmem, ⟨8, _⟩ => ⟨S1x1x256, .f32⟩
  | .local _ .vmem, ⟨9, _⟩ => ⟨S1x1x256, .f32⟩
  | .local _ .vmem, ⟨10, _⟩ => ⟨S6144x512, .bf16⟩
  | .local _ .vmem, ⟨11, _⟩ => ⟨S512x6144, .bf16⟩
  | .local _ .vmem, ⟨12, _⟩ => ⟨S20x128x256, .f32⟩
  | .local _ .vmem, ⟨13, _⟩ => ⟨S24x256, .f32⟩
  | .local _ .vmem, ⟨14, _⟩ => ⟨S24x256, .f32⟩
  | .local _ .smem, ⟨0, _⟩ => ⟨S7, .i32⟩
  | .local _ .smem, ⟨1, _⟩ => ⟨S1, .f32⟩
  | .local _ .smem, ⟨2, _⟩ => ⟨S1, .f32⟩
  | _, _ => ⟨S7, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![24], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v2 : Index := Scalar.indexCast v1
  let c0 : Index := 0#32
  ![v2.toNat, 0]
def k0_off2 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v9 : Index := Scalar.indexCast v1
  let c0_1 : Index := 0#32
  ![v9.toNat, 0]
def k0_off3 (i : grid0.Coords) : Fin 2 → Nat :=
  let c0_2 : Index := 0#32
  let arg0 : BitVec 32 := BitVec.ofNat 32 (i 0).val
  let c256_i32 : BitVec 32 := 256#32
  let v0 : BitVec 32 := Scalar.muli arg0 c256_i32
  let v1 : BitVec 32 := v0
  let v14 : Index := Scalar.indexCast v1
  ![0, v14.toNat]
def k0_off4 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v18 : Index := Scalar.indexCast v1
  let c128 : Index := 128#32
  ![v18.toNat, 128]
def k0_off5 (i : grid0.Coords) : Fin 2 → Nat :=
  let c128_3 : Index := 128#32
  let arg0 : BitVec 32 := BitVec.ofNat 32 (i 0).val
  let c256_i32 : BitVec 32 := 256#32
  let v0 : BitVec 32 := Scalar.muli arg0 c256_i32
  let v1 : BitVec 32 := v0
  let v23 : Index := Scalar.indexCast v1
  ![128, v23.toNat]
def k0_off6 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v27 : Index := Scalar.indexCast v1
  let c256 : Index := 256#32
  ![v27.toNat, 256]
def k0_off7 (i : grid0.Coords) : Fin 2 → Nat :=
  let c256_4 : Index := 256#32
  let arg0 : BitVec 32 := BitVec.ofNat 32 (i 0).val
  let c256_i32 : BitVec 32 := 256#32
  let v0 : BitVec 32 := Scalar.muli arg0 c256_i32
  let v1 : BitVec 32 := v0
  let v32 : Index := Scalar.indexCast v1
  ![256, v32.toNat]
def k0_off8 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v36 : Index := Scalar.indexCast v1
  let c384 : Index := 384#32
  ![v36.toNat, 384]
def k0_off9 (i : grid0.Coords) : Fin 2 → Nat :=
  let c384_5 : Index := 384#32
  let arg0 : BitVec 32 := BitVec.ofNat 32 (i 0).val
  let c256_i32 : BitVec 32 := 256#32
  let v0 : BitVec 32 := Scalar.muli arg0 c256_i32
  let v1 : BitVec 32 := v0
  let v41 : Index := Scalar.indexCast v1
  ![384, v41.toNat]
@[reducible] def k0_t1_loop (i : grid0.Coords) (v50 : BitVec 32) (v58 : BitVec 32) (v66 : BitVec 32) (v74 : BitVec 32) (v82 : BitVec 32) : Scf.Loop 32 :=
  let arg0 : BitVec 32 := BitVec.ofNat 32 (i 0).val
  let c256_i32_12 : BitVec 32 := 256#32
  let v87 : BitVec 32 := Scalar.muli arg0 c256_i32_12
  let v88 : BitVec 1 := Scalar.cmpi .sge v87 v82
  let c256_i32_11 : BitVec 32 := 256#32
  let v79 : BitVec 32 := Scalar.muli arg0 c256_i32_11
  let v80 : BitVec 1 := Scalar.cmpi .sge v79 v74
  let c256_i32_10 : BitVec 32 := 256#32
  let v71 : BitVec 32 := Scalar.muli arg0 c256_i32_10
  let v72 : BitVec 1 := Scalar.cmpi .sge v71 v66
  let c256_i32_9 : BitVec 32 := 256#32
  let v63 : BitVec 32 := Scalar.muli arg0 c256_i32_9
  let v64 : BitVec 1 := Scalar.cmpi .sge v63 v58
  let c256_i32_7 : BitVec 32 := 256#32
  let v55 : BitVec 32 := Scalar.muli arg0 c256_i32_7
  let v56 : BitVec 1 := Scalar.cmpi .sge v55 v50
  let c0_i32_8 : BitVec 32 := 0#32
  let v57 : BitVec 32 := Scalar.select v56 v50 c0_i32_8
  let v65 : BitVec 32 := Scalar.select v64 v58 v57
  let v73 : BitVec 32 := Scalar.select v72 v66 v65
  let v81 : BitVec 32 := Scalar.select v80 v74 v73
  let v89 : BitVec 32 := Scalar.select v88 v82 v81
  let c8_i32 : BitVec 32 := 8#32
  let v90 : BitVec 32 := Scalar.shrui v89 c8_i32
  let c1_i32 : BitVec 32 := 1#32
  let v107 : BitVec 32 := Scalar.addi arg0 c1_i32
  let v108 : BitVec 32 := Scalar.subi v107 v90
  let c1_i32_27 : BitVec 32 := 1#32
  let v110 : BitVec 32 := Scalar.divsi v108 c1_i32_27
  let v111 : BitVec 32 := Scalar.muli v110 c1_i32_27
  let v112 : BitVec 32 := Scalar.addi v90 v111
  let c1_i32_28 : BitVec 32 := 1#32
  ⟨v90, v112, c1_i32_28⟩

def k0_mult2 (i : grid0.Coords) (v50 : BitVec 32) (v58 : BitVec 32) (v66 : BitVec 32) (v74 : BitVec 32) (v82 : BitVec 32) (k0_t1 : Fin (k0_t1_loop i v50 v58 v66 v74 v82).trips) : BitVec 32 :=
  let arg0 : BitVec 32 := BitVec.ofNat 32 (i 0).val
  let c256_i32_12 : BitVec 32 := 256#32
  let v87 : BitVec 32 := Scalar.muli arg0 c256_i32_12
  let v88 : BitVec 1 := Scalar.cmpi .sge v87 v82
  let c256_i32_11 : BitVec 32 := 256#32
  let v79 : BitVec 32 := Scalar.muli arg0 c256_i32_11
  let v80 : BitVec 1 := Scalar.cmpi .sge v79 v74
  let c256_i32_10 : BitVec 32 := 256#32
  let v71 : BitVec 32 := Scalar.muli arg0 c256_i32_10
  let v72 : BitVec 1 := Scalar.cmpi .sge v71 v66
  let c256_i32_9 : BitVec 32 := 256#32
  let v63 : BitVec 32 := Scalar.muli arg0 c256_i32_9
  let v64 : BitVec 1 := Scalar.cmpi .sge v63 v58
  let c256_i32_7 : BitVec 32 := 256#32
  let v55 : BitVec 32 := Scalar.muli arg0 c256_i32_7
  let v56 : BitVec 1 := Scalar.cmpi .sge v55 v50
  let c0_i32_8 : BitVec 32 := 0#32
  let v57 : BitVec 32 := Scalar.select v56 v50 c0_i32_8
  let v65 : BitVec 32 := Scalar.select v64 v58 v57
  let v73 : BitVec 32 := Scalar.select v72 v66 v65
  let v81 : BitVec 32 := Scalar.select v80 v74 v73
  let v89 : BitVec 32 := Scalar.select v88 v82 v81
  let c8_i32 : BitVec 32 := 8#32
  let v90 : BitVec 32 := Scalar.shrui v89 c8_i32
  let c1_i32_28 : BitVec 32 := 1#32
  let arg15 : BitVec 32 := Scf.iv v90 c1_i32_28 k0_t1
  let c256_i32_464 : BitVec 32 := 256#32
  let v786 : BitVec 32 := Scalar.muli arg15 c256_i32_464
  v786
def k0_off10 (i : grid0.Coords) (v50 : BitVec 32) (v58 : BitVec 32) (v66 : BitVec 32) (v74 : BitVec 32) (v82 : BitVec 32) (k0_t1 : Fin (k0_t1_loop i v50 v58 v66 v74 v82).trips) : Fin 2 → Nat :=
  let arg0 : BitVec 32 := BitVec.ofNat 32 (i 0).val
  let c256_i32_12 : BitVec 32 := 256#32
  let v87 : BitVec 32 := Scalar.muli arg0 c256_i32_12
  let v88 : BitVec 1 := Scalar.cmpi .sge v87 v82
  let c256_i32_11 : BitVec 32 := 256#32
  let v79 : BitVec 32 := Scalar.muli arg0 c256_i32_11
  let v80 : BitVec 1 := Scalar.cmpi .sge v79 v74
  let c256_i32_10 : BitVec 32 := 256#32
  let v71 : BitVec 32 := Scalar.muli arg0 c256_i32_10
  let v72 : BitVec 1 := Scalar.cmpi .sge v71 v66
  let c256_i32_9 : BitVec 32 := 256#32
  let v63 : BitVec 32 := Scalar.muli arg0 c256_i32_9
  let v64 : BitVec 1 := Scalar.cmpi .sge v63 v58
  let c256_i32_7 : BitVec 32 := 256#32
  let v55 : BitVec 32 := Scalar.muli arg0 c256_i32_7
  let v56 : BitVec 1 := Scalar.cmpi .sge v55 v50
  let c0_i32_8 : BitVec 32 := 0#32
  let v57 : BitVec 32 := Scalar.select v56 v50 c0_i32_8
  let v65 : BitVec 32 := Scalar.select v64 v58 v57
  let v73 : BitVec 32 := Scalar.select v72 v66 v65
  let v81 : BitVec 32 := Scalar.select v80 v74 v73
  let v89 : BitVec 32 := Scalar.select v88 v82 v81
  let c8_i32 : BitVec 32 := 8#32
  let v90 : BitVec 32 := Scalar.shrui v89 c8_i32
  let c1_i32_28 : BitVec 32 := 1#32
  let arg15 : BitVec 32 := Scf.iv v90 c1_i32_28 k0_t1
  let c256_i32_464 : BitVec 32 := 256#32
  let v786 : BitVec 32 := Scalar.muli arg15 c256_i32_464
  let v787 : BitVec 32 := v786
  let v800 : Index := Scalar.indexCast v787
  let c0_468 : Index := 0#32
  ![v800.toNat, 0]
def k0_off11 (i : grid0.Coords) (v50 : BitVec 32) (v58 : BitVec 32) (v66 : BitVec 32) (v74 : BitVec 32) (v82 : BitVec 32) (k0_t1 : Fin (k0_t1_loop i v50 v58 v66 v74 v82).trips) : Fin 2 → Nat :=
  let c0_482 : Index := 0#32
  let arg0 : BitVec 32 := BitVec.ofNat 32 (i 0).val
  let c256_i32_12 : BitVec 32 := 256#32
  let v87 : BitVec 32 := Scalar.muli arg0 c256_i32_12
  let v88 : BitVec 1 := Scalar.cmpi .sge v87 v82
  let c256_i32_11 : BitVec 32 := 256#32
  let v79 : BitVec 32 := Scalar.muli arg0 c256_i32_11
  let v80 : BitVec 1 := Scalar.cmpi .sge v79 v74
  let c256_i32_10 : BitVec 32 := 256#32
  let v71 : BitVec 32 := Scalar.muli arg0 c256_i32_10
  let v72 : BitVec 1 := Scalar.cmpi .sge v71 v66
  let c256_i32_9 : BitVec 32 := 256#32
  let v63 : BitVec 32 := Scalar.muli arg0 c256_i32_9
  let v64 : BitVec 1 := Scalar.cmpi .sge v63 v58
  let c256_i32_7 : BitVec 32 := 256#32
  let v55 : BitVec 32 := Scalar.muli arg0 c256_i32_7
  let v56 : BitVec 1 := Scalar.cmpi .sge v55 v50
  let c0_i32_8 : BitVec 32 := 0#32
  let v57 : BitVec 32 := Scalar.select v56 v50 c0_i32_8
  let v65 : BitVec 32 := Scalar.select v64 v58 v57
  let v73 : BitVec 32 := Scalar.select v72 v66 v65
  let v81 : BitVec 32 := Scalar.select v80 v74 v73
  let v89 : BitVec 32 := Scalar.select v88 v82 v81
  let c8_i32 : BitVec 32 := 8#32
  let v90 : BitVec 32 := Scalar.shrui v89 c8_i32
  let c1_i32_28 : BitVec 32 := 1#32
  let arg15 : BitVec 32 := Scf.iv v90 c1_i32_28 k0_t1
  let c256_i32_464 : BitVec 32 := 256#32
  let v786 : BitVec 32 := Scalar.muli arg15 c256_i32_464
  let v787 : BitVec 32 := v786
  let v831 : Index := Scalar.indexCast v787
  ![0, v831.toNat]
def k0_off12 (i : grid0.Coords) (v50 : BitVec 32) (v58 : BitVec 32) (v66 : BitVec 32) (v74 : BitVec 32) (v82 : BitVec 32) (k0_t1 : Fin (k0_t1_loop i v50 v58 v66 v74 v82).trips) : Fin 2 → Nat :=
  let arg0 : BitVec 32 := BitVec.ofNat 32 (i 0).val
  let c256_i32_12 : BitVec 32 := 256#32
  let v87 : BitVec 32 := Scalar.muli arg0 c256_i32_12
  let v88 : BitVec 1 := Scalar.cmpi .sge v87 v82
  let c256_i32_11 : BitVec 32 := 256#32
  let v79 : BitVec 32 := Scalar.muli arg0 c256_i32_11
  let v80 : BitVec 1 := Scalar.cmpi .sge v79 v74
  let c256_i32_10 : BitVec 32 := 256#32
  let v71 : BitVec 32 := Scalar.muli arg0 c256_i32_10
  let v72 : BitVec 1 := Scalar.cmpi .sge v71 v66
  let c256_i32_9 : BitVec 32 := 256#32
  let v63 : BitVec 32 := Scalar.muli arg0 c256_i32_9
  let v64 : BitVec 1 := Scalar.cmpi .sge v63 v58
  let c256_i32_7 : BitVec 32 := 256#32
  let v55 : BitVec 32 := Scalar.muli arg0 c256_i32_7
  let v56 : BitVec 1 := Scalar.cmpi .sge v55 v50
  let c0_i32_8 : BitVec 32 := 0#32
  let v57 : BitVec 32 := Scalar.select v56 v50 c0_i32_8
  let v65 : BitVec 32 := Scalar.select v64 v58 v57
  let v73 : BitVec 32 := Scalar.select v72 v66 v65
  let v81 : BitVec 32 := Scalar.select v80 v74 v73
  let v89 : BitVec 32 := Scalar.select v88 v82 v81
  let c8_i32 : BitVec 32 := 8#32
  let v90 : BitVec 32 := Scalar.shrui v89 c8_i32
  let c1_i32_28 : BitVec 32 := 1#32
  let arg15 : BitVec 32 := Scf.iv v90 c1_i32_28 k0_t1
  let c256_i32_464 : BitVec 32 := 256#32
  let v786 : BitVec 32 := Scalar.muli arg15 c256_i32_464
  let v787 : BitVec 32 := v786
  let v1010 : Index := Scalar.indexCast v787
  let c128_577 : Index := 128#32
  ![v1010.toNat, 128]
def k0_off13 (i : grid0.Coords) (v50 : BitVec 32) (v58 : BitVec 32) (v66 : BitVec 32) (v74 : BitVec 32) (v82 : BitVec 32) (k0_t1 : Fin (k0_t1_loop i v50 v58 v66 v74 v82).trips) : Fin 2 → Nat :=
  let c128_590 : Index := 128#32
  let arg0 : BitVec 32 := BitVec.ofNat 32 (i 0).val
  let c256_i32_12 : BitVec 32 := 256#32
  let v87 : BitVec 32 := Scalar.muli arg0 c256_i32_12
  let v88 : BitVec 1 := Scalar.cmpi .sge v87 v82
  let c256_i32_11 : BitVec 32 := 256#32
  let v79 : BitVec 32 := Scalar.muli arg0 c256_i32_11
  let v80 : BitVec 1 := Scalar.cmpi .sge v79 v74
  let c256_i32_10 : BitVec 32 := 256#32
  let v71 : BitVec 32 := Scalar.muli arg0 c256_i32_10
  let v72 : BitVec 1 := Scalar.cmpi .sge v71 v66
  let c256_i32_9 : BitVec 32 := 256#32
  let v63 : BitVec 32 := Scalar.muli arg0 c256_i32_9
  let v64 : BitVec 1 := Scalar.cmpi .sge v63 v58
  let c256_i32_7 : BitVec 32 := 256#32
  let v55 : BitVec 32 := Scalar.muli arg0 c256_i32_7
  let v56 : BitVec 1 := Scalar.cmpi .sge v55 v50
  let c0_i32_8 : BitVec 32 := 0#32
  let v57 : BitVec 32 := Scalar.select v56 v50 c0_i32_8
  let v65 : BitVec 32 := Scalar.select v64 v58 v57
  let v73 : BitVec 32 := Scalar.select v72 v66 v65
  let v81 : BitVec 32 := Scalar.select v80 v74 v73
  let v89 : BitVec 32 := Scalar.select v88 v82 v81
  let c8_i32 : BitVec 32 := 8#32
  let v90 : BitVec 32 := Scalar.shrui v89 c8_i32
  let c1_i32_28 : BitVec 32 := 1#32
  let arg15 : BitVec 32 := Scf.iv v90 c1_i32_28 k0_t1
  let c256_i32_464 : BitVec 32 := 256#32
  let v786 : BitVec 32 := Scalar.muli arg15 c256_i32_464
  let v787 : BitVec 32 := v786
  let v1041 : Index := Scalar.indexCast v787
  ![128, v1041.toNat]
def k0_off14 (i : grid0.Coords) (v50 : BitVec 32) (v58 : BitVec 32) (v66 : BitVec 32) (v74 : BitVec 32) (v82 : BitVec 32) (k0_t1 : Fin (k0_t1_loop i v50 v58 v66 v74 v82).trips) : Fin 2 → Nat :=
  let arg0 : BitVec 32 := BitVec.ofNat 32 (i 0).val
  let c256_i32_12 : BitVec 32 := 256#32
  let v87 : BitVec 32 := Scalar.muli arg0 c256_i32_12
  let v88 : BitVec 1 := Scalar.cmpi .sge v87 v82
  let c256_i32_11 : BitVec 32 := 256#32
  let v79 : BitVec 32 := Scalar.muli arg0 c256_i32_11
  let v80 : BitVec 1 := Scalar.cmpi .sge v79 v74
  let c256_i32_10 : BitVec 32 := 256#32
  let v71 : BitVec 32 := Scalar.muli arg0 c256_i32_10
  let v72 : BitVec 1 := Scalar.cmpi .sge v71 v66
  let c256_i32_9 : BitVec 32 := 256#32
  let v63 : BitVec 32 := Scalar.muli arg0 c256_i32_9
  let v64 : BitVec 1 := Scalar.cmpi .sge v63 v58
  let c256_i32_7 : BitVec 32 := 256#32
  let v55 : BitVec 32 := Scalar.muli arg0 c256_i32_7
  let v56 : BitVec 1 := Scalar.cmpi .sge v55 v50
  let c0_i32_8 : BitVec 32 := 0#32
  let v57 : BitVec 32 := Scalar.select v56 v50 c0_i32_8
  let v65 : BitVec 32 := Scalar.select v64 v58 v57
  let v73 : BitVec 32 := Scalar.select v72 v66 v65
  let v81 : BitVec 32 := Scalar.select v80 v74 v73
  let v89 : BitVec 32 := Scalar.select v88 v82 v81
  let c8_i32 : BitVec 32 := 8#32
  let v90 : BitVec 32 := Scalar.shrui v89 c8_i32
  let c1_i32_28 : BitVec 32 := 1#32
  let arg15 : BitVec 32 := Scf.iv v90 c1_i32_28 k0_t1
  let c256_i32_464 : BitVec 32 := 256#32
  let v786 : BitVec 32 := Scalar.muli arg15 c256_i32_464
  let v787 : BitVec 32 := v786
  let v1220 : Index := Scalar.indexCast v787
  let c256_682 : Index := 256#32
  ![v1220.toNat, 256]
def k0_off15 (i : grid0.Coords) (v50 : BitVec 32) (v58 : BitVec 32) (v66 : BitVec 32) (v74 : BitVec 32) (v82 : BitVec 32) (k0_t1 : Fin (k0_t1_loop i v50 v58 v66 v74 v82).trips) : Fin 2 → Nat :=
  let c256_695 : Index := 256#32
  let arg0 : BitVec 32 := BitVec.ofNat 32 (i 0).val
  let c256_i32_12 : BitVec 32 := 256#32
  let v87 : BitVec 32 := Scalar.muli arg0 c256_i32_12
  let v88 : BitVec 1 := Scalar.cmpi .sge v87 v82
  let c256_i32_11 : BitVec 32 := 256#32
  let v79 : BitVec 32 := Scalar.muli arg0 c256_i32_11
  let v80 : BitVec 1 := Scalar.cmpi .sge v79 v74
  let c256_i32_10 : BitVec 32 := 256#32
  let v71 : BitVec 32 := Scalar.muli arg0 c256_i32_10
  let v72 : BitVec 1 := Scalar.cmpi .sge v71 v66
  let c256_i32_9 : BitVec 32 := 256#32
  let v63 : BitVec 32 := Scalar.muli arg0 c256_i32_9
  let v64 : BitVec 1 := Scalar.cmpi .sge v63 v58
  let c256_i32_7 : BitVec 32 := 256#32
  let v55 : BitVec 32 := Scalar.muli arg0 c256_i32_7
  let v56 : BitVec 1 := Scalar.cmpi .sge v55 v50
  let c0_i32_8 : BitVec 32 := 0#32
  let v57 : BitVec 32 := Scalar.select v56 v50 c0_i32_8
  let v65 : BitVec 32 := Scalar.select v64 v58 v57
  let v73 : BitVec 32 := Scalar.select v72 v66 v65
  let v81 : BitVec 32 := Scalar.select v80 v74 v73
  let v89 : BitVec 32 := Scalar.select v88 v82 v81
  let c8_i32 : BitVec 32 := 8#32
  let v90 : BitVec 32 := Scalar.shrui v89 c8_i32
  let c1_i32_28 : BitVec 32 := 1#32
  let arg15 : BitVec 32 := Scf.iv v90 c1_i32_28 k0_t1
  let c256_i32_464 : BitVec 32 := 256#32
  let v786 : BitVec 32 := Scalar.muli arg15 c256_i32_464
  let v787 : BitVec 32 := v786
  let v1251 : Index := Scalar.indexCast v787
  ![256, v1251.toNat]
def k0_off16 (i : grid0.Coords) (v50 : BitVec 32) (v58 : BitVec 32) (v66 : BitVec 32) (v74 : BitVec 32) (v82 : BitVec 32) (k0_t1 : Fin (k0_t1_loop i v50 v58 v66 v74 v82).trips) : Fin 2 → Nat :=
  let arg0 : BitVec 32 := BitVec.ofNat 32 (i 0).val
  let c256_i32_12 : BitVec 32 := 256#32
  let v87 : BitVec 32 := Scalar.muli arg0 c256_i32_12
  let v88 : BitVec 1 := Scalar.cmpi .sge v87 v82
  let c256_i32_11 : BitVec 32 := 256#32
  let v79 : BitVec 32 := Scalar.muli arg0 c256_i32_11
  let v80 : BitVec 1 := Scalar.cmpi .sge v79 v74
  let c256_i32_10 : BitVec 32 := 256#32
  let v71 : BitVec 32 := Scalar.muli arg0 c256_i32_10
  let v72 : BitVec 1 := Scalar.cmpi .sge v71 v66
  let c256_i32_9 : BitVec 32 := 256#32
  let v63 : BitVec 32 := Scalar.muli arg0 c256_i32_9
  let v64 : BitVec 1 := Scalar.cmpi .sge v63 v58
  let c256_i32_7 : BitVec 32 := 256#32
  let v55 : BitVec 32 := Scalar.muli arg0 c256_i32_7
  let v56 : BitVec 1 := Scalar.cmpi .sge v55 v50
  let c0_i32_8 : BitVec 32 := 0#32
  let v57 : BitVec 32 := Scalar.select v56 v50 c0_i32_8
  let v65 : BitVec 32 := Scalar.select v64 v58 v57
  let v73 : BitVec 32 := Scalar.select v72 v66 v65
  let v81 : BitVec 32 := Scalar.select v80 v74 v73
  let v89 : BitVec 32 := Scalar.select v88 v82 v81
  let c8_i32 : BitVec 32 := 8#32
  let v90 : BitVec 32 := Scalar.shrui v89 c8_i32
  let c1_i32_28 : BitVec 32 := 1#32
  let arg15 : BitVec 32 := Scf.iv v90 c1_i32_28 k0_t1
  let c256_i32_464 : BitVec 32 := 256#32
  let v786 : BitVec 32 := Scalar.muli arg15 c256_i32_464
  let v787 : BitVec 32 := v786
  let v1430 : Index := Scalar.indexCast v787
  let c384_787 : Index := 384#32
  ![v1430.toNat, 384]
def k0_off17 (i : grid0.Coords) (v50 : BitVec 32) (v58 : BitVec 32) (v66 : BitVec 32) (v74 : BitVec 32) (v82 : BitVec 32) (k0_t1 : Fin (k0_t1_loop i v50 v58 v66 v74 v82).trips) : Fin 2 → Nat :=
  let c384_800 : Index := 384#32
  let arg0 : BitVec 32 := BitVec.ofNat 32 (i 0).val
  let c256_i32_12 : BitVec 32 := 256#32
  let v87 : BitVec 32 := Scalar.muli arg0 c256_i32_12
  let v88 : BitVec 1 := Scalar.cmpi .sge v87 v82
  let c256_i32_11 : BitVec 32 := 256#32
  let v79 : BitVec 32 := Scalar.muli arg0 c256_i32_11
  let v80 : BitVec 1 := Scalar.cmpi .sge v79 v74
  let c256_i32_10 : BitVec 32 := 256#32
  let v71 : BitVec 32 := Scalar.muli arg0 c256_i32_10
  let v72 : BitVec 1 := Scalar.cmpi .sge v71 v66
  let c256_i32_9 : BitVec 32 := 256#32
  let v63 : BitVec 32 := Scalar.muli arg0 c256_i32_9
  let v64 : BitVec 1 := Scalar.cmpi .sge v63 v58
  let c256_i32_7 : BitVec 32 := 256#32
  let v55 : BitVec 32 := Scalar.muli arg0 c256_i32_7
  let v56 : BitVec 1 := Scalar.cmpi .sge v55 v50
  let c0_i32_8 : BitVec 32 := 0#32
  let v57 : BitVec 32 := Scalar.select v56 v50 c0_i32_8
  let v65 : BitVec 32 := Scalar.select v64 v58 v57
  let v73 : BitVec 32 := Scalar.select v72 v66 v65
  let v81 : BitVec 32 := Scalar.select v80 v74 v73
  let v89 : BitVec 32 := Scalar.select v88 v82 v81
  let c8_i32 : BitVec 32 := 8#32
  let v90 : BitVec 32 := Scalar.shrui v89 c8_i32
  let c1_i32_28 : BitVec 32 := 1#32
  let arg15 : BitVec 32 := Scf.iv v90 c1_i32_28 k0_t1
  let c256_i32_464 : BitVec 32 := 256#32
  let v786 : BitVec 32 := Scalar.muli arg15 c256_i32_464
  let v787 : BitVec 32 := v786
  let v1461 : Index := Scalar.indexCast v787
  ![384, v1461.toNat]
@[reducible] def k0_t2_loop (i : grid0.Coords) (v50 : BitVec 32) (v58 : BitVec 32) (v66 : BitVec 32) (v74 : BitVec 32) (v82 : BitVec 32) : Scf.Loop 32 :=
  let arg0 : BitVec 32 := BitVec.ofNat 32 (i 0).val
  let c256_i32_12 : BitVec 32 := 256#32
  let v87 : BitVec 32 := Scalar.muli arg0 c256_i32_12
  let v88 : BitVec 1 := Scalar.cmpi .sge v87 v82
  let c256_i32_11 : BitVec 32 := 256#32
  let v79 : BitVec 32 := Scalar.muli arg0 c256_i32_11
  let v80 : BitVec 1 := Scalar.cmpi .sge v79 v74
  let c256_i32_10 : BitVec 32 := 256#32
  let v71 : BitVec 32 := Scalar.muli arg0 c256_i32_10
  let v72 : BitVec 1 := Scalar.cmpi .sge v71 v66
  let c256_i32_9 : BitVec 32 := 256#32
  let v63 : BitVec 32 := Scalar.muli arg0 c256_i32_9
  let v64 : BitVec 1 := Scalar.cmpi .sge v63 v58
  let c256_i32_7 : BitVec 32 := 256#32
  let v55 : BitVec 32 := Scalar.muli arg0 c256_i32_7
  let v56 : BitVec 1 := Scalar.cmpi .sge v55 v50
  let c0_i32_8 : BitVec 32 := 0#32
  let v57 : BitVec 32 := Scalar.select v56 v50 c0_i32_8
  let v65 : BitVec 32 := Scalar.select v64 v58 v57
  let v73 : BitVec 32 := Scalar.select v72 v66 v65
  let v81 : BitVec 32 := Scalar.select v80 v74 v73
  let v89 : BitVec 32 := Scalar.select v88 v82 v81
  let c8_i32 : BitVec 32 := 8#32
  let v90 : BitVec 32 := Scalar.shrui v89 c8_i32
  let c1_i32 : BitVec 32 := 1#32
  let v107 : BitVec 32 := Scalar.addi arg0 c1_i32
  let v108 : BitVec 32 := Scalar.subi v107 v90
  let c1_i32_27 : BitVec 32 := 1#32
  let v110 : BitVec 32 := Scalar.divsi v108 c1_i32_27
  let v111 : BitVec 32 := Scalar.muli v110 c1_i32_27
  let v112 : BitVec 32 := Scalar.addi v90 v111
  let v109 : BitVec 32 := Scalar.addi v90 v108
  let c1_i32_29 : BitVec 32 := 1#32
  ⟨v112, v109, c1_i32_29⟩
def k0_mult3 (i : grid0.Coords) (v50 : BitVec 32) (v58 : BitVec 32) (v66 : BitVec 32) (v74 : BitVec 32) (v82 : BitVec 32) (k0_t2 : Fin (k0_t2_loop i v50 v58 v66 v74 v82).trips) : BitVec 32 :=
  let arg0 : BitVec 32 := BitVec.ofNat 32 (i 0).val
  let c256_i32_12 : BitVec 32 := 256#32
  let v87 : BitVec 32 := Scalar.muli arg0 c256_i32_12
  let v88 : BitVec 1 := Scalar.cmpi .sge v87 v82
  let c256_i32_11 : BitVec 32 := 256#32
  let v79 : BitVec 32 := Scalar.muli arg0 c256_i32_11
  let v80 : BitVec 1 := Scalar.cmpi .sge v79 v74
  let c256_i32_10 : BitVec 32 := 256#32
  let v71 : BitVec 32 := Scalar.muli arg0 c256_i32_10
  let v72 : BitVec 1 := Scalar.cmpi .sge v71 v66
  let c256_i32_9 : BitVec 32 := 256#32
  let v63 : BitVec 32 := Scalar.muli arg0 c256_i32_9
  let v64 : BitVec 1 := Scalar.cmpi .sge v63 v58
  let c256_i32_7 : BitVec 32 := 256#32
  let v55 : BitVec 32 := Scalar.muli arg0 c256_i32_7
  let v56 : BitVec 1 := Scalar.cmpi .sge v55 v50
  let c0_i32_8 : BitVec 32 := 0#32
  let v57 : BitVec 32 := Scalar.select v56 v50 c0_i32_8
  let v65 : BitVec 32 := Scalar.select v64 v58 v57
  let v73 : BitVec 32 := Scalar.select v72 v66 v65
  let v81 : BitVec 32 := Scalar.select v80 v74 v73
  let v89 : BitVec 32 := Scalar.select v88 v82 v81
  let c8_i32 : BitVec 32 := 8#32
  let v90 : BitVec 32 := Scalar.shrui v89 c8_i32
  let c1_i32 : BitVec 32 := 1#32
  let v107 : BitVec 32 := Scalar.addi arg0 c1_i32
  let v108 : BitVec 32 := Scalar.subi v107 v90
  let c1_i32_27 : BitVec 32 := 1#32
  let v110 : BitVec 32 := Scalar.divsi v108 c1_i32_27
  let v111 : BitVec 32 := Scalar.muli v110 c1_i32_27
  let v112 : BitVec 32 := Scalar.addi v90 v111
  let c1_i32_29 : BitVec 32 := 1#32
  let arg15 : BitVec 32 := Scf.iv v112 c1_i32_29 k0_t2
  let c256_i32_464 : BitVec 32 := 256#32
  let v786 : BitVec 32 := Scalar.muli arg15 c256_i32_464
  v786
def k0_off18 (i : grid0.Coords) (v50 : BitVec 32) (v58 : BitVec 32) (v66 : BitVec 32) (v74 : BitVec 32) (v82 : BitVec 32) (k0_t2 : Fin (k0_t2_loop i v50 v58 v66 v74 v82).trips) : Fin 2 → Nat :=
  let arg0 : BitVec 32 := BitVec.ofNat 32 (i 0).val
  let c256_i32_12 : BitVec 32 := 256#32
  let v87 : BitVec 32 := Scalar.muli arg0 c256_i32_12
  let v88 : BitVec 1 := Scalar.cmpi .sge v87 v82
  let c256_i32_11 : BitVec 32 := 256#32
  let v79 : BitVec 32 := Scalar.muli arg0 c256_i32_11
  let v80 : BitVec 1 := Scalar.cmpi .sge v79 v74
  let c256_i32_10 : BitVec 32 := 256#32
  let v71 : BitVec 32 := Scalar.muli arg0 c256_i32_10
  let v72 : BitVec 1 := Scalar.cmpi .sge v71 v66
  let c256_i32_9 : BitVec 32 := 256#32
  let v63 : BitVec 32 := Scalar.muli arg0 c256_i32_9
  let v64 : BitVec 1 := Scalar.cmpi .sge v63 v58
  let c256_i32_7 : BitVec 32 := 256#32
  let v55 : BitVec 32 := Scalar.muli arg0 c256_i32_7
  let v56 : BitVec 1 := Scalar.cmpi .sge v55 v50
  let c0_i32_8 : BitVec 32 := 0#32
  let v57 : BitVec 32 := Scalar.select v56 v50 c0_i32_8
  let v65 : BitVec 32 := Scalar.select v64 v58 v57
  let v73 : BitVec 32 := Scalar.select v72 v66 v65
  let v81 : BitVec 32 := Scalar.select v80 v74 v73
  let v89 : BitVec 32 := Scalar.select v88 v82 v81
  let c8_i32 : BitVec 32 := 8#32
  let v90 : BitVec 32 := Scalar.shrui v89 c8_i32
  let c1_i32 : BitVec 32 := 1#32
  let v107 : BitVec 32 := Scalar.addi arg0 c1_i32
  let v108 : BitVec 32 := Scalar.subi v107 v90
  let c1_i32_27 : BitVec 32 := 1#32
  let v110 : BitVec 32 := Scalar.divsi v108 c1_i32_27
  let v111 : BitVec 32 := Scalar.muli v110 c1_i32_27
  let v112 : BitVec 32 := Scalar.addi v90 v111
  let c1_i32_29 : BitVec 32 := 1#32
  let arg15 : BitVec 32 := Scf.iv v112 c1_i32_29 k0_t2
  let c256_i32_464 : BitVec 32 := 256#32
  let v786 : BitVec 32 := Scalar.muli arg15 c256_i32_464
  let v787 : BitVec 32 := v786
  let v800 : Index := Scalar.indexCast v787
  let c0_468 : Index := 0#32
  ![v800.toNat, 0]
def k0_off19 (i : grid0.Coords) (v50 : BitVec 32) (v58 : BitVec 32) (v66 : BitVec 32) (v74 : BitVec 32) (v82 : BitVec 32) (k0_t2 : Fin (k0_t2_loop i v50 v58 v66 v74 v82).trips) : Fin 2 → Nat :=
  let c0_482 : Index := 0#32
  let arg0 : BitVec 32 := BitVec.ofNat 32 (i 0).val
  let c256_i32_12 : BitVec 32 := 256#32
  let v87 : BitVec 32 := Scalar.muli arg0 c256_i32_12
  let v88 : BitVec 1 := Scalar.cmpi .sge v87 v82
  let c256_i32_11 : BitVec 32 := 256#32
  let v79 : BitVec 32 := Scalar.muli arg0 c256_i32_11
  let v80 : BitVec 1 := Scalar.cmpi .sge v79 v74
  let c256_i32_10 : BitVec 32 := 256#32
  let v71 : BitVec 32 := Scalar.muli arg0 c256_i32_10
  let v72 : BitVec 1 := Scalar.cmpi .sge v71 v66
  let c256_i32_9 : BitVec 32 := 256#32
  let v63 : BitVec 32 := Scalar.muli arg0 c256_i32_9
  let v64 : BitVec 1 := Scalar.cmpi .sge v63 v58
  let c256_i32_7 : BitVec 32 := 256#32
  let v55 : BitVec 32 := Scalar.muli arg0 c256_i32_7
  let v56 : BitVec 1 := Scalar.cmpi .sge v55 v50
  let c0_i32_8 : BitVec 32 := 0#32
  let v57 : BitVec 32 := Scalar.select v56 v50 c0_i32_8
  let v65 : BitVec 32 := Scalar.select v64 v58 v57
  let v73 : BitVec 32 := Scalar.select v72 v66 v65
  let v81 : BitVec 32 := Scalar.select v80 v74 v73
  let v89 : BitVec 32 := Scalar.select v88 v82 v81
  let c8_i32 : BitVec 32 := 8#32
  let v90 : BitVec 32 := Scalar.shrui v89 c8_i32
  let c1_i32 : BitVec 32 := 1#32
  let v107 : BitVec 32 := Scalar.addi arg0 c1_i32
  let v108 : BitVec 32 := Scalar.subi v107 v90
  let c1_i32_27 : BitVec 32 := 1#32
  let v110 : BitVec 32 := Scalar.divsi v108 c1_i32_27
  let v111 : BitVec 32 := Scalar.muli v110 c1_i32_27
  let v112 : BitVec 32 := Scalar.addi v90 v111
  let c1_i32_29 : BitVec 32 := 1#32
  let arg15 : BitVec 32 := Scf.iv v112 c1_i32_29 k0_t2
  let c256_i32_464 : BitVec 32 := 256#32
  let v786 : BitVec 32 := Scalar.muli arg15 c256_i32_464
  let v787 : BitVec 32 := v786
  let v831 : Index := Scalar.indexCast v787
  ![0, v831.toNat]
def k0_off20 (i : grid0.Coords) (v50 : BitVec 32) (v58 : BitVec 32) (v66 : BitVec 32) (v74 : BitVec 32) (v82 : BitVec 32) (k0_t2 : Fin (k0_t2_loop i v50 v58 v66 v74 v82).trips) : Fin 2 → Nat :=
  let arg0 : BitVec 32 := BitVec.ofNat 32 (i 0).val
  let c256_i32_12 : BitVec 32 := 256#32
  let v87 : BitVec 32 := Scalar.muli arg0 c256_i32_12
  let v88 : BitVec 1 := Scalar.cmpi .sge v87 v82
  let c256_i32_11 : BitVec 32 := 256#32
  let v79 : BitVec 32 := Scalar.muli arg0 c256_i32_11
  let v80 : BitVec 1 := Scalar.cmpi .sge v79 v74
  let c256_i32_10 : BitVec 32 := 256#32
  let v71 : BitVec 32 := Scalar.muli arg0 c256_i32_10
  let v72 : BitVec 1 := Scalar.cmpi .sge v71 v66
  let c256_i32_9 : BitVec 32 := 256#32
  let v63 : BitVec 32 := Scalar.muli arg0 c256_i32_9
  let v64 : BitVec 1 := Scalar.cmpi .sge v63 v58
  let c256_i32_7 : BitVec 32 := 256#32
  let v55 : BitVec 32 := Scalar.muli arg0 c256_i32_7
  let v56 : BitVec 1 := Scalar.cmpi .sge v55 v50
  let c0_i32_8 : BitVec 32 := 0#32
  let v57 : BitVec 32 := Scalar.select v56 v50 c0_i32_8
  let v65 : BitVec 32 := Scalar.select v64 v58 v57
  let v73 : BitVec 32 := Scalar.select v72 v66 v65
  let v81 : BitVec 32 := Scalar.select v80 v74 v73
  let v89 : BitVec 32 := Scalar.select v88 v82 v81
  let c8_i32 : BitVec 32 := 8#32
  let v90 : BitVec 32 := Scalar.shrui v89 c8_i32
  let c1_i32 : BitVec 32 := 1#32
  let v107 : BitVec 32 := Scalar.addi arg0 c1_i32
  let v108 : BitVec 32 := Scalar.subi v107 v90
  let c1_i32_27 : BitVec 32 := 1#32
  let v110 : BitVec 32 := Scalar.divsi v108 c1_i32_27
  let v111 : BitVec 32 := Scalar.muli v110 c1_i32_27
  let v112 : BitVec 32 := Scalar.addi v90 v111
  let c1_i32_29 : BitVec 32 := 1#32
  let arg15 : BitVec 32 := Scf.iv v112 c1_i32_29 k0_t2
  let c256_i32_464 : BitVec 32 := 256#32
  let v786 : BitVec 32 := Scalar.muli arg15 c256_i32_464
  let v787 : BitVec 32 := v786
  let v1010 : Index := Scalar.indexCast v787
  let c128_577 : Index := 128#32
  ![v1010.toNat, 128]
def k0_off21 (i : grid0.Coords) (v50 : BitVec 32) (v58 : BitVec 32) (v66 : BitVec 32) (v74 : BitVec 32) (v82 : BitVec 32) (k0_t2 : Fin (k0_t2_loop i v50 v58 v66 v74 v82).trips) : Fin 2 → Nat :=
  let c128_590 : Index := 128#32
  let arg0 : BitVec 32 := BitVec.ofNat 32 (i 0).val
  let c256_i32_12 : BitVec 32 := 256#32
  let v87 : BitVec 32 := Scalar.muli arg0 c256_i32_12
  let v88 : BitVec 1 := Scalar.cmpi .sge v87 v82
  let c256_i32_11 : BitVec 32 := 256#32
  let v79 : BitVec 32 := Scalar.muli arg0 c256_i32_11
  let v80 : BitVec 1 := Scalar.cmpi .sge v79 v74
  let c256_i32_10 : BitVec 32 := 256#32
  let v71 : BitVec 32 := Scalar.muli arg0 c256_i32_10
  let v72 : BitVec 1 := Scalar.cmpi .sge v71 v66
  let c256_i32_9 : BitVec 32 := 256#32
  let v63 : BitVec 32 := Scalar.muli arg0 c256_i32_9
  let v64 : BitVec 1 := Scalar.cmpi .sge v63 v58
  let c256_i32_7 : BitVec 32 := 256#32
  let v55 : BitVec 32 := Scalar.muli arg0 c256_i32_7
  let v56 : BitVec 1 := Scalar.cmpi .sge v55 v50
  let c0_i32_8 : BitVec 32 := 0#32
  let v57 : BitVec 32 := Scalar.select v56 v50 c0_i32_8
  let v65 : BitVec 32 := Scalar.select v64 v58 v57
  let v73 : BitVec 32 := Scalar.select v72 v66 v65
  let v81 : BitVec 32 := Scalar.select v80 v74 v73
  let v89 : BitVec 32 := Scalar.select v88 v82 v81
  let c8_i32 : BitVec 32 := 8#32
  let v90 : BitVec 32 := Scalar.shrui v89 c8_i32
  let c1_i32 : BitVec 32 := 1#32
  let v107 : BitVec 32 := Scalar.addi arg0 c1_i32
  let v108 : BitVec 32 := Scalar.subi v107 v90
  let c1_i32_27 : BitVec 32 := 1#32
  let v110 : BitVec 32 := Scalar.divsi v108 c1_i32_27
  let v111 : BitVec 32 := Scalar.muli v110 c1_i32_27
  let v112 : BitVec 32 := Scalar.addi v90 v111
  let c1_i32_29 : BitVec 32 := 1#32
  let arg15 : BitVec 32 := Scf.iv v112 c1_i32_29 k0_t2
  let c256_i32_464 : BitVec 32 := 256#32
  let v786 : BitVec 32 := Scalar.muli arg15 c256_i32_464
  let v787 : BitVec 32 := v786
  let v1041 : Index := Scalar.indexCast v787
  ![128, v1041.toNat]
def k0_off22 (i : grid0.Coords) (v50 : BitVec 32) (v58 : BitVec 32) (v66 : BitVec 32) (v74 : BitVec 32) (v82 : BitVec 32) (k0_t2 : Fin (k0_t2_loop i v50 v58 v66 v74 v82).trips) : Fin 2 → Nat :=
  let arg0 : BitVec 32 := BitVec.ofNat 32 (i 0).val
  let c256_i32_12 : BitVec 32 := 256#32
  let v87 : BitVec 32 := Scalar.muli arg0 c256_i32_12
  let v88 : BitVec 1 := Scalar.cmpi .sge v87 v82
  let c256_i32_11 : BitVec 32 := 256#32
  let v79 : BitVec 32 := Scalar.muli arg0 c256_i32_11
  let v80 : BitVec 1 := Scalar.cmpi .sge v79 v74
  let c256_i32_10 : BitVec 32 := 256#32
  let v71 : BitVec 32 := Scalar.muli arg0 c256_i32_10
  let v72 : BitVec 1 := Scalar.cmpi .sge v71 v66
  let c256_i32_9 : BitVec 32 := 256#32
  let v63 : BitVec 32 := Scalar.muli arg0 c256_i32_9
  let v64 : BitVec 1 := Scalar.cmpi .sge v63 v58
  let c256_i32_7 : BitVec 32 := 256#32
  let v55 : BitVec 32 := Scalar.muli arg0 c256_i32_7
  let v56 : BitVec 1 := Scalar.cmpi .sge v55 v50
  let c0_i32_8 : BitVec 32 := 0#32
  let v57 : BitVec 32 := Scalar.select v56 v50 c0_i32_8
  let v65 : BitVec 32 := Scalar.select v64 v58 v57
  let v73 : BitVec 32 := Scalar.select v72 v66 v65
  let v81 : BitVec 32 := Scalar.select v80 v74 v73
  let v89 : BitVec 32 := Scalar.select v88 v82 v81
  let c8_i32 : BitVec 32 := 8#32
  let v90 : BitVec 32 := Scalar.shrui v89 c8_i32
  let c1_i32 : BitVec 32 := 1#32
  let v107 : BitVec 32 := Scalar.addi arg0 c1_i32
  let v108 : BitVec 32 := Scalar.subi v107 v90
  let c1_i32_27 : BitVec 32 := 1#32
  let v110 : BitVec 32 := Scalar.divsi v108 c1_i32_27
  let v111 : BitVec 32 := Scalar.muli v110 c1_i32_27
  let v112 : BitVec 32 := Scalar.addi v90 v111
  let c1_i32_29 : BitVec 32 := 1#32
  let arg15 : BitVec 32 := Scf.iv v112 c1_i32_29 k0_t2
  let c256_i32_464 : BitVec 32 := 256#32
  let v786 : BitVec 32 := Scalar.muli arg15 c256_i32_464
  let v787 : BitVec 32 := v786
  let v1220 : Index := Scalar.indexCast v787
  let c256_682 : Index := 256#32
  ![v1220.toNat, 256]
def k0_off23 (i : grid0.Coords) (v50 : BitVec 32) (v58 : BitVec 32) (v66 : BitVec 32) (v74 : BitVec 32) (v82 : BitVec 32) (k0_t2 : Fin (k0_t2_loop i v50 v58 v66 v74 v82).trips) : Fin 2 → Nat :=
  let c256_695 : Index := 256#32
  let arg0 : BitVec 32 := BitVec.ofNat 32 (i 0).val
  let c256_i32_12 : BitVec 32 := 256#32
  let v87 : BitVec 32 := Scalar.muli arg0 c256_i32_12
  let v88 : BitVec 1 := Scalar.cmpi .sge v87 v82
  let c256_i32_11 : BitVec 32 := 256#32
  let v79 : BitVec 32 := Scalar.muli arg0 c256_i32_11
  let v80 : BitVec 1 := Scalar.cmpi .sge v79 v74
  let c256_i32_10 : BitVec 32 := 256#32
  let v71 : BitVec 32 := Scalar.muli arg0 c256_i32_10
  let v72 : BitVec 1 := Scalar.cmpi .sge v71 v66
  let c256_i32_9 : BitVec 32 := 256#32
  let v63 : BitVec 32 := Scalar.muli arg0 c256_i32_9
  let v64 : BitVec 1 := Scalar.cmpi .sge v63 v58
  let c256_i32_7 : BitVec 32 := 256#32
  let v55 : BitVec 32 := Scalar.muli arg0 c256_i32_7
  let v56 : BitVec 1 := Scalar.cmpi .sge v55 v50
  let c0_i32_8 : BitVec 32 := 0#32
  let v57 : BitVec 32 := Scalar.select v56 v50 c0_i32_8
  let v65 : BitVec 32 := Scalar.select v64 v58 v57
  let v73 : BitVec 32 := Scalar.select v72 v66 v65
  let v81 : BitVec 32 := Scalar.select v80 v74 v73
  let v89 : BitVec 32 := Scalar.select v88 v82 v81
  let c8_i32 : BitVec 32 := 8#32
  let v90 : BitVec 32 := Scalar.shrui v89 c8_i32
  let c1_i32 : BitVec 32 := 1#32
  let v107 : BitVec 32 := Scalar.addi arg0 c1_i32
  let v108 : BitVec 32 := Scalar.subi v107 v90
  let c1_i32_27 : BitVec 32 := 1#32
  let v110 : BitVec 32 := Scalar.divsi v108 c1_i32_27
  let v111 : BitVec 32 := Scalar.muli v110 c1_i32_27
  let v112 : BitVec 32 := Scalar.addi v90 v111
  let c1_i32_29 : BitVec 32 := 1#32
  let arg15 : BitVec 32 := Scf.iv v112 c1_i32_29 k0_t2
  let c256_i32_464 : BitVec 32 := 256#32
  let v786 : BitVec 32 := Scalar.muli arg15 c256_i32_464
  let v787 : BitVec 32 := v786
  let v1251 : Index := Scalar.indexCast v787
  ![256, v1251.toNat]
def k0_off24 (i : grid0.Coords) (v50 : BitVec 32) (v58 : BitVec 32) (v66 : BitVec 32) (v74 : BitVec 32) (v82 : BitVec 32) (k0_t2 : Fin (k0_t2_loop i v50 v58 v66 v74 v82).trips) : Fin 2 → Nat :=
  let arg0 : BitVec 32 := BitVec.ofNat 32 (i 0).val
  let c256_i32_12 : BitVec 32 := 256#32
  let v87 : BitVec 32 := Scalar.muli arg0 c256_i32_12
  let v88 : BitVec 1 := Scalar.cmpi .sge v87 v82
  let c256_i32_11 : BitVec 32 := 256#32
  let v79 : BitVec 32 := Scalar.muli arg0 c256_i32_11
  let v80 : BitVec 1 := Scalar.cmpi .sge v79 v74
  let c256_i32_10 : BitVec 32 := 256#32
  let v71 : BitVec 32 := Scalar.muli arg0 c256_i32_10
  let v72 : BitVec 1 := Scalar.cmpi .sge v71 v66
  let c256_i32_9 : BitVec 32 := 256#32
  let v63 : BitVec 32 := Scalar.muli arg0 c256_i32_9
  let v64 : BitVec 1 := Scalar.cmpi .sge v63 v58
  let c256_i32_7 : BitVec 32 := 256#32
  let v55 : BitVec 32 := Scalar.muli arg0 c256_i32_7
  let v56 : BitVec 1 := Scalar.cmpi .sge v55 v50
  let c0_i32_8 : BitVec 32 := 0#32
  let v57 : BitVec 32 := Scalar.select v56 v50 c0_i32_8
  let v65 : BitVec 32 := Scalar.select v64 v58 v57
  let v73 : BitVec 32 := Scalar.select v72 v66 v65
  let v81 : BitVec 32 := Scalar.select v80 v74 v73
  let v89 : BitVec 32 := Scalar.select v88 v82 v81
  let c8_i32 : BitVec 32 := 8#32
  let v90 : BitVec 32 := Scalar.shrui v89 c8_i32
  let c1_i32 : BitVec 32 := 1#32
  let v107 : BitVec 32 := Scalar.addi arg0 c1_i32
  let v108 : BitVec 32 := Scalar.subi v107 v90
  let c1_i32_27 : BitVec 32 := 1#32
  let v110 : BitVec 32 := Scalar.divsi v108 c1_i32_27
  let v111 : BitVec 32 := Scalar.muli v110 c1_i32_27
  let v112 : BitVec 32 := Scalar.addi v90 v111
  let c1_i32_29 : BitVec 32 := 1#32
  let arg15 : BitVec 32 := Scf.iv v112 c1_i32_29 k0_t2
  let c256_i32_464 : BitVec 32 := 256#32
  let v786 : BitVec 32 := Scalar.muli arg15 c256_i32_464
  let v787 : BitVec 32 := v786
  let v1430 : Index := Scalar.indexCast v787
  let c384_787 : Index := 384#32
  ![v1430.toNat, 384]
def k0_off25 (i : grid0.Coords) (v50 : BitVec 32) (v58 : BitVec 32) (v66 : BitVec 32) (v74 : BitVec 32) (v82 : BitVec 32) (k0_t2 : Fin (k0_t2_loop i v50 v58 v66 v74 v82).trips) : Fin 2 → Nat :=
  let c384_800 : Index := 384#32
  let arg0 : BitVec 32 := BitVec.ofNat 32 (i 0).val
  let c256_i32_12 : BitVec 32 := 256#32
  let v87 : BitVec 32 := Scalar.muli arg0 c256_i32_12
  let v88 : BitVec 1 := Scalar.cmpi .sge v87 v82
  let c256_i32_11 : BitVec 32 := 256#32
  let v79 : BitVec 32 := Scalar.muli arg0 c256_i32_11
  let v80 : BitVec 1 := Scalar.cmpi .sge v79 v74
  let c256_i32_10 : BitVec 32 := 256#32
  let v71 : BitVec 32 := Scalar.muli arg0 c256_i32_10
  let v72 : BitVec 1 := Scalar.cmpi .sge v71 v66
  let c256_i32_9 : BitVec 32 := 256#32
  let v63 : BitVec 32 := Scalar.muli arg0 c256_i32_9
  let v64 : BitVec 1 := Scalar.cmpi .sge v63 v58
  let c256_i32_7 : BitVec 32 := 256#32
  let v55 : BitVec 32 := Scalar.muli arg0 c256_i32_7
  let v56 : BitVec 1 := Scalar.cmpi .sge v55 v50
  let c0_i32_8 : BitVec 32 := 0#32
  let v57 : BitVec 32 := Scalar.select v56 v50 c0_i32_8
  let v65 : BitVec 32 := Scalar.select v64 v58 v57
  let v73 : BitVec 32 := Scalar.select v72 v66 v65
  let v81 : BitVec 32 := Scalar.select v80 v74 v73
  let v89 : BitVec 32 := Scalar.select v88 v82 v81
  let c8_i32 : BitVec 32 := 8#32
  let v90 : BitVec 32 := Scalar.shrui v89 c8_i32
  let c1_i32 : BitVec 32 := 1#32
  let v107 : BitVec 32 := Scalar.addi arg0 c1_i32
  let v108 : BitVec 32 := Scalar.subi v107 v90
  let c1_i32_27 : BitVec 32 := 1#32
  let v110 : BitVec 32 := Scalar.divsi v108 c1_i32_27
  let v111 : BitVec 32 := Scalar.muli v110 c1_i32_27
  let v112 : BitVec 32 := Scalar.addi v90 v111
  let c1_i32_29 : BitVec 32 := 1#32
  let arg15 : BitVec 32 := Scf.iv v112 c1_i32_29 k0_t2
  let c256_i32_464 : BitVec 32 := 256#32
  let v786 : BitVec 32 := Scalar.muli arg15 c256_i32_464
  let v787 : BitVec 32 := v786
  let v1461 : Index := Scalar.indexCast v787
  ![384, v1461.toNat]

def k0_chk1 (i : grid0.Coords) (v50 : BitVec 32) (v58 : BitVec 32) (v66 : BitVec 32) (v74 : BitVec 32) (v82 : BitVec 32) : Prop :=
  ((k0_t1_loop i v50 v58 v66 v74 v82).OK) ∧
  (∀ k0_t1 : Fin (k0_t1_loop i v50 v58 v66 v74 v82).trips, 256 ∣ (k0_mult2 i v50 v58 v66 v74 v82 k0_t1).toNat) ∧
  (∀ k0_t1 : Fin (k0_t1_loop i v50 v58 v66 v74 v82).trips, ∀ a, (k0_off10 i v50 v58 v66 v74 v82 k0_t1) a + S256x128.size a ≤ S6144x512.size a) ∧
  (∀ k0_t1 : Fin (k0_t1_loop i v50 v58 v66 v74 v82).trips, ∀ a, (k0_off11 i v50 v58 v66 v74 v82 k0_t1) a + S128x256.size a ≤ S512x6144.size a) ∧
  (∀ k0_t1 : Fin (k0_t1_loop i v50 v58 v66 v74 v82).trips, ∀ a, (k0_off12 i v50 v58 v66 v74 v82 k0_t1) a + S256x128.size a ≤ S6144x512.size a) ∧
  (∀ k0_t1 : Fin (k0_t1_loop i v50 v58 v66 v74 v82).trips, ∀ a, (k0_off13 i v50 v58 v66 v74 v82 k0_t1) a + S128x256.size a ≤ S512x6144.size a) ∧
  (∀ k0_t1 : Fin (k0_t1_loop i v50 v58 v66 v74 v82).trips, ∀ a, (k0_off14 i v50 v58 v66 v74 v82 k0_t1) a + S256x128.size a ≤ S6144x512.size a) ∧
  (∀ k0_t1 : Fin (k0_t1_loop i v50 v58 v66 v74 v82).trips, ∀ a, (k0_off15 i v50 v58 v66 v74 v82 k0_t1) a + S128x256.size a ≤ S512x6144.size a) ∧
  (∀ k0_t1 : Fin (k0_t1_loop i v50 v58 v66 v74 v82).trips, ∀ a, (k0_off16 i v50 v58 v66 v74 v82 k0_t1) a + S256x128.size a ≤ S6144x512.size a) ∧
  (∀ k0_t1 : Fin (k0_t1_loop i v50 v58 v66 v74 v82).trips, ∀ a, (k0_off17 i v50 v58 v66 v74 v82 k0_t1) a + S128x256.size a ≤ S512x6144.size a) ∧
  ((k0_t2_loop i v50 v58 v66 v74 v82).OK) ∧
  (∀ k0_t2 : Fin (k0_t2_loop i v50 v58 v66 v74 v82).trips, 256 ∣ (k0_mult3 i v50 v58 v66 v74 v82 k0_t2).toNat) ∧
  (∀ k0_t2 : Fin (k0_t2_loop i v50 v58 v66 v74 v82).trips, ∀ a, (k0_off18 i v50 v58 v66 v74 v82 k0_t2) a + S256x128.size a ≤ S6144x512.size a) ∧
  (∀ k0_t2 : Fin (k0_t2_loop i v50 v58 v66 v74 v82).trips, ∀ a, (k0_off19 i v50 v58 v66 v74 v82 k0_t2) a + S128x256.size a ≤ S512x6144.size a) ∧
  (∀ k0_t2 : Fin (k0_t2_loop i v50 v58 v66 v74 v82).trips, ∀ a, (k0_off20 i v50 v58 v66 v74 v82 k0_t2) a + S256x128.size a ≤ S6144x512.size a) ∧
  (∀ k0_t2 : Fin (k0_t2_loop i v50 v58 v66 v74 v82).trips, ∀ a, (k0_off21 i v50 v58 v66 v74 v82 k0_t2) a + S128x256.size a ≤ S512x6144.size a) ∧
  (∀ k0_t2 : Fin (k0_t2_loop i v50 v58 v66 v74 v82).trips, ∀ a, (k0_off22 i v50 v58 v66 v74 v82 k0_t2) a + S256x128.size a ≤ S6144x512.size a) ∧
  (∀ k0_t2 : Fin (k0_t2_loop i v50 v58 v66 v74 v82).trips, ∀ a, (k0_off23 i v50 v58 v66 v74 v82 k0_t2) a + S128x256.size a ≤ S512x6144.size a) ∧
  (∀ k0_t2 : Fin (k0_t2_loop i v50 v58 v66 v74 v82).trips, ∀ a, (k0_off24 i v50 v58 v66 v74 v82 k0_t2) a + S256x128.size a ≤ S6144x512.size a) ∧
  (∀ k0_t2 : Fin (k0_t2_loop i v50 v58 v66 v74 v82).trips, ∀ a, (k0_off25 i v50 v58 v66 v74 v82 k0_t2) a + S128x256.size a ≤ S512x6144.size a)
theorem k0_t1_ok : ∀ (i : grid0.Coords) (v50 : BitVec 32) (v58 : BitVec 32) (v66 : BitVec 32) (v74 : BitVec 32) (v82 : BitVec 32) (k0_hw1 : k0_chk1 i v50 v58 v66 v74 v82), (k0_t1_loop i v50 v58 v66 v74 v82).OK := fun i v50 v58 v66 v74 v82 k0_hw1 => k0_hw1.1
theorem k0_mult2_dvd : ∀ (i : grid0.Coords) (v50 : BitVec 32) (v58 : BitVec 32) (v66 : BitVec 32) (v74 : BitVec 32) (v82 : BitVec 32) (k0_hw1 : k0_chk1 i v50 v58 v66 v74 v82) (k0_t1 : Fin (k0_t1_loop i v50 v58 v66 v74 v82).trips), 256 ∣ (k0_mult2 i v50 v58 v66 v74 v82 k0_t1).toNat := fun i v50 v58 v66 v74 v82 k0_hw1 k0_t1 => k0_hw1.2.1 k0_t1
theorem k0_off10_inb : ∀ (i : grid0.Coords) (v50 : BitVec 32) (v58 : BitVec 32) (v66 : BitVec 32) (v74 : BitVec 32) (v82 : BitVec 32) (k0_hw1 : k0_chk1 i v50 v58 v66 v74 v82) (k0_t1 : Fin (k0_t1_loop i v50 v58 v66 v74 v82).trips), ∀ a, (k0_off10 i v50 v58 v66 v74 v82 k0_t1) a + S256x128.size a ≤ S6144x512.size a := fun i v50 v58 v66 v74 v82 k0_hw1 k0_t1 => k0_hw1.2.2.1 k0_t1
theorem k0_off11_inb : ∀ (i : grid0.Coords) (v50 : BitVec 32) (v58 : BitVec 32) (v66 : BitVec 32) (v74 : BitVec 32) (v82 : BitVec 32) (k0_hw1 : k0_chk1 i v50 v58 v66 v74 v82) (k0_t1 : Fin (k0_t1_loop i v50 v58 v66 v74 v82).trips), ∀ a, (k0_off11 i v50 v58 v66 v74 v82 k0_t1) a + S128x256.size a ≤ S512x6144.size a := fun i v50 v58 v66 v74 v82 k0_hw1 k0_t1 => k0_hw1.2.2.2.1 k0_t1
theorem k0_off12_inb : ∀ (i : grid0.Coords) (v50 : BitVec 32) (v58 : BitVec 32) (v66 : BitVec 32) (v74 : BitVec 32) (v82 : BitVec 32) (k0_hw1 : k0_chk1 i v50 v58 v66 v74 v82) (k0_t1 : Fin (k0_t1_loop i v50 v58 v66 v74 v82).trips), ∀ a, (k0_off12 i v50 v58 v66 v74 v82 k0_t1) a + S256x128.size a ≤ S6144x512.size a := fun i v50 v58 v66 v74 v82 k0_hw1 k0_t1 => k0_hw1.2.2.2.2.1 k0_t1
theorem k0_off13_inb : ∀ (i : grid0.Coords) (v50 : BitVec 32) (v58 : BitVec 32) (v66 : BitVec 32) (v74 : BitVec 32) (v82 : BitVec 32) (k0_hw1 : k0_chk1 i v50 v58 v66 v74 v82) (k0_t1 : Fin (k0_t1_loop i v50 v58 v66 v74 v82).trips), ∀ a, (k0_off13 i v50 v58 v66 v74 v82 k0_t1) a + S128x256.size a ≤ S512x6144.size a := fun i v50 v58 v66 v74 v82 k0_hw1 k0_t1 => k0_hw1.2.2.2.2.2.1 k0_t1
theorem k0_off14_inb : ∀ (i : grid0.Coords) (v50 : BitVec 32) (v58 : BitVec 32) (v66 : BitVec 32) (v74 : BitVec 32) (v82 : BitVec 32) (k0_hw1 : k0_chk1 i v50 v58 v66 v74 v82) (k0_t1 : Fin (k0_t1_loop i v50 v58 v66 v74 v82).trips), ∀ a, (k0_off14 i v50 v58 v66 v74 v82 k0_t1) a + S256x128.size a ≤ S6144x512.size a := fun i v50 v58 v66 v74 v82 k0_hw1 k0_t1 => k0_hw1.2.2.2.2.2.2.1 k0_t1
theorem k0_off15_inb : ∀ (i : grid0.Coords) (v50 : BitVec 32) (v58 : BitVec 32) (v66 : BitVec 32) (v74 : BitVec 32) (v82 : BitVec 32) (k0_hw1 : k0_chk1 i v50 v58 v66 v74 v82) (k0_t1 : Fin (k0_t1_loop i v50 v58 v66 v74 v82).trips), ∀ a, (k0_off15 i v50 v58 v66 v74 v82 k0_t1) a + S128x256.size a ≤ S512x6144.size a := fun i v50 v58 v66 v74 v82 k0_hw1 k0_t1 => k0_hw1.2.2.2.2.2.2.2.1 k0_t1
theorem k0_off16_inb : ∀ (i : grid0.Coords) (v50 : BitVec 32) (v58 : BitVec 32) (v66 : BitVec 32) (v74 : BitVec 32) (v82 : BitVec 32) (k0_hw1 : k0_chk1 i v50 v58 v66 v74 v82) (k0_t1 : Fin (k0_t1_loop i v50 v58 v66 v74 v82).trips), ∀ a, (k0_off16 i v50 v58 v66 v74 v82 k0_t1) a + S256x128.size a ≤ S6144x512.size a := fun i v50 v58 v66 v74 v82 k0_hw1 k0_t1 => k0_hw1.2.2.2.2.2.2.2.2.1 k0_t1
theorem k0_off17_inb : ∀ (i : grid0.Coords) (v50 : BitVec 32) (v58 : BitVec 32) (v66 : BitVec 32) (v74 : BitVec 32) (v82 : BitVec 32) (k0_hw1 : k0_chk1 i v50 v58 v66 v74 v82) (k0_t1 : Fin (k0_t1_loop i v50 v58 v66 v74 v82).trips), ∀ a, (k0_off17 i v50 v58 v66 v74 v82 k0_t1) a + S128x256.size a ≤ S512x6144.size a := fun i v50 v58 v66 v74 v82 k0_hw1 k0_t1 => k0_hw1.2.2.2.2.2.2.2.2.2.1 k0_t1
theorem k0_t2_ok : ∀ (i : grid0.Coords) (v50 : BitVec 32) (v58 : BitVec 32) (v66 : BitVec 32) (v74 : BitVec 32) (v82 : BitVec 32) (k0_hw1 : k0_chk1 i v50 v58 v66 v74 v82), (k0_t2_loop i v50 v58 v66 v74 v82).OK := fun i v50 v58 v66 v74 v82 k0_hw1 => k0_hw1.2.2.2.2.2.2.2.2.2.2.1
theorem k0_mult3_dvd : ∀ (i : grid0.Coords) (v50 : BitVec 32) (v58 : BitVec 32) (v66 : BitVec 32) (v74 : BitVec 32) (v82 : BitVec 32) (k0_hw1 : k0_chk1 i v50 v58 v66 v74 v82) (k0_t2 : Fin (k0_t2_loop i v50 v58 v66 v74 v82).trips), 256 ∣ (k0_mult3 i v50 v58 v66 v74 v82 k0_t2).toNat := fun i v50 v58 v66 v74 v82 k0_hw1 k0_t2 => k0_hw1.2.2.2.2.2.2.2.2.2.2.2.1 k0_t2
theorem k0_off18_inb : ∀ (i : grid0.Coords) (v50 : BitVec 32) (v58 : BitVec 32) (v66 : BitVec 32) (v74 : BitVec 32) (v82 : BitVec 32) (k0_hw1 : k0_chk1 i v50 v58 v66 v74 v82) (k0_t2 : Fin (k0_t2_loop i v50 v58 v66 v74 v82).trips), ∀ a, (k0_off18 i v50 v58 v66 v74 v82 k0_t2) a + S256x128.size a ≤ S6144x512.size a := fun i v50 v58 v66 v74 v82 k0_hw1 k0_t2 => k0_hw1.2.2.2.2.2.2.2.2.2.2.2.2.1 k0_t2
theorem k0_off19_inb : ∀ (i : grid0.Coords) (v50 : BitVec 32) (v58 : BitVec 32) (v66 : BitVec 32) (v74 : BitVec 32) (v82 : BitVec 32) (k0_hw1 : k0_chk1 i v50 v58 v66 v74 v82) (k0_t2 : Fin (k0_t2_loop i v50 v58 v66 v74 v82).trips), ∀ a, (k0_off19 i v50 v58 v66 v74 v82 k0_t2) a + S128x256.size a ≤ S512x6144.size a := fun i v50 v58 v66 v74 v82 k0_hw1 k0_t2 => k0_hw1.2.2.2.2.2.2.2.2.2.2.2.2.2.1 k0_t2
theorem k0_off20_inb : ∀ (i : grid0.Coords) (v50 : BitVec 32) (v58 : BitVec 32) (v66 : BitVec 32) (v74 : BitVec 32) (v82 : BitVec 32) (k0_hw1 : k0_chk1 i v50 v58 v66 v74 v82) (k0_t2 : Fin (k0_t2_loop i v50 v58 v66 v74 v82).trips), ∀ a, (k0_off20 i v50 v58 v66 v74 v82 k0_t2) a + S256x128.size a ≤ S6144x512.size a := fun i v50 v58 v66 v74 v82 k0_hw1 k0_t2 => k0_hw1.2.2.2.2.2.2.2.2.2.2.2.2.2.2.1 k0_t2
theorem k0_off21_inb : ∀ (i : grid0.Coords) (v50 : BitVec 32) (v58 : BitVec 32) (v66 : BitVec 32) (v74 : BitVec 32) (v82 : BitVec 32) (k0_hw1 : k0_chk1 i v50 v58 v66 v74 v82) (k0_t2 : Fin (k0_t2_loop i v50 v58 v66 v74 v82).trips), ∀ a, (k0_off21 i v50 v58 v66 v74 v82 k0_t2) a + S128x256.size a ≤ S512x6144.size a := fun i v50 v58 v66 v74 v82 k0_hw1 k0_t2 => k0_hw1.2.2.2.2.2.2.2.2.2.2.2.2.2.2.2.1 k0_t2
theorem k0_off22_inb : ∀ (i : grid0.Coords) (v50 : BitVec 32) (v58 : BitVec 32) (v66 : BitVec 32) (v74 : BitVec 32) (v82 : BitVec 32) (k0_hw1 : k0_chk1 i v50 v58 v66 v74 v82) (k0_t2 : Fin (k0_t2_loop i v50 v58 v66 v74 v82).trips), ∀ a, (k0_off22 i v50 v58 v66 v74 v82 k0_t2) a + S256x128.size a ≤ S6144x512.size a := fun i v50 v58 v66 v74 v82 k0_hw1 k0_t2 => k0_hw1.2.2.2.2.2.2.2.2.2.2.2.2.2.2.2.2.1 k0_t2
theorem k0_off23_inb : ∀ (i : grid0.Coords) (v50 : BitVec 32) (v58 : BitVec 32) (v66 : BitVec 32) (v74 : BitVec 32) (v82 : BitVec 32) (k0_hw1 : k0_chk1 i v50 v58 v66 v74 v82) (k0_t2 : Fin (k0_t2_loop i v50 v58 v66 v74 v82).trips), ∀ a, (k0_off23 i v50 v58 v66 v74 v82 k0_t2) a + S128x256.size a ≤ S512x6144.size a := fun i v50 v58 v66 v74 v82 k0_hw1 k0_t2 => k0_hw1.2.2.2.2.2.2.2.2.2.2.2.2.2.2.2.2.2.1 k0_t2
theorem k0_off24_inb : ∀ (i : grid0.Coords) (v50 : BitVec 32) (v58 : BitVec 32) (v66 : BitVec 32) (v74 : BitVec 32) (v82 : BitVec 32) (k0_hw1 : k0_chk1 i v50 v58 v66 v74 v82) (k0_t2 : Fin (k0_t2_loop i v50 v58 v66 v74 v82).trips), ∀ a, (k0_off24 i v50 v58 v66 v74 v82 k0_t2) a + S256x128.size a ≤ S6144x512.size a := fun i v50 v58 v66 v74 v82 k0_hw1 k0_t2 => k0_hw1.2.2.2.2.2.2.2.2.2.2.2.2.2.2.2.2.2.2.1 k0_t2
theorem k0_off25_inb : ∀ (i : grid0.Coords) (v50 : BitVec 32) (v58 : BitVec 32) (v66 : BitVec 32) (v74 : BitVec 32) (v82 : BitVec 32) (k0_hw1 : k0_chk1 i v50 v58 v66 v74 v82) (k0_t2 : Fin (k0_t2_loop i v50 v58 v66 v74 v82).trips), ∀ a, (k0_off25 i v50 v58 v66 v74 v82 k0_t2) a + S128x256.size a ≤ S512x6144.size a := fun i v50 v58 v66 v74 v82 k0_hw1 k0_t2 => k0_hw1.2.2.2.2.2.2.2.2.2.2.2.2.2.2.2.2.2.2.2 k0_t2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S7 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S6144x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6144x512 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S20x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S20x256x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnRefIdeal.lean ====
abbrev S7 : Shape := ⟨1, ![7]⟩
abbrev S_ : Shape := ⟨0, ![]⟩
abbrev S6144x2560 : Shape := ⟨2, ![6144, 2560]⟩
abbrev S6144x512 : Shape := ⟨2, ![6144, 512]⟩
abbrev S1 : Shape := ⟨1, ![1]⟩
abbrev S6144x20x128 : Shape := ⟨3, ![6144, 20, 128]⟩
abbrev S20x6144x128 : Shape := ⟨3, ![20, 6144, 128]⟩
abbrev S6144x4x128 : Shape := ⟨3, ![6144, 4, 128]⟩
abbrev S4x6144x128 : Shape := ⟨3, ![4, 6144, 128]⟩
abbrev S4x5x6144x128 : Shape := ⟨4, ![4, 5, 6144, 128]⟩
abbrev S24x1x256 : Shape := ⟨3, ![24, 1, 256]⟩
abbrev S6144x6144 : Shape := ⟨2, ![6144, 6144]⟩
abbrev S20x6144x6144 : Shape := ⟨3, ![20, 6144, 6144]⟩
abbrev S1x6144x6144 : Shape := ⟨3, ![1, 6144, 6144]⟩
abbrev S20x6144 : Shape := ⟨2, ![20, 6144]⟩
abbrev S20x6144x1 : Shape := ⟨3, ![20, 6144, 1]⟩
abbrev S6144 : Shape := ⟨1, ![6144]⟩
abbrev S1x6144x1 : Shape := ⟨3, ![1, 6144, 1]⟩

abbrev nBuf : Space → Nat
  | .hbm => 21
  | .vmem => 6
  | .smem => 3
  | _ => 0

abbrev bufTy : (tb : Table) → Fin (tcTables nBuf tb) → BufTy
  | .hbm, ⟨0, _⟩ => ⟨S7, .i32⟩
  | .hbm, ⟨1, _⟩ => ⟨S_, .f32⟩
  | .hbm, ⟨2, _⟩ => ⟨S_, .f32⟩
  | .hbm, ⟨3, _⟩ => ⟨S6144x2560, .bf16⟩
  | .hbm, ⟨4, _⟩ => ⟨S6144x512, .fp8e4m3⟩
  | .hbm, ⟨5, _⟩ => ⟨S6144x512, .fp8e4m3⟩
  | .hbm, ⟨6, _⟩ => ⟨S1, .f32⟩
  | .hbm, ⟨7, _⟩ => ⟨S1, .f32⟩
  | .hbm, ⟨8, _⟩ => ⟨S6144x20x128, .bf16⟩
  | .hbm, ⟨9, _⟩ => ⟨S20x6144x128, .bf16⟩
  | .hbm, ⟨10, _⟩ => ⟨S6144x4x128, .fp8e4m3⟩
  | .hbm, ⟨11, _⟩ => ⟨S4x6144x128, .fp8e4m3⟩
  | .hbm, ⟨12, _⟩ => ⟨S4x5x6144x128, .fp8e4m3⟩
  | .hbm, ⟨13, _⟩ => ⟨S20x6144x128, .fp8e4m3⟩
  | .hbm, ⟨14, _⟩ => ⟨S6144x4x128, .fp8e4m3⟩
  | .hbm, ⟨15, _⟩ => ⟨S4x6144x128, .fp8e4m3⟩
  | .hbm, ⟨16, _⟩ => ⟨S4x5x6144x128, .fp8e4m3⟩
  | .hbm, ⟨17, _⟩ => ⟨S20x6144x128, .fp8e4m3⟩
  | .hbm, ⟨18, _⟩ => ⟨S20x6144x128, .f32⟩
  | .hbm, ⟨19, _⟩ => ⟨S20x6144x128, .fp8e4m3⟩
  | .hbm, ⟨20, _⟩ => ⟨S24x1x256, .f32⟩
  | .local _ .vmem, ⟨0, _⟩ => ⟨S20x6144x128, .bf16⟩
  | .local _ .vmem, ⟨1, _⟩ => ⟨S20x6144x128, .fp8e4m3⟩
  | .local _ .vmem, ⟨2, _⟩ => ⟨S20x6144x128, .fp8e4m3⟩
  | .local _ .vmem, ⟨3, _⟩ => ⟨S20x6144x128, .f32⟩
  | .local _ .vmem, ⟨4, _⟩ => ⟨S20x6144x128, .fp8e4m3⟩
  | .local _ .vmem, ⟨5, _⟩ => ⟨S24x1x256, .f32⟩
  | .local _ .smem, ⟨0, _⟩ => ⟨S7, .i32⟩
  | .local _ .smem, ⟨1, _⟩ => ⟨S1, .f32⟩
  | .local _ .smem, ⟨2, _⟩ => ⟨S1, .f32⟩
  | _, _ => ⟨S7, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .smem S7 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S20x6144x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S20x6144x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S20x6144x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S20x6144x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S20x6144x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Qkv.lean ====
abbrev S6144x5120 : Shape := ⟨2, ![6144, 5120]⟩
abbrev S6144x64 : Shape := ⟨2, ![6144, 64]⟩
abbrev S5120 : Shape := ⟨1, ![5120]⟩
abbrev S5120x3584 : Shape := ⟨2, ![5120, 3584]⟩
abbrev S3584 : Shape := ⟨1, ![3584]⟩
abbrev S128 : Shape := ⟨1, ![128]⟩
abbrev S_ : Shape := ⟨0, ![]⟩
abbrev S1 : Shape := ⟨1, ![1]⟩
abbrev S1x5120 : Shape := ⟨2, ![1, 5120]⟩
abbrev S1x3584 : Shape := ⟨2, ![1, 3584]⟩
abbrev S1x128 : Shape := ⟨2, ![1, 128]⟩
abbrev S12x1x512 : Shape := ⟨3, ![12, 1, 512]⟩
abbrev S6144x2560 : Shape := ⟨2, ![6144, 2560]⟩
abbrev S6144x512 : Shape := ⟨2, ![6144, 512]⟩
abbrev S512x5120 : Shape := ⟨2, ![512, 5120]⟩
abbrev S512x64 : Shape := ⟨2, ![512, 64]⟩
abbrev S1x1x512 : Shape := ⟨3, ![1, 1, 512]⟩
abbrev S512x2560 : Shape := ⟨2, ![512, 2560]⟩
abbrev S512x512 : Shape := ⟨2, ![512, 512]⟩
abbrev S512 : Shape := ⟨1, ![512]⟩
abbrev S512x1 : Shape := ⟨2, ![512, 1]⟩
abbrev S512x128 : Shape := ⟨2, ![512, 128]⟩
abbrev S5120x512 : Shape := ⟨2, ![5120, 512]⟩
abbrev S1x512 : Shape := ⟨2, ![1, 512]⟩

abbrev nBuf : Space → Nat
  | .hbm => 21
  | .vmem => 21
  | .smem => 2
  | _ => 0

abbrev bufTy : (tb : Table) → Fin (tcTables nBuf tb) → BufTy
  | .hbm, ⟨0, _⟩ => ⟨S6144x5120, .bf16⟩
  | .hbm, ⟨1, _⟩ => ⟨S6144x64, .f32⟩
  | .hbm, ⟨2, _⟩ => ⟨S6144x64, .f32⟩
  | .hbm, ⟨3, _⟩ => ⟨S5120, .f32⟩
  | .hbm, ⟨4, _⟩ => ⟨S5120x3584, .fp8e4m3⟩
  | .hbm, ⟨5, _⟩ => ⟨S3584, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S_, .f32⟩
  | .hbm, ⟨10, _⟩ => ⟨S1, .f32⟩
  | .hbm, ⟨11, _⟩ => ⟨S1, .f32⟩
  | .hbm, ⟨12, _⟩ => ⟨S1x5120, .f32⟩
  | .hbm, ⟨13, _⟩ => ⟨S1x3584, .f32⟩
  | .hbm, ⟨14, _⟩ => ⟨S1x128, .f32⟩
  | .hbm, ⟨15, _⟩ => ⟨S1x128, .f32⟩
  | .hbm, ⟨16, _⟩ => ⟨S6144x5120, .fp8e4m3⟩
  | .hbm, ⟨17, _⟩ => ⟨S12x1x512, .f32⟩
  | .hbm, ⟨18, _⟩ => ⟨S6144x2560, .bf16⟩
  | .hbm, ⟨19, _⟩ => ⟨S6144x512, .fp8e4m3⟩
  | .hbm, ⟨20, _⟩ => ⟨S6144x512, .fp8e4m3⟩
  | .local _ .vmem, ⟨0, _⟩ => ⟨S512x5120, .bf16⟩
  | .local _ .vmem, ⟨1, _⟩ => ⟨S512x5120, .bf16⟩
  | .local _ .vmem, ⟨2, _⟩ => ⟨S1x5120, .f32⟩
  | .local _ .vmem, ⟨3, _⟩ => ⟨S5120x3584, .fp8e4m3⟩
  | .local _ .vmem, ⟨4, _⟩ => ⟨S1x3584, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S1x128, .f32⟩
  | .local _ .vmem, ⟨10, _⟩ => ⟨S1x128, .f32⟩
  | .local _ .vmem, ⟨11, _⟩ => ⟨S512x5120, .fp8e4m3⟩
  | .local _ .vmem, ⟨12, _⟩ => ⟨S512x5120, .fp8e4m3⟩
  | .local _ .vmem, ⟨13, _⟩ => ⟨S1x1x512, .f32⟩
  | .local _ .vmem, ⟨14, _⟩ => ⟨S1x1x512, .f32⟩
  | .local _ .vmem, ⟨15, _⟩ => ⟨S512x2560, .bf16⟩
  | .local _ .vmem, ⟨16, _⟩ => ⟨S512x2560, .bf16⟩
  | .local _ .vmem, ⟨17, _⟩ => ⟨S512x512, .fp8e4m3⟩
  | .local _ .vmem, ⟨18, _⟩ => ⟨S512x512, .fp8e4m3⟩
  | .local _ .vmem, ⟨19, _⟩ => ⟨S512x512, .fp8e4m3⟩
  | .local _ .vmem, ⟨20, _⟩ => ⟨S512x512, .fp8e4m3⟩
  | .local _ .smem, ⟨0, _⟩ => ⟨S1, .f32⟩
  | .local _ .smem, ⟨1, _⟩ => ⟨S1, .f32⟩
  | _, _ => ⟨S6144x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg8_0 : Ref sig .tc := ⟨.smem, 0, rfl⟩
abbrev cc0_stg9_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5120x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x5120 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2560 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== QkvRefIdeal.lean ====
abbrev S6144x5120 : Shape := ⟨2, ![6144, 5120]⟩
abbrev S6144x64 : Shape := ⟨2, ![6144, 64]⟩
abbrev S5120 : Shape := ⟨1, ![5120]⟩
abbrev S5120x3584 : Shape := ⟨2, ![5120, 3584]⟩
abbrev S3584 : Shape := ⟨1, ![3584]⟩
abbrev S128 : Shape := ⟨1, ![128]⟩
abbrev S_ : Shape := ⟨0, ![]⟩
abbrev S1 : Shape := ⟨1, ![1]⟩
abbrev S12x1x512 : Shape := ⟨3, ![12, 1, 512]⟩
abbrev S6144x2560 : Shape := ⟨2, ![6144, 2560]⟩
abbrev S6144x512 : Shape := ⟨2, ![6144, 512]⟩
abbrev S6144 : Shape := ⟨1, ![6144]⟩
abbrev S6144x1 : Shape := ⟨2, ![6144, 1]⟩
abbrev S1x5120 : Shape := ⟨2, ![1, 5120]⟩
abbrev S6144x3584 : Shape := ⟨2, ![6144, 3584]⟩
abbrev S1x3584 : Shape := ⟨2, ![1, 3584]⟩
abbrev S6144x20x128 : Shape := ⟨3, ![6144, 20, 128]⟩
abbrev S6144x4x128 : Shape := ⟨3, ![6144, 4, 128]⟩
abbrev S6144x20 : Shape := ⟨2, ![6144, 20]⟩
abbrev S6144x20x1 : Shape := ⟨3, ![6144, 20, 1]⟩
abbrev S1x1x128 : Shape := ⟨3, ![1, 1, 128]⟩
abbrev S6144x128 : Shape := ⟨2, ![6144, 128]⟩
abbrev S6144x1x128 : Shape := ⟨3, ![6144, 1, 128]⟩
abbrev S6144x20x64 : Shape := ⟨3, ![6144, 20, 64]⟩
abbrev S6144x4 : Shape := ⟨2, ![6144, 4]⟩
abbrev S6144x4x1 : Shape := ⟨3, ![6144, 4, 1]⟩
abbrev S6144x4x64 : Shape := ⟨3, ![6144, 4, 64]⟩

abbrev nBuf : Space → Nat
  | .hbm => 17
  | .vmem => 13
  | .smem => 2
  | _ => 0

abbrev bufTy : (tb : Table) → Fin (tcTables nBuf tb) → BufTy
  | .hbm, ⟨0, _⟩ => ⟨S6144x5120, .bf16⟩
  | .hbm, ⟨1, _⟩ => ⟨S6144x64, .f32⟩
  | .hbm, ⟨2, _⟩ => ⟨S6144x64, .f32⟩
  | .hbm, ⟨3, _⟩ => ⟨S5120, .f32⟩
  | .hbm, ⟨4, _⟩ => ⟨S5120x3584, .fp8e4m3⟩
  | .hbm, ⟨5, _⟩ => ⟨S3584, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S_, .f32⟩
  | .hbm, ⟨10, _⟩ => ⟨S1, .f32⟩
  | .hbm, ⟨11, _⟩ => ⟨S1, .f32⟩
  | .hbm, ⟨12, _⟩ => ⟨S6144x5120, .fp8e4m3⟩
  | .hbm, ⟨13, _⟩ => ⟨S12x1x512, .f32⟩
  | .hbm, ⟨14, _⟩ => ⟨S6144x2560, .bf16⟩
  | .hbm, ⟨15, _⟩ => ⟨S6144x512, .fp8e4m3⟩
  | .hbm, ⟨16, _⟩ => ⟨S6144x512, .fp8e4m3⟩
  | .local _ .vmem, ⟨0, _⟩ => ⟨S6144x5120, .bf16⟩
  | .local _ .vmem, ⟨1, _⟩ => ⟨S6144x64, .f32⟩
  | .local _ .vmem, ⟨2, _⟩ => ⟨S6144x64, .f32⟩
  | .local _ .vmem, ⟨3, _⟩ => ⟨S5120, .f32⟩
  | .local _ .vmem, ⟨4, _⟩ => ⟨S5120x3584, .fp8e4m3⟩
  | .local _ .vmem, ⟨5, _⟩ => ⟨S3584, .f32⟩
  | .local _ .vmem, ⟨6, _⟩ => ⟨S128, .f32⟩
  | .local _ .vmem, ⟨7, _⟩ => ⟨S128, .f32⟩
  | .local _ .vmem, ⟨8, _⟩ => ⟨S6144x5120, .fp8e4m3⟩
  | .local _ .vmem, ⟨9, _⟩ => ⟨S12x1x512, .f32⟩
  | .local _ .vmem, ⟨10, _⟩ => ⟨S6144x2560, .bf16⟩
  | .local _ .vmem, ⟨11, _⟩ => ⟨S6144x512, .fp8e4m3⟩
  | .local _ .vmem, ⟨12, _⟩ => ⟨S6144x512, .fp8e4m3⟩
  | .local _ .smem, ⟨0, _⟩ => ⟨S1, .f32⟩
  | .local _ .smem, ⟨1, _⟩ => ⟨S1, .f32⟩
  | _, _ => ⟨S6144x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev main_v2_4 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg10_0 : Ref sig .tc := ⟨.vmem, 8, rfl⟩
abbrev cc0_stg11_0 : Ref sig .tc := ⟨.vmem, 9, rfl⟩
abbrev cc0_stg12_0 : Ref sig .tc := ⟨.vmem, 10, rfl⟩
abbrev cc0_stg13_0 : Ref sig .tc := ⟨.vmem, 11, rfl⟩
abbrev cc0_stg14_0 : Ref sig .tc := ⟨.vmem, 12, rfl⟩
abbrev cc0_stg8_0 : Ref sig .tc := ⟨.smem, 0, rfl⟩
abbrev cc0_stg9_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S6144x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .smem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .smem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6144x5120 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S12x1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S6144x2560 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S6144x512 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S6144x512 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Oproj.lean ====
abbrev S20x6144x128 : Shape := ⟨3, ![20, 6144, 128]⟩
abbrev S6144 : Shape := ⟨1, ![6144]⟩
abbrev S20x128x5120 : Shape := ⟨3, ![20, 128, 5120]⟩
abbrev S5120 : Shape := ⟨1, ![5120]⟩
abbrev S6144x5120 : Shape := ⟨2, ![6144, 5120]⟩
abbrev S1x5120 : Shape := ⟨2, ![1, 5120]⟩
abbrev S2560x5120 : Shape := ⟨2, ![2560, 5120]⟩
abbrev S24x1x256 : Shape := ⟨3, ![24, 1, 256]⟩
abbrev S20x256x128 : Shape := ⟨3, ![20, 256, 128]⟩
abbrev S1x1x256 : Shape := ⟨3, ![1, 1, 256]⟩
abbrev S256x5120 : Shape := ⟨2, ![256, 5120]⟩
abbrev S256 : Shape := ⟨1, ![256]⟩
abbrev S256x1 : Shape := ⟨2, ![256, 1]⟩
abbrev S1x256x128 : Shape := ⟨3, ![1, 256, 128]⟩
abbrev S256x128 : Shape := ⟨2, ![256, 128]⟩
abbrev S256x2560 : Shape := ⟨2, ![256, 2560]⟩
abbrev S256x512 : Shape := ⟨2, ![256, 512]⟩
abbrev S2560x512 : Shape := ⟨2, ![2560, 512]⟩
abbrev S1x512 : Shape := ⟨2, ![1, 512]⟩

abbrev nBuf : Space → Nat
  | .hbm => 13
  | .vmem => 15
  | .smem => 0
  | _ => 0

abbrev bufTy : (tb : Table) → Fin (tcTables nBuf tb) → BufTy
  | .hbm, ⟨0, _⟩ => ⟨S20x6144x128, .fp8e4m3⟩
  | .hbm, ⟨1, _⟩ => ⟨S6144, .f32⟩
  | .hbm, ⟨2, _⟩ => ⟨S20x128x5120, .fp8e4m3⟩
  | .hbm, ⟨3, _⟩ => ⟨S5120, .f32⟩
  | .hbm, ⟨4, _⟩ => ⟨S6144x5120, .bf16⟩
  | .hbm, ⟨5, _⟩ => ⟨S5120, .f32⟩
  | .hbm, ⟨6, _⟩ => ⟨S1x5120, .f32⟩
  | .hbm, ⟨7, _⟩ => ⟨S1x5120, .f32⟩
  | .hbm, ⟨8, _⟩ => ⟨S2560x5120, .fp8e4m3⟩
  | .hbm, ⟨9, _⟩ => ⟨S24x1x256, .f32⟩
  | .hbm, ⟨10, _⟩ => ⟨S6144x5120, .f32⟩
  | .hbm, ⟨11, _⟩ => ⟨S6144x5120, .fp8e4m3⟩
  | .hbm, ⟨12, _⟩ => ⟨S24x1x256, .f32⟩
  | .local _ .vmem, ⟨0, _⟩ => ⟨S20x256x128, .fp8e4m3⟩
  | .local _ .vmem, ⟨1, _⟩ => ⟨S20x256x128, .fp8e4m3⟩
  | .local _ .vmem, ⟨2, _⟩ => ⟨S1x1x256, .f32⟩
  | .local _ .vmem, ⟨3, _⟩ => ⟨S1x1x256, .f32⟩
  | .local _ .vmem, ⟨4, _⟩ => ⟨S2560x5120, .fp8e4m3⟩
  | .local _ .vmem, ⟨5, _⟩ => ⟨S1x5120, .f32⟩
  | .local _ .vmem, ⟨6, _⟩ => ⟨S256x5120, .bf16⟩
  | .local _ .vmem, ⟨7, _⟩ => ⟨S256x5120, .bf16⟩
  | .local _ .vmem, ⟨8, _⟩ => ⟨S1x5120, .f32⟩
  | .local _ .vmem, ⟨9, _⟩ => ⟨S256x5120, .f32⟩
  | .local _ .vmem, ⟨10, _⟩ => ⟨S256x5120, .f32⟩
  | .local _ .vmem, ⟨11, _⟩ => ⟨S256x5120, .fp8e4m3⟩
  | .local _ .vmem, ⟨12, _⟩ => ⟨S256x5120, .fp8e4m3⟩
  | .local _ .vmem, ⟨13, _⟩ => ⟨S1x1x256, .f32⟩
  | .local _ .vmem, ⟨14, _⟩ => ⟨S1x1x256, .f32⟩
  | _, _ => ⟨S20x6144x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![24], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S20x256x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2560x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x5120 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x5120 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5120 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OprojRefIdeal.lean ====
abbrev S20x6144x128 : Shape := ⟨3, ![20, 6144, 128]⟩
abbrev S6144 : Shape := ⟨1, ![6144]⟩
abbrev S20x128x5120 : Shape := ⟨3, ![20, 128, 5120]⟩
abbrev S5120 : Shape := ⟨1, ![5120]⟩
abbrev S6144x5120 : Shape := ⟨2, ![6144, 5120]⟩
abbrev S6144x20x128 : Shape := ⟨3, ![6144, 20, 128]⟩
abbrev S6144x2560 : Shape := ⟨2, ![6144, 2560]⟩
abbrev S2560x5120 : Shape := ⟨2, ![2560, 5120]⟩
abbrev S24x1x256 : Shape := ⟨3, ![24, 1, 256]⟩
abbrev S6144x1 : Shape := ⟨2, ![6144, 1]⟩
abbrev S1x5120 : Shape := ⟨2, ![1, 5120]⟩

abbrev nBuf : Space → Nat
  | .hbm => 12
  | .vmem => 9
  | .smem => 0
  | _ => 0

abbrev bufTy : (tb : Table) → Fin (tcTables nBuf tb) → BufTy
  | .hbm, ⟨0, _⟩ => ⟨S20x6144x128, .fp8e4m3⟩
  | .hbm, ⟨1, _⟩ => ⟨S6144, .f32⟩
  | .hbm, ⟨2, _⟩ => ⟨S20x128x5120, .fp8e4m3⟩
  | .hbm, ⟨3, _⟩ => ⟨S5120, .f32⟩
  | .hbm, ⟨4, _⟩ => ⟨S6144x5120, .bf16⟩
  | .hbm, ⟨5, _⟩ => ⟨S5120, .f32⟩
  | .hbm, ⟨6, _⟩ => ⟨S6144x20x128, .fp8e4m3⟩
  | .hbm, ⟨7, _⟩ => ⟨S6144x2560, .fp8e4m3⟩
  | .hbm, ⟨8, _⟩ => ⟨S2560x5120, .fp8e4m3⟩
  | .hbm, ⟨9, _⟩ => ⟨S6144x5120, .f32⟩
  | .hbm, ⟨10, _⟩ => ⟨S6144x5120, .fp8e4m3⟩
  | .hbm, ⟨11, _⟩ => ⟨S24x1x256, .f32⟩
  | .local _ .vmem, ⟨0, _⟩ => ⟨S6144x2560, .fp8e4m3⟩
  | .local _ .vmem, ⟨1, _⟩ => ⟨S6144, .f32⟩
  | .local _ .vmem, ⟨2, _⟩ => ⟨S2560x5120, .fp8e4m3⟩
  | .local _ .vmem, ⟨3, _⟩ => ⟨S5120, .f32⟩
  | .local _ .vmem, ⟨4, _⟩ => ⟨S6144x5120, .bf16⟩
  | .local _ .vmem, ⟨5, _⟩ => ⟨S5120, .f32⟩
  | .local _ .vmem, ⟨6, _⟩ => ⟨S6144x5120, .f32⟩
  | .local _ .vmem, ⟨7, _⟩ => ⟨S6144x5120, .fp8e4m3⟩
  | .local _ .vmem, ⟨8, _⟩ => ⟨S24x1x256, .f32⟩
  | _, _ => ⟨S20x6144x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S6144x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x5120 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== GateUp.lean ====
abbrev S6144x5120 : Shape := ⟨2, ![6144, 5120]⟩
abbrev S6144 : Shape := ⟨1, ![6144]⟩
abbrev S5120x17408 : Shape := ⟨2, ![5120, 17408]⟩
abbrev S17408 : Shape := ⟨1, ![17408]⟩
abbrev S1x17408 : Shape := ⟨2, ![1, 17408]⟩
abbrev S12x1x512 : Shape := ⟨3, ![12, 1, 512]⟩
abbrev S6144x8704 : Shape := ⟨2, ![6144, 8704]⟩
abbrev S512x5120 : Shape := ⟨2, ![512, 5120]⟩
abbrev S1x1x512 : Shape := ⟨3, ![1, 1, 512]⟩
abbrev S5120x512 : Shape := ⟨2, ![5120, 512]⟩
abbrev S1x512 : Shape := ⟨2, ![1, 512]⟩
abbrev S512x512 : Shape := ⟨2, ![512, 512]⟩
abbrev S17x512x512 : Shape := ⟨3, ![17, 512, 512]⟩
abbrev S512x1 : Shape := ⟨2, ![512, 1]⟩
abbrev S1x512x512 : Shape := ⟨3, ![1, 512, 512]⟩
abbrev S512 : Shape := ⟨1, ![512]⟩

abbrev nBuf : Space → Nat
  | .hbm => 8
  | .vmem => 19
  | .smem => 0
  | _ => 0

abbrev bufTy : (tb : Table) → Fin (tcTables nBuf tb) → BufTy
  | .hbm, ⟨0, _⟩ => ⟨S6144x5120, .fp8e4m3⟩
  | .hbm, ⟨1, _⟩ => ⟨S6144, .f32⟩
  | .hbm, ⟨2, _⟩ => ⟨S5120x17408, .fp8e4m3⟩
  | .hbm, ⟨3, _⟩ => ⟨S17408, .f32⟩
  | .hbm, ⟨4, _⟩ => ⟨S1x17408, .f32⟩
  | .hbm, ⟨5, _⟩ => ⟨S12x1x512, .f32⟩
  | .hbm, ⟨6, _⟩ => ⟨S6144x8704, .fp8e4m3⟩
  | .hbm, ⟨7, _⟩ => ⟨S12x1x512, .f32⟩
  | .local _ .vmem, ⟨0, _⟩ => ⟨S512x5120, .fp8e4m3⟩
  | .local _ .vmem, ⟨1, _⟩ => ⟨S512x5120, .fp8e4m3⟩
  | .local _ .vmem, ⟨2, _⟩ => ⟨S1x1x512, .f32⟩
  | .local _ .vmem, ⟨3, _⟩ => ⟨S1x1x512, .f32⟩
  | .local _ .vmem, ⟨4, _⟩ => ⟨S5120x512, .fp8e4m3⟩
  | .local _ .vmem, ⟨5, _⟩ => ⟨S5120x512, .fp8e4m3⟩
  | .local _ .vmem, ⟨6, _⟩ => ⟨S5120x512, .fp8e4m3⟩
  | .local _ .vmem, ⟨7, _⟩ => ⟨S5120x512, .fp8e4m3⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x512, .fp8e4m3⟩
  | .local _ .vmem, ⟨13, _⟩ => ⟨S512x512, .fp8e4m3⟩
  | .local _ .vmem, ⟨14, _⟩ => ⟨S1x1x512, .f32⟩
  | .local _ .vmem, ⟨15, _⟩ => ⟨S1x1x512, .f32⟩
  | .local _ .vmem, ⟨16, _⟩ => ⟨S17x512x512, .f32⟩
  | .local _ .vmem, ⟨17, _⟩ => ⟨S512x1, .f32⟩
  | .local _ .vmem, ⟨18, _⟩ => ⟨S512x1, .f32⟩
  | _, _ => ⟨S6144x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![13, 17], ![false, false]⟩

def k0_off1 (i : grid0.Coords) : Fin 3 → Nat :=
  let arg1 : BitVec 32 := BitVec.ofNat 32 (i 1).val
  let v3 : Index := Scalar.indexCast arg1
  let c0 : Index := 0#32
  let c0_1 : Index := 0#32
  ![v3.toNat, 0, 0]
def k0_cond2 (i : grid0.Coords) : BitVec 1 :=
  let arg0 : BitVec 32 := BitVec.ofNat 32 (i 0).val
  let c12_i32 : BitVec 32 := 12#32
  let v15 : BitVec 1 := Scalar.cmpi .slt arg0 c12_i32
  let v16 : BitVec 32 := Scalar.extui v15
  let c0_i32_7 : BitVec 32 := 0#32
  let v17 : BitVec 1 := Scalar.cmpi .ne v16 c0_i32_7
  v17

def k0_off2 (i : grid0.Coords) : Fin 3 → Nat :=
  let arg1 : BitVec 32 := BitVec.ofNat 32 (i 1).val
  let v42 : Index := Scalar.indexCast arg1
  let c0_25 : Index := 0#32
  let c0_26 : Index := 0#32
  ![v42.toNat, 0, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.minsi arg0 c11_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.minsi arg0 c11_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 1 := Scalar.cmpi .sgt arg0 c11_i32
  let c16_i32 : BitVec 32 := 16#32
  let v1 : BitVec 32 := Scalar.select v0 c16_i32 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 1 := Scalar.cmpi .sgt arg0 c11_i32
  let c16_i32 : BitVec 32 := 16#32
  let v1 : BitVec 32 := Scalar.select v0 c16_i32 arg1
  let c17_i32 : BitVec 32 := 17#32
  let v2 : BitVec 32 := Scalar.addi v1 c17_i32
  let c0_i32 : BitVec 32 := 0#32
  let c0_i32_0 : BitVec 32 := 0#32
  ![c0_i32.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi arg1 c17_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S512x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S5120x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S5120x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== GateUpRefIdeal.lean ====
abbrev S6144x5120 : Shape := ⟨2, ![6144, 5120]⟩
abbrev S6144 : Shape := ⟨1, ![6144]⟩
abbrev S5120x17408 : Shape := ⟨2, ![5120, 17408]⟩
abbrev S17408 : Shape := ⟨1, ![17408]⟩
abbrev S6144x8704 : Shape := ⟨2, ![6144, 8704]⟩
abbrev S12x1x512 : Shape := ⟨3, ![12, 1, 512]⟩
abbrev S6144x17408 : Shape := ⟨2, ![6144, 17408]⟩
abbrev S6144x1 : Shape := ⟨2, ![6144, 1]⟩
abbrev S1x17408 : Shape := ⟨2, ![1, 17408]⟩

abbrev nBuf : Space → Nat
  | .hbm => 6
  | .vmem => 6
  | .smem => 0
  | _ => 0

abbrev bufTy : (tb : Table) → Fin (tcTables nBuf tb) → BufTy
  | .hbm, ⟨0, _⟩ => ⟨S6144x5120, .fp8e4m3⟩
  | .hbm, ⟨1, _⟩ => ⟨S6144, .f32⟩
  | .hbm, ⟨2, _⟩ => ⟨S5120x17408, .fp8e4m3⟩
  | .hbm, ⟨3, _⟩ => ⟨S17408, .f32⟩
  | .hbm, ⟨4, _⟩ => ⟨S6144x8704, .fp8e4m3⟩
  | .hbm, ⟨5, _⟩ => ⟨S12x1x512, .f32⟩
  | .local _ .vmem, ⟨0, _⟩ => ⟨S6144x5120, .fp8e4m3⟩
  | .local _ .vmem, ⟨1, _⟩ => ⟨S6144, .f32⟩
  | .local _ .vmem, ⟨2, _⟩ => ⟨S5120x17408, .fp8e4m3⟩
  | .local _ .vmem, ⟨3, _⟩ => ⟨S17408, .f32⟩
  | .local _ .vmem, ⟨4, _⟩ => ⟨S6144x8704, .fp8e4m3⟩
  | .local _ .vmem, ⟨5, _⟩ => ⟨S12x1x512, .f32⟩
  | _, _ => ⟨S6144x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6144x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x17408 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S17408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x8704 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Down.lean ====
abbrev S6144x8704 : Shape := ⟨2, ![6144, 8704]⟩
abbrev S6144 : Shape := ⟨1, ![6144]⟩
abbrev S8704x5120 : Shape := ⟨2, ![8704, 5120]⟩
abbrev S5120 : Shape := ⟨1, ![5120]⟩
abbrev S6144x5120 : Shape := ⟨2, ![6144, 5120]⟩
abbrev S1x5120 : Shape := ⟨2, ![1, 5120]⟩
abbrev S12x1x512 : Shape := ⟨3, ![12, 1, 512]⟩
abbrev S512x8704 : Shape := ⟨2, ![512, 8704]⟩
abbrev S1x1x512 : Shape := ⟨3, ![1, 1, 512]⟩
abbrev S8704x1024 : Shape := ⟨2, ![8704, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S8704x512 : Shape := ⟨2, ![8704, 512]⟩
abbrev S1x512 : Shape := ⟨2, ![1, 512]⟩

abbrev nBuf : Space → Nat
  | .hbm => 8
  | .vmem => 12
  | .smem => 0
  | _ => 0

abbrev bufTy : (tb : Table) → Fin (tcTables nBuf tb) → BufTy
  | .hbm, ⟨0, _⟩ => ⟨S6144x8704, .fp8e4m3⟩
  | .hbm, ⟨1, _⟩ => ⟨S6144, .f32⟩
  | .hbm, ⟨2, _⟩ => ⟨S8704x5120, .fp8e4m3⟩
  | .hbm, ⟨3, _⟩ => ⟨S5120, .f32⟩
  | .hbm, ⟨4, _⟩ => ⟨S6144x5120, .f32⟩
  | .hbm, ⟨5, _⟩ => ⟨S1x5120, .f32⟩
  | .hbm, ⟨6, _⟩ => ⟨S12x1x512, .f32⟩
  | .hbm, ⟨7, _⟩ => ⟨S6144x5120, .bf16⟩
  | .local _ .vmem, ⟨0, _⟩ => ⟨S512x8704, .fp8e4m3⟩
  | .local _ .vmem, ⟨1, _⟩ => ⟨S512x8704, .fp8e4m3⟩
  | .local _ .vmem, ⟨2, _⟩ => ⟨S1x1x512, .f32⟩
  | .local _ .vmem, ⟨3, _⟩ => ⟨S1x1x512, .f32⟩
  | .local _ .vmem, ⟨4, _⟩ => ⟨S8704x1024, .fp8e4m3⟩
  | .local _ .vmem, ⟨5, _⟩ => ⟨S8704x1024, .fp8e4m3⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S6144x8704, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![12, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x8704 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8704x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownRefIdeal.lean ====
abbrev S6144x8704 : Shape := ⟨2, ![6144, 8704]⟩
abbrev S6144 : Shape := ⟨1, ![6144]⟩
abbrev S8704x5120 : Shape := ⟨2, ![8704, 5120]⟩
abbrev S5120 : Shape := ⟨1, ![5120]⟩
abbrev S6144x5120 : Shape := ⟨2, ![6144, 5120]⟩
abbrev S6144x1 : Shape := ⟨2, ![6144, 1]⟩
abbrev S1x5120 : Shape := ⟨2, ![1, 5120]⟩

abbrev nBuf : Space → Nat
  | .hbm => 6
  | .vmem => 6
  | .smem => 0
  | _ => 0

abbrev bufTy : (tb : Table) → Fin (tcTables nBuf tb) → BufTy
  | .hbm, ⟨0, _⟩ => ⟨S6144x8704, .fp8e4m3⟩
  | .hbm, ⟨1, _⟩ => ⟨S6144, .f32⟩
  | .hbm, ⟨2, _⟩ => ⟨S8704x5120, .fp8e4m3⟩
  | .hbm, ⟨3, _⟩ => ⟨S5120, .f32⟩
  | .hbm, ⟨4, _⟩ => ⟨S6144x5120, .f32⟩
  | .hbm, ⟨5, _⟩ => ⟨S6144x5120, .bf16⟩
  | .local _ .vmem, ⟨0, _⟩ => ⟨S6144x8704, .fp8e4m3⟩
  | .local _ .vmem, ⟨1, _⟩ => ⟨S6144, .f32⟩
  | .local _ .vmem, ⟨2, _⟩ => ⟨S8704x5120, .fp8e4m3⟩
  | .local _ .vmem, ⟨3, _⟩ => ⟨S5120, .f32⟩
  | .local _ .vmem, ⟨4, _⟩ => ⟨S6144x5120, .f32⟩
  | .local _ .vmem, ⟨5, _⟩ => ⟨S6144x5120, .bf16⟩
  | _, _ => ⟨S6144x8704, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6144x8704 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8704x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.GateUpSpec.lean ====
/- The gate/up projection with its activation and its per-token quantisation, one element at a time over whole arrays,
   and the proof that the reference computes it. -/
module

public import proofs.«01_k».proof.Proof.Gen.GateUpRefIdeal.Value
public import Idealize.ShloMosaic.Lib.Pointwise
public import Idealize.ShloMosaic.Lib.IdealHost

@[expose] public section

set_option maxRecDepth 16384

noncomputable section

namespace Cert.Quant

open Idealize.ShloMosaic

/-- A row's scale from its largest magnitude: one for a zero row, else the magnitude over 448. -/
def scaleOf (x : EReal) : EReal := if x = 0 then 1 else Ideal.div x (Ideal.ofBits .f32 0x43E00000#32)

/-- An element's code: the element over its row's scale, cut to ±448. -/
def codeOf (v s : EReal) : EReal := min (Ideal.ofBits .f32 0x43E00000#32) (max (Ideal.ofBits .f32 0xC3E00000#32) (Ideal.div v s))

theorem ofBits_448 : Ideal.ofBits .f32 0x43E00000#32 = ((448 : ℝ) : EReal) := by
  simp [Ideal.ofBits, Ideal.ieee, -EReal.coe_mul]; norm_num

theorem ofBits_neg_inf : Ideal.ofBits .f32 0xFF800000#32 = ⊥ := by simp [Ideal.ofBits, Ideal.ieee]

/-- A row's scale is never zero. -/
theorem scaleOf_ne_zero (x : EReal) : scaleOf x ≠ 0 := by
  unfold scaleOf
  split
  · exact one_ne_zero
  · next h =>
    rw [ofBits_448]
    have h448 : ((448 : ℝ) : EReal) ≠ 0 := by norm_num
    unfold Ideal.div
    rw [if_neg h448]
    refine mul_ne_zero h ?_
    rw [← EReal.coe_inv]
    norm_num

/-- The product with the scale's reciprocal is the quotient by the scale. -/
theorem codeOf_mul (v x : EReal) :
    min (Ideal.ofBits .f32 0x43E00000#32) (max (Ideal.ofBits .f32 0xC3E00000#32) (v * Ideal.div 1 (scaleOf x))) = codeOf v (scaleOf x) := by
  unfold codeOf; rw [Ideal.mul_one_div (scaleOf_ne_zero x)]

/-- The magnitude of a value is not negative. -/
theorem abs_nonneg (x : EReal) : 0 ≤ max x (-x) := by
  rcases le_total 0 x with h | h
  · exact le_max_of_le_left h
  · exact le_max_of_le_right (EReal.neg_nonneg.mpr h)

end Cert.Quant

namespace Cert.GateUpValue

open Idealize.ShloMosaic Idealize.ShloMosaic.TcCoe Idealize.SL.Sem
open Cert.Quant

/-- The activation from a gate and an up value. -/
def glu (g u : EReal) : EReal := g * Ideal.logistic g * u

/-- One element of the scaled product of the codes. -/
def proj (a : FVec Ideal ⟨2, ![6144, 5120]⟩ .fp8e4m3) (s : FVec Ideal ⟨1, ![6144]⟩ .f32) (w : FVec Ideal ⟨2, ![5120, 17408]⟩ .fp8e4m3)
    (ws : FVec Ideal ⟨1, ![17408]⟩ .f32) (R : Fin 6144) (C : Fin 17408) : EReal :=
  (∑ k : Fin 5120, a (ix2 R k) * w (ix2 k C)) * (s (ix1 R) * ws (ix1 C))

/-- The activations: gate column `C` with up column `8704 + C`. -/
def Act (a : FVec Ideal ⟨2, ![6144, 5120]⟩ .fp8e4m3) (s : FVec Ideal ⟨1, ![6144]⟩ .f32) (w : FVec Ideal ⟨2, ![5120, 17408]⟩ .fp8e4m3)
    (ws : FVec Ideal ⟨1, ![17408]⟩ .f32) (R : Fin 6144) (C : Fin 8704) : EReal :=
  glu (proj a s w ws R ⟨C.val, by omega⟩) (proj a s w ws R ⟨8704 + C.val, by omega⟩)

/-- A row's largest magnitude. -/
def rowMax (A : Fin 6144 → Fin 8704 → EReal) (R : Fin 6144) : EReal :=
  Finset.univ.fold max ⊥ fun C : Fin 8704 => max (A R C) (-(A R C))

/-- The codes of an array of activations. -/
def Codes (A : Fin 6144 → Fin 8704 → EReal) : FVec Ideal ⟨2, ![6144, 8704]⟩ .fp8e4m3 :=
  fun j => codeOf (A (j 0) (j 1)) (scaleOf (rowMax A (j 0)))

/-- The row that entry `r` of block `p` of the scales belongs to. -/
def scaleRow (p : Fin 12) (r : Fin 512) : Fin 6144 := ⟨p.val * 512 + r.val, by omega⟩

/-- The scales, 512 rows to a block. -/
def Scales (A : Fin 6144 → Fin 8704 → EReal) : FVec Ideal ⟨3, ![12, 1, 512]⟩ .f32 :=
  fun j => scaleOf (rowMax A (scaleRow (j 0) (j 2)))

namespace Ref

open Cert.GateUpRefIdeal Cert.GateUpRefIdeal.Gen

/-- The reference's row maxima of any array. -/
def maxVec (A : FVec Ideal S6144x8704 .f32) : FVec Ideal S6144 .f32 :=
  multiReduction .maximumf [1] S6144 (absf A) 0xFF800000#32 reduces_S6144x8704_S6144 (.inl rfl) rfl

theorem maxVec_apply (A : FVec Ideal S6144x8704 .f32) (R : Fin 6144) :
    maxVec A (ix1 R) = Finset.univ.fold max ⊥ fun C : Fin 8704 => max (A (ix2 R C)) (-(A (ix2 R C))) := by
  rw [← ofBits_neg_inf]
  pointwise [maxVec]
  rfl

/-- The reference's scales of any row maxima. -/
def scaleVec (M : FVec Ideal S6144 .f32) : FVec Ideal S6144 .f32 :=
  select (cmpf .oeq M (broadcast S6144 (Scalar.ofBits .f32 0x00000000#32))) (broadcast S6144 (Scalar.ofBits .f32 0x3F800000#32))
    (divf M (broadcast S6144 (Scalar.ofBits .f32 0x43E00000#32)))

theorem scaleVec_apply (M : FVec Ideal S6144 .f32) (R : Fin 6144) : scaleVec M (ix1 R) = scaleOf (M (ix1 R)) := by
  unfold scaleOf
  pointwise [scaleVec]

/-- The reference's codes of any array and scales. -/
def codeVec (A : FVec Ideal S6144x8704 .f32) (S : FVec Ideal S6144 .f32) : FVec Ideal S6144x8704 .fp8e4m3 :=
  truncf .fp8e4m3 (minimumf (broadcast S6144x8704 (Scalar.ofBits .f32 0x43E00000#32)) (maximumf (broadcast S6144x8704 (Scalar.ofBits .f32 0xC3E00000#32))
    (divf A (broadcastTo S6144x8704 (shapeCast S6144x1 S shapeCasts_S6144_S6144x1) broadcasts_S6144x1_S6144x8704)))) bitsLt_fp8e4m3_f32

theorem codeVec_apply (A : FVec Ideal S6144x8704 .f32) (S : FVec Ideal S6144 .f32) (R : Fin 6144) (C : Fin 8704) :
    codeVec A S (ix2 R C) = codeOf (A (ix2 R C)) (S (ix1 R)) := by
  unfold codeOf
  pointwise [codeVec]

theorem act_apply (a s w ws) (R : Fin 6144) (C : Fin 8704) : k0_pay1 (F := Ideal) a s w ws (ix2 R C) = Act a s w ws R C := by
  unfold Act glu proj
  pointwise [k0_pay1]

theorem scale_eq (a s w ws) : k0_pay2 (F := Ideal) a s w ws = scaleVec (maxVec (k0_pay1 a s w ws)) := by
  unfold k0_pay2 scaleVec maxVec
  exact rfl

theorem codes_eq (a s w ws) : k0_pay3 (F := Ideal) a s w ws = codeVec (k0_pay1 a s w ws) (k0_pay2 a s w ws) := by
  unfold k0_pay3 codeVec
  exact rfl

theorem scale_apply (a s w ws) (R : Fin 6144) : k0_pay2 (F := Ideal) a s w ws (ix1 R) = scaleOf (rowMax (Act a s w ws) R) := by
  rw [scale_eq, scaleVec_apply, maxVec_apply]
  unfold rowMax
  simp only [act_apply]

theorem reshape_apply (S : FVec Ideal S6144 .f32) (p : Fin 12) (r : Fin 512) :
    shapeCast S12x1x512 S shapeCasts_S6144_S12x1x512 (ix3 p 0 r) = S (ix1 (scaleRow p r)) := by
  unfold scaleRow
  pointwise []

/-- The reference's codes. -/
theorem ref_codes (a s w ws) : Cert.GateUpRefIdeal.Value.G4 (F := Ideal) a s w ws = Codes (Act a s w ws) := by
  funext j
  obtain ⟨R, C, rfl⟩ : ∃ (R : Fin 6144) (C : Fin 8704), j = ix2 R C := ⟨j 0, j 1, eq_ix2 j⟩
  refine (congrFun (codes_eq a s w ws) _).trans ?_
  rw [codeVec_apply, act_apply, scale_apply]
  rfl

/-- The reference's scales. -/
theorem ref_scales (a s w ws) : Cert.GateUpRefIdeal.Value.G5 (F := Ideal) a s w ws = Scales (Act a s w ws) := by
  funext j
  obtain ⟨p, z, r, rfl⟩ : ∃ (p : Fin 12) (z : Fin 1) (r : Fin 512), j = ix3 p z r := ⟨j 0, j 1, j 2, eq_ix3 j⟩
  obtain rfl : z = 0 := Subsingleton.elim _ _
  refine (reshape_apply (k0_pay2 a s w ws) p r).trans ?_
  rw [scale_apply]
  rfl

end Ref

end Cert.GateUpValue

end
-- ==== Proof.NormSpec.lean ====
/- The root-mean-square normalisation of one element: the quotient by the root, and the product with the root's
   reciprocal, which is the same. -/
module

public import proofs.«01_k».proof.Proof.GateUpSpec

@[expose] public section

noncomputable section

namespace Cert.Norm

open Idealize.ShloMosaic

/-- The number of columns of the model, as the constant it is written with. -/
abbrev c5120 : EReal := Ideal.ofBits .f32 0x45A00000#32
/-- The number of columns of a head. -/
abbrev c128 : EReal := Ideal.ofBits .f32 0x43000000#32
/-- The normalisation's epsilon. -/
abbrev ceps : EReal := Ideal.ofBits .f32 0x358637BD#32

theorem c5120_eq : c5120 = ((5120 : ℝ) : EReal) := by
  simp [c5120, Ideal.ofBits, Ideal.ieee, -EReal.coe_mul]; norm_num

theorem c128_eq : c128 = ((128 : ℝ) : EReal) := by
  simp [c128, Ideal.ofBits, Ideal.ieee, -EReal.coe_mul]; norm_num

theorem ceps_pos : ∃ e : ℝ, 0 < e ∧ ceps = (e : EReal) := by
  refine ⟨8796093 * 2 ^ (-43 : ℤ), by positivity, ?_⟩
  simp [ceps, Ideal.ofBits, Ideal.ieee, -EReal.coe_mul]

/-- The root that a row of `n` elements with sum of squares `q` is divided by. -/
def rootOf (n q : EReal) : EReal := Ideal.sqrt (Ideal.div q n + ceps)

/-- One normalised element. -/
def rms (n q v w : EReal) : EReal := Ideal.div v (rootOf n q) * w

theorem sq_nonneg (v : EReal) : 0 ≤ v * v := by
  rcases le_total 0 v with h | h
  · exact mul_nonneg h h
  · rw [← neg_mul_neg]; exact mul_nonneg (EReal.neg_nonneg.mpr h) (EReal.neg_nonneg.mpr h)

/-- The root of a sum of squares' mean and a positive number is not zero. -/
theorem rootOf_ne_zero {r : ℝ} (hr : 0 < r) {q : EReal} (hq : 0 ≤ q) : rootOf (r : EReal) q ≠ 0 := by
  obtain ⟨e, he, hc⟩ := ceps_pos
  have hr0 : (r : EReal) ≠ 0 := by exact_mod_cast hr.ne'
  unfold rootOf
  rw [hc]
  have hd : Ideal.div q (r : EReal) = q * ((r⁻¹ : ℝ) : EReal) := by
    unfold Ideal.div; rw [if_neg hr0, EReal.coe_inv]
  rw [hd]
  induction q with
  | bot => exact absurd hq (by simp)
  | top =>
    rw [EReal.top_mul_coe_of_pos (inv_pos.mpr hr), EReal.top_add_coe]
    rw [show Ideal.sqrt ⊤ = ⊤ from rfl]
    exact EReal.top_ne_zero
  | coe x =>
    have hx : 0 ≤ x := by exact_mod_cast hq
    have hp : 0 < x * r⁻¹ + e := add_pos_of_nonneg_of_pos (mul_nonneg hx (inv_pos.mpr hr).le) he
    rw [← EReal.coe_mul, ← EReal.coe_add]
    have hs : Ideal.sqrt ((x * r⁻¹ + e : ℝ) : EReal) = ((Real.sqrt (x * r⁻¹ + e) : ℝ) : EReal) := by
      unfold Ideal.sqrt
      exact if_neg (not_lt.mpr hp.le)
    rw [hs]
    exact_mod_cast (Real.sqrt_pos.mpr hp).ne'

/-- The product with the root's reciprocal is the quotient. -/
theorem rms_mul {r : ℝ} (hr : 0 < r) {q : EReal} (hq : 0 ≤ q) (v w : EReal) :
    v * Ideal.div 1 (rootOf (r : EReal) q) * w = rms (r : EReal) q v w := by
  unfold rms; rw [Ideal.mul_one_div (rootOf_ne_zero hr hq)]

/-- A sum over 5120 columns, ten column blocks of 512 at a time. -/
theorem sum_chunks (f : Fin 5120 → EReal) :
    ∑ C : Fin 5120, f C = ∑ p : Fin 10, ∑ q : Fin 512, f ⟨p.val * 512 + q.val, by omega⟩ := by
  rw [← Finset.sum_product', Finset.univ_product_univ]
  refine (Fintype.sum_equiv (finProdFinEquiv (m := 10) (n := 512)) _ _ fun ⟨p, q⟩ => ?_).symm
  refine congrArg f (Fin.ext ?_)
  show p.val * 512 + q.val = q.val + 512 * p.val
  omega

end Cert.Norm

end
-- ==== Proof.OprojSpec.lean ====
/- The output projection with its residual, normalisation and per-token quantisation, one element at a time over whole
   arrays, and the proof that the reference computes it. -/
module

public import proofs.«01_k».proof.Proof.Gen.OprojRefIdeal.Value
public import proofs.«01_k».proof.Proof.NormSpec
public import Idealize.ShloMosaic.Lib.Pointwise
public import Idealize.ShloMosaic.Lib.IdealHost
public import Idealize.ShloMosaic.Lib.StableHlo.ReadAt

@[expose] public section

set_option maxRecDepth 16384

noncomputable section

namespace Cert.OprojValue

open Idealize.ShloMosaic Idealize.ShloMosaic.TcCoe Idealize.SL.Sem
open Cert.Quant Cert.Norm

/-- The head that column `k` of the heads side by side belongs to. -/
def head (k : Fin 2560) : Fin 20 := ⟨k.val / 128, by omega⟩
/-- Its column in the head. -/
def lane (k : Fin 2560) : Fin 128 := ⟨k.val % 128, by omega⟩

/-- One element of the residual stream after the projection. -/
def H (a : FVec Ideal ⟨3, ![20, 6144, 128]⟩ .fp8e4m3) (s : FVec Ideal ⟨1, ![6144]⟩ .f32) (w : FVec Ideal ⟨3, ![20, 128, 5120]⟩ .fp8e4m3)
    (ws : FVec Ideal ⟨1, ![5120]⟩ .f32) (x : FVec Ideal ⟨2, ![6144, 5120]⟩ .bf16) (R : Fin 6144) (C : Fin 5120) : EReal :=
  x (ix2 R C) + (∑ k : Fin 2560, a (ix3 (head k) R (lane k)) * w (ix3 (head k) (lane k) C)) * (s (ix1 R) * ws (ix1 C))

/-- A row's sum of squares. -/
def sumSq (h : Fin 6144 → Fin 5120 → EReal) (R : Fin 6144) : EReal := ∑ C : Fin 5120, h R C * h R C

/-- One normalised element. -/
def B (h : Fin 6144 → Fin 5120 → EReal) (ln : FVec Ideal ⟨1, ![5120]⟩ .f32) (R : Fin 6144) (C : Fin 5120) : EReal :=
  rms c5120 (sumSq h R) (h R C) (ln (ix1 C))

/-- A row's largest magnitude. -/
def rowMax (b : Fin 6144 → Fin 5120 → EReal) (R : Fin 6144) : EReal :=
  Finset.univ.fold max ⊥ fun C : Fin 5120 => max (b R C) (-(b R C))

/-- The residual stream as an array. -/
def Hidden (h : Fin 6144 → Fin 5120 → EReal) : FVec Ideal ⟨2, ![6144, 5120]⟩ .f32 := fun j => h (j 0) (j 1)

/-- The codes of an array. -/
def Codes (b : Fin 6144 → Fin 5120 → EReal) : FVec Ideal ⟨2, ![6144, 5120]⟩ .fp8e4m3 :=
  fun j => codeOf (b (j 0) (j 1)) (scaleOf (rowMax b (j 0)))

/-- The row that entry `r` of block `p` of the scales belongs to. -/
def scaleRow (p : Fin 24) (r : Fin 256) : Fin 6144 := ⟨p.val * 256 + r.val, by omega⟩

/-- The scales, 256 rows to a block. -/
def Scales (b : Fin 6144 → Fin 5120 → EReal) : FVec Ideal ⟨3, ![24, 1, 256]⟩ .f32 :=
  fun j => scaleOf (rowMax b (scaleRow (j 0) (j 2)))

namespace Ref

open Cert.OprojRefIdeal Cert.OprojRefIdeal.Gen

theorem h_apply (a s w ws x) (R : Fin 6144) (C : Fin 5120) :
    k0_pay3 (F := Ideal) a s w ws x (ix2 R C) = x (ix2 R C) + (∑ k : Fin 2560, a (ix2 R k) * w (ix2 k C)) * (s (ix1 R) * ws (ix1 C)) := by
  pointwise [k0_pay3]

/-- The reference's rows' sums of squares of any array. -/
def sqVec (A : FVec Ideal S6144x5120 .f32) : FVec Ideal S6144 .f32 :=
  multiReduction .add [1] S6144 (mulf A A) 0x00000000#32 reduces_S6144x5120_S6144 (.inl rfl) rfl

theorem sqVec_apply (A : FVec Ideal S6144x5120 .f32) (R : Fin 6144) :
    sqVec A (ix1 R) = ∑ C : Fin 5120, A (ix2 R C) * A (ix2 R C) := by
  pointwise [sqVec]

/-- The reference's normalisation of any array with any sums of squares. -/
def normVec (A : FVec Ideal S6144x5120 .f32) (Q : FVec Ideal S6144 .f32) (ln : FVec Ideal S5120 .f32) : FVec Ideal S6144x5120 .f32 :=
  mulf (divf A (broadcastTo S6144x5120 (sqrt (addf (divf (shapeCast S6144x1 Q shapeCasts_S6144_S6144x1)
    (broadcast S6144x1 (Scalar.ofBits .f32 0x45A00000#32))) (broadcast S6144x1 (Scalar.ofBits .f32 0x358637BD#32)))) broadcasts_S6144x1_S6144x5120))
    (broadcastTo S6144x5120 (shapeCast S1x5120 ln shapeCasts_S5120_S1x5120) broadcasts_S1x5120_S6144x5120)

theorem normVec_apply (A : FVec Ideal S6144x5120 .f32) (Q : FVec Ideal S6144 .f32) (ln : FVec Ideal S5120 .f32) (R : Fin 6144) (C : Fin 5120) :
    normVec A Q ln (ix2 R C) = rms c5120 (Q (ix1 R)) (A (ix2 R C)) (ln (ix1 C)) := by
  unfold rms rootOf
  pointwise [normVec]

/-- The reference's row maxima of any array. -/
def maxVec (A : FVec Ideal S6144x5120 .f32) : FVec Ideal S6144 .f32 :=
  multiReduction .maximumf [1] S6144 (absf A) 0xFF800000#32 reduces_S6144x5120_S6144 (.inl rfl) rfl

theorem maxVec_apply (A : FVec Ideal S6144x5120 .f32) (R : Fin 6144) :
    maxVec A (ix1 R) = Finset.univ.fold max ⊥ fun C : Fin 5120 => max (A (ix2 R C)) (-(A (ix2 R C))) := by
  rw [← ofBits_neg_inf]
  pointwise [maxVec]
  rfl

/-- The reference's scales of any row maxima. -/
def scaleVec (M : FVec Ideal S6144 .f32) : FVec Ideal S6144 .f32 :=
  select (cmpf .oeq M (broadcast S6144 (Scalar.ofBits .f32 0x00000000#32))) (broadcast S6144 (Scalar.ofBits .f32 0x3F800000#32))
    (divf M (broadcast S6144 (Scalar.ofBits .f32 0x43E00000#32)))

theorem scaleVec_apply (M : FVec Ideal S6144 .f32) (R : Fin 6144) : scaleVec M (ix1 R) = scaleOf (M (ix1 R)) := by
  unfold scaleOf
  pointwise [scaleVec]

/-- The reference's codes of any array and scales. -/
def codeVec (A : FVec Ideal S6144x5120 .f32) (S : FVec Ideal S6144 .f32) : FVec Ideal S6144x5120 .fp8e4m3 :=
  truncf .fp8e4m3 (minimumf (broadcast S6144x5120 (Scalar.ofBits .f32 0x43E00000#32)) (maximumf (broadcast S6144x5120 (Scalar.ofBits .f32 0xC3E00000#32))
    (divf A (broadcastTo S6144x5120 (shapeCast S6144x1 S shapeCasts_S6144_S6144x1) broadcasts_S6144x1_S6144x5120)))) bitsLt_fp8e4m3_f32

theorem codeVec_apply (A : FVec Ideal S6144x5120 .f32) (S : FVec Ideal S6144 .f32) (R : Fin 6144) (C : Fin 5120) :
    codeVec A S (ix2 R C) = codeOf (A (ix2 R C)) (S (ix1 R)) := by
  unfold codeOf
  pointwise [codeVec]

theorem norm_eq (a s w ws x ln) : k0_pay4 (F := Ideal) a s w ws x ln = normVec (k0_pay3 a s w ws x) (sqVec (k0_pay3 a s w ws x)) ln := by
  unfold k0_pay4 normVec sqVec
  exact rfl

theorem scale_eq (a s w ws x ln) : k0_pay5 (F := Ideal) a s w ws x ln = scaleVec (maxVec (k0_pay4 a s w ws x ln)) := by
  unfold k0_pay5 scaleVec maxVec
  exact rfl

theorem codes_eq (a s w ws x ln) :
    k0_pay1 (F := Ideal) (k0_pay6 a s w ws x ln) (Scalar.ofBits .f32 0xC3E00000#32) (Scalar.ofBits .f32 0x43E00000#32)
      = codeVec (k0_pay4 a s w ws x ln) (k0_pay5 a s w ws x ln) := by
  unfold k0_pay1 k0_pay6 codeVec
  exact rfl

theorem reshape_apply (S : FVec Ideal S6144 .f32) (p : Fin 24) (r : Fin 256) : k0_pay2 (F := Ideal) S (ix3 p 0 r) = S (ix1 (scaleRow p r)) := by
  unfold scaleRow
  pointwise [k0_pay2]

/-- What the reference's operands, heads side by side, are of the arguments. -/
structure Flat (a : FVec Ideal S6144x2560 .fp8e4m3) (w : FVec Ideal S2560x5120 .fp8e4m3) (a' : FVec Ideal ⟨3, ![20, 6144, 128]⟩ .fp8e4m3)
    (w' : FVec Ideal ⟨3, ![20, 128, 5120]⟩ .fp8e4m3) : Prop where
  lhs (R : Fin 6144) (k : Fin 2560) : a (ix2 R k) = a' (ix3 (head k) R (lane k))
  rhs (k : Fin 2560) (C : Fin 5120) : w (ix2 k C) = w' (ix3 (head k) (lane k) C)

variable {a : FVec Ideal S6144x2560 .fp8e4m3} {w : FVec Ideal S2560x5120 .fp8e4m3} {a' : FVec Ideal ⟨3, ![20, 6144, 128]⟩ .fp8e4m3}
    {w' : FVec Ideal ⟨3, ![20, 128, 5120]⟩ .fp8e4m3}

theorem h_eq (hf : Flat a w a' w') (s ws x) (R : Fin 6144) (C : Fin 5120) : k0_pay3 (F := Ideal) a s w ws x (ix2 R C) = H a' s w' ws x R C := by
  rw [h_apply]
  unfold H
  simp only [hf.lhs, hf.rhs]

theorem b_eq (hf : Flat a w a' w') (s ws x ln) (R : Fin 6144) (C : Fin 5120) :
    k0_pay4 (F := Ideal) a s w ws x ln (ix2 R C) = B (H a' s w' ws x) ln R C := by
  rw [norm_eq, normVec_apply, sqVec_apply]
  unfold B sumSq
  simp only [h_eq hf]

theorem s_eq (hf : Flat a w a' w') (s ws x ln) (R : Fin 6144) :
    k0_pay5 (F := Ideal) a s w ws x ln (ix1 R) = scaleOf (rowMax (B (H a' s w' ws x) ln) R) := by
  rw [scale_eq, scaleVec_apply, maxVec_apply]
  unfold rowMax
  simp only [b_eq hf]

/-- The reference's residual stream. -/
theorem ref_hidden (hf : Flat a w a' w') (s ws x) : k0_pay3 (F := Ideal) a s w ws x = Hidden (H a' s w' ws x) := by
  funext j
  obtain ⟨R, C, rfl⟩ : ∃ (R : Fin 6144) (C : Fin 5120), j = ix2 R C := ⟨j 0, j 1, eq_ix2 j⟩
  exact h_eq hf s ws x R C

/-- The reference's codes. -/
theorem ref_codes (hf : Flat a w a' w') (s ws x ln) :
    k0_pay1 (F := Ideal) (k0_pay6 a s w ws x ln) (Scalar.ofBits .f32 0xC3E00000#32) (Scalar.ofBits .f32 0x43E00000#32)
      = Codes (B (H a' s w' ws x) ln) := by
  rw [codes_eq]
  funext j
  obtain ⟨R, C, rfl⟩ : ∃ (R : Fin 6144) (C : Fin 5120), j = ix2 R C := ⟨j 0, j 1, eq_ix2 j⟩
  rw [codeVec_apply, b_eq hf, s_eq hf]
  rfl

/-- The reference's scales. -/
theorem ref_scales (hf : Flat a w a' w') (s ws x ln) :
    k0_pay2 (F := Ideal) (k0_pay5 a s w ws x ln) = Scales (B (H a' s w' ws x) ln) := by
  funext j
  obtain ⟨p, r, rfl⟩ : ∃ (p : Fin 24) (r : Fin 256), j = ix3 p 0 r :=
    ⟨j 0, j 2, by rw [eq_ix3 j]; exact congrArg (fun z => ix3 (j 0) z (j 2)) (Subsingleton.elim (α := Fin 1) _ _)⟩
  rw [reshape_apply, s_eq hf]
  rfl

end Ref

end Cert.OprojValue

end
-- ==== Proof.QkvSpec.lean ====
/- The query/key/value projection: one element at a time over whole arrays, and the proof that the reference's expressions
   compute it. -/
module

public import proofs.«01_k».proof.Proof.Gen.QkvRefIdeal.Value
public import proofs.«01_k».proof.Proof.OprojSpec

@[expose] public section

set_option maxRecDepth 16384

noncomputable section

namespace Cert.QkvValue

open Idealize.ShloMosaic Idealize.ShloMosaic.TcCoe Idealize.SL.Sem
open Cert.Quant Cert.Norm

/-- The column of a half head that a head's column has its rotation from. -/
def half (d : Fin 128) : Fin 64 := ⟨d.val % 64, by omega⟩
/-- The same column of the head's other half. -/
def swap (d : Fin 128) : Fin 128 := ⟨(d.val + 64) % 128, by omega⟩

/-- One normalised element of a head. -/
def normAt (p w : Fin 128 → EReal) (d : Fin 128) : EReal := rms c128 (∑ d : Fin 128, p d * p d) (p d) (w d)

/-- One rotated element of a head. -/
def rotAt (c s : Fin 64 → EReal) (n : Fin 128 → EReal) (d : Fin 128) : EReal :=
  n d * c (half d) + n (swap d) * (if d.val < 64 then 0 - s (half d) else s (half d))

/-- One element of a head, normalised and rotated. -/
def headAt (p w : Fin 128 → EReal) (c s : Fin 64 → EReal) (d : Fin 128) : EReal := rotAt c s (normAt p w) d

/-- One normalised element of the input. -/
def A (x : FVec Ideal ⟨2, ![6144, 5120]⟩ .bf16) (ln : FVec Ideal ⟨1, ![5120]⟩ .f32) (R : Fin 6144) (C : Fin 5120) : EReal :=
  rms c5120 (∑ C : Fin 5120, x (ix2 R C) * x (ix2 R C)) (x (ix2 R C)) (ln (ix1 C))

/-- A row's scale. -/
def S (b : Fin 6144 → Fin 5120 → EReal) (R : Fin 6144) : EReal := scaleOf (OprojValue.rowMax b R)

/-- One element of the projection of the codes. -/
def P (b : Fin 6144 → Fin 5120 → EReal) (w : FVec Ideal ⟨2, ![5120, 3584]⟩ .fp8e4m3) (ws : FVec Ideal ⟨1, ![3584]⟩ .f32) (R : Fin 6144) (D : Fin 3584) : EReal :=
  (∑ k : Fin 5120, codeOf (b R k) (S b R) * w (ix2 k D)) * (S b R * ws (ix1 D))

/-- The projection's column of column `d` of query head `h`. -/
def qCol (h : Fin 20) (d : Fin 128) : Fin 3584 := ⟨h.val * 128 + d.val, by omega⟩
/-- … of key head `h`. -/
def kCol (h : Fin 4) (d : Fin 128) : Fin 3584 := ⟨2560 + (h.val * 128 + d.val), by omega⟩
/-- … of the values' column `D`. -/
def vCol (D : Fin 512) : Fin 3584 := ⟨3072 + D.val, by omega⟩
/-- The query head of a column of the queries. -/
def qHead (D : Fin 2560) : Fin 20 := ⟨D.val / 128, by omega⟩
/-- The key head of a column of the keys. -/
def kHead (D : Fin 512) : Fin 4 := ⟨D.val / 128, by omega⟩
/-- Its column in the head. -/
def lane {n : ℕ} (D : Fin n) : Fin 128 := ⟨D.val % 128, by omega⟩

/-- The row that entry `r` of block `p` of the scales belongs to. -/
def scaleRow (p : Fin 12) (r : Fin 512) : Fin 6144 := ⟨p.val * 512 + r.val, by omega⟩

/-- The scales, 512 rows to a block. -/
def Scales (b : Fin 6144 → Fin 5120 → EReal) : FVec Ideal ⟨3, ![12, 1, 512]⟩ .f32 := fun j => S b (scaleRow (j 0) (j 2))

/-- The queries. -/
def Queries (p : Fin 6144 → Fin 3584 → EReal) (w : FVec Ideal ⟨1, ![128]⟩ .f32) (c s : FVec Ideal ⟨2, ![6144, 64]⟩ .f32) : FVec Ideal ⟨2, ![6144, 2560]⟩ .bf16 :=
  fun j => headAt (fun d => p (j 0) (qCol (qHead (j 1)) d)) (fun d => w (ix1 d)) (fun d => c (ix2 (j 0) d)) (fun d => s (ix2 (j 0) d)) (lane (j 1))

/-- The keys' codes. -/
def Keys (p : Fin 6144 → Fin 3584 → EReal) (w : FVec Ideal ⟨1, ![128]⟩ .f32) (c s : FVec Ideal ⟨2, ![6144, 64]⟩ .f32) (ks : EReal) : FVec Ideal ⟨2, ![6144, 512]⟩ .fp8e4m3 :=
  fun j => codeOf (headAt (fun d => p (j 0) (kCol (kHead (j 1)) d)) (fun d => w (ix1 d)) (fun d => c (ix2 (j 0) d)) (fun d => s (ix2 (j 0) d)) (lane (j 1))) ks

/-- The values' codes. -/
def Values (p : Fin 6144 → Fin 3584 → EReal) (vs : EReal) : FVec Ideal ⟨2, ![6144, 512]⟩ .fp8e4m3 := fun j => codeOf (p (j 0) (vCol (j 1))) vs

namespace Ref

open Cert.QkvRefIdeal Cert.QkvRefIdeal.Gen
open Cert.OprojValue.Ref (normVec normVec_apply sqVec sqVec_apply maxVec maxVec_apply scaleVec scaleVec_apply codeVec codeVec_apply)

/-! ## The codes and scales -/

/-- The input as the reference widens it. -/
def wide (x : FVec Ideal S6144x5120 .bf16) : FVec Ideal S6144x5120 .f32 := extf .f32 x bitsLt_bf16_f32

theorem wide_apply (x) (R : Fin 6144) (C : Fin 5120) : wide x (ix2 R C) = x (ix2 R C) := by
  pointwise [wide]

theorem norm_eq (x ln) : k0_pay2 (F := Ideal) x ln = normVec (wide x) (sqVec (wide x)) ln := by
  unfold k0_pay2 normVec sqVec wide
  exact rfl

theorem scale_eq (x ln) : k0_pay3 (F := Ideal) x ln = scaleVec (maxVec (k0_pay2 x ln)) := by
  unfold k0_pay3 scaleVec maxVec
  exact rfl

theorem code_eq (x ln) : k0_pay4 (F := Ideal) x ln = codeVec (k0_pay2 x ln) (k0_pay3 x ln) := by
  unfold k0_pay4 codeVec
  exact rfl

theorem a_eq (x ln) (R : Fin 6144) (C : Fin 5120) : k0_pay2 (F := Ideal) x ln (ix2 R C) = A x ln R C := by
  rw [norm_eq, normVec_apply, sqVec_apply]
  simp only [wide_apply]
  rfl

theorem s_eq (x ln) (R : Fin 6144) : k0_pay3 (F := Ideal) x ln (ix1 R) = S (A x ln) R := by
  rw [scale_eq, scaleVec_apply, maxVec_apply]
  simp only [a_eq]
  rfl

theorem c_eq (x ln) (R : Fin 6144) (C : Fin 5120) : k0_pay4 (F := Ideal) x ln (ix2 R C) = codeOf (A x ln R C) (S (A x ln) R) := by
  rw [code_eq, codeVec_apply, a_eq, s_eq]

/-- The reference's codes. -/
theorem ref_codes (x ln) : k0_pay4 (F := Ideal) x ln = OprojValue.Codes (A x ln) := by
  funext j
  obtain ⟨R, C, rfl⟩ : ∃ (R : Fin 6144) (C : Fin 5120), j = ix2 R C := ⟨j 0, j 1, eq_ix2 j⟩
  exact c_eq x ln R C

theorem reshape_apply (s : FVec Ideal S6144 .f32) (p : Fin 12) (r : Fin 512) : k0_pay11 (F := Ideal) s (ix3 p 0 r) = s (ix1 (scaleRow p r)) := by
  unfold scaleRow
  pointwise [k0_pay11]

/-- The reference's scales. -/
theorem ref_scales (x ln) : k0_pay11 (F := Ideal) (k0_pay3 x ln) = Scales (A x ln) := by
  funext j
  obtain ⟨p, r, rfl⟩ : ∃ (p : Fin 12) (r : Fin 512), j = ix3 p 0 r :=
    ⟨j 0, j 2, by rw [eq_ix3 j]; exact congrArg (fun z => ix3 (j 0) z (j 2)) (Subsingleton.elim (α := Fin 1) _ _)⟩
  rw [reshape_apply, s_eq]
  rfl

/-! ## The projection -/

/-- The projection of any codes and scales. -/
def projVec (a : FVec Ideal S6144x5120 .fp8e4m3) (s : FVec Ideal S6144 .f32) (w : FVec Ideal S5120x3584 .fp8e4m3) (ws : FVec Ideal S3584 .f32) : FVec Ideal S6144x3584 .f32 :=
  mulf (matmul dot_S6144x5120_S5120x3584_S6144x3584_1_0_0_1_n_n none a w (constant S6144x3584 .f32 0x00000000#32))
    (mulf (broadcastTo S6144x3584 (shapeCast S6144x1 s shapeCasts_S6144_S6144x1) broadcasts_S6144x1_S6144x3584)
      (broadcastTo S6144x3584 (shapeCast S1x3584 ws shapeCasts_S3584_S1x3584) broadcasts_S1x3584_S6144x3584))

theorem projVec_apply (a s w ws) (R : Fin 6144) (D : Fin 3584) :
    projVec a s w ws (ix2 R D) = (∑ k : Fin 5120, a (ix2 R k) * w (ix2 k D)) * (s (ix1 R) * ws (ix1 D)) := by
  pointwise [projVec]

theorem proj_eq (x ln w ws) : k0_pay5 (F := Ideal) x ln w ws = projVec (k0_pay4 x ln) (k0_pay3 x ln) w ws := by
  unfold k0_pay5 projVec
  exact rfl

theorem p_eq (x ln w ws) (R : Fin 6144) (D : Fin 3584) : k0_pay5 (F := Ideal) x ln w ws (ix2 R D) = P (A x ln) w ws R D := by
  rw [proj_eq, projVec_apply]
  simp only [c_eq, s_eq]
  rfl

theorem qHeads_apply (x ln w ws) (R : Fin 6144) (h : Fin 20) (d : Fin 128) :
    k0_pay6 (F := Ideal) x ln w ws (ix3 R h d) = P (A x ln) w ws R (qCol h d) := by
  rw [← p_eq]
  unfold qCol
  pointwise [k0_pay6]

theorem kPart_apply (x ln w ws) (R : Fin 6144) (h : Fin 4) (d : Fin 128) :
    k0_pay7 (F := Ideal) x ln w ws (ix2 R ⟨h.val * 128 + d.val, by omega⟩) = P (A x ln) w ws R (kCol h d) := by
  rw [← p_eq]
  unfold kCol
  pointwise [k0_pay7]

/-! ## The rotation's factors -/

/-- The cosines for both halves. -/
def cosVec (c : FVec Ideal S6144x64 .f32) : FVec Ideal S6144x1x128 .f32 :=
  shapeCast S6144x1x128 (concatenate S6144x128 1 [⟨S6144x64, c⟩, ⟨S6144x64, c⟩] concatenates_S6144x64_S6144x64_S6144x128_d1) shapeCasts_S6144x128_S6144x1x128

/-- The sines, negative for the first half. -/
def sinVec (s : FVec Ideal S6144x64 .f32) : FVec Ideal S6144x1x128 .f32 :=
  shapeCast S6144x1x128 (concatenate S6144x128 1 [⟨S6144x64, subf (broadcast S6144x64 (Scalar.ofBits .f32 0x00000000#32)) s⟩, ⟨S6144x64, s⟩]
    concatenates_S6144x64_S6144x64_S6144x128_d1) shapeCasts_S6144x128_S6144x1x128

theorem concat_apply (x y : FVec Ideal S6144x64 .f32) (R : Fin 6144) (d : Fin 128) :
    concatenate S6144x128 1 [⟨S6144x64, x⟩, ⟨S6144x64, y⟩] concatenates_S6144x64_S6144x64_S6144x128_d1 (ix2 R d)
      = if d.val < 64 then x (ix2 R (half d)) else y (ix2 R (half d)) := by
  split
  · refine concatenate_pair_apply_left (t := S6144x128) 1 x y _ (ix2 R d) rfl (ix2 R (half d)) fun b => ?_
    match b with
    | ⟨0, _⟩ => rfl
    | ⟨1, _⟩ => show d.val % 64 = d.val; omega
  · refine concatenate_pair_apply_right (t := S6144x128) 1 x y _ (ix2 R d) rfl rfl (ix2 R (half d)) (fun b hb => ?_) ?_
    · match b with
      | ⟨0, _⟩ => rfl
      | ⟨1, _⟩ => exact absurd rfl hb
    · show d.val % 64 + 64 = d.val; omega

theorem cosVec_apply (c) (R : Fin 6144) (d : Fin 128) : cosVec c (ix3 R 0 d) = c (ix2 R (half d)) := by
  refine Eq.trans ?_ ((concat_apply c c R d).trans (ite_self _))
  unfold cosVec
  generalize concatenate S6144x128 1 [⟨S6144x64, c⟩, ⟨S6144x64, c⟩] concatenates_S6144x64_S6144x64_S6144x128_d1 = z
  pointwise []

theorem sinVec_apply (s) (R : Fin 6144) (d : Fin 128) : sinVec s (ix3 R 0 d) = if d.val < 64 then 0 - s (ix2 R (half d)) else s (ix2 R (half d)) := by
  have hn : subf (broadcast S6144x64 (Scalar.ofBits .f32 0x00000000#32)) s (ix2 R (half d)) = 0 - s (ix2 R (half d)) := by
    pointwise []
  rw [← hn]
  refine Eq.trans ?_ (concat_apply (subf (broadcast S6144x64 (Scalar.ofBits .f32 0x00000000#32)) s) s R d)
  unfold sinVec
  generalize concatenate S6144x128 1 [⟨S6144x64, subf (broadcast S6144x64 (Scalar.ofBits .f32 0x00000000#32)) s⟩, ⟨S6144x64, s⟩]
    concatenates_S6144x64_S6144x64_S6144x128_d1 = z
  pointwise []

/-! ## 20 heads -/

/-- 20 heads normalised. -/
def norm20 (t : FVec Ideal S6144x20x128 .f32) (w : FVec Ideal S128 .f32) : FVec Ideal S6144x20x128 .f32 :=
  mulf (divf t (broadcastTo S6144x20x128 (sqrt (addf (divf (shapeCast S6144x20x1 (multiReduction .add [2] S6144x20 (mulf t t) 0x00000000#32
    reduces_S6144x20x128_S6144x20 (.inl rfl) rfl) shapeCasts_S6144x20_S6144x20x1) (broadcast S6144x20x1 (Scalar.ofBits .f32 0x43000000#32)))
    (broadcast S6144x20x1 (Scalar.ofBits .f32 0x358637BD#32)))) broadcasts_S6144x20x1_S6144x20x128))
    (broadcastTo S6144x20x128 (shapeCast S1x1x128 w shapeCasts_S128_S1x1x128) broadcasts_S1x1x128_S6144x20x128)

theorem norm20_apply (t w) (R : Fin 6144) (h : Fin 20) (d : Fin 128) :
    norm20 t w (ix3 R h d) = normAt (fun d => t (ix3 R h d)) (fun d => w (ix1 d)) d := by
  unfold normAt rms rootOf
  pointwise [norm20]

/-- The halves of 20 heads exchanged. -/
def swap20 (t : FVec Ideal S6144x20x128 .f32) : FVec Ideal S6144x20x128 .f32 :=
  concatenate S6144x20x128 2 [⟨S6144x20x64, extractStridedSlice S6144x20x64 ![0, 0, 64] t slices_S6144x20x128_o0_0_64_S6144x20x64⟩,
    ⟨S6144x20x64, extractStridedSlice S6144x20x64 ![0, 0, 0] t slices_S6144x20x128_o0_0_0_S6144x20x64⟩] concatenates_S6144x20x64_S6144x20x64_S6144x20x128_d2

theorem swap20_apply (t) (R : Fin 6144) (h : Fin 20) (d : Fin 128) : swap20 t (ix3 R h d) = t (ix3 R h (swap d)) := by
  unfold swap20
  by_cases hd : d.val < 64
  · refine (concatenate_pair_apply_left (t := S6144x20x128) 2 (extractStridedSlice S6144x20x64 ![0, 0, 64] t slices_S6144x20x128_o0_0_64_S6144x20x64)
      (extractStridedSlice S6144x20x64 ![0, 0, 0] t slices_S6144x20x128_o0_0_0_S6144x20x64) _ (ix3 R h d) rfl (ix3 R h (half d)) fun b => ?_).trans ?_
    · match b with
      | ⟨0, _⟩ => rfl
      | ⟨1, _⟩ => rfl
      | ⟨2, _⟩ => show d.val % 64 = d.val; omega
    · refine (extractStridedSlice_apply ![0, 0, 64] t _ _ (ix3 R h (swap d)) fun b => ?_)
      match b with
      | ⟨0, _⟩ => show R.val = 0 + R.val; omega
      | ⟨1, _⟩ => show h.val = 0 + h.val; omega
      | ⟨2, _⟩ => show (d.val + 64) % 128 = 64 + d.val % 64; omega
  · refine (concatenate_pair_apply_right (t := S6144x20x128) 2 (extractStridedSlice S6144x20x64 ![0, 0, 64] t slices_S6144x20x128_o0_0_64_S6144x20x64)
      (extractStridedSlice S6144x20x64 ![0, 0, 0] t slices_S6144x20x128_o0_0_0_S6144x20x64) _ (ix3 R h d) rfl rfl (ix3 R h (half d)) (fun b hb => ?_) ?_).trans ?_
    · match b with
      | ⟨0, _⟩ => rfl
      | ⟨1, _⟩ => rfl
      | ⟨2, _⟩ => exact absurd rfl hb
    · show d.val % 64 + 64 = d.val; omega
    · refine (extractStridedSlice_apply ![0, 0, 0] t _ _ (ix3 R h (swap d)) fun b => ?_)
      match b with
      | ⟨0, _⟩ => show R.val = 0 + R.val; omega
      | ⟨1, _⟩ => show h.val = 0 + h.val; omega
      | ⟨2, _⟩ => show (d.val + 64) % 128 = 0 + d.val % 64; omega

/-- 20 heads with any exchanged halves and factors combined. -/
def mix20 (t u : FVec Ideal S6144x20x128 .f32) (c s : FVec Ideal S6144x1x128 .f32) : FVec Ideal S6144x20x128 .f32 :=
  addf (mulf t (broadcastTo S6144x20x128 c broadcasts_S6144x1x128_S6144x20x128)) (mulf u (broadcastTo S6144x20x128 s broadcasts_S6144x1x128_S6144x20x128))

theorem mix20_apply (t u c s) (R : Fin 6144) (h : Fin 20) (d : Fin 128) :
    mix20 t u c s (ix3 R h d) = t (ix3 R h d) * c (ix3 R 0 d) + u (ix3 R h d) * s (ix3 R 0 d) := by
  pointwise [mix20]

/-- 20 heads rotated. -/
theorem rot20_apply (t c s) (R : Fin 6144) (h : Fin 20) (d : Fin 128) :
    mix20 t (swap20 t) (cosVec c) (sinVec s) (ix3 R h d) = rotAt (fun d => c (ix2 R d)) (fun d => s (ix2 R d)) (fun d => t (ix3 R h d)) d := by
  rw [mix20_apply, swap20_apply, cosVec_apply, sinVec_apply]
  rfl

/-! ## 4 heads -/

/-- 4 heads normalised. -/
def norm4 (t : FVec Ideal S6144x4x128 .f32) (w : FVec Ideal S128 .f32) : FVec Ideal S6144x4x128 .f32 :=
  mulf (divf t (broadcastTo S6144x4x128 (sqrt (addf (divf (shapeCast S6144x4x1 (multiReduction .add [2] S6144x4 (mulf t t) 0x00000000#32
    reduces_S6144x4x128_S6144x4 (.inl rfl) rfl) shapeCasts_S6144x4_S6144x4x1) (broadcast S6144x4x1 (Scalar.ofBits .f32 0x43000000#32)))
    (broadcast S6144x4x1 (Scalar.ofBits .f32 0x358637BD#32)))) broadcasts_S6144x4x1_S6144x4x128))
    (broadcastTo S6144x4x128 (shapeCast S1x1x128 w shapeCasts_S128_S1x1x128) broadcasts_S1x1x128_S6144x4x128)

theorem norm4_apply (t w) (R : Fin 6144) (h : Fin 4) (d : Fin 128) :
    norm4 t w (ix3 R h d) = normAt (fun d => t (ix3 R h d)) (fun d => w (ix1 d)) d := by
  unfold normAt rms rootOf
  pointwise [norm4]

/-- The halves of 4 heads exchanged. -/
def swap4 (t : FVec Ideal S6144x4x128 .f32) : FVec Ideal S6144x4x128 .f32 :=
  concatenate S6144x4x128 2 [⟨S6144x4x64, extractStridedSlice S6144x4x64 ![0, 0, 64] t slices_S6144x4x128_o0_0_64_S6144x4x64⟩,
    ⟨S6144x4x64, extractStridedSlice S6144x4x64 ![0, 0, 0] t slices_S6144x4x128_o0_0_0_S6144x4x64⟩] concatenates_S6144x4x64_S6144x4x64_S6144x4x128_d2

theorem swap4_apply (t) (R : Fin 6144) (h : Fin 4) (d : Fin 128) : swap4 t (ix3 R h d) = t (ix3 R h (swap d)) := by
  unfold swap4
  by_cases hd : d.val < 64
  · refine (concatenate_pair_apply_left (t := S6144x4x128) 2 (extractStridedSlice S6144x4x64 ![0, 0, 64] t slices_S6144x4x128_o0_0_64_S6144x4x64)
      (extractStridedSlice S6144x4x64 ![0, 0, 0] t slices_S6144x4x128_o0_0_0_S6144x4x64) _ (ix3 R h d) rfl (ix3 R h (half d)) fun b => ?_).trans ?_
    · match b with
      | ⟨0, _⟩ => rfl
      | ⟨1, _⟩ => rfl
      | ⟨2, _⟩ => show d.val % 64 = d.val; omega
    · refine (extractStridedSlice_apply ![0, 0, 64] t _ _ (ix3 R h (swap d)) fun b => ?_)
      match b with
      | ⟨0, _⟩ => show R.val = 0 + R.val; omega
      | ⟨1, _⟩ => show h.val = 0 + h.val; omega
      | ⟨2, _⟩ => show (d.val + 64) % 128 = 64 + d.val % 64; omega
  · refine (concatenate_pair_apply_right (t := S6144x4x128) 2 (extractStridedSlice S6144x4x64 ![0, 0, 64] t slices_S6144x4x128_o0_0_64_S6144x4x64)
      (extractStridedSlice S6144x4x64 ![0, 0, 0] t slices_S6144x4x128_o0_0_0_S6144x4x64) _ (ix3 R h d) rfl rfl (ix3 R h (half d)) (fun b hb => ?_) ?_).trans ?_
    · match b with
      | ⟨0, _⟩ => rfl
      | ⟨1, _⟩ => rfl
      | ⟨2, _⟩ => exact absurd rfl hb
    · show d.val % 64 + 64 = d.val; omega
    · refine (extractStridedSlice_apply ![0, 0, 0] t _ _ (ix3 R h (swap d)) fun b => ?_)
      match b with
      | ⟨0, _⟩ => show R.val = 0 + R.val; omega
      | ⟨1, _⟩ => show h.val = 0 + h.val; omega
      | ⟨2, _⟩ => show (d.val + 64) % 128 = 0 + d.val % 64; omega

/-- 4 heads with any exchanged halves and factors combined. -/
def mix4 (t u : FVec Ideal S6144x4x128 .f32) (c s : FVec Ideal S6144x1x128 .f32) : FVec Ideal S6144x4x128 .f32 :=
  addf (mulf t (broadcastTo S6144x4x128 c broadcasts_S6144x1x128_S6144x4x128)) (mulf u (broadcastTo S6144x4x128 s broadcasts_S6144x1x128_S6144x4x128))

theorem mix4_apply (t u c s) (R : Fin 6144) (h : Fin 4) (d : Fin 128) :
    mix4 t u c s (ix3 R h d) = t (ix3 R h d) * c (ix3 R 0 d) + u (ix3 R h d) * s (ix3 R 0 d) := by
  pointwise [mix4]

/-- 4 heads rotated. -/
theorem rot4_apply (t c s) (R : Fin 6144) (h : Fin 4) (d : Fin 128) :
    mix4 t (swap4 t) (cosVec c) (sinVec s) (ix3 R h d) = rotAt (fun d => c (ix2 R d)) (fun d => s (ix2 R d)) (fun d => t (ix3 R h d)) d := by
  rw [mix4_apply, swap4_apply, cosVec_apply, sinVec_apply]
  rfl

/-! ## The queries -/

theorem rotQ_eq (t w c s) : k0_pay9 (F := Ideal) t w c s = mix20 (norm20 t w) (swap20 (norm20 t w)) (cosVec c) (sinVec s) := by
  unfold k0_pay9 mix20 swap20 norm20 cosVec sinVec
  exact rfl

theorem flatQ_apply (t : FVec Ideal S6144x20x128 .f32) (R : Fin 6144) (D : Fin 2560) : k0_pay12 (F := Ideal) t (ix2 R D) = t (ix3 R (qHead D) (lane D)) := by
  unfold qHead lane
  pointwise [k0_pay12]

/-- The reference's queries. -/
theorem ref_queries (x ln w ws qn c s) : k0_pay12 (F := Ideal) (k0_pay9 (k0_pay6 x ln w ws) qn c s) = Queries (P (A x ln) w ws) qn c s := by
  funext j
  obtain ⟨R, D, rfl⟩ : ∃ (R : Fin 6144) (D : Fin 2560), j = ix2 R D := ⟨j 0, j 1, eq_ix2 j⟩
  rw [flatQ_apply, rotQ_eq, rot20_apply]
  simp only [norm20_apply, qHeads_apply]
  rfl

/-! ## The keys -/

/-- The keys' columns as heads. -/
def kHeads (t : FVec Ideal S6144x512 .f32) : FVec Ideal S6144x4x128 .f32 := shapeCast S6144x4x128 t shapeCasts_S6144x512_S6144x4x128

theorem kHeads_apply (t) (R : Fin 6144) (h : Fin 4) (d : Fin 128) : kHeads t (ix3 R h d) = t (ix2 R ⟨h.val * 128 + d.val, by omega⟩) := by
  pointwise [kHeads]

theorem normK_eq (t w) : k0_pay10 (F := Ideal) t w = norm4 (kHeads t) w := by
  unfold k0_pay10 norm4 kHeads
  exact rfl

/-- Four heads quantised by one scale, side by side. -/
def quantK (t : FVec Ideal S6144x4x128 .f32) (ks : EReal) : FVec Ideal S6144x512 .fp8e4m3 :=
  shapeCast S6144x512 (truncf .fp8e4m3 (minimumf (broadcast S6144x4x128 (Scalar.ofBits .f32 0x43E00000#32)) (maximumf (broadcast S6144x4x128
    (Scalar.ofBits .f32 0xC3E00000#32)) (divf t (broadcast S6144x4x128 (ks : Elt Ideal .f32))))) bitsLt_fp8e4m3_f32) shapeCasts_S6144x4x128_S6144x512

theorem quantK_apply (t ks) (R : Fin 6144) (D : Fin 512) : quantK t ks (ix2 R D) = codeOf (t (ix3 R (kHead D) (lane D))) ks := by
  unfold codeOf kHead lane
  pointwise [quantK]

theorem quantK_eq (t c s ks) : k0_pay13 (F := Ideal) t c s ks = quantK (mix4 t (swap4 t) (cosVec c) (sinVec s)) ks := by
  unfold k0_pay13 quantK mix4 swap4 cosVec sinVec
  exact rfl

/-- The reference's keys. -/
theorem ref_keys (x ln w ws kn c s ks) :
    k0_pay13 (F := Ideal) (k0_pay10 (k0_pay7 x ln w ws) kn) c s ks = Keys (P (A x ln) w ws) kn c s ks := by
  funext j
  obtain ⟨R, D, rfl⟩ : ∃ (R : Fin 6144) (D : Fin 512), j = ix2 R D := ⟨j 0, j 1, eq_ix2 j⟩
  rw [quantK_eq, quantK_apply, rot4_apply]
  simp only [normK_eq, norm4_apply, kHeads_apply, kPart_apply]
  rfl

/-! ## The values -/

theorem quantV_apply (p : FVec Ideal S6144x3584 .f32) (vs : Elt Ideal .f32) (R : Fin 6144) (D : Fin 512) :
    k0_pay1 (F := Ideal) (Scalar.ofBits .f32 0x43E00000#32) (k0_pay14 (k0_pay8 p) vs) (ix2 R D) = codeOf (p (ix2 R (vCol D))) vs := by
  unfold codeOf vCol
  pointwise [k0_pay1, k0_pay14, k0_pay8]

/-- The reference's values. -/
theorem ref_values (x ln w ws vs) :
    k0_pay1 (F := Ideal) (Scalar.ofBits .f32 0x43E00000#32) (k0_pay14 (k0_pay8 (k0_pay5 x ln w ws)) vs) = Values (P (A x ln) w ws) vs := by
  funext j
  obtain ⟨R, D, rfl⟩ : ∃ (R : Fin 6144) (D : Fin 512), j = ix2 R D := ⟨j 0, j 1, eq_ix2 j⟩
  rw [quantV_apply, p_eq]
  rfl

end Ref

end Cert.QkvValue

end
-- ==== Proof.QkvBody.lean ====
/- The query/key/value projection at one grid point: the body's vector expressions over any operands, read at an element,
   and the body's printed expressions as these. -/
module

public import proofs.«01_k».proof.Proof.Gen.QkvIdeal.Value
public import proofs.«01_k».proof.Proof.QkvSpec
public import Idealize.ShloMosaic.Lib.KernelVsHost

@[expose] public section

set_option maxRecDepth 16384

noncomputable section

namespace Cert.QkvValue.Blk

open Idealize.ShloMosaic Idealize.ShloMosaic.TcCoe Idealize.SL.Sem
open Cert.QkvIdeal Cert.QkvIdeal.Gen
open Cert.Quant Cert.Norm

/-! ## The codes and scales -/

/-- The block as the body widens it. -/
def wide (x : FVec Ideal S512x5120 .bf16) : FVec Ideal S512x5120 .f32 := extf .f32 x bitsLt_bf16_f32

theorem wide_apply (x) (r : Fin 512) (C : Fin 5120) : wide x (ix2 r C) = x (ix2 r C) := by
  pointwise [wide]

/-- The normalised block. -/
def normVec (h : FVec Ideal S512x5120 .f32) (ln : FVec Ideal S1x5120 .f32) : FVec Ideal S512x5120 .f32 :=
  mulf (mulf h (broadcastTo S512x5120 (divf (broadcast S512x1 (Scalar.ofBits .f32 0x3F800000#32))
    (sqrt (addf (divf (shapeCast S512x1 (multiReduction .add [1] S512 (mulf h h) 0x00000000#32 reduces_S512x5120_S512 (.inl rfl) rfl) shapeCasts_S512_S512x1)
      (broadcast S512x1 (Scalar.ofBits .f32 0x45A00000#32))) (broadcast S512x1 (Scalar.ofBits .f32 0x358637BD#32)))))
    broadcasts_S512x1_S512x5120)) (broadcastTo S512x5120 (shapeCast S1x5120 ln shapeCasts_S1x5120_S1x5120) broadcasts_S1x5120_S512x5120)

theorem normVec_apply (h ln) (r : Fin 512) (C : Fin 5120) :
    normVec h ln (ix2 r C) = h (ix2 r C) * Ideal.div 1 (rootOf c5120 (∑ C : Fin 5120, h (ix2 r C) * h (ix2 r C))) * ln (ix2 0 C) := by
  unfold rootOf
  pointwise [normVec]

/-- The rows' largest magnitudes. -/
def maxVec (b : FVec Ideal S512x5120 .f32) : FVec Ideal S512x1 .f32 :=
  shapeCast S512x1 (multiReduction .maximumf [1] S512 (absf b) 0xFF800000#32 reduces_S512x5120_S512 (.inl rfl) rfl) shapeCasts_S512_S512x1

theorem maxVec_apply (b) (r : Fin 512) :
    maxVec b (ix2 r 0) = Finset.univ.fold max ⊥ fun C : Fin 5120 => max (b (ix2 r C)) (-(b (ix2 r C))) := by
  rw [← ofBits_neg_inf]
  pointwise [maxVec]
  rfl

/-- The rows' scales. -/
def scaleVec (M : FVec Ideal S512x1 .f32) : FVec Ideal S512x1 .f32 :=
  select (cmpf .oeq M (broadcast S512x1 (Scalar.ofBits .f32 0x00000000#32))) (broadcast S512x1 (Scalar.ofBits .f32 0x3F800000#32))
    (divf M (broadcast S512x1 (Scalar.ofBits .f32 0x43E00000#32)))

theorem scaleVec_apply (M) (r : Fin 512) : scaleVec M (ix2 r 0) = scaleOf (M (ix2 r 0)) := by
  unfold scaleOf
  pointwise [scaleVec]

/-- The scales as the block that is stored. -/
def scaleBlk (S : FVec Ideal S512x1 .f32) : FVec Ideal S1x1x512 .f32 := shapeCast S1x1x512 S shapeCasts_S512x1_S1x1x512

theorem scaleBlk_apply (S) (r : Fin 512) : scaleBlk S (ix3 0 0 r) = S (ix2 r 0) := by
  pointwise [scaleBlk]

/-- The block's codes. -/
def codeVec (b : FVec Ideal S512x5120 .f32) (S : FVec Ideal S512x1 .f32) : FVec Ideal S512x5120 .fp8e4m3 :=
  truncf .fp8e4m3 (minimumf (broadcast S512x5120 (Scalar.ofBits .f32 0x43E00000#32)) (maximumf (broadcast S512x5120 (Scalar.ofBits .f32 0xC3E00000#32))
    (mulf b (broadcastTo S512x5120 (divf (broadcast S512x1 (Scalar.ofBits .f32 0x3F800000#32)) S) broadcasts_S512x1_S512x5120)))) bitsLt_fp8e4m3_f32

/-- A code by a multiplication with the scale's reciprocal. -/
def codeMul (v s : EReal) : EReal := min (Ideal.ofBits .f32 0x43E00000#32) (max (Ideal.ofBits .f32 0xC3E00000#32) (v * Ideal.div 1 s))

theorem codeMul_eq (v : EReal) {s : EReal} (hs : s ≠ 0) : codeMul v s = codeOf v s := by
  unfold codeMul codeOf
  rw [Ideal.mul_one_div hs]

theorem codeVec_apply (b S) (r : Fin 512) (C : Fin 5120) : codeVec b S (ix2 r C) = codeMul (b (ix2 r C)) (S (ix2 r 0)) := by
  unfold codeMul
  pointwise [codeVec]

theorem pay3_eq (x ln) : k0_pay3 (F := Ideal) x ln = normVec (wide x) ln := by
  unfold k0_pay3 normVec wide
  exact rfl

theorem pay4_eq (x ln) : k0_pay4 (F := Ideal) x ln = scaleVec (maxVec (k0_pay3 x ln)) := by
  unfold k0_pay4 scaleVec maxVec
  exact rfl

theorem pay5_eq (x ln) : k0_pay5 (F := Ideal) x ln = scaleBlk (k0_pay4 x ln) := by
  unfold k0_pay5 scaleBlk
  exact rfl

theorem pay6_eq (x ln) : k0_pay6 (F := Ideal) x ln = codeVec (k0_pay3 x ln) (k0_pay4 x ln) := by
  unfold k0_pay6 codeVec
  exact rfl

/-- An element of the normalised block. -/
def aAt (x : FVec Ideal S512x5120 .bf16) (ln : FVec Ideal S1x5120 .f32) (r : Fin 512) (C : Fin 5120) : EReal :=
  rms c5120 (∑ C : Fin 5120, x (ix2 r C) * x (ix2 r C)) (x (ix2 r C)) (ln (ix2 0 C))

/-- A row's scale. -/
def sAt (x : FVec Ideal S512x5120 .bf16) (ln : FVec Ideal S1x5120 .f32) (r : Fin 512) : EReal :=
  scaleOf (Finset.univ.fold max ⊥ fun C : Fin 5120 => max (aAt x ln r C) (-(aAt x ln r C)))

theorem a_eq (x ln) (r : Fin 512) (C : Fin 5120) : k0_pay3 (F := Ideal) x ln (ix2 r C) = aAt x ln r C := by
  unfold aAt
  rw [pay3_eq, normVec_apply, c5120_eq]
  simp only [wide_apply]
  exact rms_mul (by norm_num) (Finset.sum_nonneg fun _ _ => sq_nonneg _) _ _

theorem s_eq (x ln) (r : Fin 512) : k0_pay4 (F := Ideal) x ln (ix2 r 0) = sAt x ln r := by
  unfold sAt
  rw [pay4_eq, scaleVec_apply, maxVec_apply]
  simp only [a_eq]

theorem scales_eq (x ln) (r : Fin 512) : k0_pay5 (F := Ideal) x ln (ix3 0 0 r) = sAt x ln r := by
  rw [pay5_eq, scaleBlk_apply, s_eq]

theorem codes_eq (x ln) (r : Fin 512) (C : Fin 5120) : k0_pay6 (F := Ideal) x ln (ix2 r C) = codeOf (aAt x ln r C) (sAt x ln r) := by
  rw [pay6_eq, codeVec_apply, a_eq, s_eq]
  exact codeOf_mul _ _

/-! ## The projection -/

/-- 512 columns of the projection from the operands' columns. -/
def projVec (s : FVec Ideal S512x1 .f32) (a : FVec Ideal S512x5120 .fp8e4m3) (w : FVec Ideal S5120x512 .fp8e4m3) (ws : FVec Ideal S1x512 .f32) :
    FVec Ideal S512x512 .f32 :=
  mulf (matmul dot_S512x5120_S5120x512_S512x512_1_0_0_1_n_n none (shapeCast S512x5120 a shapeCasts_S512x5120_S512x5120) w (constant S512x512 .f32 0x00000000#32))
    (mulf (broadcastTo S512x512 s broadcasts_S512x1_S512x512) (broadcastTo S512x512 (shapeCast S1x512 ws shapeCasts_S1x512_S1x512) broadcasts_S1x512_S512x512))

theorem projVec_apply (s a w ws) (r : Fin 512) (q : Fin 512) :
    projVec s a w ws (ix2 r q) = (∑ k : Fin 5120, a (ix2 r k) * w (ix2 k q)) * (s (ix2 r 0) * ws (ix2 0 q)) := by
  pointwise [projVec]

theorem pay9_eq (s a w ws) : k0_pay9 (F := Ideal) s a w ws = projVec s a w ws := by
  unfold k0_pay9 projVec
  exact rfl

theorem pay16_eq (s a w ws) : k0_pay16 (F := Ideal) s a w ws = projVec s a w ws := by
  unfold k0_pay16 projVec
  exact rfl

theorem pay25_eq (s a w ws) : k0_pay25 (F := Ideal) s a w ws = projVec s a w ws := by
  unfold k0_pay25 projVec
  exact rfl

theorem pay33_eq (s a w ws) : k0_pay33 (F := Ideal) s a w ws = projVec s a w ws := by
  unfold k0_pay33 projVec
  exact rfl

theorem pay41_eq (s a w ws) : k0_pay41 (F := Ideal) s a w ws = projVec s a w ws := by
  unfold k0_pay41 projVec
  exact rfl

theorem pay48_eq (s a w ws) : k0_pay48 (F := Ideal) s a w ws = projVec s a w ws := by
  unfold k0_pay48 projVec
  exact rfl

theorem pay60_eq (s a w ws) : k0_pay60 (F := Ideal) s (k0_pay59 a) w ws = projVec s a w ws := by
  unfold k0_pay60 k0_pay59 projVec
  exact rfl

/-! ## One head -/

/-- A head's column in its 512 columns. -/
def lcol (n : Fin 4) (d : Fin 128) : Fin 512 := ⟨n.val * 128 + d.val, by omega⟩

/-- 128 of the 512 columns. -/
def slc (P : FVec Ideal S512x512 .f32) (o : ℕ) (hs : S512x512.Slices ![0, o] S512x128) : FVec Ideal S512x128 .f32 :=
  extractStridedSlice S512x128 ![0, o] P hs

theorem slc_apply (P o hs) (n : Fin 4) (ho : o = n.val * 128) (r : Fin 512) (d : Fin 128) : slc P o hs (ix2 r d) = P (ix2 r (lcol n d)) := by
  unfold slc
  refine extractStridedSlice_apply ![0, o] P _ _ (ix2 r (lcol n d)) fun b => ?_
  match b with
  | ⟨0, _⟩ => show r.val = 0 + r.val; omega
  | ⟨1, _⟩ => show n.val * 128 + d.val = o + d.val; omega

/-- A head normalised. -/
def headNorm (t : FVec Ideal S512x128 .f32) (w : FVec Ideal S1x128 .f32) : FVec Ideal S512x128 .f32 :=
  mulf (mulf t (broadcastTo S512x128 (divf (broadcast S512x1 (Scalar.ofBits .f32 0x3F800000#32))
    (sqrt (addf (divf (shapeCast S512x1 (multiReduction .add [1] S512 (mulf t t) 0x00000000#32 reduces_S512x128_S512 (.inl rfl) rfl) shapeCasts_S512_S512x1)
      (broadcast S512x1 (Scalar.ofBits .f32 0x43000000#32))) (broadcast S512x1 (Scalar.ofBits .f32 0x358637BD#32)))))
    broadcasts_S512x1_S512x128)) (broadcastTo S512x128 (shapeCast S1x128 w shapeCasts_S1x128_S1x128) broadcasts_S1x128_S512x128)

theorem headNorm_mul (t w) (r : Fin 512) (d : Fin 128) :
    headNorm t w (ix2 r d) = t (ix2 r d) * Ideal.div 1 (rootOf c128 (∑ d : Fin 128, t (ix2 r d) * t (ix2 r d))) * w (ix2 0 d) := by
  unfold rootOf
  pointwise [headNorm]

theorem headNorm_apply (t w) (r : Fin 512) (d : Fin 128) : headNorm t w (ix2 r d) = normAt (fun d => t (ix2 r d)) (fun d => w (ix2 0 d)) d := by
  unfold normAt
  rw [headNorm_mul, c128_eq]
  exact rms_mul (by norm_num) (Finset.sum_nonneg fun _ _ => sq_nonneg _) _ _

/-- A head's halves exchanged. -/
def turn (t : FVec Ideal S512x128 .f32) : FVec Ideal S512x128 .f32 := dynamicRotate 1 64#32 none t rotates_S512x128_d1

theorem turn_apply (t) (r : Fin 512) (d : Fin 128) : turn t (ix2 r d) = t (ix2 r (swap d)) := by
  unfold turn
  refine dynamicRotate_apply 1 64#32 t _ (ix2 r d) (ix2 r (swap d)) fun b => ?_
  match b with
  | ⟨0, _⟩ => rfl
  | ⟨1, _⟩ => show (d.val + 64) % 128 = (d.val + 128 - 64 % 128) % 128; omega

/-- Any head and exchanged halves combined with any factors. -/
def mix (n u cc ss : FVec Ideal S512x128 .f32) : FVec Ideal S512x128 .f32 := addf (mulf n cc) (mulf u ss)

theorem mix_apply (n u cc ss) (r : Fin 512) (d : Fin 128) :
    mix n u cc ss (ix2 r d) = n (ix2 r d) * cc (ix2 r d) + u (ix2 r d) * ss (ix2 r d) := by
  pointwise [mix]

theorem concat_apply (x y : FVec Ideal S512x64 .f32) (r : Fin 512) (d : Fin 128) :
    concatenate S512x128 1 [⟨S512x64, x⟩, ⟨S512x64, y⟩] concatenates_S512x64_S512x64_S512x128_d1 (ix2 r d)
      = if d.val < 64 then x (ix2 r (half d)) else y (ix2 r (half d)) := by
  split
  · refine concatenate_pair_apply_left (t := S512x128) 1 x y _ (ix2 r d) rfl (ix2 r (half d)) fun b => ?_
    match b with
    | ⟨0, _⟩ => rfl
    | ⟨1, _⟩ => show d.val % 64 = d.val; omega
  · refine concatenate_pair_apply_right (t := S512x128) 1 x y _ (ix2 r d) rfl rfl (ix2 r (half d)) (fun b hb => ?_) ?_
    · match b with
      | ⟨0, _⟩ => rfl
      | ⟨1, _⟩ => exact absurd rfl hb
    · show d.val % 64 + 64 = d.val; omega

theorem cos_apply (c : FVec Ideal S512x64 .f32) (r : Fin 512) (d : Fin 128) : k0_pay7 (F := Ideal) c (ix2 r d) = c (ix2 r (half d)) := by
  unfold k0_pay7
  exact (concat_apply c c r d).trans (ite_self _)

theorem sin_apply (s : FVec Ideal S512x64 .f32) (r : Fin 512) (d : Fin 128) :
    k0_pay8 (F := Ideal) s (ix2 r d) = if d.val < 64 then 0 - s (ix2 r (half d)) else s (ix2 r (half d)) := by
  have hn : subf (broadcast S512x64 (Scalar.ofBits .f32 0x00000000#32)) s (ix2 r (half d)) = 0 - s (ix2 r (half d)) := by
    pointwise []
  rw [← hn]
  unfold k0_pay8
  exact concat_apply (subf (broadcast S512x64 (Scalar.ofBits .f32 0x00000000#32)) s) s r d

/-- A head's columns normalised and rotated. -/
def headVec (P : FVec Ideal S512x512 .f32) (o : ℕ) (hs : S512x512.Slices ![0, o] S512x128) (w : FVec Ideal S1x128 .f32) (cc ss : FVec Ideal S512x128 .f32) :
    FVec Ideal S512x128 .f32 :=
  mix (headNorm (slc P o hs) w) (turn (headNorm (slc P o hs) w)) cc ss

theorem headVec_apply (P o hs w c s) (n : Fin 4) (ho : o = n.val * 128) (r : Fin 512) (d : Fin 128) :
    headVec P o hs w (k0_pay7 c) (k0_pay8 s) (ix2 r d)
      = headAt (fun d => P (ix2 r (lcol n d))) (fun d => w (ix2 0 d)) (fun d => c (ix2 r d)) (fun d => s (ix2 r d)) d := by
  unfold headVec
  rw [mix_apply, turn_apply, cos_apply, sin_apply]
  simp only [headNorm_apply, slc_apply P o hs n ho]
  rfl

/-- A head as a query. -/
def queryVec (P : FVec Ideal S512x512 .f32) (o : ℕ) (hs : S512x512.Slices ![0, o] S512x128) (w : FVec Ideal S1x128 .f32) (cc ss : FVec Ideal S512x128 .f32) :
    FVec Ideal S512x128 .bf16 :=
  truncf .bf16 (headVec P o hs w cc ss) bitsLt_bf16_f32

theorem queryVec_apply (P o hs w cc ss) (r : Fin 512) (d : Fin 128) : queryVec P o hs w cc ss (ix2 r d) = headVec P o hs w cc ss (ix2 r d) := by
  unfold queryVec
  generalize headVec P o hs w cc ss = h
  pointwise []

/-- Codes by one scale. -/
def quantVec (t : FVec Ideal S512x128 .f32) (s : Elt Ideal .f32) : FVec Ideal S512x128 .fp8e4m3 :=
  truncf .fp8e4m3 (minimumf (broadcast S512x128 (Scalar.ofBits .f32 0x43E00000#32)) (maximumf (broadcast S512x128 (Scalar.ofBits .f32 0xC3E00000#32))
    (mulf t (broadcast S512x128 (Scalar.divf (Scalar.ofBits .f32 0x3F800000#32) s))))) bitsLt_fp8e4m3_f32

theorem quantVec_apply (t s) (r : Fin 512) (d : Fin 128) : quantVec t s (ix2 r d) = codeMul (t (ix2 r d)) s := by
  unfold codeMul
  pointwise [quantVec]

/-! ## The printed expressions of the heads -/

theorem pay10_eq (z c s a w ws qn) :
    k0_pay10 (F := Ideal) z c s a w ws qn
      = queryVec (projVec z a w ws) 0 slices_S512x512_o0_0_S512x128 qn (k0_pay7 c) (k0_pay8 s) := by
  unfold k0_pay10 k0_pay9 projVec queryVec headVec mix turn headNorm slc
  exact rfl

theorem pay11_eq (cc ss P qn) :
    k0_pay11 (F := Ideal) cc ss P qn
      = queryVec P 128 slices_S512x512_o0_128_S512x128 qn cc ss := by
  unfold k0_pay11 queryVec headVec mix turn headNorm slc
  exact rfl

theorem pay15_eq (cc ss P qn) :
    k0_pay15 (F := Ideal) cc ss P qn
      = queryVec P 384 slices_S512x512_o0_384_S512x128 qn cc ss := by
  unfold k0_pay15 queryVec headVec mix turn headNorm slc
  exact rfl

theorem pay21_eq (cc ss P qn) :
    k0_pay21 (F := Ideal) cc ss P qn
      = queryVec P 256 slices_S512x512_o0_256_S512x128 qn cc ss := by
  unfold k0_pay21 queryVec headVec mix turn headNorm slc
  exact rfl

theorem pay27_eq (cc ss P qn) :
    k0_pay27 (F := Ideal) cc ss P qn
      = queryVec P 128 slices_S512x512_o0_128_S512x128 qn cc ss := by
  unfold k0_pay27 queryVec headVec mix turn headNorm slc
  exact rfl

theorem pay32_eq (cc ss P qn) :
    k0_pay32 (F := Ideal) cc ss P qn
      = queryVec P 384 slices_S512x512_o0_384_S512x128 qn cc ss := by
  unfold k0_pay32 queryVec headVec mix turn headNorm slc
  exact rfl

theorem pay36_eq (cc ss P qn) :
    k0_pay36 (F := Ideal) cc ss P qn
      = queryVec P 128 slices_S512x512_o0_128_S512x128 qn cc ss := by
  unfold k0_pay36 queryVec headVec mix turn headNorm slc
  exact rfl

theorem pay37_eq (cc ss P qn) :
    k0_pay37 (F := Ideal) cc ss P qn
      = queryVec P 256 slices_S512x512_o0_256_S512x128 qn cc ss := by
  unfold k0_pay37 queryVec headVec mix turn headNorm slc
  exact rfl

theorem pay47_eq (cc ss P qn) :
    k0_pay47 (F := Ideal) cc ss P qn
      = queryVec P 384 slices_S512x512_o0_384_S512x128 qn cc ss := by
  unfold k0_pay47 queryVec headVec mix turn headNorm slc
  exact rfl

theorem pay14_eq (cc ss P qn) :
    k0_pay14 (F := Ideal) ss (k0_pay12 P qn) (k0_pay13 cc P qn)
      = queryVec P 256 slices_S512x512_o0_256_S512x128 qn cc ss := by
  unfold k0_pay14 k0_pay13 k0_pay12 queryVec headVec mix turn headNorm slc
  exact rfl

theorem pay18_eq (cc ss z a w ws qn) :
    k0_pay18 (F := Ideal) cc ss (k0_pay17 z a w ws) qn
      = queryVec (projVec z a w ws) 0 slices_S512x512_o0_0_S512x128 qn cc ss := by
  unfold k0_pay18 k0_pay17 k0_pay16 projVec queryVec headVec mix turn headNorm slc
  exact rfl

theorem pay35_eq (cc ss z a w ws qn) :
    k0_pay35 (F := Ideal) cc ss (k0_pay34 z a w ws) qn
      = queryVec (projVec z a w ws) 0 slices_S512x512_o0_0_S512x128 qn cc ss := by
  unfold k0_pay35 k0_pay34 k0_pay33 projVec queryVec headVec mix turn headNorm slc
  exact rfl

theorem pay44_eq (cc ss z a w ws qn) :
    k0_pay44 (F := Ideal) cc ss (k0_pay43 z a w ws) qn
      = queryVec (projVec z a w ws) 128 slices_S512x512_o0_128_S512x128 qn cc ss := by
  unfold k0_pay44 k0_pay43 k0_pay41 projVec queryVec headVec mix turn headNorm slc
  exact rfl

theorem pay20_eq (cc ss P qn) :
    k0_pay20 (F := Ideal) (k0_pay19 cc ss P qn)
      = queryVec P 128 slices_S512x512_o0_128_S512x128 qn cc ss := by
  unfold k0_pay20 k0_pay19 queryVec headVec mix turn headNorm slc
  exact rfl

theorem pay46_eq (cc ss P qn) :
    k0_pay46 (F := Ideal) (k0_pay45 cc ss P qn)
      = queryVec P 256 slices_S512x512_o0_256_S512x128 qn cc ss := by
  unfold k0_pay46 k0_pay45 queryVec headVec mix turn headNorm slc
  exact rfl

theorem pay24_eq (cc ss P qn) :
    k0_pay24 (F := Ideal) cc ss (k0_pay22 P) (k0_pay23 qn)
      = queryVec P 384 slices_S512x512_o0_384_S512x128 qn cc ss := by
  unfold k0_pay24 k0_pay22 k0_pay23 queryVec headVec mix turn headNorm slc
  exact rfl

theorem pay26_eq (z cc ss a w ws qn) :
    k0_pay26 (F := Ideal) z cc ss a w ws qn
      = queryVec (projVec z a w ws) 0 slices_S512x512_o0_0_S512x128 qn cc ss := by
  unfold k0_pay26 k0_pay25 projVec queryVec headVec mix turn headNorm slc
  exact rfl

theorem pay42_eq (z cc ss a w ws qn) :
    k0_pay42 (F := Ideal) z cc ss a w ws qn
      = queryVec (projVec z a w ws) 0 slices_S512x512_o0_0_S512x128 qn cc ss := by
  unfold k0_pay42 k0_pay41 projVec queryVec headVec mix turn headNorm slc
  exact rfl

theorem pay31_eq (cc ss P qn) :
    k0_pay31 (F := Ideal) ss (k0_pay29 cc P qn) (k0_pay30 P qn)
      = queryVec P 256 slices_S512x512_o0_256_S512x128 qn cc ss := by
  unfold k0_pay31 k0_pay29 k0_pay30 k0_pay28 queryVec headVec mix turn headNorm slc
  exact rfl

theorem pay40_eq (cc ss P qn) :
    k0_pay40 (F := Ideal) ss (k0_pay38 P qn) (k0_pay39 cc P qn)
      = queryVec P 384 slices_S512x512_o0_384_S512x128 qn cc ss := by
  unfold k0_pay40 k0_pay39 k0_pay38 queryVec headVec mix turn headNorm slc
  exact rfl

theorem pay51_eq (cc ss z a w ws kn ks) :
    k0_pay51 (F := Ideal) cc ss (k0_pay49 z a w ws) (k0_pay50 kn) ks
      = quantVec (headVec (projVec z a w ws) 0 slices_S512x512_o0_0_S512x128 kn cc ss) ks := by
  unfold k0_pay51 k0_pay49 k0_pay50 k0_pay48 projVec quantVec headVec mix turn headNorm slc
  exact rfl

theorem pay55_eq (cc ss P kn ks) :
    k0_pay55 (F := Ideal) cc ss (k0_pay52 P) (k0_pay53 kn) (k0_pay54 P) ks
      = quantVec (headVec P 128 slices_S512x512_o0_128_S512x128 kn cc ss) ks := by
  unfold k0_pay55 k0_pay54 k0_pay53 k0_pay52 quantVec headVec mix turn headNorm slc
  exact rfl

theorem pay57_eq (cc ss P kn ks) :
    k0_pay57 (F := Ideal) (k0_pay56 cc ss P kn ks) (Scalar.ofBits .f32 0xC3E00000#32)
      = quantVec (headVec P 256 slices_S512x512_o0_256_S512x128 kn cc ss) ks := by
  unfold k0_pay57 k0_pay56 quantVec headVec mix turn headNorm slc
  exact rfl

theorem pay58_eq (cc ss P kn ks) :
    k0_pay58 (F := Ideal) cc ss P kn ks
      = quantVec (headVec P 384 slices_S512x512_o0_384_S512x128 kn cc ss) ks := by
  unfold k0_pay58 quantVec headVec mix turn headNorm slc
  exact rfl

theorem pay61_eq (z a w ws vs) :
    k0_pay61 (F := Ideal) z (k0_pay59 a) w ws vs
      = quantVec (slc (projVec z a w ws) 0 slices_S512x512_o0_0_S512x128) vs := by
  unfold k0_pay61 k0_pay60 k0_pay59 projVec quantVec slc
  exact rfl

theorem pay62_eq (z a w ws vs) :
    k0_pay62 (F := Ideal) z (k0_pay59 a) w ws vs
      = quantVec (slc (projVec z a w ws) 128 slices_S512x512_o0_128_S512x128) vs := by
  unfold k0_pay62 k0_pay60 k0_pay59 projVec quantVec slc
  exact rfl

theorem pay1_eq (z a w ws vs) :
    k0_pay1 (F := Ideal) (k0_pay63 z (k0_pay59 a) w ws vs) k0_pay64
      = quantVec (slc (projVec z a w ws) 256 slices_S512x512_o0_256_S512x128) vs := by
  unfold k0_pay1 k0_pay63 k0_pay64 k0_pay60 k0_pay59 projVec quantVec slc
  exact rfl

theorem pay2_eq (P vs) :
    k0_pay2 (F := Ideal) P vs
      = quantVec (slc P 384 slices_S512x512_o0_384_S512x128) vs := by
  unfold k0_pay2 quantVec slc
  exact rfl

end Cert.QkvValue.Blk

end
-- ==== Proof.QkvBlock.lean ====
/- The query/key/value projection at one grid point: the body's parts of its blocks, and its blocks element by element. -/
module

public import proofs.«01_k».proof.Proof.QkvBody

@[expose] public section

set_option maxRecDepth 16384

noncomputable section

namespace Cert.QkvValue.Blk

open Idealize.ShloMosaic Idealize.ShloMosaic.TcCoe Idealize.SL.Sem
open Cert.QkvIdeal Cert.QkvIdeal.Gen
open Cert.Quant Cert.Norm

theorem inb2 {a b c d o : ℕ} (h : a ≤ c) (h' : o + b ≤ d) : ∀ i, (![0, o] : Fin 2 → ℕ) i + (![a, b] : Fin 2 → ℕ) i ≤ (![c, d] : Fin 2 → ℕ) i := by
  intro i
  match i with
  | ⟨0, _⟩ => show 0 + a ≤ c; omega
  | ⟨1, _⟩ => exact h'

/-- The projection's column that column `q` of column block `p` is. -/
def ccol (p : Fin 7) (q : Fin 512) : Fin 3584 := ⟨p.val * 512 + q.val, by omega⟩

/-- Columns `p` of the weights. -/
def cW (x2 : FVec Ideal S5120x3584 .fp8e4m3) (p : Fin 7) : FVec Ideal S5120x512 .fp8e4m3 :=
  View.ld (Val := Elt Ideal) (e' := .fp8e4m3) x2 (Rect.unit (s := S5120x3584) ![0, p.val * 512] S5120x512.size (inb2 (by omega) (by omega)))

theorem cW_apply (x2 p) (k : Fin 5120) (q : Fin 512) : cW x2 p (ix2 k q) = x2 (ix2 k (ccol p q)) := by
  unfold cW
  refine congrArg x2 (funext fun a => Fin.ext ?_)
  match a with
  | ⟨0, _⟩ => show 0 + 1 * k.val = k.val; omega
  | ⟨1, _⟩ => show p.val * 512 + 1 * q.val = p.val * 512 + q.val; omega

/-- Columns `p` of the column scales. -/
def cS (x3 : FVec Ideal S1x3584 .f32) (p : Fin 7) : FVec Ideal S1x512 .f32 :=
  View.ld (Val := Elt Ideal) (e' := .f32) x3 (Rect.unit (s := S1x3584) ![0, p.val * 512] S1x512.size (inb2 (by omega) (by omega)))

theorem cS_apply (x3 p) (q : Fin 512) : cS x3 p (ix2 0 q) = x3 (ix2 0 (ccol p q)) := by
  unfold cS
  refine congrArg x3 (funext fun a => Fin.ext ?_)
  match a with
  | ⟨0, _⟩ => rfl
  | ⟨1, _⟩ => show p.val * 512 + 1 * q.val = p.val * 512 + q.val; omega

/-- The one element of a scalar operand. -/
def scal (x : FVec Ideal S1 .f32) : Elt Ideal .f32 :=
  View.ld (Val := Elt Ideal) (e' := .f32) x (Rect.unit (s := S1) ![0] S1.size inb_S1_S1_0) (Shape.Idx.first (Nat.lt_of_lt_of_eq Nat.zero_lt_one numel1_S1.symm))

theorem scal_eq (x) : scal x = x (ix1 0) := by
  unfold scal
  exact congrArg x (funext fun a => by match a with | ⟨0, _⟩ => exact Subsingleton.elim (α := Fin 1) _ _)

section
variable (x0 : FVec Ideal S512x5120 .bf16) (x1 : FVec Ideal S1x5120 .f32) (x2 : FVec Ideal S5120x3584 .fp8e4m3) (x3 : FVec Ideal S1x3584 .f32)
  (x4 x5 : FVec Ideal S512x64 .f32) (x6 x7 : FVec Ideal S1x128 .f32) (x8 x9 : FVec Ideal S1 .f32)

/-- Columns `p` of the projection. -/
def proj (p : Fin 7) : FVec Ideal S512x512 .f32 := projVec (k0_pay4 x0 x1) (k0_pay6 x0 x1) (cW x2 p) (cS x3 p)

/-- An element of the projection. -/
def pAt (r : Fin 512) (D : Fin 3584) : EReal :=
  (∑ k : Fin 5120, codeOf (aAt x0 x1 r k) (sAt x0 x1 r) * x2 (ix2 k D)) * (sAt x0 x1 r * x3 (ix2 0 D))

theorem proj_apply (p : Fin 7) (r q : Fin 512) : proj x0 x1 x2 x3 p (ix2 r q) = pAt x0 x1 x2 x3 r (ccol p q) := by
  unfold proj pAt
  rw [projVec_apply]
  simp only [codes_eq, s_eq, cW_apply, cS_apply]

/-! ## The queries -/

/-- An element of the queries' block. -/
def qAt (r : Fin 512) (D : Fin 2560) : EReal :=
  headAt (fun d => pAt x0 x1 x2 x3 r (qCol (qHead D) d)) (fun d => x6 (ix2 0 d)) (fun d => x4 (ix2 r d)) (fun d => x5 (ix2 r d)) (lane D)

/-- A query head. -/
def qPart (p : Fin 7) (o : ℕ) (hs : S512x512.Slices ![0, o] S512x128) : FVec Ideal S512x128 .bf16 :=
  queryVec (proj x0 x1 x2 x3 p) o hs x6 (k0_pay7 x4) (k0_pay8 x5)

theorem qPart_apply (p : Fin 7) (o hs) (n : Fin 4) (ho : o = n.val * 128) (r : Fin 512) (d : Fin 128) (D : Fin 2560)
    (hD : D.val = p.val * 512 + (n.val * 128 + d.val)) : qPart x0 x1 x2 x3 x4 x5 x6 p o hs (ix2 r d) = qAt x0 x1 x2 x3 x4 x5 x6 r D := by
  unfold qPart qAt
  rw [queryVec_apply, headVec_apply _ _ _ _ _ _ n ho]
  have hd : lane D = d := Fin.ext (by show D.val % 128 = d.val; omega)
  have hc : ∀ e, qCol (qHead D) e = ccol p (lcol n e) := fun e => Fin.ext (by
    show D.val / 128 * 128 + e.val = p.val * 512 + (n.val * 128 + e.val); omega)
  simp only [proj_apply, hd, hc]

/-- The stores of the queries' block, the last first. -/
def qPieces : List (View.Piece (Elt Ideal) S512x2560 .bf16) :=
  [ ⟨Rect.unit (s := S512x2560) ![0, 2432] S512x128.size (inb2 (by decide) (by decide)), qPart x0 x1 x2 x3 x4 x5 x6 4 384 slices_S512x512_o0_384_S512x128⟩,
    ⟨Rect.unit (s := S512x2560) ![0, 2304] S512x128.size (inb2 (by decide) (by decide)), qPart x0 x1 x2 x3 x4 x5 x6 4 256 slices_S512x512_o0_256_S512x128⟩,
    ⟨Rect.unit (s := S512x2560) ![0, 2176] S512x128.size (inb2 (by decide) (by decide)), qPart x0 x1 x2 x3 x4 x5 x6 4 128 slices_S512x512_o0_128_S512x128⟩,
    ⟨Rect.unit (s := S512x2560) ![0, 2048] S512x128.size (inb2 (by decide) (by decide)), qPart x0 x1 x2 x3 x4 x5 x6 4 0 slices_S512x512_o0_0_S512x128⟩,
    ⟨Rect.unit (s := S512x2560) ![0, 1920] S512x128.size (inb2 (by decide) (by decide)), qPart x0 x1 x2 x3 x4 x5 x6 3 384 slices_S512x512_o0_384_S512x128⟩,
    ⟨Rect.unit (s := S512x2560) ![0, 1792] S512x128.size (inb2 (by decide) (by decide)), qPart x0 x1 x2 x3 x4 x5 x6 3 256 slices_S512x512_o0_256_S512x128⟩,
    ⟨Rect.unit (s := S512x2560) ![0, 1664] S512x128.size (inb2 (by decide) (by decide)), qPart x0 x1 x2 x3 x4 x5 x6 3 128 slices_S512x512_o0_128_S512x128⟩,
    ⟨Rect.unit (s := S512x2560) ![0, 1536] S512x128.size (inb2 (by decide) (by decide)), qPart x0 x1 x2 x3 x4 x5 x6 3 0 slices_S512x512_o0_0_S512x128⟩,
    ⟨Rect.unit (s := S512x2560) ![0, 1408] S512x128.size (inb2 (by decide) (by decide)), qPart x0 x1 x2 x3 x4 x5 x6 2 384 slices_S512x512_o0_384_S512x128⟩,
    ⟨Rect.unit (s := S512x2560) ![0, 1280] S512x128.size (inb2 (by decide) (by decide)), qPart x0 x1 x2 x3 x4 x5 x6 2 256 slices_S512x512_o0_256_S512x128⟩,
    ⟨Rect.unit (s := S512x2560) ![0, 1152] S512x128.size (inb2 (by decide) (by decide)), qPart x0 x1 x2 x3 x4 x5 x6 2 128 slices_S512x512_o0_128_S512x128⟩,
    ⟨Rect.unit (s := S512x2560) ![0, 1024] S512x128.size (inb2 (by decide) (by decide)), qPart x0 x1 x2 x3 x4 x5 x6 2 0 slices_S512x512_o0_0_S512x128⟩,
    ⟨Rect.unit (s := S512x2560) ![0, 896] S512x128.size (inb2 (by decide) (by decide)), qPart x0 x1 x2 x3 x4 x5 x6 1 384 slices_S512x512_o0_384_S512x128⟩,
    ⟨Rect.unit (s := S512x2560) ![0, 768] S512x128.size (inb2 (by decide) (by decide)), qPart x0 x1 x2 x3 x4 x5 x6 1 256 slices_S512x512_o0_256_S512x128⟩,
    ⟨Rect.unit (s := S512x2560) ![0, 640] S512x128.size (inb2 (by decide) (by decide)), qPart x0 x1 x2 x3 x4 x5 x6 1 128 slices_S512x512_o0_128_S512x128⟩,
    ⟨Rect.unit (s := S512x2560) ![0, 512] S512x128.size (inb2 (by decide) (by decide)), qPart x0 x1 x2 x3 x4 x5 x6 1 0 slices_S512x512_o0_0_S512x128⟩,
    ⟨Rect.unit (s := S512x2560) ![0, 384] S512x128.size (inb2 (by decide) (by decide)), qPart x0 x1 x2 x3 x4 x5 x6 0 384 slices_S512x512_o0_384_S512x128⟩,
    ⟨Rect.unit (s := S512x2560) ![0, 256] S512x128.size (inb2 (by decide) (by decide)), qPart x0 x1 x2 x3 x4 x5 x6 0 256 slices_S512x512_o0_256_S512x128⟩,
    ⟨Rect.unit (s := S512x2560) ![0, 128] S512x128.size (inb2 (by decide) (by decide)), qPart x0 x1 x2 x3 x4 x5 x6 0 128 slices_S512x512_o0_128_S512x128⟩,
    ⟨Rect.unit (s := S512x2560) ![0, 0] S512x128.size (inb2 (by decide) (by decide)), qPart x0 x1 x2 x3 x4 x5 x6 0 0 slices_S512x512_o0_0_S512x128⟩ ]

theorem qPieces_eq : View.canon (qPieces x0 x1 x2 x3 x4 x5 x6) = fun y : S512x2560.Idx => qAt x0 x1 x2 x3 x4 x5 x6 (y 0) (y 1) := by
  funext y
  have key : ∀ (p : Fin 7) (n : Fin 4) (o O : ℕ) (hs : S512x512.Slices ![0, o] S512x128) (ho : o = n.val * 128) (hO : O = p.val * 512 + n.val * 128)
      (inb : ∀ a, (![0, O] : Fin 2 → ℕ) a + S512x128.size a ≤ S512x2560.size a) (j : S512x128.Idx),
      qPart x0 x1 x2 x3 x4 x5 x6 p o hs j
        = (fun y : S512x2560.Idx => qAt x0 x1 x2 x3 x4 x5 x6 (y 0) (y 1)) ((Rect.unit (s := S512x2560) ![0, O] S512x128.size inb).emb j) := by
    intro p n o O hs ho hO inb j
    obtain ⟨r, d, rfl⟩ : ∃ (r : Fin 512) (d : Fin 128), j = ix2 r d := ⟨j 0, j 1, eq_ix2 j⟩
    refine (qPart_apply x0 x1 x2 x3 x4 x5 x6 p o hs n ho r d _ ?_).trans (congrArg₂ (qAt x0 x1 x2 x3 x4 x5 x6) (Fin.ext ?_) rfl)
    · show O + 1 * d.val = p.val * 512 + (n.val * 128 + d.val); omega
    · show r.val = 0 + 1 * r.val; omega
  refine View.canon_apply_of_pieces (Val := Elt Ideal) (fun y : S512x2560.Idx => qAt x0 x1 x2 x3 x4 x5 x6 (y 0) (y 1)) (qPieces x0 x1 x2 x3 x4 x5 x6) ?_ y
    (View.cover_of_tiledL (qPieces x0 x1 x2 x3 x4 x5 x6) S512x128.size (by sl_kernel_rfl) y)
  unfold qPieces
  simp only [List.forall_mem_cons, List.not_mem_nil, false_imp_iff, implies_true, and_true]
  exact ⟨key 4 3 _ _ _ rfl rfl _, key 4 2 _ _ _ rfl rfl _, key 4 1 _ _ _ rfl rfl _, key 4 0 _ _ _ rfl rfl _, key 3 3 _ _ _ rfl rfl _, key 3 2 _ _ _ rfl rfl _, key 3 1 _ _ _ rfl rfl _, key 3 0 _ _ _ rfl rfl _, key 2 3 _ _ _ rfl rfl _, key 2 2 _ _ _ rfl rfl _, key 2 1 _ _ _ rfl rfl _, key 2 0 _ _ _ rfl rfl _, key 1 3 _ _ _ rfl rfl _, key 1 2 _ _ _ rfl rfl _, key 1 1 _ _ _ rfl rfl _, key 1 0 _ _ _ rfl rfl _, key 0 3 _ _ _ rfl rfl _, key 0 2 _ _ _ rfl rfl _, key 0 1 _ _ _ rfl rfl _, key 0 0 _ _ _ rfl rfl _⟩

/-! ## The keys -/

/-- An element of the keys' block. -/
def kAt (r : Fin 512) (D : Fin 512) : EReal :=
  codeMul (headAt (fun d => pAt x0 x1 x2 x3 r (kCol (kHead D) d)) (fun d => x7 (ix2 0 d)) (fun d => x4 (ix2 r d)) (fun d => x5 (ix2 r d)) (lane D)) (x8 (ix1 0))

/-- A key head's codes. -/
def kPart (o : ℕ) (hs : S512x512.Slices ![0, o] S512x128) : FVec Ideal S512x128 .fp8e4m3 :=
  quantVec (headVec (proj x0 x1 x2 x3 5) o hs x7 (k0_pay7 x4) (k0_pay8 x5)) (scal x8)

theorem kPart_apply (o hs) (n : Fin 4) (ho : o = n.val * 128) (r : Fin 512) (d : Fin 128) (D : Fin 512)
    (hD : D.val = n.val * 128 + d.val) : kPart x0 x1 x2 x3 x4 x5 x7 x8 o hs (ix2 r d) = kAt x0 x1 x2 x3 x4 x5 x7 x8 r D := by
  unfold kPart kAt
  rw [quantVec_apply, headVec_apply _ _ _ _ _ _ n ho, scal_eq]
  have hd : lane D = d := Fin.ext (by show D.val % 128 = d.val; omega)
  have hc : ∀ e, kCol (kHead D) e = ccol 5 (lcol n e) := fun e => Fin.ext (by
    show 2560 + (D.val / 128 * 128 + e.val) = 5 * 512 + (n.val * 128 + e.val); omega)
  simp only [proj_apply, hd, hc]

/-- The stores of the keys' block, the last first. -/
def kPieces : List (View.Piece (Elt Ideal) S512x512 .fp8e4m3) :=
  [ ⟨Rect.unit (s := S512x512) ![0, 384] S512x128.size (inb2 (by decide) (by decide)), kPart x0 x1 x2 x3 x4 x5 x7 x8 384 slices_S512x512_o0_384_S512x128⟩,
    ⟨Rect.unit (s := S512x512) ![0, 256] S512x128.size (inb2 (by decide) (by decide)), kPart x0 x1 x2 x3 x4 x5 x7 x8 256 slices_S512x512_o0_256_S512x128⟩,
    ⟨Rect.unit (s := S512x512) ![0, 128] S512x128.size (inb2 (by decide) (by decide)), kPart x0 x1 x2 x3 x4 x5 x7 x8 128 slices_S512x512_o0_128_S512x128⟩,
    ⟨Rect.unit (s := S512x512) ![0, 0] S512x128.size (inb2 (by decide) (by decide)), kPart x0 x1 x2 x3 x4 x5 x7 x8 0 slices_S512x512_o0_0_S512x128⟩ ]

theorem kPieces_eq : View.canon (kPieces x0 x1 x2 x3 x4 x5 x7 x8) = fun y : S512x512.Idx => kAt x0 x1 x2 x3 x4 x5 x7 x8 (y 0) (y 1) := by
  funext y
  have key : ∀ (n : Fin 4) (o : ℕ) (hs : S512x512.Slices ![0, o] S512x128) (ho : o = n.val * 128)
      (inb : ∀ a, (![0, o] : Fin 2 → ℕ) a + S512x128.size a ≤ S512x512.size a) (j : S512x128.Idx),
      kPart x0 x1 x2 x3 x4 x5 x7 x8 o hs j = (fun y : S512x512.Idx => kAt x0 x1 x2 x3 x4 x5 x7 x8 (y 0) (y 1)) ((Rect.unit (s := S512x512) ![0, o] S512x128.size inb).emb j) := by
    intro n o hs ho inb j
    obtain ⟨r, d, rfl⟩ : ∃ (r : Fin 512) (d : Fin 128), j = ix2 r d := ⟨j 0, j 1, eq_ix2 j⟩
    refine (kPart_apply x0 x1 x2 x3 x4 x5 x7 x8 o hs n ho r d _ ?_).trans (congrArg₂ (kAt x0 x1 x2 x3 x4 x5 x7 x8) (Fin.ext ?_) rfl)
    · show o + 1 * d.val = n.val * 128 + d.val; omega
    · show r.val = 0 + 1 * r.val; omega
  refine View.canon_apply_of_pieces (Val := Elt Ideal) (fun y : S512x512.Idx => kAt x0 x1 x2 x3 x4 x5 x7 x8 (y 0) (y 1)) (kPieces x0 x1 x2 x3 x4 x5 x7 x8) ?_ y
    (View.cover_of_tiledL (kPieces x0 x1 x2 x3 x4 x5 x7 x8) S512x128.size (by sl_kernel_rfl) y)
  unfold kPieces
  simp only [List.forall_mem_cons, List.not_mem_nil, false_imp_iff, implies_true, and_true]
  exact ⟨key 3 _ _ rfl _, key 2 _ _ rfl _, key 1 _ _ rfl _, key 0 _ _ rfl _⟩

/-! ## The values -/

/-- An element of the values' block. -/
def vAt (r : Fin 512) (D : Fin 512) : EReal := codeMul (pAt x0 x1 x2 x3 r (vCol D)) (x9 (ix1 0))

/-- A value head's codes. -/
def vPart (o : ℕ) (hs : S512x512.Slices ![0, o] S512x128) : FVec Ideal S512x128 .fp8e4m3 := quantVec (slc (proj x0 x1 x2 x3 6) o hs) (scal x9)

theorem vPart_apply (o hs) (n : Fin 4) (ho : o = n.val * 128) (r : Fin 512) (d : Fin 128) (D : Fin 512)
    (hD : D.val = n.val * 128 + d.val) : vPart x0 x1 x2 x3 x9 o hs (ix2 r d) = vAt x0 x1 x2 x3 x9 r D := by
  unfold vPart vAt
  rw [quantVec_apply, slc_apply _ _ _ n ho, scal_eq, proj_apply]
  have hc : vCol D = ccol 6 (lcol n d) := Fin.ext (by show 3072 + D.val = 6 * 512 + (n.val * 128 + d.val); omega)
  rw [hc]

/-- The stores of the values' block, the last first. -/
def vPieces : List (View.Piece (Elt Ideal) S512x512 .fp8e4m3) :=
  [ ⟨Rect.unit (s := S512x512) ![0, 384] S512x128.size (inb2 (by decide) (by decide)), vPart x0 x1 x2 x3 x9 384 slices_S512x512_o0_384_S512x128⟩,
    ⟨Rect.unit (s := S512x512) ![0, 256] S512x128.size (inb2 (by decide) (by decide)), vPart x0 x1 x2 x3 x9 256 slices_S512x512_o0_256_S512x128⟩,
    ⟨Rect.unit (s := S512x512) ![0, 128] S512x128.size (inb2 (by decide) (by decide)), vPart x0 x1 x2 x3 x9 128 slices_S512x512_o0_128_S512x128⟩,
    ⟨Rect.unit (s := S512x512) ![0, 0] S512x128.size (inb2 (by decide) (by decide)), vPart x0 x1 x2 x3 x9 0 slices_S512x512_o0_0_S512x128⟩ ]

theorem vPieces_eq : View.canon (vPieces x0 x1 x2 x3 x9) = fun y : S512x512.Idx => vAt x0 x1 x2 x3 x9 (y 0) (y 1) := by
  funext y
  have key : ∀ (n : Fin 4) (o : ℕ) (hs : S512x512.Slices ![0, o] S512x128) (ho : o = n.val * 128)
      (inb : ∀ a, (![0, o] : Fin 2 → ℕ) a + S512x128.size a ≤ S512x512.size a) (j : S512x128.Idx),
      vPart x0 x1 x2 x3 x9 o hs j = (fun y : S512x512.Idx => vAt x0 x1 x2 x3 x9 (y 0) (y 1)) ((Rect.unit (s := S512x512) ![0, o] S512x128.size inb).emb j) := by
    intro n o hs ho inb j
    obtain ⟨r, d, rfl⟩ : ∃ (r : Fin 512) (d : Fin 128), j = ix2 r d := ⟨j 0, j 1, eq_ix2 j⟩
    refine (vPart_apply x0 x1 x2 x3 x9 o hs n ho r d _ ?_).trans (congrArg₂ (vAt x0 x1 x2 x3 x9) (Fin.ext ?_) rfl)
    · show o + 1 * d.val = n.val * 128 + d.val; omega
    · show r.val = 0 + 1 * r.val; omega
  refine View.canon_apply_of_pieces (Val := Elt Ideal) (fun y : S512x512.Idx => vAt x0 x1 x2 x3 x9 (y 0) (y 1)) (vPieces x0 x1 x2 x3 x9) ?_ y
    (View.cover_of_tiledL (vPieces x0 x1 x2 x3 x9) S512x128.size (by sl_kernel_rfl) y)
  unfold vPieces
  simp only [List.forall_mem_cons, List.not_mem_nil, false_imp_iff, implies_true, and_true]
  exact ⟨key 3 _ _ rfl _, key 2 _ _ rfl _, key 1 _ _ rfl _, key 0 _ _ rfl _⟩

end

end Cert.QkvValue.Blk

end
-- ==== Proof.QkvRefArray.lean ====
/- The query/key/value projection's reference: it runs at one point whose blocks are the whole arrays, so its arrays are
   its expressions of the arguments. -/
module

public import proofs.«01_k».proof.Proof.QkvSpec
public import Idealize.ShloMosaic.Lib.StableHlo.ReadAt
public import Idealize.ShloMosaic.Lib.Pipeline.ReadBack
public import Idealize.ShloMosaic.Lib.Pipeline.ValueKit.Acc

@[expose] public section

set_option maxRecDepth 16384

noncomputable section

namespace Cert.QkvValue.Ref

open Idealize.ShloMosaic Idealize.ShloMosaic.TcCoe Idealize.SL.Sem
open Cert.QkvRefIdeal Cert.QkvRefIdeal.Gen
open Cert.Quant Cert.Norm

variable (m : (ℓ : Loc nD τ sig) → Buf (Elt Ideal) ℓ)

theorem idx_zero0 : ∀ t : Fin cfg0.N, win0_0.index t (0 : Fin 2) = 0 ∧ win0_0.index t (1 : Fin 2) = 0 :=
  (by decide +kernel : ∀ t : Fin grid0.N, _)

theorem emb0 (t : Fin cfg0.N) (j : S6144x5120.Idx) : ((cfg0.win 0).blk t).view.emb j = j := by
  obtain ⟨e0, e1⟩ := idx_zero0 t
  funext a; apply Fin.ext
  match a with
  | ⟨0, _⟩ => show win0_0.index t (0 : Fin 2) * 6144 + 1 * (j 0).val = (j 0).val; omega
  | ⟨1, _⟩ => show win0_0.index t (1 : Fin 2) * 5120 + 1 * (j 1).val = (j 1).val; omega

theorem iblk0 (c : Dev nD) (t : Fin cfg0.N) : iblk m c 0 t = V m c main_arg0 := by
  funext j; show V m c main_arg0 (((cfg0.win 0).blk t).view.emb j) = V m c main_arg0 j; rw [emb0]

theorem idx_zero1 : ∀ t : Fin cfg0.N, win0_1.index t (0 : Fin 2) = 0 ∧ win0_1.index t (1 : Fin 2) = 0 :=
  (by decide +kernel : ∀ t : Fin grid0.N, _)

theorem emb1 (t : Fin cfg0.N) (j : S6144x64.Idx) : ((cfg0.win 1).blk t).view.emb j = j := by
  obtain ⟨e0, e1⟩ := idx_zero1 t
  funext a; apply Fin.ext
  match a with
  | ⟨0, _⟩ => show win0_1.index t (0 : Fin 2) * 6144 + 1 * (j 0).val = (j 0).val; omega
  | ⟨1, _⟩ => show win0_1.index t (1 : Fin 2) * 64 + 1 * (j 1).val = (j 1).val; omega

theorem iblk1 (c : Dev nD) (t : Fin cfg0.N) : iblk m c 1 t = V m c main_arg1 := by
  funext j; show V m c main_arg1 (((cfg0.win 1).blk t).view.emb j) = V m c main_arg1 j; rw [emb1]

theorem idx_zero2 : ∀ t : Fin cfg0.N, win0_2.index t (0 : Fin 2) = 0 ∧ win0_2.index t (1 : Fin 2) = 0 :=
  (by decide +kernel : ∀ t : Fin grid0.N, _)

theorem emb2 (t : Fin cfg0.N) (j : S6144x64.Idx) : ((cfg0.win 2).blk t).view.emb j = j := by
  obtain ⟨e0, e1⟩ := idx_zero2 t
  funext a; apply Fin.ext
  match a with
  | ⟨0, _⟩ => show win0_2.index t (0 : Fin 2) * 6144 + 1 * (j 0).val = (j 0).val; omega
  | ⟨1, _⟩ => show win0_2.index t (1 : Fin 2) * 64 + 1 * (j 1).val = (j 1).val; omega

theorem iblk2 (c : Dev nD) (t : Fin cfg0.N) : iblk m c 2 t = V m c main_arg2 := by
  funext j; show V m c main_arg2 (((cfg0.win 2).blk t).view.emb j) = V m c main_arg2 j; rw [emb2]

theorem idx_zero3 : ∀ t : Fin cfg0.N, win0_3.index t (0 : Fin 1) = 0 :=
  (by decide +kernel : ∀ t : Fin grid0.N, _)

theorem emb3 (t : Fin cfg0.N) (j : S5120.Idx) : ((cfg0.win 3).blk t).view.emb j = j := by
  have e0 := idx_zero3 t
  funext a; apply Fin.ext
  match a with
  | ⟨0, _⟩ => show win0_3.index t (0 : Fin 1) * 5120 + 1 * (j 0).val = (j 0).val; omega

theorem iblk3 (c : Dev nD) (t : Fin cfg0.N) : iblk m c 3 t = V m c main_arg3 := by
  funext j; show V m c main_arg3 (((cfg0.win 3).blk t).view.emb j) = V m c main_arg3 j; rw [emb3]

theorem idx_zero4 : ∀ t : Fin cfg0.N, win0_4.index t (0 : Fin 2) = 0 ∧ win0_4.index t (1 : Fin 2) = 0 :=
  (by decide +kernel : ∀ t : Fin grid0.N, _)

theorem emb4 (t : Fin cfg0.N) (j : S5120x3584.Idx) : ((cfg0.win 4).blk t).view.emb j = j := by
  obtain ⟨e0, e1⟩ := idx_zero4 t
  funext a; apply Fin.ext
  match a with
  | ⟨0, _⟩ => show win0_4.index t (0 : Fin 2) * 5120 + 1 * (j 0).val = (j 0).val; omega
  | ⟨1, _⟩ => show win0_4.index t (1 : Fin 2) * 3584 + 1 * (j 1).val = (j 1).val; omega

theorem iblk4 (c : Dev nD) (t : Fin cfg0.N) : iblk m c 4 t = V m c main_arg4 := by
  funext j; show V m c main_arg4 (((cfg0.win 4).blk t).view.emb j) = V m c main_arg4 j; rw [emb4]

theorem idx_zero5 : ∀ t : Fin cfg0.N, win0_5.index t (0 : Fin 1) = 0 :=
  (by decide +kernel : ∀ t : Fin grid0.N, _)

theorem emb5 (t : Fin cfg0.N) (j : S3584.Idx) : ((cfg0.win 5).blk t).view.emb j = j := by
  have e0 := idx_zero5 t
  funext a; apply Fin.ext
  match a with
  | ⟨0, _⟩ => show win0_5.index t (0 : Fin 1) * 3584 + 1 * (j 0).val = (j 0).val; omega

theorem iblk5 (c : Dev nD) (t : Fin cfg0.N) : iblk m c 5 t = V m c main_arg5 := by
  funext j; show V m c main_arg5 (((cfg0.win 5).blk t).view.emb j) = V m c main_arg5 j; rw [emb5]

theorem idx_zero6 : ∀ t : Fin cfg0.N, win0_6.index t (0 : Fin 1) = 0 :=
  (by decide +kernel : ∀ t : Fin grid0.N, _)

theorem emb6 (t : Fin cfg0.N) (j : S128.Idx) : ((cfg0.win 6).blk t).view.emb j = j := by
  have e0 := idx_zero6 t
  funext a; apply Fin.ext
  match a with
  | ⟨0, _⟩ => show win0_6.index t (0 : Fin 1) * 128 + 1 * (j 0).val = (j 0).val; omega

theorem iblk6 (c : Dev nD) (t : Fin cfg0.N) : iblk m c 6 t = V m c main_arg6 := by
  funext j; show V m c main_arg6 (((cfg0.win 6).blk t).view.emb j) = V m c main_arg6 j; rw [emb6]

theorem idx_zero7 : ∀ t : Fin cfg0.N, win0_7.index t (0 : Fin 1) = 0 :=
  (by decide +kernel : ∀ t : Fin grid0.N, _)

theorem emb7 (t : Fin cfg0.N) (j : S128.Idx) : ((cfg0.win 7).blk t).view.emb j = j := by
  have e0 := idx_zero7 t
  funext a; apply Fin.ext
  match a with
  | ⟨0, _⟩ => show win0_7.index t (0 : Fin 1) * 128 + 1 * (j 0).val = (j 0).val; omega

theorem iblk7 (c : Dev nD) (t : Fin cfg0.N) : iblk m c 7 t = V m c main_arg7 := by
  funext j; show V m c main_arg7 (((cfg0.win 7).blk t).view.emb j) = V m c main_arg7 j; rw [emb7]

theorem idx_zero8 : ∀ t : Fin cfg0.N, win0_8.index t (0 : Fin 1) = 0 :=
  (by decide +kernel : ∀ t : Fin grid0.N, _)

theorem emb8 (t : Fin cfg0.N) (j : S1.Idx) : ((cfg0.win 8).blk t).view.emb j = j := by
  have e0 := idx_zero8 t
  funext a; apply Fin.ext
  match a with
  | ⟨0, _⟩ => show win0_8.index t (0 : Fin 1) * 1 + 1 * (j 0).val = (j 0).val; omega

theorem iblk8 (c : Dev nD) (t : Fin cfg0.N) : iblk m c 8 t = V m c main_v0 := by
  funext j; show V m c main_v0 (((cfg0.win 8).blk t).view.emb j) = V m c main_v0 j; rw [emb8]

theorem idx_zero9 : ∀ t : Fin cfg0.N, win0_9.index t (0 : Fin 1) = 0 :=
  (by decide +kernel : ∀ t : Fin grid0.N, _)

theorem emb9 (t : Fin cfg0.N) (j : S1.Idx) : ((cfg0.win 9).blk t).view.emb j = j := by
  have e0 := idx_zero9 t
  funext a; apply Fin.ext
  match a with
  | ⟨0, _⟩ => show win0_9.index t (0 : Fin 1) * 1 + 1 * (j 0).val = (j 0).val; omega

theorem iblk9 (c : Dev nD) (t : Fin cfg0.N) : iblk m c 9 t = V m c main_v1 := by
  funext j; show V m c main_v1 (((cfg0.win 9).blk t).view.emb j) = V m c main_v1 j; rw [emb9]

theorem idx_zero10 : ∀ t : Fin cfg0.N, win0_10.index t (0 : Fin 2) = 0 ∧ win0_10.index t (1 : Fin 2) = 0 :=
  (by decide +kernel : ∀ t : Fin grid0.N, _)

theorem emb10 (t : Fin cfg0.N) (j : S6144x5120.Idx) : ((cfg0.win 10).blk t).view.emb j = j := by
  obtain ⟨e0, e1⟩ := idx_zero10 t
  funext a; apply Fin.ext
  match a with
  | ⟨0, _⟩ => show win0_10.index t (0 : Fin 2) * 6144 + 1 * (j 0).val = (j 0).val; omega
  | ⟨1, _⟩ => show win0_10.index t (1 : Fin 2) * 5120 + 1 * (j 1).val = (j 1).val; omega

theorem covered10 (i : S6144x5120.Idx) : ∃ t : Fin cfg0.N, (cfg0.win 10).flush t = true ∧ i ∈ ((cfg0.win 10).blk t).view.set :=
  ⟨(⟨0, by decide⟩ : Fin cfg0.N), flush0_10 _, by have h := ((cfg0.win 10).blk (⟨0, by decide⟩ : Fin cfg0.N)).view.emb_mem_set i; rwa [emb10] at h⟩

theorem idx_zero11 : ∀ t : Fin cfg0.N, win0_11.index t (0 : Fin 3) = 0 ∧ win0_11.index t (1 : Fin 3) = 0 ∧ win0_11.index t (2 : Fin 3) = 0 :=
  (by decide +kernel : ∀ t : Fin grid0.N, _)

theorem emb11 (t : Fin cfg0.N) (j : S12x1x512.Idx) : ((cfg0.win 11).blk t).view.emb j = j := by
  obtain ⟨e0, e1, e2⟩ := idx_zero11 t
  funext a; apply Fin.ext
  match a with
  | ⟨0, _⟩ => show win0_11.index t (0 : Fin 3) * 12 + 1 * (j 0).val = (j 0).val; omega
  | ⟨1, _⟩ => show win0_11.index t (1 : Fin 3) * 1 + 1 * (j 1).val = (j 1).val; omega
  | ⟨2, _⟩ => show win0_11.index t (2 : Fin 3) * 512 + 1 * (j 2).val = (j 2).val; omega

theorem covered11 (i : S12x1x512.Idx) : ∃ t : Fin cfg0.N, (cfg0.win 11).flush t = true ∧ i ∈ ((cfg0.win 11).blk t).view.set :=
  ⟨(⟨0, by decide⟩ : Fin cfg0.N), flush0_11 _, by have h := ((cfg0.win 11).blk (⟨0, by decide⟩ : Fin cfg0.N)).view.emb_mem_set i; rwa [emb11] at h⟩

theorem idx_zero12 : ∀ t : Fin cfg0.N, win0_12.index t (0 : Fin 2) = 0 ∧ win0_12.index t (1 : Fin 2) = 0 :=
  (by decide +kernel : ∀ t : Fin grid0.N, _)

theorem emb12 (t : Fin cfg0.N) (j : S6144x2560.Idx) : ((cfg0.win 12).blk t).view.emb j = j := by
  obtain ⟨e0, e1⟩ := idx_zero12 t
  funext a; apply Fin.ext
  match a with
  | ⟨0, _⟩ => show win0_12.index t (0 : Fin 2) * 6144 + 1 * (j 0).val = (j 0).val; omega
  | ⟨1, _⟩ => show win0_12.index t (1 : Fin 2) * 2560 + 1 * (j 1).val = (j 1).val; omega

theorem covered12 (i : S6144x2560.Idx) : ∃ t : Fin cfg0.N, (cfg0.win 12).flush t = true ∧ i ∈ ((cfg0.win 12).blk t).view.set :=
  ⟨(⟨0, by decide⟩ : Fin cfg0.N), flush0_12 _, by have h := ((cfg0.win 12).blk (⟨0, by decide⟩ : Fin cfg0.N)).view.emb_mem_set i; rwa [emb12] at h⟩

theorem idx_zero13 : ∀ t : Fin cfg0.N, win0_13.index t (0 : Fin 2) = 0 ∧ win0_13.index t (1 : Fin 2) = 0 :=
  (by decide +kernel : ∀ t : Fin grid0.N, _)

theorem emb13 (t : Fin cfg0.N) (j : S6144x512.Idx) : ((cfg0.win 13).blk t).view.emb j = j := by
  obtain ⟨e0, e1⟩ := idx_zero13 t
  funext a; apply Fin.ext
  match a with
  | ⟨0, _⟩ => show win0_13.index t (0 : Fin 2) * 6144 + 1 * (j 0).val = (j 0).val; omega
  | ⟨1, _⟩ => show win0_13.index t (1 : Fin 2) * 512 + 1 * (j 1).val = (j 1).val; omega

theorem covered13 (i : S6144x512.Idx) : ∃ t : Fin cfg0.N, (cfg0.win 13).flush t = true ∧ i ∈ ((cfg0.win 13).blk t).view.set :=
  ⟨(⟨0, by decide⟩ : Fin cfg0.N), flush0_13 _, by have h := ((cfg0.win 13).blk (⟨0, by decide⟩ : Fin cfg0.N)).view.emb_mem_set i; rwa [emb13] at h⟩

theorem idx_zero14 : ∀ t : Fin cfg0.N, win0_14.index t (0 : Fin 2) = 0 ∧ win0_14.index t (1 : Fin 2) = 0 :=
  (by decide +kernel : ∀ t : Fin grid0.N, _)

theorem emb14 (t : Fin cfg0.N) (j : S6144x512.Idx) : ((cfg0.win 14).blk t).view.emb j = j := by
  obtain ⟨e0, e1⟩ := idx_zero14 t
  funext a; apply Fin.ext
  match a with
  | ⟨0, _⟩ => show win0_14.index t (0 : Fin 2) * 6144 + 1 * (j 0).val = (j 0).val; omega
  | ⟨1, _⟩ => show win0_14.index t (1 : Fin 2) * 512 + 1 * (j 1).val = (j 1).val; omega

theorem covered14 (i : S6144x512.Idx) : ∃ t : Fin cfg0.N, (cfg0.win 14).flush t = true ∧ i ∈ ((cfg0.win 14).blk t).view.set :=
  ⟨(⟨0, by decide⟩ : Fin cfg0.N), flush0_14 _, by have h := ((cfg0.win 14).blk (⟨0, by decide⟩ : Fin cfg0.N)).view.emb_mem_set i; rwa [emb14] at h⟩

/-- A one-element array has one index. -/
theorem one (i : S1.Idx) : i = ix1 0 := funext fun a => by match a with | ⟨0, _⟩ => exact Subsingleton.elim (α := Fin 1) _ _

/-- The first scalar as the host reshapes it. -/
theorem V_ks (c : Dev nD) (i : S_.Idx) : (V m c main_v0 : FVec Ideal S1 .f32) (ix1 0) = (m ((c : Thread nD τ).loc main_arg8) : FVec Ideal S_ .f32) i := by
  have h : ∀ j : S_.Idx, j = i := fun j => funext fun a => a.elim0
  refine Eq.trans (b := (m ((c : Thread nD τ).loc main_arg8) : FVec Ideal S_ .f32) ix0) ?_ (congrArg _ (h _))
  unfold V hostOps0
  after_reads_at

/-- The second. -/
theorem V_vs (c : Dev nD) (i : S_.Idx) : (V m c main_v1 : FVec Ideal S1 .f32) (ix1 0) = (m ((c : Thread nD τ).loc main_arg9) : FVec Ideal S_ .f32) i := by
  have h : ∀ j : S_.Idx, j = i := fun j => funext fun a => a.elim0
  refine Eq.trans (b := (m ((c : Thread nD τ).loc main_arg9) : FVec Ideal S_ .f32) ix0) ?_ (congrArg _ (h _))
  unfold V hostOps0
  after_reads_at

/-- The normalised input of the argument arrays as launched. -/
abbrev AV (c : Dev nD) : Fin 6144 → Fin 5120 → EReal := A (m ((c : Thread nD τ).loc main_arg0)) (m ((c : Thread nD τ).loc main_arg3))

/-- The projection of the argument arrays as launched. -/
abbrev PV (c : Dev nD) : Fin 6144 → Fin 3584 → EReal := P (AV m c) (m ((c : Thread nD τ).loc main_arg4)) (m ((c : Thread nD τ).loc main_arg5))

theorem flushed10_blk (c : Dev nD) (t : Fin cfg0.N) : (dats m 0 c).flushed 10 t = k0_pay4 (iblk m c 0 t) (iblk m c 3 t) := by
  rw [Cert.QkvRefIdeal.Value.flushed10_A]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  frame_out
  simp only [read_unread_whole]
  rfl

theorem flushed10_eq (c : Dev nD) (t : Fin cfg0.N) : (dats m 0 c).flushed 10 t = ((cfg0.win 10).blk t).view.read (Elt Ideal) (OprojValue.Codes (AV m c)) := by
  rw [flushed10_blk, iblk0, iblk3, V_main_arg0, V_main_arg3, ref_codes]
  funext j
  show (OprojValue.Codes (AV m c)) j = (OprojValue.Codes (AV m c)) (((cfg0.win 10).blk t).view.emb j)
  rw [emb10]

theorem final10 (c : Dev nD) : (dats m 0 c).arrAt 10 cfg0.N = OprojValue.Codes (AV m c) :=
  (dats m 0 c).arrAt_eq_of_cover 10 (OprojValue.Codes (AV m c)) (fun t _ => flushed10_eq m c t) covered10

theorem flushed11_blk (c : Dev nD) (t : Fin cfg0.N) : (dats m 0 c).flushed 11 t = k0_pay11 (k0_pay3 (iblk m c 0 t) (iblk m c 3 t)) := by
  rw [Cert.QkvRefIdeal.Value.flushed11_A]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  frame_out
  simp only [read_unread_whole]
  rfl

theorem flushed11_eq (c : Dev nD) (t : Fin cfg0.N) : (dats m 0 c).flushed 11 t = ((cfg0.win 11).blk t).view.read (Elt Ideal) (Scales (AV m c)) := by
  rw [flushed11_blk, iblk0, iblk3, V_main_arg0, V_main_arg3, ref_scales]
  funext j
  show (Scales (AV m c)) j = (Scales (AV m c)) (((cfg0.win 11).blk t).view.emb j)
  rw [emb11]

theorem final11 (c : Dev nD) : (dats m 0 c).arrAt 11 cfg0.N = Scales (AV m c) :=
  (dats m 0 c).arrAt_eq_of_cover 11 (Scales (AV m c)) (fun t _ => flushed11_eq m c t) covered11

theorem flushed12_blk (c : Dev nD) (t : Fin cfg0.N) : (dats m 0 c).flushed 12 t = k0_pay12 (k0_pay9 (k0_pay6 (iblk m c 0 t) (iblk m c 3 t) (iblk m c 4 t) (iblk m c 5 t)) (iblk m c 6 t) (iblk m c 1 t) (iblk m c 2 t)) := by
  rw [Cert.QkvRefIdeal.Value.flushed12_A]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  frame_out
  simp only [read_unread_whole]
  rfl

theorem flushed12_eq (c : Dev nD) (t : Fin cfg0.N) : (dats m 0 c).flushed 12 t = ((cfg0.win 12).blk t).view.read (Elt Ideal) (Queries (PV m c) (m ((c : Thread nD τ).loc main_arg6)) (m ((c : Thread nD τ).loc main_arg1)) (m ((c : Thread nD τ).loc main_arg2))) := by
  rw [flushed12_blk, iblk0, iblk3, iblk4, iblk5, iblk6, iblk1, iblk2, V_main_arg0, V_main_arg3, V_main_arg4, V_main_arg5, V_main_arg6, V_main_arg1, V_main_arg2, ref_queries]
  funext j
  show (Queries (PV m c) (m ((c : Thread nD τ).loc main_arg6)) (m ((c : Thread nD τ).loc main_arg1)) (m ((c : Thread nD τ).loc main_arg2))) j = (Queries (PV m c) (m ((c : Thread nD τ).loc main_arg6)) (m ((c : Thread nD τ).loc main_arg1)) (m ((c : Thread nD τ).loc main_arg2))) (((cfg0.win 12).blk t).view.emb j)
  rw [emb12]

theorem final12 (c : Dev nD) : (dats m 0 c).arrAt 12 cfg0.N = Queries (PV m c) (m ((c : Thread nD τ).loc main_arg6)) (m ((c : Thread nD τ).loc main_arg1)) (m ((c : Thread nD τ).loc main_arg2)) :=
  (dats m 0 c).arrAt_eq_of_cover 12 (Queries (PV m c) (m ((c : Thread nD τ).loc main_arg6)) (m ((c : Thread nD τ).loc main_arg1)) (m ((c : Thread nD τ).loc main_arg2))) (fun t _ => flushed12_eq m c t) covered12

theorem flushed13_blk (c : Dev nD) (t : Fin cfg0.N) : (dats m 0 c).flushed 13 t = k0_pay13 (k0_pay10 (k0_pay7 (iblk m c 0 t) (iblk m c 3 t) (iblk m c 4 t) (iblk m c 5 t)) (iblk m c 7 t)) (iblk m c 1 t) (iblk m c 2 t) ((iblk m c 8 t : FVec Ideal S1 .f32) (ix1 0)) := by
  rw [Cert.QkvRefIdeal.Value.flushed13_A]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  frame_out
  simp only [read_unread_whole]
  exact congrArg (fun i : S1.Idx => k0_pay13 (k0_pay10 (k0_pay7 x0 x3 x4 x5) x7) x1 x2 (x8 i)) (one _)

theorem flushed13_eq (c : Dev nD) (t : Fin cfg0.N) (i : S_.Idx) : (dats m 0 c).flushed 13 t = ((cfg0.win 13).blk t).view.read (Elt Ideal) (Keys (PV m c) (m ((c : Thread nD τ).loc main_arg7)) (m ((c : Thread nD τ).loc main_arg1)) (m ((c : Thread nD τ).loc main_arg2)) ((m ((c : Thread nD τ).loc main_arg8)) i)) := by
  rw [flushed13_blk, iblk0, iblk3, iblk4, iblk5, iblk7, iblk1, iblk2, iblk8, V_main_arg0, V_main_arg3, V_main_arg4, V_main_arg5, V_main_arg7, V_main_arg1, V_main_arg2, V_ks m c i, ref_keys]
  funext j
  show (Keys (PV m c) (m ((c : Thread nD τ).loc main_arg7)) (m ((c : Thread nD τ).loc main_arg1)) (m ((c : Thread nD τ).loc main_arg2)) ((m ((c : Thread nD τ).loc main_arg8)) i)) j = (Keys (PV m c) (m ((c : Thread nD τ).loc main_arg7)) (m ((c : Thread nD τ).loc main_arg1)) (m ((c : Thread nD τ).loc main_arg2)) ((m ((c : Thread nD τ).loc main_arg8)) i)) (((cfg0.win 13).blk t).view.emb j)
  rw [emb13]

theorem final13 (c : Dev nD) (i : S_.Idx) : (dats m 0 c).arrAt 13 cfg0.N = Keys (PV m c) (m ((c : Thread nD τ).loc main_arg7)) (m ((c : Thread nD τ).loc main_arg1)) (m ((c : Thread nD τ).loc main_arg2)) ((m ((c : Thread nD τ).loc main_arg8)) i) :=
  (dats m 0 c).arrAt_eq_of_cover 13 (Keys (PV m c) (m ((c : Thread nD τ).loc main_arg7)) (m ((c : Thread nD τ).loc main_arg1)) (m ((c : Thread nD τ).loc main_arg2)) ((m ((c : Thread nD τ).loc main_arg8)) i)) (fun t _ => flushed13_eq m c t i) covered13

theorem flushed14_blk (c : Dev nD) (t : Fin cfg0.N) : (dats m 0 c).flushed 14 t = k0_pay1 (Scalar.ofBits .f32 0x43E00000#32) (k0_pay14 (k0_pay8 (k0_pay5 (iblk m c 0 t) (iblk m c 3 t) (iblk m c 4 t) (iblk m c 5 t))) ((iblk m c 9 t : FVec Ideal S1 .f32) (ix1 0))) := by
  rw [Cert.QkvRefIdeal.Value.flushed14_A]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  frame_out
  simp only [read_unread_whole]
  exact congrArg (fun i : S1.Idx => k0_pay1 (Scalar.ofBits .f32 0x43E00000#32) (k0_pay14 (k0_pay8 (k0_pay5 x0 x3 x4 x5)) (x9 i))) (one _)

theorem flushed14_eq (c : Dev nD) (t : Fin cfg0.N) (i : S_.Idx) : (dats m 0 c).flushed 14 t = ((cfg0.win 14).blk t).view.read (Elt Ideal) (Values (PV m c) ((m ((c : Thread nD τ).loc main_arg9)) i)) := by
  rw [flushed14_blk, iblk0, iblk3, iblk4, iblk5, iblk9, V_main_arg0, V_main_arg3, V_main_arg4, V_main_arg5, V_vs m c i, ref_values]
  funext j
  show (Values (PV m c) ((m ((c : Thread nD τ).loc main_arg9)) i)) j = (Values (PV m c) ((m ((c : Thread nD τ).loc main_arg9)) i)) (((cfg0.win 14).blk t).view.emb j)
  rw [emb14]

theorem final14 (c : Dev nD) (i : S_.Idx) : (dats m 0 c).arrAt 14 cfg0.N = Values (PV m c) ((m ((c : Thread nD τ).loc main_arg9)) i) :=
  (dats m 0 c).arrAt_eq_of_cover 14 (Values (PV m c) ((m ((c : Thread nD τ).loc main_arg9)) i)) (fun t _ => flushed14_eq m c t i) covered14

end Cert.QkvValue.Ref

end
-- ==== Proof.QkvArray.lean ====
/- The query/key/value projection, the whole arrays: what a grid point writes back, the blocks it reads, the arrays that
   the write-backs make, the reference's arrays, and the equation. -/
module

public import proofs.«01_k».proof.Defs
public import proofs.«01_k».proof.Proof.QkvBlock
public import proofs.«01_k».proof.Proof.QkvRefArray
public import Idealize.ShloMosaic.Lib.StableHlo.ReadAt
public import Idealize.ShloMosaic.Lib.Pipeline.ValueKit.Acc

@[expose] public section

set_option maxRecDepth 16384

noncomputable section

namespace Cert.QkvValue

open Idealize.ShloMosaic Idealize.ShloMosaic.TcCoe Idealize.SL.Sem
open Cert.QkvIdeal Cert.QkvIdeal.Gen
open Cert.Quant Cert.Norm Cert.QkvValue.Blk

variable (m : (ℓ : Loc nD τ sig) → Buf (Elt Ideal) ℓ)

/-! ## What a point writes back, over its blocks -/

theorem flushed10_blk (c : Dev nD) (t : Fin cfg0.N) :
    (dats m 0 c).flushed 10 t = k0_pay6 (iblk m c 0 t) (iblk m c 1 t) := by
  rw [Cert.QkvIdeal.Value.flushed10_A]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  frame_out
  rfl

theorem flushed11_blk (c : Dev nD) (t : Fin cfg0.N) :
    (dats m 0 c).flushed 11 t = k0_pay5 (iblk m c 0 t) (iblk m c 1 t) := by
  rw [Cert.QkvIdeal.Value.flushed11_A]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  frame_out
  rfl

theorem flushed12_blk (c : Dev nD) (t : Fin cfg0.N) :
    (dats m 0 c).flushed 12 t = View.canon (qPieces (iblk m c 0 t) (iblk m c 1 t) (iblk m c 2 t) (iblk m c 3 t) (iblk m c 4 t) (iblk m c 5 t) (iblk m c 6 t)) := by
  rw [Cert.QkvIdeal.Value.flushed12_A]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  frame_out
  simp only [pay10_eq, pay11_eq, pay14_eq, pay15_eq, pay18_eq, pay20_eq, pay21_eq, pay24_eq, pay26_eq, pay27_eq, pay31_eq, pay32_eq, pay35_eq, pay36_eq,
    pay37_eq, pay40_eq, pay42_eq, pay44_eq, pay46_eq, pay47_eq, pay9_eq, pay16_eq, pay25_eq, pay33_eq, pay41_eq]
  unfold qPieces qPart proj
  rfl

theorem flushed13_blk (c : Dev nD) (t : Fin cfg0.N) :
    (dats m 0 c).flushed 13 t = View.canon (kPieces (iblk m c 0 t) (iblk m c 1 t) (iblk m c 2 t) (iblk m c 3 t) (iblk m c 4 t) (iblk m c 5 t) (iblk m c 7 t) (iblk m c 8 t)) := by
  rw [Cert.QkvIdeal.Value.flushed13_A]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  frame_out
  simp only [pay51_eq, pay55_eq, pay57_eq, pay58_eq, pay48_eq]
  unfold kPieces kPart proj
  rfl

theorem flushed14_blk (c : Dev nD) (t : Fin cfg0.N) :
    (dats m 0 c).flushed 14 t = View.canon (vPieces (iblk m c 0 t) (iblk m c 1 t) (iblk m c 2 t) (iblk m c 3 t) (iblk m c 9 t)) := by
  rw [Cert.QkvIdeal.Value.flushed14_A]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  frame_out
  simp only [pay61_eq, pay62_eq, pay1_eq, pay2_eq, pay60_eq]
  unfold vPieces vPart proj
  rfl

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = 0 ∧ win0_1.index t (1 : Fin 2) = 0 :=
  (by decide +kernel : ∀ t : Fin grid0.N, _)

theorem idx2 : ∀ t : Fin cfg0.N, win0_2.index t (0 : Fin 2) = 0 ∧ win0_2.index t (1 : Fin 2) = 0 :=
  (by decide +kernel : ∀ t : Fin grid0.N, _)

theorem idx3 : ∀ t : Fin cfg0.N, win0_3.index t (0 : Fin 2) = 0 ∧ win0_3.index t (1 : Fin 2) = 0 :=
  (by decide +kernel : ∀ t : Fin grid0.N, _)

theorem idx4 : ∀ t : Fin cfg0.N, win0_4.index t (0 : Fin 2) = t.val ∧ win0_4.index t (1 : Fin 2) = 0 :=
  (by decide +kernel : ∀ t : Fin grid0.N, _)

theorem idx5 : ∀ t : Fin cfg0.N, win0_5.index t (0 : Fin 2) = t.val ∧ win0_5.index t (1 : Fin 2) = 0 :=
  (by decide +kernel : ∀ t : Fin grid0.N, _)

theorem idx6 : ∀ t : Fin cfg0.N, win0_6.index t (0 : Fin 2) = 0 ∧ win0_6.index t (1 : Fin 2) = 0 :=
  (by decide +kernel : ∀ t : Fin grid0.N, _)

theorem idx7 : ∀ t : Fin cfg0.N, win0_7.index t (0 : Fin 2) = 0 ∧ win0_7.index t (1 : Fin 2) = 0 :=
  (by decide +kernel : ∀ t : Fin grid0.N, _)

theorem idx8 : ∀ t : Fin cfg0.N, win0_8.index t (0 : Fin 1) = 0 :=
  (by decide +kernel : ∀ t : Fin grid0.N, _)

theorem idx9 : ∀ t : Fin cfg0.N, win0_9.index t (0 : Fin 1) = 0 :=
  (by decide +kernel : ∀ t : Fin grid0.N, _)

theorem idx10 : ∀ t : Fin cfg0.N, win0_10.index t (0 : Fin 2) = t.val ∧ win0_10.index t (1 : Fin 2) = 0 :=
  (by decide +kernel : ∀ t : Fin grid0.N, _)

theorem idx11 : ∀ t : Fin cfg0.N, win0_11.index t (0 : Fin 3) = t.val ∧ win0_11.index t (1 : Fin 3) = 0 ∧ win0_11.index t (2 : Fin 3) = 0 :=
  (by decide +kernel : ∀ t : Fin grid0.N, _)

theorem idx12 : ∀ t : Fin cfg0.N, win0_12.index t (0 : Fin 2) = t.val ∧ win0_12.index t (1 : Fin 2) = 0 :=
  (by decide +kernel : ∀ t : Fin grid0.N, _)

theorem idx13 : ∀ t : Fin cfg0.N, win0_13.index t (0 : Fin 2) = t.val ∧ win0_13.index t (1 : Fin 2) = 0 :=
  (by decide +kernel : ∀ t : Fin grid0.N, _)

theorem idx14 : ∀ t : Fin cfg0.N, win0_14.index t (0 : Fin 2) = t.val ∧ win0_14.index t (1 : Fin 2) = 0 :=
  (by decide +kernel : ∀ t : Fin grid0.N, _)

theorem lt_N (t : Fin cfg0.N) : t.val < 12 := t.isLt.trans_le (by decide)

/-- The row of the arrays that row `r` of point `t`'s block is. -/
def row (t : Fin cfg0.N) (r : Fin 512) : Fin 6144 := ⟨t.val * 512 + r.val, by have := lt_N t; omega⟩

/-! ## The blocks of the arguments -/

theorem V_ln (c : Dev nD) (C : Fin 5120) :
    (V m c main_v2 : FVec Ideal S1x5120 .f32) (ix2 0 C) = (m ((c : Thread nD τ).loc main_arg3) : FVec Ideal S5120 .f32) (ix1 C) := by
  unfold V hostOps0
  after_reads_at

theorem V_ws (c : Dev nD) (C : Fin 3584) :
    (V m c main_v3 : FVec Ideal S1x3584 .f32) (ix2 0 C) = (m ((c : Thread nD τ).loc main_arg5) : FVec Ideal S3584 .f32) (ix1 C) := by
  unfold V hostOps0
  after_reads_at

theorem V_qn (c : Dev nD) (C : Fin 128) :
    (V m c main_v4 : FVec Ideal S1x128 .f32) (ix2 0 C) = (m ((c : Thread nD τ).loc main_arg6) : FVec Ideal S128 .f32) (ix1 C) := by
  unfold V hostOps0
  after_reads_at

theorem V_kn (c : Dev nD) (C : Fin 128) :
    (V m c main_v5 : FVec Ideal S1x128 .f32) (ix2 0 C) = (m ((c : Thread nD τ).loc main_arg7) : FVec Ideal S128 .f32) (ix1 C) := by
  unfold V hostOps0
  after_reads_at

theorem V_ks (c : Dev nD) (i : S_.Idx) : (V m c main_v0 : FVec Ideal S1 .f32) (ix1 0) = (m ((c : Thread nD τ).loc main_arg8) : FVec Ideal S_ .f32) i := by
  have h : ∀ j : S_.Idx, j = i := fun j => funext fun a => a.elim0
  refine Eq.trans (b := (m ((c : Thread nD τ).loc main_arg8) : FVec Ideal S_ .f32) ix0) ?_ (congrArg _ (h _))
  unfold V hostOps0
  after_reads_at

theorem V_vs (c : Dev nD) (i : S_.Idx) : (V m c main_v1 : FVec Ideal S1 .f32) (ix1 0) = (m ((c : Thread nD τ).loc main_arg9) : FVec Ideal S_ .f32) i := by
  have h : ∀ j : S_.Idx, j = i := fun j => funext fun a => a.elim0
  refine Eq.trans (b := (m ((c : Thread nD τ).loc main_arg9) : FVec Ideal S_ .f32) ix0) ?_ (congrArg _ (h _))
  unfold V hostOps0
  after_reads_at

theorem blk0 (c : Dev nD) (t : Fin cfg0.N) (r : Fin 512) (C : Fin 5120) :
    (iblk m c 0 t : FVec Ideal S512x5120 .bf16) (ix2 r C) = (m ((c : Thread nD τ).loc main_arg0) : FVec Ideal S6144x5120 .bf16) (ix2 (row t r) C) := by
  obtain ⟨e0, e1⟩ := idx0 t
  show V m c main_arg0 (((cfg0.win 0).blk t).view.emb (ix2 r C)) = _
  rw [V_main_arg0]
  refine congrArg _ (funext fun a => Fin.ext ?_)
  match a with
  | ⟨0, _⟩ => show win0_0.index t (0 : Fin 2) * 512 + 1 * r.val = t.val * 512 + r.val; omega
  | ⟨1, _⟩ => show win0_0.index t (1 : Fin 2) * 5120 + 1 * C.val = C.val; omega

theorem blk1 (c : Dev nD) (t : Fin cfg0.N) (C : Fin 5120) :
    (iblk m c 1 t : FVec Ideal S1x5120 .f32) (ix2 0 C) = (m ((c : Thread nD τ).loc main_arg3) : FVec Ideal S5120 .f32) (ix1 C) := by
  obtain ⟨e0, e1⟩ := idx1 t
  refine Eq.trans ?_ (V_ln m c C)
  show V m c main_v2 (((cfg0.win 1).blk t).view.emb (ix2 0 C)) = _
  refine congrArg _ (funext fun a => Fin.ext ?_)
  match a with
  | ⟨0, _⟩ => show win0_1.index t (0 : Fin 2) * 1 + 1 * 0 = 0; omega
  | ⟨1, _⟩ => show win0_1.index t (1 : Fin 2) * 5120 + 1 * C.val = C.val; omega

theorem blk2 (c : Dev nD) (t : Fin cfg0.N) (r : Fin 5120) (C : Fin 3584) :
    (iblk m c 2 t : FVec Ideal S5120x3584 .fp8e4m3) (ix2 r C) = (m ((c : Thread nD τ).loc main_arg4) : FVec Ideal S5120x3584 .fp8e4m3) (ix2 r C) := by
  obtain ⟨e0, e1⟩ := idx2 t
  show V m c main_arg4 (((cfg0.win 2).blk t).view.emb (ix2 r C)) = _
  rw [V_main_arg4]
  refine congrArg _ (funext fun a => Fin.ext ?_)
  match a with
  | ⟨0, _⟩ => show win0_2.index t (0 : Fin 2) * 5120 + 1 * r.val = r.val; omega
  | ⟨1, _⟩ => show win0_2.index t (1 : Fin 2) * 3584 + 1 * C.val = C.val; omega

theorem blk3 (c : Dev nD) (t : Fin cfg0.N) (C : Fin 3584) :
    (iblk m c 3 t : FVec Ideal S1x3584 .f32) (ix2 0 C) = (m ((c : Thread nD τ).loc main_arg5) : FVec Ideal S3584 .f32) (ix1 C) := by
  obtain ⟨e0, e1⟩ := idx3 t
  refine Eq.trans ?_ (V_ws m c C)
  show V m c main_v3 (((cfg0.win 3).blk t).view.emb (ix2 0 C)) = _
  refine congrArg _ (funext fun a => Fin.ext ?_)
  match a with
  | ⟨0, _⟩ => show win0_3.index t (0 : Fin 2) * 1 + 1 * 0 = 0; omega
  | ⟨1, _⟩ => show win0_3.index t (1 : Fin 2) * 3584 + 1 * C.val = C.val; omega

theorem blk4 (c : Dev nD) (t : Fin cfg0.N) (r : Fin 512) (C : Fin 64) :
    (iblk m c 4 t : FVec Ideal S512x64 .f32) (ix2 r C) = (m ((c : Thread nD τ).loc main_arg1) : FVec Ideal S6144x64 .f32) (ix2 (row t r) C) := by
  obtain ⟨e0, e1⟩ := idx4 t
  show V m c main_arg1 (((cfg0.win 4).blk t).view.emb (ix2 r C)) = _
  rw [V_main_arg1]
  refine congrArg _ (funext fun a => Fin.ext ?_)
  match a with
  | ⟨0, _⟩ => show win0_4.index t (0 : Fin 2) * 512 + 1 * r.val = t.val * 512 + r.val; omega
  | ⟨1, _⟩ => show win0_4.index t (1 : Fin 2) * 64 + 1 * C.val = C.val; omega

theorem blk5 (c : Dev nD) (t : Fin cfg0.N) (r : Fin 512) (C : Fin 64) :
    (iblk m c 5 t : FVec Ideal S512x64 .f32) (ix2 r C) = (m ((c : Thread nD τ).loc main_arg2) : FVec Ideal S6144x64 .f32) (ix2 (row t r) C) := by
  obtain ⟨e0, e1⟩ := idx5 t
  show V m c main_arg2 (((cfg0.win 5).blk t).view.emb (ix2 r C)) = _
  rw [V_main_arg2]
  refine congrArg _ (funext fun a => Fin.ext ?_)
  match a with
  | ⟨0, _⟩ => show win0_5.index t (0 : Fin 2) * 512 + 1 * r.val = t.val * 512 + r.val; omega
  | ⟨1, _⟩ => show win0_5.index t (1 : Fin 2) * 64 + 1 * C.val = C.val; omega

theorem blk6 (c : Dev nD) (t : Fin cfg0.N) (C : Fin 128) :
    (iblk m c 6 t : FVec Ideal S1x128 .f32) (ix2 0 C) = (m ((c : Thread nD τ).loc main_arg6) : FVec Ideal S128 .f32) (ix1 C) := by
  obtain ⟨e0, e1⟩ := idx6 t
  refine Eq.trans ?_ (V_qn m c C)
  show V m c main_v4 (((cfg0.win 6).blk t).view.emb (ix2 0 C)) = _
  refine congrArg _ (funext fun a => Fin.ext ?_)
  match a with
  | ⟨0, _⟩ => show win0_6.index t (0 : Fin 2) * 1 + 1 * 0 = 0; omega
  | ⟨1, _⟩ => show win0_6.index t (1 : Fin 2) * 128 + 1 * C.val = C.val; omega

theorem blk7 (c : Dev nD) (t : Fin cfg0.N) (C : Fin 128) :
    (iblk m c 7 t : FVec Ideal S1x128 .f32) (ix2 0 C) = (m ((c : Thread nD τ).loc main_arg7) : FVec Ideal S128 .f32) (ix1 C) := by
  obtain ⟨e0, e1⟩ := idx7 t
  refine Eq.trans ?_ (V_kn m c C)
  show V m c main_v5 (((cfg0.win 7).blk t).view.emb (ix2 0 C)) = _
  refine congrArg _ (funext fun a => Fin.ext ?_)
  match a with
  | ⟨0, _⟩ => show win0_7.index t (0 : Fin 2) * 1 + 1 * 0 = 0; omega
  | ⟨1, _⟩ => show win0_7.index t (1 : Fin 2) * 128 + 1 * C.val = C.val; omega

theorem blk8 (c : Dev nD) (t : Fin cfg0.N) (i : S_.Idx) :
    (iblk m c 8 t : FVec Ideal S1 .f32) (ix1 0) = (m ((c : Thread nD τ).loc main_arg8) : FVec Ideal S_ .f32) i := by
  refine Eq.trans ?_ (V_ks m c i)
  show V m c main_v0 (((cfg0.win 8).blk t).view.emb (ix1 0)) = _
  refine congrArg _ (funext fun a => Fin.ext ?_)
  match a with
  | ⟨0, _⟩ => have e0 := idx8 t; show win0_8.index t (0 : Fin 1) * 1 + 1 * 0 = 0; omega

theorem blk9 (c : Dev nD) (t : Fin cfg0.N) (i : S_.Idx) :
    (iblk m c 9 t : FVec Ideal S1 .f32) (ix1 0) = (m ((c : Thread nD τ).loc main_arg9) : FVec Ideal S_ .f32) i := by
  refine Eq.trans ?_ (V_vs m c i)
  show V m c main_v1 (((cfg0.win 9).blk t).view.emb (ix1 0)) = _
  refine congrArg _ (funext fun a => Fin.ext ?_)
  match a with
  | ⟨0, _⟩ => have e0 := idx9 t; show win0_9.index t (0 : Fin 1) * 1 + 1 * 0 = 0; omega

/-! ## The arrays -/

/-- The normalised input of the argument arrays as launched. -/
abbrev AV (c : Dev nD) : Fin 6144 → Fin 5120 → EReal := A (m ((c : Thread nD τ).loc main_arg0)) (m ((c : Thread nD τ).loc main_arg3))

/-- The projection of the argument arrays as launched. -/
abbrev PV (c : Dev nD) : Fin 6144 → Fin 3584 → EReal := P (AV m c) (m ((c : Thread nD τ).loc main_arg4)) (m ((c : Thread nD τ).loc main_arg5))

theorem aAt_eq (c : Dev nD) (t : Fin cfg0.N) (r : Fin 512) (C : Fin 5120) : aAt (iblk m c 0 t) (iblk m c 1 t) r C = AV m c (row t r) C := by
  unfold aAt AV A
  have e0 := blk0 m c t; have e1 := blk1 m c t
  generalize iblk m c 0 t = x0 at *
  generalize iblk m c 1 t = x1 at *
  simp only [e0, e1]

theorem sAt_eq (c : Dev nD) (t : Fin cfg0.N) (r : Fin 512) : sAt (iblk m c 0 t) (iblk m c 1 t) r = S (AV m c) (row t r) := by
  unfold sAt S OprojValue.rowMax
  simp only [aAt_eq]

theorem pAt_eq (c : Dev nD) (t : Fin cfg0.N) (r : Fin 512) (D : Fin 3584) : pAt (iblk m c 0 t) (iblk m c 1 t) (iblk m c 2 t) (iblk m c 3 t) r D = PV m c (row t r) D := by
  unfold pAt PV P
  simp only [aAt_eq, sAt_eq]
  have e2 := blk2 m c t; have e3 := blk3 m c t
  generalize iblk m c 2 t = x2 at *
  generalize iblk m c 3 t = x3 at *
  simp only [e2, e3]

theorem qAt_eq (c : Dev nD) (t : Fin cfg0.N) (r : Fin 512) (D : Fin 2560) :
    qAt (iblk m c 0 t) (iblk m c 1 t) (iblk m c 2 t) (iblk m c 3 t) (iblk m c 4 t) (iblk m c 5 t) (iblk m c 6 t) r D = Queries (PV m c) (m ((c : Thread nD τ).loc main_arg6)) (m ((c : Thread nD τ).loc main_arg1)) (m ((c : Thread nD τ).loc main_arg2)) (ix2 (row t r) D) := by
  unfold qAt
  simp only [pAt_eq]
  have e4 := blk4 m c t; have e5 := blk5 m c t; have e6 := blk6 m c t
  generalize iblk m c 4 t = x4 at *
  generalize iblk m c 5 t = x5 at *
  generalize iblk m c 6 t = x6 at *
  simp only [e4, e5, e6]
  rfl

theorem kAt_eq (c : Dev nD) (t : Fin cfg0.N) (i : S_.Idx) (hs : (m ((c : Thread nD τ).loc main_arg8) : FVec Ideal S_ .f32) i ≠ (0 : EReal)) (r : Fin 512) (D : Fin 512) :
    kAt (iblk m c 0 t) (iblk m c 1 t) (iblk m c 2 t) (iblk m c 3 t) (iblk m c 4 t) (iblk m c 5 t) (iblk m c 7 t) (iblk m c 8 t) r D = Keys (PV m c) (m ((c : Thread nD τ).loc main_arg7)) (m ((c : Thread nD τ).loc main_arg1)) (m ((c : Thread nD τ).loc main_arg2)) ((m ((c : Thread nD τ).loc main_arg8)) i) (ix2 (row t r) D) := by
  unfold kAt
  simp only [pAt_eq]
  have e4 := blk4 m c t; have e5 := blk5 m c t; have e7 := blk7 m c t; have e8 := blk8 m c t i
  generalize iblk m c 4 t = x4 at *
  generalize iblk m c 5 t = x5 at *
  generalize iblk m c 7 t = x7 at *
  generalize iblk m c 8 t = x8 at *
  simp only [e4, e5, e7, e8]
  exact codeMul_eq _ hs

theorem vAt_eq (c : Dev nD) (t : Fin cfg0.N) (i : S_.Idx) (hs : (m ((c : Thread nD τ).loc main_arg9) : FVec Ideal S_ .f32) i ≠ (0 : EReal)) (r : Fin 512) (D : Fin 512) :
    vAt (iblk m c 0 t) (iblk m c 1 t) (iblk m c 2 t) (iblk m c 3 t) (iblk m c 9 t) r D = Values (PV m c) ((m ((c : Thread nD τ).loc main_arg9)) i) (ix2 (row t r) D) := by
  unfold vAt
  rw [pAt_eq, blk9 m c t i]
  exact codeMul_eq _ hs

theorem emb10 (t : Fin cfg0.N) (j : S512x5120.Idx) : (((cfg0.win 10).blk t).view.emb j : S6144x5120.Idx) = ix2 (row t (j 0)) (j 1) := by
  obtain ⟨e0, e1⟩ := idx10 t
  funext a; apply Fin.ext
  match a with
  | ⟨0, _⟩ => show win0_10.index t (0 : Fin 2) * 512 + 1 * (j 0).val = t.val * 512 + (j 0).val; omega
  | ⟨1, _⟩ => show win0_10.index t (1 : Fin 2) * 5120 + 1 * (j 1).val = (j 1).val; omega

theorem emb12 (t : Fin cfg0.N) (j : S512x2560.Idx) : (((cfg0.win 12).blk t).view.emb j : S6144x2560.Idx) = ix2 (row t (j 0)) (j 1) := by
  obtain ⟨e0, e1⟩ := idx12 t
  funext a; apply Fin.ext
  match a with
  | ⟨0, _⟩ => show win0_12.index t (0 : Fin 2) * 512 + 1 * (j 0).val = t.val * 512 + (j 0).val; omega
  | ⟨1, _⟩ => show win0_12.index t (1 : Fin 2) * 2560 + 1 * (j 1).val = (j 1).val; omega

theorem emb13 (t : Fin cfg0.N) (j : S512x512.Idx) : (((cfg0.win 13).blk t).view.emb j : S6144x512.Idx) = ix2 (row t (j 0)) (j 1) := by
  obtain ⟨e0, e1⟩ := idx13 t
  funext a; apply Fin.ext
  match a with
  | ⟨0, _⟩ => show win0_13.index t (0 : Fin 2) * 512 + 1 * (j 0).val = t.val * 512 + (j 0).val; omega
  | ⟨1, _⟩ => show win0_13.index t (1 : Fin 2) * 512 + 1 * (j 1).val = (j 1).val; omega

theorem emb14 (t : Fin cfg0.N) (j : S512x512.Idx) : (((cfg0.win 14).blk t).view.emb j : S6144x512.Idx) = ix2 (row t (j 0)) (j 1) := by
  obtain ⟨e0, e1⟩ := idx14 t
  funext a; apply Fin.ext
  match a with
  | ⟨0, _⟩ => show win0_14.index t (0 : Fin 2) * 512 + 1 * (j 0).val = t.val * 512 + (j 0).val; omega
  | ⟨1, _⟩ => show win0_14.index t (1 : Fin 2) * 512 + 1 * (j 1).val = (j 1).val; omega

theorem emb11 (t : Fin cfg0.N) (j : S1x1x512.Idx) : (((cfg0.win 11).blk t).view.emb j : S12x1x512.Idx) = ix3 ⟨t.val, lt_N t⟩ 0 (j 2) := by
  obtain ⟨e0, e1, e2⟩ := idx11 t
  have h0 : (j 0).val < 1 := (j 0).isLt
  have h1 : (j 1).val < 1 := (j 1).isLt
  funext a; apply Fin.ext
  match a with
  | ⟨0, _⟩ => show win0_11.index t (0 : Fin 3) * 1 + 1 * (j 0).val = t.val; omega
  | ⟨1, _⟩ => show win0_11.index t (1 : Fin 3) * 1 + 1 * (j 1).val = 0; omega
  | ⟨2, _⟩ => show win0_11.index t (2 : Fin 3) * 512 + 1 * (j 2).val = (j 2).val; omega

theorem flushed10_eq (c : Dev nD) (t : Fin cfg0.N) : (dats m 0 c).flushed 10 t = ((cfg0.win 10).blk t).view.read (Elt Ideal) (OprojValue.Codes (AV m c)) := by
  rw [flushed10_blk]
  funext j
  obtain ⟨r, C, rfl⟩ : ∃ (r : Fin 512) (C : Fin 5120), j = ix2 r C := ⟨j 0, j 1, eq_ix2 j⟩
  refine (codes_eq _ _ r C).trans ?_
  show _ = OprojValue.Codes (AV m c) (((cfg0.win 10).blk t).view.emb (ix2 r C))
  rw [emb10]
  exact congrArg₂ codeOf (aAt_eq m c t r C) (sAt_eq m c t r)

theorem flushed11_eq (c : Dev nD) (t : Fin cfg0.N) : (dats m 0 c).flushed 11 t = ((cfg0.win 11).blk t).view.read (Elt Ideal) (Scales (AV m c)) := by
  rw [flushed11_blk]
  funext j
  obtain ⟨r, rfl⟩ : ∃ r : Fin 512, j = ix3 0 0 r :=
    ⟨j 2, (eq_ix3 j).trans (congrArg₂ (fun x y => ix3 x y (j 2)) (Subsingleton.elim (α := Fin 1) _ _) (Subsingleton.elim (α := Fin 1) _ _))⟩
  refine (scales_eq _ _ r).trans ?_
  show _ = Scales (AV m c) (((cfg0.win 11).blk t).view.emb (ix3 0 0 r))
  rw [emb11]
  exact sAt_eq m c t r

theorem flushed12_eq (c : Dev nD) (t : Fin cfg0.N) :
    (dats m 0 c).flushed 12 t = ((cfg0.win 12).blk t).view.read (Elt Ideal) (Queries (PV m c) (m ((c : Thread nD τ).loc main_arg6)) (m ((c : Thread nD τ).loc main_arg1)) (m ((c : Thread nD τ).loc main_arg2))) := by
  rw [flushed12_blk, qPieces_eq]
  funext j
  show qAt (iblk m c 0 t) (iblk m c 1 t) (iblk m c 2 t) (iblk m c 3 t) (iblk m c 4 t) (iblk m c 5 t) (iblk m c 6 t) (j 0) (j 1) = (Queries (PV m c) (m ((c : Thread nD τ).loc main_arg6)) (m ((c : Thread nD τ).loc main_arg1)) (m ((c : Thread nD τ).loc main_arg2))) (((cfg0.win 12).blk t).view.emb j)
  rw [emb12]
  exact qAt_eq m c t (j 0) (j 1)

theorem flushed13_eq (c : Dev nD) (t : Fin cfg0.N) (i : S_.Idx) (hs : (m ((c : Thread nD τ).loc main_arg8) : FVec Ideal S_ .f32) i ≠ (0 : EReal)) :
    (dats m 0 c).flushed 13 t = ((cfg0.win 13).blk t).view.read (Elt Ideal) (Keys (PV m c) (m ((c : Thread nD τ).loc main_arg7)) (m ((c : Thread nD τ).loc main_arg1)) (m ((c : Thread nD τ).loc main_arg2)) ((m ((c : Thread nD τ).loc main_arg8)) i)) := by
  rw [flushed13_blk, kPieces_eq]
  funext j
  show kAt (iblk m c 0 t) (iblk m c 1 t) (iblk m c 2 t) (iblk m c 3 t) (iblk m c 4 t) (iblk m c 5 t) (iblk m c 7 t) (iblk m c 8 t) (j 0) (j 1) = (Keys (PV m c) (m ((c : Thread nD τ).loc main_arg7)) (m ((c : Thread nD τ).loc main_arg1)) (m ((c : Thread nD τ).loc main_arg2)) ((m ((c : Thread nD τ).loc main_arg8)) i)) (((cfg0.win 13).blk t).view.emb j)
  rw [emb13]
  exact kAt_eq m c t i hs (j 0) (j 1)

theorem flushed14_eq (c : Dev nD) (t : Fin cfg0.N) (i : S_.Idx) (hs : (m ((c : Thread nD τ).loc main_arg9) : FVec Ideal S_ .f32) i ≠ (0 : EReal)) :
    (dats m 0 c).flushed 14 t = ((cfg0.win 14).blk t).view.read (Elt Ideal) (Values (PV m c) ((m ((c : Thread nD τ).loc main_arg9)) i)) := by
  rw [flushed14_blk, vPieces_eq]
  funext j
  show vAt (iblk m c 0 t) (iblk m c 1 t) (iblk m c 2 t) (iblk m c 3 t) (iblk m c 9 t) (j 0) (j 1) = (Values (PV m c) ((m ((c : Thread nD τ).loc main_arg9)) i)) (((cfg0.win 14).blk t).view.emb j)
  rw [emb14]
  exact vAt_eq m c t i hs (j 0) (j 1)

/-- The point whose block holds row `R`. -/
def point (R : Fin 6144) : Fin cfg0.N := ⟨R.val / 512, by show _ < 12; omega⟩

theorem row_point (R : Fin 6144) : row (point R) ⟨R.val % 512, by omega⟩ = R :=
  Fin.ext (by show R.val / 512 * 512 + R.val % 512 = R.val; omega)

theorem covered10 (i : S6144x5120.Idx) : ∃ t : Fin cfg0.N, (cfg0.win 10).flush t = true ∧ i ∈ ((cfg0.win 10).blk t).view.set := by
  refine ⟨point (i 0), flush0_10 _, ?_⟩
  have h := ((cfg0.win 10).blk (point (i 0))).view.emb_mem_set (ix2 ⟨(i 0).val % 512, by omega⟩ (i 1) : S512x5120.Idx)
  rw [emb10] at h
  refine (congrArg (· ∈ ((cfg0.win 10).blk (point (i 0))).view.set) (?_ : i = _)).mpr h
  exact (eq_ix2 i).trans (congrArg (fun x => ix2 x (i 1)) (row_point (i 0)).symm)

theorem covered12 (i : S6144x2560.Idx) : ∃ t : Fin cfg0.N, (cfg0.win 12).flush t = true ∧ i ∈ ((cfg0.win 12).blk t).view.set := by
  refine ⟨point (i 0), flush0_12 _, ?_⟩
  have h := ((cfg0.win 12).blk (point (i 0))).view.emb_mem_set (ix2 ⟨(i 0).val % 512, by omega⟩ (i 1) : S512x2560.Idx)
  rw [emb12] at h
  refine (congrArg (· ∈ ((cfg0.win 12).blk (point (i 0))).view.set) (?_ : i = _)).mpr h
  exact (eq_ix2 i).trans (congrArg (fun x => ix2 x (i 1)) (row_point (i 0)).symm)

theorem covered13 (i : S6144x512.Idx) : ∃ t : Fin cfg0.N, (cfg0.win 13).flush t = true ∧ i ∈ ((cfg0.win 13).blk t).view.set := by
  refine ⟨point (i 0), flush0_13 _, ?_⟩
  have h := ((cfg0.win 13).blk (point (i 0))).view.emb_mem_set (ix2 ⟨(i 0).val % 512, by omega⟩ (i 1) : S512x512.Idx)
  rw [emb13] at h
  refine (congrArg (· ∈ ((cfg0.win 13).blk (point (i 0))).view.set) (?_ : i = _)).mpr h
  exact (eq_ix2 i).trans (congrArg (fun x => ix2 x (i 1)) (row_point (i 0)).symm)

theorem covered14 (i : S6144x512.Idx) : ∃ t : Fin cfg0.N, (cfg0.win 14).flush t = true ∧ i ∈ ((cfg0.win 14).blk t).view.set := by
  refine ⟨point (i 0), flush0_14 _, ?_⟩
  have h := ((cfg0.win 14).blk (point (i 0))).view.emb_mem_set (ix2 ⟨(i 0).val % 512, by omega⟩ (i 1) : S512x512.Idx)
  rw [emb14] at h
  refine (congrArg (· ∈ ((cfg0.win 14).blk (point (i 0))).view.set) (?_ : i = _)).mpr h
  exact (eq_ix2 i).trans (congrArg (fun x => ix2 x (i 1)) (row_point (i 0)).symm)

theorem covered11 (i : S12x1x512.Idx) : ∃ t : Fin cfg0.N, (cfg0.win 11).flush t = true ∧ i ∈ ((cfg0.win 11).blk t).view.set := by
  have h0 : (i 0).val < 12 := (i 0).isLt
  refine ⟨⟨(i 0).val, h0⟩, flush0_11 _, ?_⟩
  have h := ((cfg0.win 11).blk ⟨(i 0).val, h0⟩).view.emb_mem_set (ix3 0 0 (i 2) : S1x1x512.Idx)
  rw [emb11] at h
  refine (congrArg (· ∈ ((cfg0.win 11).blk ⟨(i 0).val, h0⟩).view.set) (?_ : i = _)).mpr h
  exact (eq_ix3 i).trans (congrArg (fun x => ix3 (i 0) x (i 2)) (Subsingleton.elim (α := Fin 1) _ _))

theorem final10 (c : Dev nD) : (dats m 0 c).arrAt 10 cfg0.N = OprojValue.Codes (AV m c) :=
  (dats m 0 c).arrAt_eq_of_cover 10 (OprojValue.Codes (AV m c)) (fun t _ => flushed10_eq m c t) covered10

theorem final11 (c : Dev nD) : (dats m 0 c).arrAt 11 cfg0.N = Scales (AV m c) :=
  (dats m 0 c).arrAt_eq_of_cover 11 (Scales (AV m c)) (fun t _ => flushed11_eq m c t) covered11

theorem final12 (c : Dev nD) : (dats m 0 c).arrAt 12 cfg0.N = Queries (PV m c) (m ((c : Thread nD τ).loc main_arg6)) (m ((c : Thread nD τ).loc main_arg1)) (m ((c : Thread nD τ).loc main_arg2)) :=
  (dats m 0 c).arrAt_eq_of_cover 12 (Queries (PV m c) (m ((c : Thread nD τ).loc main_arg6)) (m ((c : Thread nD τ).loc main_arg1)) (m ((c : Thread nD τ).loc main_arg2))) (fun t _ => flushed12_eq m c t) covered12

theorem final13 (c : Dev nD) (i : S_.Idx) (hs : (m ((c : Thread nD τ).loc main_arg8) : FVec Ideal S_ .f32) i ≠ (0 : EReal)) : (dats m 0 c).arrAt 13 cfg0.N = Keys (PV m c) (m ((c : Thread nD τ).loc main_arg7)) (m ((c : Thread nD τ).loc main_arg1)) (m ((c : Thread nD τ).loc main_arg2)) ((m ((c : Thread nD τ).loc main_arg8)) i) :=
  (dats m 0 c).arrAt_eq_of_cover 13 (Keys (PV m c) (m ((c : Thread nD τ).loc main_arg7)) (m ((c : Thread nD τ).loc main_arg1)) (m ((c : Thread nD τ).loc main_arg2)) ((m ((c : Thread nD τ).loc main_arg8)) i)) (fun t _ => flushed13_eq m c t i hs) covered13

theorem final14 (c : Dev nD) (i : S_.Idx) (hs : (m ((c : Thread nD τ).loc main_arg9) : FVec Ideal S_ .f32) i ≠ (0 : EReal)) : (dats m 0 c).arrAt 14 cfg0.N = Values (PV m c) ((m ((c : Thread nD τ).loc main_arg9)) i) :=
  (dats m 0 c).arrAt_eq_of_cover 14 (Values (PV m c) ((m ((c : Thread nD τ).loc main_arg9)) i)) (fun t _ => flushed14_eq m c t i hs) covered14

/-- The scalars' one index. -/
def i0 : S_.Idx := fun a => a.elim0

/-- A scalar that compares unequal to zero is not zero. -/
theorem ne_zero (a : FVec Ideal S_ .f32) (h : cmpf .une a (constant S_ .f32 0x00000000#32) i0 = 1#1) : a i0 ≠ (0 : EReal) := by
  intro ha
  have e : cmpf .une a (constant S_ .f32 0x00000000#32) i0 = BitVec.ofBool (decide (a i0 ≠ (0 : EReal))) := by
    pointwise []
  rw [e, decide_eq_false (not_not.mpr ha)] at h
  exact absurd h (by decide)

/-- What the precondition says of the scalars: neither is zero. -/
theorem nonzero (hPre : Cert.Pre_nonzero_scales.Facts) (h : Cert.Pre_QkvIdeal_nonzero_scales (hPre_nonzero_scales := hPre) m) (c : Dev nD) :
    (m ((c : Thread nD τ).loc main_arg8) : FVec Ideal S_ .f32) i0 ≠ (0 : EReal) ∧ (m ((c : Thread nD τ).loc main_arg9) : FVec Ideal S_ .f32) i0 ≠ (0 : EReal) := by
  have both : ∀ x y : BitVec 1, x &&& y = 1#1 → x = 1#1 ∧ y = 1#1 := by decide
  have hc := both _ _ (congrFun (h c) i0)
  exact ⟨ne_zero _ hc.1, ne_zero _ hc.2⟩

/-- THE EQUATION: on any launch memory whose two scalars are not zero the kernel and the reference end with the same arrays. -/
theorem algebraic (hPre : Cert.Pre_nonzero_scales.Facts) :
    Cert.algebraic_QkvIdeal_QkvRefIdeal_pre_nonzero_scales (hQkvIdeal := Cert.QkvIdeal.Gen.facts) (hQkvRefIdeal := Cert.QkvRefIdeal.Gen.facts)
      (hPre_nonzero_scales := hPre) := by
  intro m ρ m' ρ' hp hag
  have hk := fun c => (nonzero m hPre hp c).1
  have hv := fun c => (nonzero m hPre hp c).2
  refine ⟨fun c => OprojValue.Codes (AV m c), fun c => Scales (AV m c), fun c => Queries (PV m c) (m ((c : Thread nD τ).loc main_arg6)) (m ((c : Thread nD τ).loc main_arg1)) (m ((c : Thread nD τ).loc main_arg2)), fun c => Keys (PV m c) (m ((c : Thread nD τ).loc main_arg7)) (m ((c : Thread nD τ).loc main_arg1)) (m ((c : Thread nD τ).loc main_arg2)) ((m ((c : Thread nD τ).loc main_arg8)) i0), fun c => Values (PV m c) ((m ((c : Thread nD τ).loc main_arg9)) i0), ?_, ?_⟩
  · exact (θ_run _ _ _).mono (fun _ h c => ⟨(h c).1.trans (final10 m c), (h c).2.1.trans (final11 m c), (h c).2.2.1.trans (final12 m c),
      (h c).2.2.2.1.trans (final13 m c i0 (hk c)), (h c).2.2.2.2.1.trans (final14 m c i0 (hv c)), (h c).2.2.2.2.2⟩) (Cert.QkvIdeal.Value.run_blocks m ρ)
  · refine (θ_run _ _ _).mono (fun _ h c => ⟨(h c).1.trans ?_, (h c).2.1.trans ?_, (h c).2.2.1.trans ?_, (h c).2.2.2.1.trans ?_, (h c).2.2.2.2.1.trans ?_, (h c).2.2.2.2.2⟩)
      (Cert.QkvRefIdeal.Value.run_blocks m' ρ')
    all_goals obtain ⟨e0, e1, e2, e3, e4, e5, e6, e7, e8, e9⟩ := hag c
    · refine (Ref.final10 m' c).trans ?_
      unfold Ref.AV
      rw [e0, e3]
    · refine (Ref.final11 m' c).trans ?_
      unfold Ref.AV
      rw [e0, e3]
    · refine (Ref.final12 m' c).trans ?_
      unfold Ref.PV Ref.AV
      rw [e0, e1, e2, e3, e4, e5, e6]
    · refine (Ref.final13 m' c i0).trans ?_
      unfold Ref.PV Ref.AV
      rw [e0, e1, e2, e3, e4, e5, e7, e8]
    · refine (Ref.final14 m' c i0).trans ?_
      unfold Ref.PV Ref.AV
      rw [e0, e3, e4, e5, e9]

end Cert.QkvValue

end
-- ==== Proof.OprojBlock.lean ====
/- The output projection at one grid point: the body's vector expressions over any operands, read at an element, and the
   body's printed expressions as these. -/
module

public import proofs.«01_k».proof.Proof.Gen.OprojIdeal.Value
public import proofs.«01_k».proof.Proof.OprojSpec

@[expose] public section

set_option maxRecDepth 16384

noncomputable section

namespace Cert.OprojValue

open Idealize.ShloMosaic Idealize.ShloMosaic.TcCoe Idealize.SL.Sem
open Cert.OprojIdeal Cert.OprojIdeal.Gen
open Cert.Quant Cert.Norm

/-! ## The body's vector expressions -/

/-- The heads side by side. -/
def heads (p : Fin 20 → FVec Ideal S1x256x128 .fp8e4m3) : FVec Ideal S256x2560 .fp8e4m3 :=
  concatenate S256x2560 1 (List.ofFn fun n : Fin 20 => ⟨S256x128, shapeCast S256x128 (p n) shapeCasts_S1x256x128_S256x128⟩)
    concatenates_S256x128_S256x128_S256x128_S256x128_S256x128_S256x128_S256x128_S256x128_S256x128_S256x128_S256x128_S256x128_S256x128_S256x128_S256x128_S256x128_S256x128_S256x128_S256x128_S256x128_S256x2560_d1

theorem heads_apply (p) (r : Fin 256) (k : Fin 2560) : heads p (ix2 r k) = p (head k) (ix3 0 r (lane k)) := by
  refine (concatenate_ofFn_apply (t := S256x2560) 1 (fun n => shapeCast S256x128 (p n) shapeCasts_S1x256x128_S256x128) _ rfl 128 rfl (ix2 r k)
    (head k) rfl (ix2 r (lane k)) rfl ?_).trans ?_
  · intro b hb
    match b with
    | ⟨0, _⟩ => rfl
    | ⟨1, _⟩ => exact absurd rfl hb
  · pointwise []

/-- 512 columns of the residual stream from the operands' columns. -/
def hidVec (s : FVec Ideal S256x1 .f32) (l : FVec Ideal S256x2560 .fp8e4m3) (x : FVec Ideal S256x512 .bf16) (w : FVec Ideal S2560x512 .fp8e4m3)
    (ws : FVec Ideal S1x512 .f32) : FVec Ideal S256x512 .f32 :=
  addf (extf .f32 x bitsLt_bf16_f32) (mulf (matmul dot_S256x2560_S2560x512_S256x512_1_0_0_1_n_n none l
    (shapeCast S2560x512 w shapeCasts_S2560x512_S2560x512) (constant S256x512 .f32 0x00000000#32))
    (mulf (broadcastTo S256x512 s broadcasts_S256x1_S256x512)
      (broadcastTo S256x512 (shapeCast S1x512 ws shapeCasts_S1x512_S1x512) broadcasts_S1x512_S256x512)))

theorem hidVec_apply (s l x w ws) (r : Fin 256) (q : Fin 512) :
    hidVec s l x w ws (ix2 r q) = x (ix2 r q) + (∑ k : Fin 2560, l (ix2 r k) * w (ix2 k q)) * (s (ix2 r 0) * ws (ix2 0 q)) := by
  pointwise [hidVec]

/-- 512 columns' squares added to the rows' sums. -/
def sqStep (a : FVec Ideal S256x1 .f32) (h : FVec Ideal S256x512 .f32) : FVec Ideal S256x1 .f32 :=
  addf a (shapeCast S256x1 (multiReduction .add [1] S256 (mulf h h) 0x00000000#32 reduces_S256x512_S256 (.inl rfl) rfl) shapeCasts_S256_S256x1)

theorem sqStep_apply (a h) (r : Fin 256) : sqStep a h (ix2 r 0) = a (ix2 r 0) + ∑ q : Fin 512, h (ix2 r q) * h (ix2 r q) := by
  pointwise [sqStep]

/-- The rows' sums of squares over ten column blocks. -/
def sqAll (h : Fin 10 → FVec Ideal S256x512 .f32) : FVec Ideal S256x1 .f32 :=
  sqStep (sqStep (sqStep (sqStep (sqStep (sqStep (sqStep (sqStep (sqStep (sqStep k0_pay16 (h 0)) (h 1)) (h 2)) (h 3)) (h 4)) (h 5)) (h 6)) (h 7)) (h 8)) (h 9)

theorem pay16_apply (r : Fin 256) : k0_pay16 (F := Ideal) (ix2 r 0) = 0 := by
  pointwise [k0_pay16]

theorem sum_ten {M : Type} [AddCommMonoid M] (f : Fin 10 → M) : f 0 + f 1 + f 2 + f 3 + f 4 + f 5 + f 6 + f 7 + f 8 + f 9 = ∑ p : Fin 10, f p := by
  simp only [Fin.sum_univ_castSucc, Fin.sum_univ_zero, zero_add]
  rfl

theorem sqAll_apply (h) (r : Fin 256) : sqAll h (ix2 r 0) = ∑ p : Fin 10, ∑ q : Fin 512, h p (ix2 r q) * h p (ix2 r q) := by
  unfold sqAll
  simp only [sqStep_apply, pay16_apply, zero_add]
  exact sum_ten fun p => ∑ q : Fin 512, h p (ix2 r q) * h p (ix2 r q)

/-- The normalised block. -/
def normVec (Q : FVec Ideal S256x1 .f32) (h : FVec Ideal S256x5120 .f32) (ln : FVec Ideal S1x5120 .f32) : FVec Ideal S256x5120 .f32 :=
  mulf (mulf (shapeCast S256x5120 h shapeCasts_S256x5120_S256x5120) (broadcastTo S256x5120 (divf (broadcast S256x1 (Scalar.ofBits .f32 0x3F800000#32))
    (sqrt (addf (divf Q (broadcast S256x1 (Scalar.ofBits .f32 0x45A00000#32))) (broadcast S256x1 (Scalar.ofBits .f32 0x358637BD#32)))))
    broadcasts_S256x1_S256x5120)) (broadcastTo S256x5120 (shapeCast S1x5120 ln shapeCasts_S1x5120_S1x5120) broadcasts_S1x5120_S256x5120)

theorem normVec_apply (Q h ln) (r : Fin 256) (C : Fin 5120) :
    normVec Q h ln (ix2 r C) = h (ix2 r C) * Ideal.div 1 (rootOf c5120 (Q (ix2 r 0))) * ln (ix2 0 C) := by
  unfold rootOf
  pointwise [normVec]

/-- The rows' largest magnitudes. -/
def maxVec (b : FVec Ideal S256x5120 .f32) : FVec Ideal S256x1 .f32 :=
  shapeCast S256x1 (multiReduction .maximumf [1] S256 (absf b) 0xFF800000#32 reduces_S256x5120_S256 (.inl rfl) rfl) shapeCasts_S256_S256x1

theorem maxVec_apply (b) (r : Fin 256) :
    maxVec b (ix2 r 0) = Finset.univ.fold max ⊥ fun C : Fin 5120 => max (b (ix2 r C)) (-(b (ix2 r C))) := by
  rw [← ofBits_neg_inf]
  pointwise [maxVec]
  rfl

/-- The rows' scales. -/
def scaleVec (M : FVec Ideal S256x1 .f32) : FVec Ideal S256x1 .f32 :=
  k0_pay1 M (cmpf .oeq M (broadcast S256x1 (Scalar.ofBits .f32 0x00000000#32))) (Scalar.ofBits .f32 0x43E00000#32)

theorem scaleVec_apply (M) (r : Fin 256) : scaleVec M (ix2 r 0) = scaleOf (M (ix2 r 0)) := by
  unfold scaleOf
  pointwise [scaleVec, k0_pay1]

/-- The scales as the block that is stored. -/
def scaleBlk (S : FVec Ideal S256x1 .f32) : FVec Ideal S1x1x256 .f32 := shapeCast S1x1x256 S shapeCasts_S256x1_S1x1x256

theorem scaleBlk_apply (S) (r : Fin 256) : scaleBlk S (ix3 0 0 r) = S (ix2 r 0) := by
  pointwise [scaleBlk]

/-- The block's codes. -/
def codeVec (b : FVec Ideal S256x5120 .f32) (S : FVec Ideal S256x1 .f32) : FVec Ideal S256x5120 .fp8e4m3 :=
  truncf .fp8e4m3 (minimumf (broadcast S256x5120 (Scalar.ofBits .f32 0x43E00000#32)) (maximumf (broadcast S256x5120 (Scalar.ofBits .f32 0xC3E00000#32))
    (mulf b (broadcastTo S256x5120 (divf (broadcast S256x1 (Scalar.ofBits .f32 0x3F800000#32)) S) broadcasts_S256x1_S256x5120)))) bitsLt_fp8e4m3_f32

theorem codeVec_apply (b S) (r : Fin 256) (C : Fin 5120) : codeVec b S (ix2 r C)
    = min (Ideal.ofBits .f32 0x43E00000#32) (max (Ideal.ofBits .f32 0xC3E00000#32) (b (ix2 r C) * Ideal.div 1 (S (ix2 r 0)))) := by
  pointwise [codeVec]

theorem scales_apply (s) (r : Fin 256) : k0_pay4 (F := Ideal) s (ix2 r 0) = s (ix3 0 0 r) := by
  pointwise [k0_pay4]

/-! ## The printed expressions -/

theorem pay15_eq (p : Fin 20 → FVec Ideal S1x256x128 .fp8e4m3) :
    k0_pay15 (F := Ideal) (k0_pay5 (p 0)) (k0_pay6 (p 1)) (k0_pay7 (p 2)) (k0_pay8 (p 3)) (k0_pay9 (p 4)) (k0_pay10 (p 5)) (k0_pay11 (p 6)) (k0_pay12 (p 7)) (k0_pay13 (p 8)) (k0_pay14 (p 9)) (p 10) (p 11) (p 12) (p 13) (p 14) (p 15) (p 16) (p 17) (p 18) (p 19) = heads p := by
  unfold k0_pay15 k0_pay5 k0_pay6 k0_pay7 k0_pay8 k0_pay9 k0_pay10 k0_pay11 k0_pay12 k0_pay13 k0_pay14 heads
  exact rfl

theorem pay19_eq (p : Fin 20 → FVec Ideal S1x256x128 .fp8e4m3) (s x w ws) :
    k0_pay19 (F := Ideal) s (k0_pay17 x) (k0_pay18 (k0_pay5 (p 0)) (k0_pay6 (p 1)) (k0_pay7 (p 2)) (k0_pay8 (p 3)) (k0_pay9 (p 4)) (k0_pay10 (p 5)) (k0_pay11 (p 6)) (k0_pay12 (p 7)) (k0_pay13 (p 8)) (k0_pay14 (p 9)) (p 10) (p 11) (p 12) (p 13) (p 14) (p 15) (p 16) (p 17) (p 18) (p 19) w) ws = hidVec s (heads p) x w ws := by
  rw [← pay15_eq p]
  unfold k0_pay19 k0_pay17 k0_pay18 hidVec
  exact rfl

theorem pay20_eq (s l x w ws) : k0_pay20 (F := Ideal) s l x w ws = hidVec s l x w ws := by
  unfold k0_pay20 hidVec
  exact rfl

theorem pay26_eq (s l x w ws) : k0_pay26 (F := Ideal) s l x w ws = hidVec s l x w ws := by
  unfold k0_pay26 hidVec
  exact rfl

theorem pay31_eq (s l x w ws) : k0_pay31 (F := Ideal) s l x w ws = hidVec s l x w ws := by
  unfold k0_pay31 hidVec
  exact rfl

theorem pay33_eq (s l x w ws) : k0_pay33 (F := Ideal) s l x w ws = hidVec s l x w ws := by
  unfold k0_pay33 hidVec
  exact rfl

theorem pay34_eq (s l x w ws) : k0_pay34 (F := Ideal) s l x w ws = hidVec s l x w ws := by
  unfold k0_pay34 hidVec
  exact rfl

theorem pay36_eq (s l x w ws) : k0_pay36 (F := Ideal) s l x w ws = hidVec s l x w ws := by
  unfold k0_pay36 hidVec
  exact rfl

theorem pay38_eq (s l x w ws) : k0_pay38 (F := Ideal) s l x w ws = hidVec s l x w ws := by
  unfold k0_pay38 hidVec
  exact rfl

theorem pay25_eq (s l x w ws) : k0_pay25 (F := Ideal) s (k0_pay22 x) (k0_pay23 l w) (k0_pay24 ws) = hidVec s l x w ws := by
  unfold k0_pay25 k0_pay22 k0_pay23 k0_pay24 hidVec
  exact rfl

theorem pay30_eq (s l x w ws) : k0_pay30 (F := Ideal) (k0_pay28 x) (k0_pay29 s l w ws) = hidVec s l x w ws := by
  unfold k0_pay30 k0_pay28 k0_pay29 hidVec
  exact rfl

theorem pay21_eq (s l a x m ws x' w' ws') :
    k0_pay21 (F := Ideal) s l a x m ws x' w' ws' = sqStep (sqStep a (k0_pay19 s x m ws)) (k0_pay20 s l x' w' ws') := by
  unfold k0_pay21 sqStep
  exact rfl

theorem pay27_eq (s l a x m ws x' w' ws') :
    k0_pay27 (F := Ideal) s l a x m ws x' w' ws' = sqStep (sqStep a (k0_pay25 s x m ws)) (k0_pay26 s l x' w' ws') := by
  unfold k0_pay27 sqStep
  exact rfl

theorem pay32_eq (s l a x m x' w' ws') :
    k0_pay32 (F := Ideal) s l a x m x' w' ws' = sqStep (sqStep a (k0_pay30 x m)) (k0_pay31 s l x' w' ws') := by
  unfold k0_pay32 sqStep
  exact rfl

theorem pay35_eq (s l a h x' w' ws') :
    k0_pay35 (F := Ideal) s l a h x' w' ws' = sqStep (sqStep a h) (k0_pay34 s l x' w' ws') := by
  unfold k0_pay35 sqStep
  exact rfl

theorem pay39_eq (s l a x w ws x' w' ws' h ln) :
    k0_pay39 (F := Ideal) s l a (k0_pay37 s l x w ws) x' w' ws' h ln
      = normVec (sqStep (sqStep a (k0_pay36 s l x w ws)) (k0_pay38 s l x' w' ws')) h ln := by
  unfold k0_pay39 k0_pay37 normVec sqStep
  exact rfl

theorem pay40_eq (s l a d x' w' ws' h ln) :
    k0_pay40 (F := Ideal) s l a d x' w' ws' h ln = maxVec (k0_pay39 s l a d x' w' ws' h ln) := by
  unfold k0_pay40 maxVec
  exact rfl

theorem pay41_eq (s l a d x' w' ws' h ln) :
    k0_pay41 (F := Ideal) s l a d x' w' ws' h ln
      = cmpf .oeq (k0_pay40 s l a d x' w' ws' h ln) (broadcast S256x1 (Scalar.ofBits .f32 0x00000000#32)) := by
  unfold k0_pay41
  exact rfl

theorem pay2_eq (M : FVec Ideal S256x1 .f32) :
    k0_pay2 (F := Ideal) M (cmpf .oeq M (broadcast S256x1 (Scalar.ofBits .f32 0x00000000#32))) (Scalar.ofBits .f32 0x43E00000#32)
      = scaleBlk (scaleVec M) := by
  unfold k0_pay2 scaleBlk scaleVec
  exact rfl

theorem pay3_eq (b : FVec Ideal S256x5120 .f32) (M : FVec Ideal S256x1 .f32) :
    k0_pay3 (F := Ideal) b M (cmpf .oeq M (broadcast S256x1 (Scalar.ofBits .f32 0x00000000#32))) (Scalar.ofBits .f32 0x43E00000#32)
      = codeVec b (scaleVec M) := by
  unfold k0_pay3 codeVec scaleVec
  exact rfl

/-! ## The body's parts of its blocks -/

theorem inb2 {a b c d o : ℕ} (h : a ≤ c) (h' : o + b ≤ d) : ∀ i, (![0, o] : Fin 2 → ℕ) i + (![a, b] : Fin 2 → ℕ) i ≤ (![c, d] : Fin 2 → ℕ) i := by
  intro i
  match i with
  | ⟨0, _⟩ => show 0 + a ≤ c; omega
  | ⟨1, _⟩ => exact h'

theorem inb3 {o : ℕ} (h : o < 20) : ∀ i, (![o, 0, 0] : Fin 3 → ℕ) i + (![1, 256, 128] : Fin 3 → ℕ) i ≤ (![20, 256, 128] : Fin 3 → ℕ) i := by
  intro i
  match i with
  | ⟨0, _⟩ => show o + 1 ≤ 20; omega
  | ⟨1, _⟩ => show 0 + 256 ≤ 256; omega
  | ⟨2, _⟩ => show 0 + 128 ≤ 128; omega

/-- The element in the first rows that column `q` of column block `p` is. -/
def ccol (p : Fin 10) (q : Fin 512) : Fin 5120 := ⟨p.val * 512 + q.val, by omega⟩

/-- Head `n` of the codes' block. -/
def cHead (x0 : FVec Ideal S20x256x128 .fp8e4m3) (n : Fin 20) : FVec Ideal S1x256x128 .fp8e4m3 :=
  View.ld (Val := Elt Ideal) (e' := .fp8e4m3) x0 (Rect.unit (s := S20x256x128) ![n.val, 0, 0] S1x256x128.size (inb3 n.isLt))

theorem cHead_apply (x0 n) (r : Fin 256) (k : Fin 128) : cHead x0 n (ix3 0 r k) = x0 (ix3 n r k) := by
  unfold cHead
  refine congrArg x0 (funext fun a => Fin.ext ?_)
  match a with
  | ⟨0, _⟩ => show n.val + 1 * 0 = n.val; omega
  | ⟨1, _⟩ => show 0 + 1 * r.val = r.val; omega
  | ⟨2, _⟩ => show 0 + 1 * k.val = k.val; omega

/-- Columns `p` of the weights' block. -/
def cW (x2 : FVec Ideal S2560x5120 .fp8e4m3) (p : Fin 10) : FVec Ideal S2560x512 .fp8e4m3 :=
  View.ld (Val := Elt Ideal) (e' := .fp8e4m3) x2 (Rect.unit (s := S2560x5120) ![0, p.val * 512] S2560x512.size (inb2 (by omega) (by omega)))

theorem cW_apply (x2 p) (k : Fin 2560) (q : Fin 512) : cW x2 p (ix2 k q) = x2 (ix2 k (ccol p q)) := by
  unfold cW
  refine congrArg x2 (funext fun a => Fin.ext ?_)
  match a with
  | ⟨0, _⟩ => show 0 + 1 * k.val = k.val; omega
  | ⟨1, _⟩ => show p.val * 512 + 1 * q.val = p.val * 512 + q.val; omega

/-- Columns `p` of the column scales. -/
def cS (x3 : FVec Ideal S1x5120 .f32) (p : Fin 10) : FVec Ideal S1x512 .f32 :=
  View.ld (Val := Elt Ideal) (e' := .f32) x3 (Rect.unit (s := S1x5120) ![0, p.val * 512] S1x512.size (inb2 (by omega) (by omega)))

theorem cS_apply (x3 p) (q : Fin 512) : cS x3 p (ix2 0 q) = x3 (ix2 0 (ccol p q)) := by
  unfold cS
  refine congrArg x3 (funext fun a => Fin.ext ?_)
  match a with
  | ⟨0, _⟩ => rfl
  | ⟨1, _⟩ => show p.val * 512 + 1 * q.val = p.val * 512 + q.val; omega

/-- Columns `p` of the residual input. -/
def cX (x4 : FVec Ideal S256x5120 .bf16) (p : Fin 10) : FVec Ideal S256x512 .bf16 :=
  View.ld (Val := Elt Ideal) (e' := .bf16) x4 (Rect.unit (s := S256x5120) ![0, p.val * 512] S256x512.size (inb2 (by omega) (by omega)))

theorem cX_apply (x4 p) (r : Fin 256) (q : Fin 512) : cX x4 p (ix2 r q) = x4 (ix2 r (ccol p q)) := by
  unfold cX
  refine congrArg x4 (funext fun a => Fin.ext ?_)
  match a with
  | ⟨0, _⟩ => show 0 + 1 * r.val = r.val; omega
  | ⟨1, _⟩ => show p.val * 512 + 1 * q.val = p.val * 512 + q.val; omega

section
variable (x0 : FVec Ideal S20x256x128 .fp8e4m3) (x1 : FVec Ideal S1x1x256 .f32) (x2 : FVec Ideal S2560x5120 .fp8e4m3)
  (x3 : FVec Ideal S1x5120 .f32) (x4 : FVec Ideal S256x5120 .bf16) (x5 : FVec Ideal S1x5120 .f32)

/-- Columns `p` of the residual stream. -/
def hid (p : Fin 10) : FVec Ideal S256x512 .f32 := hidVec (k0_pay4 x1) (heads (cHead x0)) (cX x4 p) (cW x2 p) (cS x3 p)

/-- An element of the residual stream's block. -/
def hAt (r : Fin 256) (C : Fin 5120) : EReal :=
  x4 (ix2 r C) + (∑ k : Fin 2560, x0 (ix3 (head k) r (lane k)) * x2 (ix2 k C)) * (x1 (ix3 0 0 r) * x3 (ix2 0 C))

theorem hid_apply (p : Fin 10) (r : Fin 256) (q : Fin 512) : hid x0 x1 x2 x3 x4 p (ix2 r q) = hAt x0 x1 x2 x3 x4 r (ccol p q) := by
  unfold hid hAt
  rw [hidVec_apply]
  simp only [heads_apply, cHead_apply, cX_apply, cW_apply, cS_apply, scales_apply]

/-- The ten stores of the residual stream's block, the last first. -/
def pieces : List (View.Piece (Elt Ideal) S256x5120 .f32) :=
  [ ⟨Rect.unit (s := S256x5120) ![0, 4608] S256x512.size (inb2 (by decide) (by decide)), hid x0 x1 x2 x3 x4 9⟩,
    ⟨Rect.unit (s := S256x5120) ![0, 4096] S256x512.size (inb2 (by decide) (by decide)), hid x0 x1 x2 x3 x4 8⟩,
    ⟨Rect.unit (s := S256x5120) ![0, 3584] S256x512.size (inb2 (by decide) (by decide)), hid x0 x1 x2 x3 x4 7⟩,
    ⟨Rect.unit (s := S256x5120) ![0, 3072] S256x512.size (inb2 (by decide) (by decide)), hid x0 x1 x2 x3 x4 6⟩,
    ⟨Rect.unit (s := S256x5120) ![0, 2560] S256x512.size (inb2 (by decide) (by decide)), hid x0 x1 x2 x3 x4 5⟩,
    ⟨Rect.unit (s := S256x5120) ![0, 2048] S256x512.size (inb2 (by decide) (by decide)), hid x0 x1 x2 x3 x4 4⟩,
    ⟨Rect.unit (s := S256x5120) ![0, 1536] S256x512.size (inb2 (by decide) (by decide)), hid x0 x1 x2 x3 x4 3⟩,
    ⟨Rect.unit (s := S256x5120) ![0, 1024] S256x512.size (inb2 (by decide) (by decide)), hid x0 x1 x2 x3 x4 2⟩,
    ⟨Rect.unit (s := S256x5120) ![0, 512] S256x512.size (inb2 (by decide) (by decide)), hid x0 x1 x2 x3 x4 1⟩,
    ⟨Rect.unit (s := S256x5120) ![0, 0] S256x512.size (inb2 (by decide) (by decide)), hid x0 x1 x2 x3 x4 0⟩ ]

theorem pieces_eq : View.canon (pieces x0 x1 x2 x3 x4) = fun y : S256x5120.Idx => hAt x0 x1 x2 x3 x4 (y 0) (y 1) := by
  funext y
  have key : ∀ (p : Fin 10) (o : ℕ) (ho : o = p.val * 512) (inb : ∀ a, (![0, o] : Fin 2 → ℕ) a + S256x512.size a ≤ S256x5120.size a) (j : S256x512.Idx),
      hid x0 x1 x2 x3 x4 p j = (fun y : S256x5120.Idx => hAt x0 x1 x2 x3 x4 (y 0) (y 1)) ((Rect.unit (s := S256x5120) ![0, o] S256x512.size inb).emb j) := by
    intro p o ho inb j
    obtain ⟨r, q, rfl⟩ : ∃ (r : Fin 256) (q : Fin 512), j = ix2 r q := ⟨j 0, j 1, eq_ix2 j⟩
    rw [hid_apply]
    refine congrArg₂ (hAt x0 x1 x2 x3 x4) (Fin.ext ?_) (Fin.ext ?_)
    · show r.val = 0 + 1 * r.val; omega
    · show p.val * 512 + q.val = o + 1 * q.val; omega
  refine View.canon_apply_of_pieces (Val := Elt Ideal) (fun y : S256x5120.Idx => hAt x0 x1 x2 x3 x4 (y 0) (y 1)) (pieces x0 x1 x2 x3 x4) ?_ y
    (View.cover_of_tiledL (pieces x0 x1 x2 x3 x4) S256x512.size (by sl_kernel_rfl) y)
  unfold pieces
  simp only [List.forall_mem_cons, List.not_mem_nil, false_imp_iff, implies_true, and_true]
  exact ⟨key 9 _ rfl _, key 8 _ rfl _, key 7 _ rfl _, key 6 _ rfl _, key 5 _ rfl _, key 4 _ rfl _, key 3 _ rfl _, key 2 _ rfl _, key 1 _ rfl _, key 0 _ rfl _⟩

/-- The normalised block. -/
def normBlk : FVec Ideal S256x5120 .f32 := normVec (sqAll (hid x0 x1 x2 x3 x4)) (View.canon (pieces x0 x1 x2 x3 x4)) x5

/-- An element of the normalised block. -/
def bAt (r : Fin 256) (C : Fin 5120) : EReal :=
  rms c5120 (∑ C : Fin 5120, hAt x0 x1 x2 x3 x4 r C * hAt x0 x1 x2 x3 x4 r C) (hAt x0 x1 x2 x3 x4 r C) (x5 (ix2 0 C))

theorem normBlk_apply (r : Fin 256) (C : Fin 5120) : normBlk x0 x1 x2 x3 x4 x5 (ix2 r C) = bAt x0 x1 x2 x3 x4 x5 r C := by
  unfold normBlk bAt
  rw [normVec_apply, pieces_eq, sqAll_apply]
  simp only [hid_apply]
  rw [sum_chunks (fun C => hAt x0 x1 x2 x3 x4 r C * hAt x0 x1 x2 x3 x4 r C), c5120_eq]
  exact rms_mul (by norm_num) (Finset.sum_nonneg fun _ _ => Finset.sum_nonneg fun _ _ => sq_nonneg _) _ _

/-- A row's scale. -/
def sAt (r : Fin 256) : EReal :=
  scaleOf (Finset.univ.fold max ⊥ fun C : Fin 5120 => max (bAt x0 x1 x2 x3 x4 x5 r C) (-(bAt x0 x1 x2 x3 x4 x5 r C)))

theorem scaleVec_norm (r : Fin 256) : scaleVec (maxVec (normBlk x0 x1 x2 x3 x4 x5)) (ix2 r 0) = sAt x0 x1 x2 x3 x4 x5 r := by
  unfold sAt
  rw [scaleVec_apply, maxVec_apply]
  simp only [normBlk_apply]

theorem scales_eq (r : Fin 256) : scaleBlk (scaleVec (maxVec (normBlk x0 x1 x2 x3 x4 x5))) (ix3 0 0 r) = sAt x0 x1 x2 x3 x4 x5 r := by
  rw [scaleBlk_apply, scaleVec_norm]

theorem codes_eq (r : Fin 256) (C : Fin 5120) : codeVec (normBlk x0 x1 x2 x3 x4 x5) (scaleVec (maxVec (normBlk x0 x1 x2 x3 x4 x5))) (ix2 r C)
    = codeOf (bAt x0 x1 x2 x3 x4 x5 r C) (sAt x0 x1 x2 x3 x4 x5 r) := by
  rw [codeVec_apply, scaleVec_norm, normBlk_apply]
  exact codeOf_mul _ _

end

end Cert.OprojValue

end
-- ==== Proof.OprojRefArray.lean ====
/- The output projection's reference: it runs at one point whose blocks are the whole arrays, so its arrays are its
   expressions of the arguments. -/
module

public import proofs.«01_k».proof.Proof.OprojSpec

@[expose] public section

set_option maxRecDepth 16384

noncomputable section

namespace Cert.OprojValue.Ref

open Idealize.ShloMosaic Idealize.ShloMosaic.TcCoe Idealize.SL.Sem
open Cert.OprojRefIdeal Cert.OprojRefIdeal.Gen
open Cert.Quant Cert.Norm

variable (m : (ℓ : Loc nD τ sig) → Buf (Elt Ideal) ℓ)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

theorem idx_zero0 : ∀ t : Fin cfg0.N, win0_0.index t (0 : Fin 2) = 0 ∧ win0_0.index t (1 : Fin 2) = 0 :=
  (by decide +kernel : ∀ t : Fin grid0.N, _)

theorem emb0 (t : Fin cfg0.N) (j : S6144x2560.Idx) : ((cfg0.win 0).blk t).view.emb j = j := by
  obtain ⟨e0, e1⟩ := idx_zero0 t
  funext a; apply Fin.ext
  match a with
  | ⟨0, _⟩ => show win0_0.index t (0 : Fin 2) * 6144 + 1 * (j 0).val = (j 0).val; omega
  | ⟨1, _⟩ => show win0_0.index t (1 : Fin 2) * 2560 + 1 * (j 1).val = (j 1).val; omega

theorem iblk0 (c : Dev nD) (t : Fin cfg0.N) : iblk m c 0 t = V m c main_v1 := by
  funext j; show V m c main_v1 (((cfg0.win 0).blk t).view.emb j) = V m c main_v1 j; rw [emb0]

theorem idx_zero1 : ∀ t : Fin cfg0.N, win0_1.index t (0 : Fin 1) = 0 :=
  (by decide +kernel : ∀ t : Fin grid0.N, _)

theorem emb1 (t : Fin cfg0.N) (j : S6144.Idx) : ((cfg0.win 1).blk t).view.emb j = j := by
  have e0 := idx_zero1 t
  funext a; apply Fin.ext
  match a with
  | ⟨0, _⟩ => show win0_1.index t (0 : Fin 1) * 6144 + 1 * (j 0).val = (j 0).val; omega

theorem iblk1 (c : Dev nD) (t : Fin cfg0.N) : iblk m c 1 t = V m c main_arg1 := by
  funext j; show V m c main_arg1 (((cfg0.win 1).blk t).view.emb j) = V m c main_arg1 j; rw [emb1]

theorem idx_zero2 : ∀ t : Fin cfg0.N, win0_2.index t (0 : Fin 2) = 0 ∧ win0_2.index t (1 : Fin 2) = 0 :=
  (by decide +kernel : ∀ t : Fin grid0.N, _)

theorem emb2 (t : Fin cfg0.N) (j : S2560x5120.Idx) : ((cfg0.win 2).blk t).view.emb j = j := by
  obtain ⟨e0, e1⟩ := idx_zero2 t
  funext a; apply Fin.ext
  match a with
  | ⟨0, _⟩ => show win0_2.index t (0 : Fin 2) * 2560 + 1 * (j 0).val = (j 0).val; omega
  | ⟨1, _⟩ => show win0_2.index t (1 : Fin 2) * 5120 + 1 * (j 1).val = (j 1).val; omega

theorem iblk2 (c : Dev nD) (t : Fin cfg0.N) : iblk m c 2 t = V m c main_v2 := by
  funext j; show V m c main_v2 (((cfg0.win 2).blk t).view.emb j) = V m c main_v2 j; rw [emb2]

theorem idx_zero3 : ∀ t : Fin cfg0.N, win0_3.index t (0 : Fin 1) = 0 :=
  (by decide +kernel : ∀ t : Fin grid0.N, _)

theorem emb3 (t : Fin cfg0.N) (j : S5120.Idx) : ((cfg0.win 3).blk t).view.emb j = j := by
  have e0 := idx_zero3 t
  funext a; apply Fin.ext
  match a with
  | ⟨0, _⟩ => show win0_3.index t (0 : Fin 1) * 5120 + 1 * (j 0).val = (j 0).val; omega

theorem iblk3 (c : Dev nD) (t : Fin cfg0.N) : iblk m c 3 t = V m c main_arg3 := by
  funext j; show V m c main_arg3 (((cfg0.win 3).blk t).view.emb j) = V m c main_arg3 j; rw [emb3]

theorem idx_zero4 : ∀ t : Fin cfg0.N, win0_4.index t (0 : Fin 2) = 0 ∧ win0_4.index t (1 : Fin 2) = 0 :=
  (by decide +kernel : ∀ t : Fin grid0.N, _)

theorem emb4 (t : Fin cfg0.N) (j : S6144x5120.Idx) : ((cfg0.win 4).blk t).view.emb j = j := by
  obtain ⟨e0, e1⟩ := idx_zero4 t
  funext a; apply Fin.ext
  match a with
  | ⟨0, _⟩ => show win0_4.index t (0 : Fin 2) * 6144 + 1 * (j 0).val = (j 0).val; omega
  | ⟨1, _⟩ => show win0_4.index t (1 : Fin 2) * 5120 + 1 * (j 1).val = (j 1).val; omega

theorem iblk4 (c : Dev nD) (t : Fin cfg0.N) : iblk m c 4 t = V m c main_arg4 := by
  funext j; show V m c main_arg4 (((cfg0.win 4).blk t).view.emb j) = V m c main_arg4 j; rw [emb4]

theorem idx_zero5 : ∀ t : Fin cfg0.N, win0_5.index t (0 : Fin 1) = 0 :=
  (by decide +kernel : ∀ t : Fin grid0.N, _)

theorem emb5 (t : Fin cfg0.N) (j : S5120.Idx) : ((cfg0.win 5).blk t).view.emb j = j := by
  have e0 := idx_zero5 t
  funext a; apply Fin.ext
  match a with
  | ⟨0, _⟩ => show win0_5.index t (0 : Fin 1) * 5120 + 1 * (j 0).val = (j 0).val; omega

theorem iblk5 (c : Dev nD) (t : Fin cfg0.N) : iblk m c 5 t = V m c main_arg5 := by
  funext j; show V m c main_arg5 (((cfg0.win 5).blk t).view.emb j) = V m c main_arg5 j; rw [emb5]

theorem idx_zero6 : ∀ t : Fin cfg0.N, win0_6.index t (0 : Fin 2) = 0 ∧ win0_6.index t (1 : Fin 2) = 0 :=
  (by decide +kernel : ∀ t : Fin grid0.N, _)

theorem emb6 (t : Fin cfg0.N) (j : S6144x5120.Idx) : ((cfg0.win 6).blk t).view.emb j = j := by
  obtain ⟨e0, e1⟩ := idx_zero6 t
  funext a; apply Fin.ext
  match a with
  | ⟨0, _⟩ => show win0_6.index t (0 : Fin 2) * 6144 + 1 * (j 0).val = (j 0).val; omega
  | ⟨1, _⟩ => show win0_6.index t (1 : Fin 2) * 5120 + 1 * (j 1).val = (j 1).val; omega

theorem covered6 (i : S6144x5120.Idx) : ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

theorem idx_zero7 : ∀ t : Fin cfg0.N, win0_7.index t (0 : Fin 2) = 0 ∧ win0_7.index t (1 : Fin 2) = 0 :=
  (by decide +kernel : ∀ t : Fin grid0.N, _)

theorem emb7 (t : Fin cfg0.N) (j : S6144x5120.Idx) : ((cfg0.win 7).blk t).view.emb j = j := by
  obtain ⟨e0, e1⟩ := idx_zero7 t
  funext a; apply Fin.ext
  match a with
  | ⟨0, _⟩ => show win0_7.index t (0 : Fin 2) * 6144 + 1 * (j 0).val = (j 0).val; omega
  | ⟨1, _⟩ => show win0_7.index t (1 : Fin 2) * 5120 + 1 * (j 1).val = (j 1).val; omega

theorem covered7 (i : S6144x5120.Idx) : ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

theorem idx_zero8 : ∀ t : Fin cfg0.N, win0_8.index t (0 : Fin 3) = 0 ∧ win0_8.index t (1 : Fin 3) = 0 ∧ win0_8.index t (2 : Fin 3) = 0 :=
  (by decide +kernel : ∀ t : Fin grid0.N, _)

theorem emb8 (t : Fin cfg0.N) (j : S24x1x256.Idx) : ((cfg0.win 8).blk t).view.emb j = j := by
  obtain ⟨e0, e1, e2⟩ := idx_zero8 t
  funext a; apply Fin.ext
  match a with
  | ⟨0, _⟩ => show win0_8.index t (0 : Fin 3) * 24 + 1 * (j 0).val = (j 0).val; omega
  | ⟨1, _⟩ => show win0_8.index t (1 : Fin 3) * 1 + 1 * (j 1).val = (j 1).val; omega
  | ⟨2, _⟩ => show win0_8.index t (2 : Fin 3) * 256 + 1 * (j 2).val = (j 2).val; omega

theorem covered8 (i : S24x1x256.Idx) : ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

theorem out6_eq (x0 x1 x2 x3 x4 x5) : out0_6 (F := Ideal) x0 x1 x2 x3 x4 x5 = k0_pay3 x0 x1 x2 x3 x4 := by
  unfold out0_6
  rw [View.canon_unit_zero hz2, View.ld_unit_zero (S := S6144x2560) hz2 _ x0, View.ld_unit_zero (S := S6144) hz1 _ x1, View.ld_unit_zero (S := S2560x5120) hz2 _ x2, View.ld_unit_zero (S := S5120) hz1 _ x3,
    View.ld_unit_zero (S := S6144x5120) hz2 _ x4]

theorem out7_eq (x0 x1 x2 x3 x4 x5) : out0_7 (F := Ideal) x0 x1 x2 x3 x4 x5
    = k0_pay1 (k0_pay6 x0 x1 x2 x3 x4 x5) (Scalar.ofBits .f32 0xC3E00000#32) (Scalar.ofBits .f32 0x43E00000#32) := by
  unfold out0_7
  rw [View.canon_unit_zero hz2, View.ld_unit_zero (S := S6144x2560) hz2 _ x0, View.ld_unit_zero (S := S6144) hz1 _ x1, View.ld_unit_zero (S := S2560x5120) hz2 _ x2, View.ld_unit_zero (S := S5120) hz1 _ x3,
    View.ld_unit_zero (S := S6144x5120) hz2 _ x4, View.ld_unit_zero (S := S5120) hz1 _ x5]

theorem out8_eq (x0 x1 x2 x3 x4 x5) : out0_8 (F := Ideal) x0 x1 x2 x3 x4 x5 = k0_pay2 (k0_pay5 x0 x1 x2 x3 x4 x5) := by
  unfold out0_8
  rw [View.canon_unit_zero hz3, View.ld_unit_zero (S := S6144x2560) hz2 _ x0, View.ld_unit_zero (S := S6144) hz1 _ x1, View.ld_unit_zero (S := S2560x5120) hz2 _ x2, View.ld_unit_zero (S := S5120) hz1 _ x3,
    View.ld_unit_zero (S := S6144x5120) hz2 _ x4, View.ld_unit_zero (S := S5120) hz1 _ x5]

/-- The host's operands are the arguments' heads side by side. -/
theorem flat (c : Dev nD) : Flat (V m c main_v1) (V m c main_v2) (m ((c : Thread nD τ).loc main_arg0)) (m ((c : Thread nD τ).loc main_arg2)) := by
  refine ⟨fun R k => ?_, fun k C => ?_⟩
  · unfold V hostOps0 head lane
    after_reads_at
  · unfold V hostOps0 head lane
    after_reads_at

/-- The residual stream of the argument arrays as launched. -/
abbrev HV (c : Dev nD) : Fin 6144 → Fin 5120 → EReal :=
  H (m ((c : Thread nD τ).loc main_arg0)) (m ((c : Thread nD τ).loc main_arg1)) (m ((c : Thread nD τ).loc main_arg2))
    (m ((c : Thread nD τ).loc main_arg3)) (m ((c : Thread nD τ).loc main_arg4))

/-- The normalised residual stream of the argument arrays as launched. -/
abbrev BV (c : Dev nD) : Fin 6144 → Fin 5120 → EReal := B (HV m c) (m ((c : Thread nD τ).loc main_arg5))

theorem flushed6 (c : Dev nD) (t : Fin cfg0.N) : (dats m 0 c).flushed 6 t = ((cfg0.win 6).blk t).view.read (Elt Ideal) (Hidden (HV m c)) := by
  rw [Cert.OprojRefIdeal.Value.flushed6, out6_eq, iblk0, iblk1, iblk2, iblk3, iblk4, V_main_arg1, V_main_arg3, V_main_arg4,
    ref_hidden (flat m c) _ _ _]
  funext j
  show Hidden (HV m c) j = Hidden (HV m c) (((cfg0.win 6).blk t).view.emb j)
  rw [emb6]

theorem final6 (c : Dev nD) : (dats m 0 c).arrAt 6 cfg0.N = Hidden (HV m c) :=
  (dats m 0 c).arrAt_eq_of_cover 6 (Hidden (HV m c)) (fun t _ => flushed6 m c t) covered6

theorem flushed7 (c : Dev nD) (t : Fin cfg0.N) : (dats m 0 c).flushed 7 t = ((cfg0.win 7).blk t).view.read (Elt Ideal) (Codes (BV m c)) := by
  rw [Cert.OprojRefIdeal.Value.flushed7, out7_eq, iblk0, iblk1, iblk2, iblk3, iblk4, iblk5, V_main_arg1, V_main_arg3, V_main_arg4, V_main_arg5,
    ref_codes (flat m c) _ _ _ _]
  funext j
  show Codes (BV m c) j = Codes (BV m c) (((cfg0.win 7).blk t).view.emb j)
  rw [emb7]

theorem final7 (c : Dev nD) : (dats m 0 c).arrAt 7 cfg0.N = Codes (BV m c) :=
  (dats m 0 c).arrAt_eq_of_cover 7 (Codes (BV m c)) (fun t _ => flushed7 m c t) covered7

theorem flushed8 (c : Dev nD) (t : Fin cfg0.N) : (dats m 0 c).flushed 8 t = ((cfg0.win 8).blk t).view.read (Elt Ideal) (Scales (BV m c)) := by
  rw [Cert.OprojRefIdeal.Value.flushed8, out8_eq, iblk0, iblk1, iblk2, iblk3, iblk4, iblk5, V_main_arg1, V_main_arg3, V_main_arg4, V_main_arg5,
    ref_scales (flat m c) _ _ _ _]
  funext j
  show Scales (BV m c) j = Scales (BV m c) (((cfg0.win 8).blk t).view.emb j)
  rw [emb8]

theorem final8 (c : Dev nD) : (dats m 0 c).arrAt 8 cfg0.N = Scales (BV m c) :=
  (dats m 0 c).arrAt_eq_of_cover 8 (Scales (BV m c)) (fun t _ => flushed8 m c t) covered8

end Cert.OprojValue.Ref

end
-- ==== Proof.OprojArray.lean ====
/- The output projection, the whole arrays: what a grid point writes back, the blocks it reads, the arrays that the
   write-backs make, the reference's arrays, and the equation. -/
module

public import proofs.«01_k».proof.Defs
public import proofs.«01_k».proof.Proof.OprojBlock
public import proofs.«01_k».proof.Proof.OprojRefArray
public import Idealize.ShloMosaic.Lib.StableHlo.ReadAt
public import Idealize.ShloMosaic.Lib.Pipeline.ValueKit.Acc

@[expose] public section

set_option maxRecDepth 16384

noncomputable section

namespace Cert.OprojValue

open Idealize.ShloMosaic Idealize.ShloMosaic.TcCoe Idealize.SL.Sem
open Cert.OprojIdeal Cert.OprojIdeal.Gen
open Cert.Quant Cert.Norm

variable (m : (ℓ : Loc nD τ sig) → Buf (Elt Ideal) ℓ)

/-! ## What a point writes back, over its blocks -/

theorem flushed6_blk (c : Dev nD) (t : Fin cfg0.N) :
    (dats m 0 c).flushed 6 t = View.canon (pieces (iblk m c 0 t) (iblk m c 1 t) (iblk m c 2 t) (iblk m c 3 t) (iblk m c 4 t)) := by
  rw [Cert.OprojIdeal.Value.flushed6_A]
  generalize iblk m c 0 t = x0
  generalize iblk m c 1 t = x1
  generalize iblk m c 2 t = x2
  generalize iblk m c 3 t = x3
  generalize iblk m c 4 t = x4
  generalize iblk m c 5 t = x5
  frame_out
  simp only [pay20_eq, pay25_eq, pay26_eq, pay30_eq, pay31_eq, pay33_eq, pay34_eq, pay36_eq, pay38_eq]
  unfold pieces hid
  rw [← pay19_eq (cHead x0) (k0_pay4 x1) (cX x4 0) (cW x2 0) (cS x3 0), ← pay15_eq (cHead x0)]
  rfl

/-- A load of the whole block of the residual stream, once its ten parts are stored. -/
theorem readBack (v : View sig .tc .vmem S256x5120 .f32) (x0 : FVec Ideal S20x256x128 .fp8e4m3) (x1 : FVec Ideal S1x1x256 .f32)
    (x2 : FVec Ideal S2560x5120 .fp8e4m3) (x3 : FVec Ideal S1x5120 .f32) (x4 : FVec Ideal S256x5120 .bf16) :
    v.readCov (pieces x0 x1 x2 x3 x4) (Rect.unit (s := S256x5120) ![0, 0] S256x5120.size inb_S256x5120_S256x5120_0_0).toLoadRect
      = View.canon (pieces x0 x1 x2 x3 x4) :=
  (View.readCov_eq_canon_ld v _ _ (View.cover_of_tiledL (pieces x0 x1 x2 x3 x4) S256x512.size (by sl_kernel_rfl))).trans
    (View.ld_unit_zero (by decide) _ _)

theorem flushed7_blk (c : Dev nD) (t : Fin cfg0.N) :
    (dats m 0 c).flushed 7 t = codeVec (normBlk (iblk m c 0 t) (iblk m c 1 t) (iblk m c 2 t) (iblk m c 3 t) (iblk m c 4 t) (iblk m c 5 t))
      (scaleVec (maxVec (normBlk (iblk m c 0 t) (iblk m c 1 t) (iblk m c 2 t) (iblk m c 3 t) (iblk m c 4 t) (iblk m c 5 t)))) := by
  rw [Cert.OprojIdeal.Value.flushed7_A]
  generalize iblk m c 0 t = x0
  generalize iblk m c 1 t = x1
  generalize iblk m c 2 t = x2
  generalize iblk m c 3 t = x3
  generalize iblk m c 4 t = x4
  generalize iblk m c 5 t = x5
  frame_out
  simp only [pay41_eq, pay3_eq, pay40_eq, pay39_eq, pay35_eq, pay32_eq, pay27_eq, pay21_eq,
    pay20_eq, pay25_eq, pay26_eq, pay30_eq, pay31_eq, pay33_eq, pay34_eq, pay36_eq, pay38_eq]
  unfold normBlk
  rw [← readBack (ms0_6 t).view]
  unfold sqAll pieces hid
  rw [← pay19_eq (cHead x0) (k0_pay4 x1) (cX x4 0) (cW x2 0) (cS x3 0), ← pay15_eq (cHead x0)]
  rfl

theorem flushed8_blk (c : Dev nD) (t : Fin cfg0.N) :
    (dats m 0 c).flushed 8 t = scaleBlk (scaleVec (maxVec (normBlk (iblk m c 0 t) (iblk m c 1 t) (iblk m c 2 t) (iblk m c 3 t) (iblk m c 4 t) (iblk m c 5 t)))) := by
  rw [Cert.OprojIdeal.Value.flushed8_A]
  generalize iblk m c 0 t = x0
  generalize iblk m c 1 t = x1
  generalize iblk m c 2 t = x2
  generalize iblk m c 3 t = x3
  generalize iblk m c 4 t = x4
  generalize iblk m c 5 t = x5
  frame_out
  simp only [pay41_eq, pay2_eq, pay40_eq, pay39_eq, pay35_eq, pay32_eq, pay27_eq, pay21_eq,
    pay20_eq, pay25_eq, pay26_eq, pay30_eq, pay31_eq, pay33_eq, pay34_eq, pay36_eq, pay38_eq]
  unfold normBlk
  rw [← readBack (ms0_6 t).view]
  unfold sqAll pieces hid
  rw [← pay19_eq (cHead x0) (k0_pay4 x1) (cX x4 0) (cW x2 0) (cS x3 0), ← pay15_eq (cHead x0)]
  rfl

/-! ## The blocks of the arguments -/

/-- Every window's block index at a point. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 3) = t.val ∧ win0_8.index t (1 : Fin 3) = 0 ∧ win0_8.index t (2 : Fin 3) = 0 :=
  (by decide +kernel : ∀ t : Fin grid0.N, _)

theorem lt_N (t : Fin cfg0.N) : t.val < 24 := t.isLt.trans_le (by decide)

/-- The row of the arrays that row `r` of point `t`'s block is. -/
def row (t : Fin cfg0.N) (r : Fin 256) : Fin 6144 := ⟨t.val * 256 + r.val, by have := lt_N t; omega⟩

/-- The row scales as the host reshapes them. -/
theorem V_scales (c : Dev nD) (p : Fin 24) (r : Fin 256) :
    (V m c main_v3 : FVec Ideal S24x1x256 .f32) (ix3 p 0 r) = (m ((c : Thread nD τ).loc main_arg1) : FVec Ideal S6144 .f32) (ix1 ⟨p.val * 256 + r.val, by omega⟩) := by
  unfold V hostOps0
  after_reads_at

/-- The weights as the host reshapes them. -/
theorem V_weights (c : Dev nD) (k : Fin 2560) (C : Fin 5120) :
    (V m c main_v2 : FVec Ideal S2560x5120 .fp8e4m3) (ix2 k C) = (m ((c : Thread nD τ).loc main_arg2) : FVec Ideal S20x128x5120 .fp8e4m3) (ix3 (head k) (lane k) C) := by
  unfold V hostOps0 head lane
  after_reads_at

/-- The column scales as the host reshapes them. -/
theorem V_colScales (c : Dev nD) (C : Fin 5120) :
    (V m c main_v1 : FVec Ideal S1x5120 .f32) (ix2 0 C) = (m ((c : Thread nD τ).loc main_arg3) : FVec Ideal S5120 .f32) (ix1 C) := by
  unfold V hostOps0
  after_reads_at

/-- The normalisation's weights as the host reshapes them. -/
theorem V_norm (c : Dev nD) (C : Fin 5120) :
    (V m c main_v0 : FVec Ideal S1x5120 .f32) (ix2 0 C) = (m ((c : Thread nD τ).loc main_arg5) : FVec Ideal S5120 .f32) (ix1 C) := by
  unfold V hostOps0
  after_reads_at

theorem blk0 (c : Dev nD) (t : Fin cfg0.N) (n : Fin 20) (r : Fin 256) (k : Fin 128) :
    (iblk m c 0 t : FVec Ideal S20x256x128 .fp8e4m3) (ix3 n r k)
      = (m ((c : Thread nD τ).loc main_arg0) : FVec Ideal S20x6144x128 .fp8e4m3) (ix3 n (row t r) k) := by
  obtain ⟨e0, e1, e2, -⟩ := idx_facts t
  show V m c main_arg0 (((cfg0.win 0).blk t).view.emb (ix3 n r k)) = _
  rw [V_main_arg0]
  refine congrArg _ (funext fun a => Fin.ext ?_)
  match a with
  | ⟨0, _⟩ => show win0_0.index t (0 : Fin 3) * 20 + 1 * n.val = n.val; omega
  | ⟨1, _⟩ => show win0_0.index t (1 : Fin 3) * 256 + 1 * r.val = t.val * 256 + r.val; omega
  | ⟨2, _⟩ => show win0_0.index t (2 : Fin 3) * 128 + 1 * k.val = k.val; omega

theorem blk1 (c : Dev nD) (t : Fin cfg0.N) (r : Fin 256) :
    (iblk m c 1 t : FVec Ideal S1x1x256 .f32) (ix3 0 0 r) = (m ((c : Thread nD τ).loc main_arg1) : FVec Ideal S6144 .f32) (ix1 (row t r)) := by
  obtain ⟨-, -, -, e0, e1, e2, -⟩ := idx_facts t
  refine Eq.trans ?_ (V_scales m c ⟨t.val, lt_N t⟩ r)
  show V m c main_v3 (((cfg0.win 1).blk t).view.emb (ix3 0 0 r)) = _
  refine congrArg _ (funext fun a => Fin.ext ?_)
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 256 + 1 * r.val = r.val; omega

theorem blk2 (c : Dev nD) (t : Fin cfg0.N) (k : Fin 2560) (C : Fin 5120) :
    (iblk m c 2 t : FVec Ideal S2560x5120 .fp8e4m3) (ix2 k C)
      = (m ((c : Thread nD τ).loc main_arg2) : FVec Ideal S20x128x5120 .fp8e4m3) (ix3 (head k) (lane k) C) := by
  obtain ⟨-, -, -, -, -, -, e0, e1, -⟩ := idx_facts t
  refine Eq.trans ?_ (V_weights m c k C)
  show V m c main_v2 (((cfg0.win 2).blk t).view.emb (ix2 k C)) = _
  refine congrArg _ (funext fun a => Fin.ext ?_)
  match a with
  | ⟨0, _⟩ => show win0_2.index t (0 : Fin 2) * 2560 + 1 * k.val = k.val; omega
  | ⟨1, _⟩ => show win0_2.index t (1 : Fin 2) * 5120 + 1 * C.val = C.val; omega

theorem blk3 (c : Dev nD) (t : Fin cfg0.N) (C : Fin 5120) :
    (iblk m c 3 t : FVec Ideal S1x5120 .f32) (ix2 0 C) = (m ((c : Thread nD τ).loc main_arg3) : FVec Ideal S5120 .f32) (ix1 C) := by
  obtain ⟨-, -, -, -, -, -, -, -, e0, e1, -⟩ := idx_facts t
  refine Eq.trans ?_ (V_colScales m c C)
  show V m c main_v1 (((cfg0.win 3).blk t).view.emb (ix2 0 C)) = _
  refine congrArg _ (funext fun a => Fin.ext ?_)
  match a with
  | ⟨0, _⟩ => show win0_3.index t (0 : Fin 2) * 1 + 1 * 0 = 0; omega
  | ⟨1, _⟩ => show win0_3.index t (1 : Fin 2) * 5120 + 1 * C.val = C.val; omega

theorem blk4 (c : Dev nD) (t : Fin cfg0.N) (r : Fin 256) (C : Fin 5120) :
    (iblk m c 4 t : FVec Ideal S256x5120 .bf16) (ix2 r C) = (m ((c : Thread nD τ).loc main_arg4) : FVec Ideal S6144x5120 .bf16) (ix2 (row t r) C) := by
  obtain ⟨-, -, -, -, -, -, -, -, -, -, e0, e1, -⟩ := idx_facts t
  show V m c main_arg4 (((cfg0.win 4).blk t).view.emb (ix2 r C)) = _
  rw [V_main_arg4]
  refine congrArg _ (funext fun a => Fin.ext ?_)
  match a with
  | ⟨0, _⟩ => show win0_4.index t (0 : Fin 2) * 256 + 1 * r.val = t.val * 256 + r.val; omega
  | ⟨1, _⟩ => show win0_4.index t (1 : Fin 2) * 5120 + 1 * C.val = C.val; omega

theorem blk5 (c : Dev nD) (t : Fin cfg0.N) (C : Fin 5120) :
    (iblk m c 5 t : FVec Ideal S1x5120 .f32) (ix2 0 C) = (m ((c : Thread nD τ).loc main_arg5) : FVec Ideal S5120 .f32) (ix1 C) := by
  obtain ⟨-, -, -, -, -, -, -, -, -, -, -, -, e0, e1, -⟩ := idx_facts t
  refine Eq.trans ?_ (V_norm m c C)
  show V m c main_v0 (((cfg0.win 5).blk t).view.emb (ix2 0 C)) = _
  refine congrArg _ (funext fun a => Fin.ext ?_)
  match a with
  | ⟨0, _⟩ => show win0_5.index t (0 : Fin 2) * 1 + 1 * 0 = 0; omega
  | ⟨1, _⟩ => show win0_5.index t (1 : Fin 2) * 5120 + 1 * C.val = C.val; omega

/-! ## The arrays -/

/-- The residual stream of the argument arrays as launched. -/
abbrev HV (c : Dev nD) : Fin 6144 → Fin 5120 → EReal :=
  H (m ((c : Thread nD τ).loc main_arg0)) (m ((c : Thread nD τ).loc main_arg1)) (m ((c : Thread nD τ).loc main_arg2))
    (m ((c : Thread nD τ).loc main_arg3)) (m ((c : Thread nD τ).loc main_arg4))

/-- The normalised residual stream of the argument arrays as launched. -/
abbrev BV (c : Dev nD) : Fin 6144 → Fin 5120 → EReal := B (HV m c) (m ((c : Thread nD τ).loc main_arg5))

theorem hAt_eq (c : Dev nD) (t : Fin cfg0.N) (r : Fin 256) (C : Fin 5120) :
    hAt (iblk m c 0 t) (iblk m c 1 t) (iblk m c 2 t) (iblk m c 3 t) (iblk m c 4 t) r C = HV m c (row t r) C := by
  unfold hAt HV H
  have e0 := blk0 m c t; have e1 := blk1 m c t; have e2 := blk2 m c t; have e3 := blk3 m c t; have e4 := blk4 m c t
  generalize iblk m c 0 t = x0 at *
  generalize iblk m c 1 t = x1 at *
  generalize iblk m c 2 t = x2 at *
  generalize iblk m c 3 t = x3 at *
  generalize iblk m c 4 t = x4 at *
  simp only [e0, e1, e2, e3, e4]

theorem bAt_eq (c : Dev nD) (t : Fin cfg0.N) (r : Fin 256) (C : Fin 5120) :
    bAt (iblk m c 0 t) (iblk m c 1 t) (iblk m c 2 t) (iblk m c 3 t) (iblk m c 4 t) (iblk m c 5 t) r C = BV m c (row t r) C := by
  unfold bAt BV B sumSq
  simp only [hAt_eq]
  exact congrArg _ (blk5 m c t C)

theorem sAt_eq (c : Dev nD) (t : Fin cfg0.N) (r : Fin 256) :
    sAt (iblk m c 0 t) (iblk m c 1 t) (iblk m c 2 t) (iblk m c 3 t) (iblk m c 4 t) (iblk m c 5 t) r = scaleOf (rowMax (BV m c) (row t r)) := by
  unfold sAt rowMax
  simp only [bAt_eq]

/-- An element of the residual stream's block at `t` in its array. -/
theorem emb6 (t : Fin cfg0.N) (j : S256x5120.Idx) : (((cfg0.win 6).blk t).view.emb j : S6144x5120.Idx) = ix2 (row t (j 0)) (j 1) := by
  obtain ⟨-, -, -, -, -, -, -, -, -, -, -, -, -, -, e0, e1, -⟩ := idx_facts t
  funext a; apply Fin.ext
  match a with
  | ⟨0, _⟩ => show win0_6.index t (0 : Fin 2) * 256 + 1 * (j 0).val = t.val * 256 + (j 0).val; omega
  | ⟨1, _⟩ => show win0_6.index t (1 : Fin 2) * 5120 + 1 * (j 1).val = (j 1).val; omega

/-- An element of the codes' block at `t` in its array. -/
theorem emb7 (t : Fin cfg0.N) (j : S256x5120.Idx) : (((cfg0.win 7).blk t).view.emb j : S6144x5120.Idx) = ix2 (row t (j 0)) (j 1) := by
  obtain ⟨-, -, -, -, -, -, -, -, -, -, -, -, -, -, -, -, e0, e1, -⟩ := idx_facts t
  funext a; apply Fin.ext
  match a with
  | ⟨0, _⟩ => show win0_7.index t (0 : Fin 2) * 256 + 1 * (j 0).val = t.val * 256 + (j 0).val; omega
  | ⟨1, _⟩ => show win0_7.index t (1 : Fin 2) * 5120 + 1 * (j 1).val = (j 1).val; omega

/-- An element of the scales' block at `t` in its array. -/
theorem emb8 (t : Fin cfg0.N) (j : S1x1x256.Idx) : (((cfg0.win 8).blk t).view.emb j : S24x1x256.Idx) = ix3 ⟨t.val, lt_N t⟩ 0 (j 2) := by
  obtain ⟨-, -, -, -, -, -, -, -, -, -, -, -, -, -, -, -, -, -, e0, e1, e2⟩ := idx_facts t
  have h0 : (j 0).val < 1 := (j 0).isLt
  have h1 : (j 1).val < 1 := (j 1).isLt
  funext a; apply Fin.ext
  match a with
  | ⟨0, _⟩ => show win0_8.index t (0 : Fin 3) * 1 + 1 * (j 0).val = t.val; omega
  | ⟨1, _⟩ => show win0_8.index t (1 : Fin 3) * 1 + 1 * (j 1).val = 0; omega
  | ⟨2, _⟩ => show win0_8.index t (2 : Fin 3) * 256 + 1 * (j 2).val = (j 2).val; omega

theorem flushed6_eq (c : Dev nD) (t : Fin cfg0.N) : (dats m 0 c).flushed 6 t = ((cfg0.win 6).blk t).view.read (Elt Ideal) (Hidden (HV m c)) := by
  rw [flushed6_blk, pieces_eq]
  funext j
  show hAt (iblk m c 0 t) (iblk m c 1 t) (iblk m c 2 t) (iblk m c 3 t) (iblk m c 4 t) (j 0) (j 1) = Hidden (HV m c) (((cfg0.win 6).blk t).view.emb j)
  rw [emb6]
  exact hAt_eq m c t (j 0) (j 1)

theorem flushed7_eq (c : Dev nD) (t : Fin cfg0.N) : (dats m 0 c).flushed 7 t = ((cfg0.win 7).blk t).view.read (Elt Ideal) (Codes (BV m c)) := by
  rw [flushed7_blk]
  funext j
  obtain ⟨r, C, rfl⟩ : ∃ (r : Fin 256) (C : Fin 5120), j = ix2 r C := ⟨j 0, j 1, eq_ix2 j⟩
  refine (codes_eq _ _ _ _ _ _ r C).trans ?_
  show _ = Codes (BV m c) (((cfg0.win 7).blk t).view.emb (ix2 r C))
  rw [emb7]
  exact congrArg₂ codeOf (bAt_eq m c t r C) (sAt_eq m c t r)

theorem flushed8_eq (c : Dev nD) (t : Fin cfg0.N) : (dats m 0 c).flushed 8 t = ((cfg0.win 8).blk t).view.read (Elt Ideal) (Scales (BV m c)) := by
  rw [flushed8_blk]
  funext j
  obtain ⟨r, rfl⟩ : ∃ r : Fin 256, j = ix3 0 0 r :=
    ⟨j 2, (eq_ix3 j).trans (congrArg₂ (fun x y => ix3 x y (j 2)) (Subsingleton.elim (α := Fin 1) _ _) (Subsingleton.elim (α := Fin 1) _ _))⟩
  refine (scales_eq _ _ _ _ _ _ r).trans ?_
  show _ = Scales (BV m c) (((cfg0.win 8).blk t).view.emb (ix3 0 0 r))
  rw [emb8]
  exact sAt_eq m c t r

/-- The point whose block holds row `R`. -/
def point (R : Fin 6144) : Fin cfg0.N := ⟨R.val / 256, by show _ < 24; omega⟩

theorem row_point (R : Fin 6144) : row (point R) ⟨R.val % 256, by omega⟩ = R :=
  Fin.ext (by show R.val / 256 * 256 + R.val % 256 = R.val; omega)

theorem covered6 (i : S6144x5120.Idx) : ∃ t : Fin cfg0.N, (cfg0.win 6).flush t = true ∧ i ∈ ((cfg0.win 6).blk t).view.set := by
  refine ⟨point (i 0), flush0_6 _, ?_⟩
  have h := ((cfg0.win 6).blk (point (i 0))).view.emb_mem_set (ix2 ⟨(i 0).val % 256, by omega⟩ (i 1) : S256x5120.Idx)
  rw [emb6] at h
  refine (congrArg (· ∈ ((cfg0.win 6).blk (point (i 0))).view.set) (?_ : i = _)).mpr h
  exact (eq_ix2 i).trans (congrArg (fun x => ix2 x (i 1)) (row_point (i 0)).symm)

theorem covered7 (i : S6144x5120.Idx) : ∃ t : Fin cfg0.N, (cfg0.win 7).flush t = true ∧ i ∈ ((cfg0.win 7).blk t).view.set := by
  refine ⟨point (i 0), flush0_7 _, ?_⟩
  have h := ((cfg0.win 7).blk (point (i 0))).view.emb_mem_set (ix2 ⟨(i 0).val % 256, by omega⟩ (i 1) : S256x5120.Idx)
  rw [emb7] at h
  refine (congrArg (· ∈ ((cfg0.win 7).blk (point (i 0))).view.set) (?_ : i = _)).mpr h
  exact (eq_ix2 i).trans (congrArg (fun x => ix2 x (i 1)) (row_point (i 0)).symm)

theorem covered8 (i : S24x1x256.Idx) : ∃ t : Fin cfg0.N, (cfg0.win 8).flush t = true ∧ i ∈ ((cfg0.win 8).blk t).view.set := by
  have h0 : (i 0).val < 24 := (i 0).isLt
  refine ⟨⟨(i 0).val, h0⟩, flush0_8 _, ?_⟩
  have h := ((cfg0.win 8).blk ⟨(i 0).val, h0⟩).view.emb_mem_set (ix3 0 0 (i 2) : S1x1x256.Idx)
  rw [emb8] at h
  refine (congrArg (· ∈ ((cfg0.win 8).blk ⟨(i 0).val, h0⟩).view.set) (?_ : i = _)).mpr h
  exact (eq_ix3 i).trans (congrArg (fun x => ix3 (i 0) x (i 2)) (Subsingleton.elim (α := Fin 1) _ _))

theorem final6 (c : Dev nD) : (dats m 0 c).arrAt 6 cfg0.N = Hidden (HV m c) :=
  (dats m 0 c).arrAt_eq_of_cover 6 (Hidden (HV m c)) (fun t _ => flushed6_eq m c t) covered6

theorem final7 (c : Dev nD) : (dats m 0 c).arrAt 7 cfg0.N = Codes (BV m c) :=
  (dats m 0 c).arrAt_eq_of_cover 7 (Codes (BV m c)) (fun t _ => flushed7_eq m c t) covered7

theorem final8 (c : Dev nD) : (dats m 0 c).arrAt 8 cfg0.N = Scales (BV m c) :=
  (dats m 0 c).arrAt_eq_of_cover 8 (Scales (BV m c)) (fun t _ => flushed8_eq m c t) covered8

/-- THE EQUATION: on any launch memory the kernel and the reference end with the same arrays. -/
theorem algebraic : Cert.algebraic_OprojIdeal_OprojRefIdeal (hOprojIdeal := Cert.OprojIdeal.Gen.facts) (hOprojRefIdeal := Cert.OprojRefIdeal.Gen.facts) := by
  intro m ρ m' ρ' _ hag
  refine ⟨fun c => Hidden (HV m c), fun c => Codes (BV m c), fun c => Scales (BV m c), ?_, ?_⟩
  · exact (θ_run _ _ _).mono (fun _ h c => ⟨(h c).1.trans (final6 m c), (h c).2.1.trans (final7 m c), (h c).2.2.1.trans (final8 m c), (h c).2.2.2⟩)
      (Cert.OprojIdeal.Value.run_blocks m ρ)
  · refine (θ_run _ _ _).mono (fun _ h c => ⟨(h c).1.trans ?_, (h c).2.1.trans ?_, (h c).2.2.1.trans ?_, (h c).2.2.2⟩) (Cert.OprojRefIdeal.Value.run_blocks m' ρ')
    all_goals obtain ⟨e0, e1, e2, e3, e4, e5⟩ := hag c
    · refine (Ref.final6 m' c).trans ?_
      unfold Ref.HV
      rw [e0, e1, e2, e3, e4]
    · refine (Ref.final7 m' c).trans ?_
      unfold Ref.BV Ref.HV
      rw [e0, e1, e2, e3, e4, e5]
    · refine (Ref.final8 m' c).trans ?_
      unfold Ref.BV Ref.HV
      rw [e0, e1, e2, e3, e4, e5]

end Cert.OprojValue

end
-- ==== Proof.GateUpBody.lean ====
/- What the gate/up kernel's body does at one grid point, on memrefs of any contents: one triple for each of the four
   kinds of point (first or later column block; a row block to compute, or only the previous one's codes to write).
   Every stored value is named by the printed payload that stores it. -/
module

public import proofs.«01_k».proof.Proof.Gen.GateUp.Frame
public import proofs.«01_k».proof.Proof.Gen.GateUp.Skeleton
public import Idealize.ShloMosaic.Lib.Pipeline.Frame
public import Idealize.ShloMosaic.Lib.Pipeline.Value
public import Idealize.ShloMosaic.Lib.Tactic
public import Idealize.ShloMosaic.Lib.VecWindow

@[expose] public section

set_option maxRecDepth 16384

noncomputable section

namespace Cert.GateUp.Hand

open Cert.GateUp Cert.GateUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)

variable {F : FTy → Type} [FloatOps F]

local notation "𝕄" => MT nD τ sig Unit (Elt F) ℕ (UR sig nD τ) ℕ

/-- The part of the activation scratch that the body reads at a point: one column block of 512 rows. -/
abbrev slab (i : grid0.Coords) : Rect S17x512x512 := Rect.unit (s := S17x512x512) (k0_off1 i) S1x512x512.size (k0_off1_inb i)

set_option maxHeartbeats 1000000 in
/-- The body at the first column block of a row block that is computed: the previous row block's maxima become its scale, the running
    maximum restarts from zero. -/
theorem run_start_compute (c : Dev nD) (E : Set ℕ) (i : grid0.Coords)
    (arg2 : Memref sig .tc .vmem S512x5120 .fp8e4m3) (harg2 : arg2.IsWhole) (arg3 : Memref sig .tc .vmem S1x1x512 .f32) (harg3 : arg3.IsWhole)
    (arg4 : Memref sig .tc .vmem S5120x512 .fp8e4m3) (harg4 : arg4.IsWhole) (arg5 : Memref sig .tc .vmem S5120x512 .fp8e4m3) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S512x512 .fp8e4m3) (harg8 : arg8.IsWhole) (arg9 : Memref sig .tc .vmem S1x1x512 .f32) (harg9 : arg9.IsWhole)
    (arg10 : Memref sig .tc .vmem S17x512x512 .f32) (harg10 : arg10.IsWhole) (arg11 : Memref sig .tc .vmem S512x1 .f32) (harg11 : arg11.IsWhole)
    (arg12 : Memref sig .tc .vmem S512x1 .f32) (harg12 : arg12.IsWhole)
    (h1 : k0_cond1 i = 1#1) (h2 : k0_cond2 i = 1#1)
    (x2 : Vec F S512x5120 .fp8e4m3) (x3 : Vec F S1x1x512 .f32) (x4 x5 : Vec F S5120x512 .fp8e4m3) (x6 x7 : Vec F S1x512 .f32)
    (x8 : Vec F S512x512 .fp8e4m3) (x9 : Vec F S1x1x512 .f32) (x10 : Vec F S17x512x512 .f32) (x11 x12 : Vec F S512x1 .f32) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare x8 ∗ owns (c : Thread nD τ) arg9 fullShare x9 ∗ owns (c : Thread nD τ) arg10 fullShare x10
        ∗ owns (c : Thread nD τ) arg11 fullShare x11 ∗ owns (c : Thread nD τ) arg12 fullShare x12
        ∗ (iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare (k0_pay5 (View.ld x10 (slab i)) (k0_pay2 x11)) ∗ owns (c : Thread nD τ) arg9 fullShare (k0_pay3 x11) ∗ owns (c : Thread nD τ) arg10 fullShare (VecWindow.put x10 (k0_off2 i) S1x512x512.size (k0_pay8 x3 x2 x4 x6 x2 x5 x7))
        ∗ owns (c : Thread nD τ) arg11 fullShare (k0_pay6 (k0_pay9 x3 x2 x4 x6 x2 x5 x7 k0_pay4)) ∗ owns (c : Thread nD τ) arg12 fullShare (k0_pay2 x11)) -∗ K ⟨⟩))
      ⊢ wp frame (wpE (defs₀ (F := F)) Variants.none c none) E (cc0_gateup i arg2 harg2 arg3 harg3 arg4 harg4 arg5 harg5 arg6 harg6 arg7 harg7 arg8 harg8 arg9 harg9
          arg10 harg10 arg11 harg11 arg12 harg12) K := by
  simp only [cc0_gateup_eq_skeleton]; unfold cc0_gateup_skel
  simp only [h1, h2, ↓reduceDIte, k0_part1_eq_skeleton]
  unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf2 hf3 hf4 hf5 hf6 hf7 hf8 hf9 hf10 hf11 hf12
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_full _ _ _ _ _).trans ?_
    unfold run_start_compute.sl.v6 run_start_compute.sl.H12_1
    rw [View.readCov_full]
    repeat rw [View.readAt_full]
    rfl
  isplitl [H9]
  · iexists _; isplitr
    swap; · iexact H9
    ipureintro
    refine (View.read_writes_full _ _ _ _ _).trans ?_
    repeat rw [View.readAt_full]
  isplitl [H10]
  · iexists _; isplitr
    swap; · iexact H10
    ipureintro
    refine (View.read_writes_cons_put _ _ _ _ _ rfl).trans ?_
    repeat rw [View.readAt_full]
    rfl
  isplitl [H11]
  · iexists _; isplitr
    swap; · iexact H11
    ipureintro
    refine (View.read_writes_full _ _ _ _ _).trans ?_
    unfold run_start_compute.sl.v46 run_start_compute.sl.H11_1
    rw [View.readCov_full]
    repeat rw [View.readAt_full]
  iexists _; isplitr
  swap; · iexact H12
  ipureintro
  unfold run_start_compute.sl.H12_1
  refine (View.read_writes_full _ _ _ _ _).trans ?_
  repeat rw [View.readAt_full]

set_option maxHeartbeats 1000000 in
/-- The body at the first column block after the last row block: the last row block's maxima become its scale, nothing is computed. -/
theorem run_start_drain (c : Dev nD) (E : Set ℕ) (i : grid0.Coords)
    (arg2 : Memref sig .tc .vmem S512x5120 .fp8e4m3) (harg2 : arg2.IsWhole) (arg3 : Memref sig .tc .vmem S1x1x512 .f32) (harg3 : arg3.IsWhole)
    (arg4 : Memref sig .tc .vmem S5120x512 .fp8e4m3) (harg4 : arg4.IsWhole) (arg5 : Memref sig .tc .vmem S5120x512 .fp8e4m3) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S512x512 .fp8e4m3) (harg8 : arg8.IsWhole) (arg9 : Memref sig .tc .vmem S1x1x512 .f32) (harg9 : arg9.IsWhole)
    (arg10 : Memref sig .tc .vmem S17x512x512 .f32) (harg10 : arg10.IsWhole) (arg11 : Memref sig .tc .vmem S512x1 .f32) (harg11 : arg11.IsWhole)
    (arg12 : Memref sig .tc .vmem S512x1 .f32) (harg12 : arg12.IsWhole)
    (h1 : k0_cond1 i = 1#1) (h2 : ¬ k0_cond2 i = 1#1)
    (x2 : Vec F S512x5120 .fp8e4m3) (x3 : Vec F S1x1x512 .f32) (x4 x5 : Vec F S5120x512 .fp8e4m3) (x6 x7 : Vec F S1x512 .f32)
    (x8 : Vec F S512x512 .fp8e4m3) (x9 : Vec F S1x1x512 .f32) (x10 : Vec F S17x512x512 .f32) (x11 x12 : Vec F S512x1 .f32) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare x8 ∗ owns (c : Thread nD τ) arg9 fullShare x9 ∗ owns (c : Thread nD τ) arg10 fullShare x10
        ∗ owns (c : Thread nD τ) arg11 fullShare x11 ∗ owns (c : Thread nD τ) arg12 fullShare x12
        ∗ (iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare (k0_pay5 (View.ld x10 (slab i)) (k0_pay2 x11)) ∗ owns (c : Thread nD τ) arg9 fullShare (k0_pay3 x11) ∗ owns (c : Thread nD τ) arg10 fullShare x10
        ∗ owns (c : Thread nD τ) arg11 fullShare k0_pay4 ∗ owns (c : Thread nD τ) arg12 fullShare (k0_pay2 x11)) -∗ K ⟨⟩))
      ⊢ wp frame (wpE (defs₀ (F := F)) Variants.none c none) E (cc0_gateup i arg2 harg2 arg3 harg3 arg4 harg4 arg5 harg5 arg6 harg6 arg7 harg7 arg8 harg8 arg9 harg9
          arg10 harg10 arg11 harg11 arg12 harg12) K := by
  simp only [cc0_gateup_eq_skeleton]; unfold cc0_gateup_skel
  simp only [h1, h2, ↓reduceDIte, k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf2 hf3 hf4 hf5 hf6 hf7 hf8 hf9 hf10 hf11 hf12
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_full _ _ _ _ _).trans ?_
    unfold run_start_drain.sl.v6 run_start_drain.sl.H12_1
    rw [View.readCov_full]
    repeat rw [View.readAt_full]
    rfl
  isplitl [H9]
  · iexists _; isplitr
    swap; · iexact H9
    ipureintro
    refine (View.read_writes_full _ _ _ _ _).trans ?_
    repeat rw [View.readAt_full]
  isplitl [H10]
  · iexists f10; isplitr; · ipureintro; rfl
    iexact H10
  isplitl [H11]
  · iexists _; isplitr
    swap; · iexact H11
    ipureintro
    refine (View.read_writes_full _ _ _ _ _).trans ?_
    repeat rw [View.readAt_full]
    rfl
  iexists _; isplitr
  swap; · iexact H12
  ipureintro
  unfold run_start_drain.sl.H12_1
  refine (View.read_writes_full _ _ _ _ _).trans ?_
  repeat rw [View.readAt_full]

set_option maxHeartbeats 1000000 in
/-- The body at a later column block of a row block that is computed. -/
theorem run_next_compute (c : Dev nD) (E : Set ℕ) (i : grid0.Coords)
    (arg2 : Memref sig .tc .vmem S512x5120 .fp8e4m3) (harg2 : arg2.IsWhole) (arg3 : Memref sig .tc .vmem S1x1x512 .f32) (harg3 : arg3.IsWhole)
    (arg4 : Memref sig .tc .vmem S5120x512 .fp8e4m3) (harg4 : arg4.IsWhole) (arg5 : Memref sig .tc .vmem S5120x512 .fp8e4m3) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S512x512 .fp8e4m3) (harg8 : arg8.IsWhole) (arg9 : Memref sig .tc .vmem S1x1x512 .f32) (harg9 : arg9.IsWhole)
    (arg10 : Memref sig .tc .vmem S17x512x512 .f32) (harg10 : arg10.IsWhole) (arg11 : Memref sig .tc .vmem S512x1 .f32) (harg11 : arg11.IsWhole)
    (arg12 : Memref sig .tc .vmem S512x1 .f32) (harg12 : arg12.IsWhole)
    (h1 : ¬ k0_cond1 i = 1#1) (h2 : k0_cond2 i = 1#1)
    (x2 : Vec F S512x5120 .fp8e4m3) (x3 : Vec F S1x1x512 .f32) (x4 x5 : Vec F S5120x512 .fp8e4m3) (x6 x7 : Vec F S1x512 .f32)
    (x8 : Vec F S512x512 .fp8e4m3) (x9 : Vec F S1x1x512 .f32) (x10 : Vec F S17x512x512 .f32) (x11 x12 : Vec F S512x1 .f32) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare x8 ∗ owns (c : Thread nD τ) arg9 fullShare x9 ∗ owns (c : Thread nD τ) arg10 fullShare x10
        ∗ owns (c : Thread nD τ) arg11 fullShare x11 ∗ owns (c : Thread nD τ) arg12 fullShare x12
        ∗ (iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare (k0_pay5 (View.ld x10 (slab i)) x12) ∗ owns (c : Thread nD τ) arg9 fullShare x9 ∗ owns (c : Thread nD τ) arg10 fullShare (VecWindow.put x10 (k0_off2 i) S1x512x512.size (k0_pay8 x3 x2 x4 x6 x2 x5 x7))
        ∗ owns (c : Thread nD τ) arg11 fullShare (k0_pay6 (k0_pay9 x3 x2 x4 x6 x2 x5 x7 x11)) ∗ owns (c : Thread nD τ) arg12 fullShare x12) -∗ K ⟨⟩))
      ⊢ wp frame (wpE (defs₀ (F := F)) Variants.none c none) E (cc0_gateup i arg2 harg2 arg3 harg3 arg4 harg4 arg5 harg5 arg6 harg6 arg7 harg7 arg8 harg8 arg9 harg9
          arg10 harg10 arg11 harg11 arg12 harg12) K := by
  simp only [cc0_gateup_eq_skeleton]; unfold cc0_gateup_skel
  simp only [h1, h2, ↓reduceDIte, k0_part1_eq_skeleton]
  unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf2 hf3 hf4 hf5 hf6 hf7 hf8 hf9 hf10 hf11 hf12
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_full _ _ _ _ _).trans ?_
    repeat rw [View.readAt_full]
    rfl
  isplitl [H9]
  · iexists f9; isplitr; · ipureintro; rfl
    iexact H9
  isplitl [H10]
  · iexists _; isplitr
    swap; · iexact H10
    ipureintro
    refine (View.read_writes_cons_put _ _ _ _ _ rfl).trans ?_
    repeat rw [View.readAt_full]
    rfl
  isplitl [H11]
  · iexists _; isplitr
    swap; · iexact H11
    ipureintro
    refine (View.read_writes_full _ _ _ _ _).trans ?_
    repeat rw [View.readAt_full]
  iexists f12; isplitr; · ipureintro; rfl
  iexact H12

set_option maxHeartbeats 1000000 in
/-- The body at a later column block after the last row block: only the codes are written. -/
theorem run_next_drain (c : Dev nD) (E : Set ℕ) (i : grid0.Coords)
    (arg2 : Memref sig .tc .vmem S512x5120 .fp8e4m3) (harg2 : arg2.IsWhole) (arg3 : Memref sig .tc .vmem S1x1x512 .f32) (harg3 : arg3.IsWhole)
    (arg4 : Memref sig .tc .vmem S5120x512 .fp8e4m3) (harg4 : arg4.IsWhole) (arg5 : Memref sig .tc .vmem S5120x512 .fp8e4m3) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S512x512 .fp8e4m3) (harg8 : arg8.IsWhole) (arg9 : Memref sig .tc .vmem S1x1x512 .f32) (harg9 : arg9.IsWhole)
    (arg10 : Memref sig .tc .vmem S17x512x512 .f32) (harg10 : arg10.IsWhole) (arg11 : Memref sig .tc .vmem S512x1 .f32) (harg11 : arg11.IsWhole)
    (arg12 : Memref sig .tc .vmem S512x1 .f32) (harg12 : arg12.IsWhole)
    (h1 : ¬ k0_cond1 i = 1#1) (h2 : ¬ k0_cond2 i = 1#1)
    (x2 : Vec F S512x5120 .fp8e4m3) (x3 : Vec F S1x1x512 .f32) (x4 x5 : Vec F S5120x512 .fp8e4m3) (x6 x7 : Vec F S1x512 .f32)
    (x8 : Vec F S512x512 .fp8e4m3) (x9 : Vec F S1x1x512 .f32) (x10 : Vec F S17x512x512 .f32) (x11 x12 : Vec F S512x1 .f32) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare x8 ∗ owns (c : Thread nD τ) arg9 fullShare x9 ∗ owns (c : Thread nD τ) arg10 fullShare x10
        ∗ owns (c : Thread nD τ) arg11 fullShare x11 ∗ owns (c : Thread nD τ) arg12 fullShare x12
        ∗ (iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare (k0_pay5 (View.ld x10 (slab i)) x12) ∗ owns (c : Thread nD τ) arg9 fullShare x9 ∗ owns (c : Thread nD τ) arg10 fullShare x10
        ∗ owns (c : Thread nD τ) arg11 fullShare x11 ∗ owns (c : Thread nD τ) arg12 fullShare x12) -∗ K ⟨⟩))
      ⊢ wp frame (wpE (defs₀ (F := F)) Variants.none c none) E (cc0_gateup i arg2 harg2 arg3 harg3 arg4 harg4 arg5 harg5 arg6 harg6 arg7 harg7 arg8 harg8 arg9 harg9
          arg10 harg10 arg11 harg11 arg12 harg12) K := by
  simp only [cc0_gateup_eq_skeleton]; unfold cc0_gateup_skel
  simp only [h1, h2, ↓reduceDIte, k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf2 hf3 hf4 hf5 hf6 hf7 hf8 hf9 hf10 hf11 hf12
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_full _ _ _ _ _).trans ?_
    repeat rw [View.readAt_full]
    rfl
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists f12; isplitr; · ipureintro; rfl
  iexact H12

end Cert.GateUp.Hand

end
-- ==== Proof.GateUpData.lean ====
/- What the gate/up kernel's buffers hold between grid points. Point `t` is row block `t / 17`, column block `t % 17`;
   the scratch holds the activations of the last 17 points, the running maxima of the current row block, and the
   reciprocal scales of the row block that is being written out, one row block late. -/
module

public import proofs.«01_k».proof.Proof.Gen.GateUp.Frame
public import proofs.«01_k».proof.Proof.Gen.GateUp.Skeleton
public import Idealize.ShloMosaic.Lib.Pipeline.Frame
public import Idealize.ShloMosaic.Lib.Pipeline.Value
public import Idealize.ShloMosaic.Lib.Tactic
public import Idealize.ShloMosaic.Lib.Pointwise.Index
public import proofs.«01_k».proof.Proof.GateUpBody

@[expose] public section

set_option maxRecDepth 16384

noncomputable section

namespace Cert.GateUp.Hand

open Cert.GateUp Cert.GateUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ)

/-! ## The grid -/

theorem cond1_iff : ∀ t : Fin cfg0.N, k0_cond1 (grid0.coords t) = 1#1 ↔ t.val % 17 = 0 :=
  (by decide +kernel : ∀ t : Fin grid0.N, k0_cond1 (grid0.coords t) = 1#1 ↔ t.val % 17 = 0)

theorem cond2_iff : ∀ t : Fin cfg0.N, k0_cond2 (grid0.coords t) = 1#1 ↔ t.val < 204 :=
  (by decide +kernel : ∀ t : Fin grid0.N, k0_cond2 (grid0.coords t) = 1#1 ↔ t.val < 204)

theorem off1_val : ∀ t : Fin cfg0.N, k0_off1 (grid0.coords t) (0 : Fin 3) = t.val % 17
    ∧ k0_off1 (grid0.coords t) (1 : Fin 3) = 0 ∧ k0_off1 (grid0.coords t) (2 : Fin 3) = 0 :=
  (by decide +kernel : ∀ t : Fin grid0.N, k0_off1 (grid0.coords t) (0 : Fin 3) = t.val % 17
    ∧ k0_off1 (grid0.coords t) (1 : Fin 3) = 0 ∧ k0_off1 (grid0.coords t) (2 : Fin 3) = 0)

theorem off2_val : ∀ t : Fin cfg0.N, k0_off2 (grid0.coords t) (0 : Fin 3) = t.val % 17
    ∧ k0_off2 (grid0.coords t) (1 : Fin 3) = 0 ∧ k0_off2 (grid0.coords t) (2 : Fin 3) = 0 :=
  (by decide +kernel : ∀ t : Fin grid0.N, k0_off2 (grid0.coords t) (0 : Fin 3) = t.val % 17
    ∧ k0_off2 (grid0.coords t) (1 : Fin 3) = 0 ∧ k0_off2 (grid0.coords t) (2 : Fin 3) = 0)

theorem fetch7 : ∀ t : Fin cfg0.N, (cfg0.win 7).fetch t = false :=
  (by decide +kernel : ∀ t : Fin grid0.N, win0_7.fetch t = false)

theorem flush7 : ∀ t : Fin cfg0.N, (cfg0.win 7).flush t = true → t.val % 17 = 16 ∧ 33 ≤ t.val :=
  (by decide +kernel : ∀ t : Fin grid0.N, win0_7.flush t = true → t.val % 17 = 16 ∧ 33 ≤ t.val)

theorem flush6 : ∀ t : Fin cfg0.N, (cfg0.win 6).flush t = true → 17 ≤ t.val :=
  (by decide +kernel : ∀ t : Fin grid0.N, win0_6.flush t = true → 17 ≤ t.val)

/-- Point number `n` (the last one from 220 on). -/
def pt (n : ℕ) : Fin cfg0.N := ⟨min n 220, by rw [show cfg0.N = grid0.N from rfl, N_0]; omega⟩

theorem pt_val (t : Fin cfg0.N) : pt t.val = t :=
  Fin.ext (by have : t.val < grid0.N := t.isLt; rw [N_0] at this; show min t.val 220 = t.val; omega)

theorem lt_N (t : Fin cfg0.N) : t.val < 221 := by have : t.val < grid0.N := t.isLt; rwa [N_0] at this

/-! ## One column block of the activation scratch -/

/-- Column block `n % 17` of the activation scratch. -/
def plane (x : Vec F S17x512x512 .f32) (n : ℕ) : Vec F S1x512x512 .f32 :=
  fun y => x (ix3 ⟨n % 17, Nat.mod_lt _ (by decide)⟩ (y 1) (y 2))

theorem ld_slab (x : Vec F S17x512x512 .f32) (t : Fin cfg0.N) : View.ld x (slab (grid0.coords t)) = plane x t.val := by
  obtain ⟨h0, h1, h2⟩ := off1_val t
  funext y
  refine congrArg x (funext fun a => Fin.ext ?_)
  have hy : (y (0 : Fin 3)).val < 1 := (y (0 : Fin 3)).isLt
  match a with
  | ⟨0, _⟩ => show k0_off1 (grid0.coords t) (0 : Fin 3) + 1 * (y (0 : Fin 3)).val = t.val % 17; omega
  | ⟨1, _⟩ => show k0_off1 (grid0.coords t) (1 : Fin 3) + 1 * (y (1 : Fin 3)).val = (y (1 : Fin 3)).val; omega
  | ⟨2, _⟩ => show k0_off1 (grid0.coords t) (2 : Fin 3) + 1 * (y (2 : Fin 3)).val = (y (2 : Fin 3)).val; omega

/-- A block stored at point `t` is the scratch's column block `t % 17`, and the other column blocks stay. -/
theorem plane_put (x : Vec F S17x512x512 .f32) (t : Fin cfg0.N) (w : Vec F S1x512x512 .f32) (n : ℕ) :
    plane (VecWindow.put x (k0_off2 (grid0.coords t)) S1x512x512.size w) n = if n % 17 = t.val % 17 then w else plane x n := by
  obtain ⟨h0, h1, h2⟩ := off2_val t
  have hn : n % 17 < 17 := Nat.mod_lt _ (by decide)
  funext y
  have hy0 : (y (0 : Fin 3)).val < 1 := (y (0 : Fin 3)).isLt
  have hy1 : (y (1 : Fin 3)).val < 512 := (y (1 : Fin 3)).isLt
  have hy2 : (y (2 : Fin 3)).val < 512 := (y (2 : Fin 3)).isLt
  unfold plane VecWindow.put
  by_cases h : n % 17 = t.val % 17
  · rw [if_pos h]
    rw [dif_pos (fun a => by
      match a with
      | ⟨0, _⟩ => show k0_off2 (grid0.coords t) (0 : Fin 3) ≤ n % 17 ∧ n % 17 < k0_off2 (grid0.coords t) (0 : Fin 3) + 1; omega
      | ⟨1, _⟩ => show k0_off2 (grid0.coords t) (1 : Fin 3) ≤ (y (1 : Fin 3)).val ∧ (y (1 : Fin 3)).val < k0_off2 (grid0.coords t) (1 : Fin 3) + 512; omega
      | ⟨2, _⟩ => show k0_off2 (grid0.coords t) (2 : Fin 3) ≤ (y (2 : Fin 3)).val ∧ (y (2 : Fin 3)).val < k0_off2 (grid0.coords t) (2 : Fin 3) + 512; omega)]
    refine congrArg w (funext fun a => Fin.ext ?_)
    match a with
    | ⟨0, _⟩ => show n % 17 - k0_off2 (grid0.coords t) (0 : Fin 3) = (y (0 : Fin 3)).val; omega
    | ⟨1, _⟩ => show (y (1 : Fin 3)).val - k0_off2 (grid0.coords t) (1 : Fin 3) = (y (1 : Fin 3)).val; omega
    | ⟨2, _⟩ => show (y (2 : Fin 3)).val - k0_off2 (grid0.coords t) (2 : Fin 3) = (y (2 : Fin 3)).val; omega
  · rw [if_neg h, dif_neg]
    intro hall
    have := hall (0 : Fin 3)
    have e : k0_off2 (grid0.coords t) (0 : Fin 3) ≤ n % 17 ∧ n % 17 < k0_off2 (grid0.coords t) (0 : Fin 3) + 1 := this
    omega

/-! ## What is computed at each point -/

/-- The block of activations computed at a point, from the point's input blocks. -/
def act (c : Dev nD) (t : Fin cfg0.N) : FVec F S1x512x512 .f32 :=
  k0_pay8 (iblk m c 1 t) (iblk m c 0 t) (iblk m c 2 t) (iblk m c 4 t) (iblk m c 0 t) (iblk m c 3 t) (iblk m c 5 t)

/-- The running row maxima after a point, from those before it. -/
def amaxStep (c : Dev nD) (t : Fin cfg0.N) (a : Vec F S512x1 .f32) : FVec F S512x1 .f32 :=
  k0_pay6 (k0_pay9 (iblk m c 1 t) (iblk m c 0 t) (iblk m c 2 t) (iblk m c 4 t) (iblk m c 0 t) (iblk m c 3 t) (iblk m c 5 t) a)

/-- The running row maxima after point `n`: they restart from zero at the first column block. -/
def amax (c : Dev nD) : ℕ → FVec F S512x1 .f32
  | 0 => amaxStep m c (pt 0) k0_pay4
  | n + 1 => amaxStep m c (pt (n + 1)) (if (n + 1) % 17 = 0 then k0_pay4 else amax c n)

theorem amax_zero (c : Dev nD) : amax m c 0 = amaxStep m c (pt 0) (k0_pay4 (F := F)) := rfl

theorem amax_succ (c : Dev nD) (n : ℕ) :
    amax m c (n + 1) = amaxStep m c (pt (n + 1)) (if (n + 1) % 17 = 0 then k0_pay4 (F := F) else amax m c n) := rfl

theorem amax_of_mod (c : Dev nD) (t : Fin cfg0.N) (h : t.val % 17 = 0) : amax m c t.val = amaxStep m c t k0_pay4 := by
  rcases hn : t.val with _ | n
  · show amaxStep m c (pt 0) k0_pay4 = _; rw [← hn, pt_val]
  · show amaxStep m c (pt (n + 1)) (if (n + 1) % 17 = 0 then k0_pay4 else amax m c n) = _
    rw [if_pos (by omega), ← hn, pt_val]

theorem amax_of_ne (c : Dev nD) (t : Fin cfg0.N) (h : t.val % 17 ≠ 0) :
    amax m c t.val = amaxStep m c t (amax m c (t.val - 1)) := by
  rcases hn : t.val with _ | n
  · rw [hn] at h; exact absurd rfl h
  · show amaxStep m c (pt (n + 1)) (if (n + 1) % 17 = 0 then k0_pay4 else amax m c n) = _
    rw [if_neg (by omega), ← hn, pt_val]; simp only [hn, Nat.add_sub_cancel]

/-- The row maxima of the row block before the one of point `n`. -/
def rowAmax (c : Dev nD) (n : ℕ) : FVec F S512x1 .f32 := amax m c (17 * (n / 17) - 1)

/-- The codes written at a point: the activations computed 17 points earlier, over their row block's scale. -/
def codesAt (c : Dev nD) (t : Fin cfg0.N) : FVec F S512x512 .fp8e4m3 :=
  k0_pay5 (act m c (pt (t.val - 17))) (k0_pay2 (rowAmax m c t.val))

/-- The scales written at a row block's points: those of the row block before. -/
def scalesAt (c : Dev nD) (t : Fin cfg0.N) : FVec F S1x1x512 .f32 := k0_pay3 (rowAmax m c t.val)

/-! ## The invariant of the scratch -/

/-- What the three scratch buffers hold before point `p`. -/
structure Holds (c : Dev nD) (p : ℕ) (x10 : Vec F S17x512x512 .f32) (x11 x12 : Vec F S512x1 .f32) : Prop where
  act : ∀ n, n < p → p ≤ n + 17 → n < 204 → plane x10 n = act m c (pt n)
  amax : ∀ n, n + 1 = p → n < 204 → x11 = amax m c n
  inv : ∀ n, n + 1 = p → 17 ≤ n → x12 = k0_pay2 (rowAmax m c n)

theorem Holds.zero (c : Dev nD) (x10 : Vec F S17x512x512 .f32) (x11 x12 : Vec F S512x1 .f32) : Holds m c 0 x10 x11 x12 :=
  ⟨fun n h => absurd h (Nat.not_lt_zero n), fun n h => absurd h (Nat.succ_ne_zero n), fun n h => absurd h (Nat.succ_ne_zero n)⟩

/-- The reciprocal scales the body uses at a point. -/
def invAt (t : Fin cfg0.N) (x11 x12 : Vec F S512x1 .f32) : Vec F S512x1 .f32 := if t.val % 17 = 0 then k0_pay2 x11 else x12

/-- The running maxima the body adds a point's activations to. -/
def amaxFrom (t : Fin cfg0.N) (x11 : Vec F S512x1 .f32) : Vec F S512x1 .f32 := if t.val % 17 = 0 then k0_pay4 else x11

theorem Holds.invAt_eq {c : Dev nD} {t : Fin cfg0.N} {x10 : Vec F S17x512x512 .f32} {x11 x12 : Vec F S512x1 .f32}
    (h : Holds m c t.val x10 x11 x12) (ht : 17 ≤ t.val) : invAt t x11 x12 = k0_pay2 (rowAmax m c t.val) := by
  have hN := lt_N t
  unfold invAt
  split
  · next h0 => rw [h.amax (t.val - 1) (by omega) (by omega)]; unfold rowAmax; rw [show 17 * (t.val / 17) - 1 = t.val - 1 by omega]
  · next h0 => rw [h.inv (t.val - 1) (by omega) (by omega)]; unfold rowAmax; rw [show (t.val - 1) / 17 = t.val / 17 by omega]

theorem Holds.codes {c : Dev nD} {t : Fin cfg0.N} {x10 : Vec F S17x512x512 .f32} {x11 x12 : Vec F S512x1 .f32}
    (h : Holds m c t.val x10 x11 x12) (ht : 17 ≤ t.val) : k0_pay5 (plane x10 t.val) (invAt t x11 x12) = codesAt m c t := by
  have hN := lt_N t
  rw [h.invAt_eq m ht]
  unfold codesAt
  have e : plane x10 t.val = plane x10 (t.val - 17) := by
    unfold plane; simp only [show (t.val - 17) % 17 = t.val % 17 by omega]
  rw [e, h.act (t.val - 17) (by omega) (by omega) (by omega)]

theorem Holds.scales {c : Dev nD} {t : Fin cfg0.N} {x10 : Vec F S17x512x512 .f32} {x11 x12 : Vec F S512x1 .f32}
    (h : Holds m c t.val x10 x11 x12) (ht : 17 ≤ t.val) (h0 : t.val % 17 = 0) : k0_pay3 x11 = scalesAt m c t := by
  have hN := lt_N t
  rw [h.amax (t.val - 1) (by omega) (by omega)]; unfold scalesAt rowAmax; rw [show 17 * (t.val / 17) - 1 = t.val - 1 by omega]

theorem Holds.compute {c : Dev nD} {t : Fin cfg0.N} {x10 : Vec F S17x512x512 .f32} {x11 x12 : Vec F S512x1 .f32}
    (h : Holds m c t.val x10 x11 x12) (ht : t.val < 204) :
    Holds m c (t.val + 1) (VecWindow.put x10 (k0_off2 (grid0.coords t)) S1x512x512.size (Hand.act m c t))
      (amaxStep m c t (amaxFrom t x11)) (invAt t x11 x12) where
  act n h1 h2 h3 := by
    rw [plane_put]
    split
    · next e => rw [show n = t.val by omega, pt_val]
    · next e => exact h.act n (by omega) (by omega) h3
  amax n h1 h2 := by
    obtain rfl : n = t.val := by omega
    unfold amaxFrom
    split
    · next e => rw [amax_of_mod m c t e]
    · next e => rw [amax_of_ne m c t e, h.amax (t.val - 1) (by omega) (by omega)]
  inv n h1 h2 := by
    obtain rfl : n = t.val := by omega
    exact h.invAt_eq m h2

theorem Holds.drain {c : Dev nD} {t : Fin cfg0.N} {x10 : Vec F S17x512x512 .f32} {x11 x12 : Vec F S512x1 .f32}
    (h : Holds m c t.val x10 x11 x12) (ht : ¬ t.val < 204) (x11' : Vec F S512x1 .f32) :
    Holds m c (t.val + 1) x10 x11' (invAt t x11 x12) where
  act n h1 h2 h3 := h.act n (by omega) (by omega) h3
  amax n h1 h2 := absurd h2 (by omega)
  inv n h1 h2 := by
    obtain rfl : n = t.val := by omega
    exact h.invAt_eq m h2

end Cert.GateUp.Hand

end
-- ==== Proof.GateUpFrame.lean ====
/- The gate/up kernel's run: the body at every point keeps the scratch invariant and leaves the delayed codes and scales in the
   output blocks, so the launch terminates with the arguments unchanged and the outputs assembled from those blocks. -/
module

public import proofs.«01_k».proof.Proof.Gen.GateUp.Frame
public import proofs.«01_k».proof.Proof.Gen.GateUp.Skeleton
public import Idealize.ShloMosaic.Lib.Pipeline.Frame
public import Idealize.ShloMosaic.Lib.Pipeline.Value
public import Idealize.ShloMosaic.Lib.Tactic
public import proofs.«01_k».proof.Proof.GateUpData

@[expose] public section

set_option maxRecDepth 16384

noncomputable section

namespace Cert.GateUp.Hand

open Cert.GateUp Cert.GateUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The body's invariant before point `p`: the three scratch buffers as `Holds` says, and the generator register. -/
def inv (c : Dev nD) (p : ℕ) : sProp 𝕄 :=
  iprop(∃ (x10 : Vec F S17x512x512 .f32) (x11 x12 : Vec F S512x1 .f32), ⌜Holds m c p x10 x11 x12⌝
    ∗ owns (c : Thread nD τ) (Memref.whole cc0_scratch0) fullShare x10 ∗ owns (c : Thread nD τ) (Memref.whole cc0_scratch1) fullShare x11
    ∗ owns (c : Thread nD τ) (Memref.whole cc0_scratch2) fullShare x12 ∗ (∃ r, prngReg c r))

/-- The proof data: inputs stay as found, and from the second row block on the two outputs' buffers hold the codes and the
    scales of the row block before. -/
def rdat (c : Dev nD) : RDat τ (Elt F) Unit ℕ (UR sig nD τ) ℕ cfg0 c where
  A w := V m c (Pipeline.arrRef spec0 w)
  after w := match w with
    | ⟨0, _⟩ => fun _ Y X => X = Y
    | ⟨1, _⟩ => fun _ Y X => X = Y
    | ⟨2, _⟩ => fun _ Y X => X = Y
    | ⟨3, _⟩ => fun _ Y X => X = Y
    | ⟨4, _⟩ => fun _ Y X => X = Y
    | ⟨5, _⟩ => fun _ Y X => X = Y
    | ⟨6, _⟩ => fun t _ X => 17 ≤ t.val → X = codesAt m c t
    | ⟨7, _⟩ => fun t _ X => 17 ≤ t.val → X = scalesAt m c t
  Φ p := inv m c p.val
  q := Pipeline.shareOf spec0
  owed _ := 0

theorem A_eq (c : Dev nD) (w : Fin cfg0.W) : (rdat m c).A w = V m c (Pipeline.arrRef spec0 w) := by dsimp only [rdat]

theorem finds0_0 (c : Dev nD) (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  exact hd.trans (by unfold RDat.fetched RDat.blockOf iblk; rw [A_eq]; try rfl)
theorem finds0_1 (c : Dev nD) (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  exact hd.trans (by unfold RDat.fetched RDat.blockOf iblk; rw [A_eq]; try rfl)
theorem finds0_2 (c : Dev nD) (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  exact hd.trans (by unfold RDat.fetched RDat.blockOf iblk; rw [A_eq]; try rfl)
theorem finds0_3 (c : Dev nD) (t : Fin cfg0.N) (Y) (h : (rdat m c).Finds 3 t Y) : Y = iblk m c 3 t := by
  obtain ⟨d, hd⟩ := (rdat m c).finds_in_eq_fetched 3 rfl (fun _ _ _ => rfl) (fun _ _ _ h => h) t Y h
  exact hd.trans (by unfold RDat.fetched RDat.blockOf iblk; rw [A_eq]; try rfl)
theorem finds0_4 (c : Dev nD) (t : Fin cfg0.N) (Y) (h : (rdat m c).Finds 4 t Y) : Y = iblk m c 4 t := by
  obtain ⟨d, hd⟩ := (rdat m c).finds_in_eq_fetched 4 rfl (fun _ _ _ => rfl) (fun _ _ _ h => h) t Y h
  exact hd.trans (by unfold RDat.fetched RDat.blockOf iblk; rw [A_eq]; try rfl)
theorem finds0_5 (c : Dev nD) (t : Fin cfg0.N) (Y) (h : (rdat m c).Finds 5 t Y) : Y = iblk m c 5 t := by
  obtain ⟨d, hd⟩ := (rdat m c).finds_in_eq_fetched 5 rfl (fun _ _ _ => rfl) (fun _ _ _ h => h) t Y h
  exact hd.trans (by unfold RDat.fetched RDat.blockOf iblk; rw [A_eq]; try rfl)

/-- The scales' buffer, past a row block's first point, holds what that first point left. -/
theorem finds0_7 (c : Dev nD) (t : Fin cfg0.N) (Y) (h : (rdat m c).Finds 7 t Y) (h0 : t.val % 17 ≠ 0) (h17 : 17 ≤ t.val) :
    Y = scalesAt m c t := by
  have hN := lt_N t
  rcases ((rdat m c).finds_of_pos (fetch7 t) (by omega) Y).mp h with hf | ⟨Y', _, hY'⟩
  · exact absurd (flush7 _ hf).1 (by show (t.val - 1) % 17 ≠ 16; omega)
  · have e : 17 ≤ t.val - 1 → Y = scalesAt m c ⟨t.val - 1, Nat.lt_of_le_of_lt (Nat.sub_le _ _) t.isLt⟩ := hY'
    rw [e (by omega)]; unfold scalesAt rowAmax
    show k0_pay3 (amax m c (17 * ((t.val - 1) / 17) - 1)) = _
    rw [show (t.val - 1) / 17 = t.val / 17 by omega]

/-! ## The body at a point -/

/-- What the body is called with at point `t`, the windows one by one, -/
def bodyPre (c : Dev nD) (t : Fin cfg0.N) (Y6 : Vec F S512x512 .fp8e4m3) (Y7 : Vec F S1x1x512 .f32) : sProp 𝕄 :=
  iprop(inv m c t.val ∗ (rdat m c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare Y6 ∗ owns (c : Thread nD τ) (st0_7 t) fullShare Y7)

/-- and what it returns. -/
def bodyPost (c : Dev nD) (t : Fin cfg0.N) : sProp 𝕄 :=
  iprop(inv m c (t.val + 1) ∗ (rdat m c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ (∃ X, ⌜17 ≤ t.val → X = codesAt m c t⌝ ∗ owns (c : Thread nD τ) (st0_6 t) fullShare X)
    ∗ (∃ X, ⌜17 ≤ t.val → X = scalesAt m c t⌝ ∗ owns (c : Thread nD τ) (st0_7 t) fullShare X))

theorem body_start_compute (c : Dev nD) (t : Fin cfg0.N) (Y6 : Vec F S512x512 .fp8e4m3) (Y7 : Vec F S1x1x512 .f32) (h1 : t.val % 17 = 0) (h2 : t.val < 204) :
    bodyPre m c t Y6 Y7 ⊢ wp frame (wpE (defs₀ (F := F)) Variants.none c none) Set.univ (bodyAt0 t) (fun _ => bodyPost m c t) := by
  unfold bodyPre bodyPost bodyAt0 inv
  rw [show (rdat m c).owesAt () t.succ = (rdat m c).owesAt () t.castSucc from rfl]
  iintro ⟨⟨%x10, %x11, %x12, %hh, H10, H11, H12, Hg⟩, Ho, H0, H1, H2, H3, H4, H5, H6, H7⟩
  have ei : invAt t x11 x12 = k0_pay2 x11 := if_pos h1
  have ea : amaxFrom t x11 = k0_pay4 := if_pos h1
  iapply (run_start_compute c Set.univ (grid0.coords t) _ _ _ _ _ _ _ _ _ _ _ _ _ _ _ _ _ _ _ _ _ _ ((cond1_iff t).mpr h1) ((cond2_iff t).mpr h2)
    (iblk m c 0 t) (iblk m c 1 t) (iblk m c 2 t) (iblk m c 3 t) (iblk m c 4 t) (iblk m c 5 t) Y6 Y7 x10 x11 x12 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H10]; · iexact H10
  isplitl [H11]; · iexact H11
  isplitl [H12]; · iexact H12
  iintro ⟨H0, H1, H2, H3, H4, H5, H6, H7, H10, H11, H12⟩
  isplitl [H10 H11 H12 Hg]
  · iexists _; iexists _; iexists _; isplitr
    swap
    · isplitl [H10]; · iexact H10
      isplitl [H11]; · iexact H11
      isplitl [H12]; · iexact H12
      iexact Hg
    ipureintro
    have := hh.compute m h2; rw [ei, ea] at this; exact this
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr
    swap; · iexact H6
    ipureintro; intro h17; have := hh.codes m h17; rw [ei] at this; rw [ld_slab]; exact this
  iexists _; isplitr
  swap; · iexact H7
  ipureintro; intro h17; exact hh.scales m h17 h1

theorem body_start_drain (c : Dev nD) (t : Fin cfg0.N) (Y6 : Vec F S512x512 .fp8e4m3) (Y7 : Vec F S1x1x512 .f32) (h1 : t.val % 17 = 0) (h2 : ¬ t.val < 204) :
    bodyPre m c t Y6 Y7 ⊢ wp frame (wpE (defs₀ (F := F)) Variants.none c none) Set.univ (bodyAt0 t) (fun _ => bodyPost m c t) := by
  unfold bodyPre bodyPost bodyAt0 inv
  rw [show (rdat m c).owesAt () t.succ = (rdat m c).owesAt () t.castSucc from rfl]
  iintro ⟨⟨%x10, %x11, %x12, %hh, H10, H11, H12, Hg⟩, Ho, H0, H1, H2, H3, H4, H5, H6, H7⟩
  have ei : invAt t x11 x12 = k0_pay2 x11 := if_pos h1
  have ea : amaxFrom t x11 = k0_pay4 := if_pos h1
  iapply (run_start_drain c Set.univ (grid0.coords t) _ _ _ _ _ _ _ _ _ _ _ _ _ _ _ _ _ _ _ _ _ _ ((cond1_iff t).mpr h1) (fun h => h2 ((cond2_iff t).mp h))
    (iblk m c 0 t) (iblk m c 1 t) (iblk m c 2 t) (iblk m c 3 t) (iblk m c 4 t) (iblk m c 5 t) Y6 Y7 x10 x11 x12 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H10]; · iexact H10
  isplitl [H11]; · iexact H11
  isplitl [H12]; · iexact H12
  iintro ⟨H0, H1, H2, H3, H4, H5, H6, H7, H10, H11, H12⟩
  isplitl [H10 H11 H12 Hg]
  · iexists _; iexists _; iexists _; isplitr
    swap
    · isplitl [H10]; · iexact H10
      isplitl [H11]; · iexact H11
      isplitl [H12]; · iexact H12
      iexact Hg
    ipureintro
    have := hh.drain m h2 k0_pay4; rw [ei] at this; exact this
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr
    swap; · iexact H6
    ipureintro; intro h17; have := hh.codes m h17; rw [ei] at this; rw [ld_slab]; exact this
  iexists _; isplitr
  swap; · iexact H7
  ipureintro; intro h17; exact hh.scales m h17 h1

theorem body_next_compute (c : Dev nD) (t : Fin cfg0.N) (Y6 : Vec F S512x512 .fp8e4m3) (Y7 : Vec F S1x1x512 .f32) (h1 : t.val % 17 ≠ 0) (h2 : t.val < 204) (h7 : 17 ≤ t.val → Y7 = scalesAt m c t) :
    bodyPre m c t Y6 Y7 ⊢ wp frame (wpE (defs₀ (F := F)) Variants.none c none) Set.univ (bodyAt0 t) (fun _ => bodyPost m c t) := by
  unfold bodyPre bodyPost bodyAt0 inv
  rw [show (rdat m c).owesAt () t.succ = (rdat m c).owesAt () t.castSucc from rfl]
  iintro ⟨⟨%x10, %x11, %x12, %hh, H10, H11, H12, Hg⟩, Ho, H0, H1, H2, H3, H4, H5, H6, H7⟩
  have ei : invAt t x11 x12 = x12 := if_neg h1
  have ea : amaxFrom t x11 = x11 := if_neg h1
  iapply (run_next_compute c Set.univ (grid0.coords t) _ _ _ _ _ _ _ _ _ _ _ _ _ _ _ _ _ _ _ _ _ _ (fun h => h1 ((cond1_iff t).mp h)) ((cond2_iff t).mpr h2)
    (iblk m c 0 t) (iblk m c 1 t) (iblk m c 2 t) (iblk m c 3 t) (iblk m c 4 t) (iblk m c 5 t) Y6 Y7 x10 x11 x12 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H10]; · iexact H10
  isplitl [H11]; · iexact H11
  isplitl [H12]; · iexact H12
  iintro ⟨H0, H1, H2, H3, H4, H5, H6, H7, H10, H11, H12⟩
  isplitl [H10 H11 H12 Hg]
  · iexists _; iexists _; iexists _; isplitr
    swap
    · isplitl [H10]; · iexact H10
      isplitl [H11]; · iexact H11
      isplitl [H12]; · iexact H12
      iexact Hg
    ipureintro
    have := hh.compute m h2; rw [ei, ea] at this; exact this
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr
    swap; · iexact H6
    ipureintro; intro h17; have := hh.codes m h17; rw [ei] at this; rw [ld_slab]; exact this
  iexists _; isplitr
  swap; · iexact H7
  ipureintro; exact h7

theorem body_next_drain (c : Dev nD) (t : Fin cfg0.N) (Y6 : Vec F S512x512 .fp8e4m3) (Y7 : Vec F S1x1x512 .f32) (h1 : t.val % 17 ≠ 0) (h2 : ¬ t.val < 204) (h7 : 17 ≤ t.val → Y7 = scalesAt m c t) :
    bodyPre m c t Y6 Y7 ⊢ wp frame (wpE (defs₀ (F := F)) Variants.none c none) Set.univ (bodyAt0 t) (fun _ => bodyPost m c t) := by
  unfold bodyPre bodyPost bodyAt0 inv
  rw [show (rdat m c).owesAt () t.succ = (rdat m c).owesAt () t.castSucc from rfl]
  iintro ⟨⟨%x10, %x11, %x12, %hh, H10, H11, H12, Hg⟩, Ho, H0, H1, H2, H3, H4, H5, H6, H7⟩
  have ei : invAt t x11 x12 = x12 := if_neg h1
  have ea : amaxFrom t x11 = x11 := if_neg h1
  iapply (run_next_drain c Set.univ (grid0.coords t) _ _ _ _ _ _ _ _ _ _ _ _ _ _ _ _ _ _ _ _ _ _ (fun h => h1 ((cond1_iff t).mp h)) (fun h => h2 ((cond2_iff t).mp h))
    (iblk m c 0 t) (iblk m c 1 t) (iblk m c 2 t) (iblk m c 3 t) (iblk m c 4 t) (iblk m c 5 t) Y6 Y7 x10 x11 x12 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H10]; · iexact H10
  isplitl [H11]; · iexact H11
  isplitl [H12]; · iexact H12
  iintro ⟨H0, H1, H2, H3, H4, H5, H6, H7, H10, H11, H12⟩
  isplitl [H10 H11 H12 Hg]
  · iexists _; iexists _; iexists _; isplitr
    swap
    · isplitl [H10]; · iexact H10
      isplitl [H11]; · iexact H11
      isplitl [H12]; · iexact H12
      iexact Hg
    ipureintro
    have := hh.drain m h2 x11; rw [ei] at this; exact this
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr
    swap; · iexact H6
    ipureintro; intro h17; have := hh.codes m h17; rw [ei] at this; rw [ld_slab]; exact this
  iexists _; isplitr
  swap; · iexact H7
  ipureintro; exact h7

/-- The body at any point. -/
theorem sound_body (c : Dev nD) (t : Fin cfg0.N) (Y6 : Vec F S512x512 .fp8e4m3) (Y7 : Vec F S1x1x512 .f32)
    (h7 : t.val % 17 ≠ 0 → 17 ≤ t.val → Y7 = scalesAt m c t) :
    bodyPre m c t Y6 Y7 ⊢ wp frame (wpE (defs₀ (F := F)) Variants.none c none) Set.univ (bodyAt0 t) (fun _ => bodyPost m c t) := by
  by_cases h1 : t.val % 17 = 0 <;> by_cases h2 : t.val < 204
  · exact body_start_compute m c t Y6 Y7 h1 h2
  · exact body_start_drain m c t Y6 Y7 h1 h2
  · exact body_next_compute m c t Y6 Y7 h1 h2 (h7 h1)
  · exact body_next_drain m c t Y6 Y7 h1 h2 (h7 h1)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y hY => by
  rw [bigSep_W0, bigSep_W0, defs₀_row,
    finds0_0 m c t _ (hY 0), finds0_1 m c t _ (hY 1), finds0_2 m c t _ (hY 2), finds0_3 m c t _ (hY 3), finds0_4 m c t _ (hY 4),
    finds0_5 m c t _ (hY 5)]
  refine triple_restated (sound_body m c t (Y 6) (Y 7) (fun h0 h17 => finds0_7 m c t _ (hY 7) h0 h17)) rfl .rfl fun _ => ?_
  unfold bodyPost
  rw [show (rdat m c).Φ t.succ = inv m c (t.val + 1) from rfl]
  iintro ⟨Hi, Ho, H0, H1, H2, H3, H4, H5, H6, H7⟩
  isplitl [Hi]; · iexact Hi
  isplitl [Ho]; · iexact Ho
  isplitl [H0]
  · iexists _; isplitr
    swap; · iexact H0
    ipureintro; exact rfl
  isplitl [H1]
  · iexists _; isplitr
    swap; · iexact H1
    ipureintro; exact rfl
  isplitl [H2]
  · iexists _; isplitr
    swap; · iexact H2
    ipureintro; exact rfl
  isplitl [H3]
  · iexists _; isplitr
    swap; · iexact H3
    ipureintro; exact rfl
  isplitl [H4]
  · iexists _; isplitr
    swap; · iexact H4
    ipureintro; exact rfl
  isplitl [H5]
  · iexists _; isplitr
    swap; · iexact H5
    ipureintro; exact rfl
  isplitl [H6]; · iexact H6
  iexact H7

/-! ## The launch -/

theorem inv_in (c : Dev nD) : Pipeline.ΦA spec0 c ⊢ inv m c 0 := by
  unfold Pipeline.ΦA inv
  rw [scopedRest0_eq]
  simp only [owns_whole]
  iintro ⟨⟨⟨%x10, H10⟩, ⟨%x11, H11⟩, ⟨%x12, H12⟩⟩, Hg⟩
  iexists x10; iexists x11; iexists x12
  isplitr; · ipureintro; exact Holds.zero m c x10 x11 x12
  isplitl [H10]; · iexact H10
  isplitl [H11]; · iexact H11
  isplitl [H12]; · iexact H12
  iexact Hg

theorem inv_out (c : Dev nD) (p : ℕ) : inv m c p ⊢ Pipeline.ΦA spec0 c := by
  unfold Pipeline.ΦA inv
  rw [scopedRest0_eq]
  simp only [owns_whole]
  iintro ⟨%x10, %x11, %x12, -, H10, H11, H12, Hg⟩
  isplitl [H10 H11 H12]
  · isplitl [H10]; · iexists _; iexact H10
    isplitl [H11]; · iexists _; iexact H11
    iexists _; iexact H12
  iexact Hg

set_option backward.isDefEq.respectTransparency.types false in
set_option maxHeartbeats 800000 in
/-- The launch: from any memory every run ends with the arrays as the proof data says and the semaphores at zero. -/
theorem run_main : θ_run defs (onTc (τ := τ) (main (F := F))) (s₀ m ρ)
    (fun r => Pipeline.RDat.FramePost (cfgs 0) (fun c => rdat m c) (V m) r ∧ r.2.sem = fun _ => 0) :=
  Pipeline.RDat.θ_run_frame_track_shared (Q' := _) cfgs (0 : Fin 1) launch₀0 defs₀ Variants.none (fun c => rdat m c) m ρ main
    (hbody := fun c => body_obligation m c) (hq := fun _ _ _ => rfl) (howed := fun _ _ => rfl) (V := V m)
    (hmain := hmain m Variants.none) (hA := A_eq m) (hin := fun c => inv_in m c) (hout := fun c => inv_out m c _)

/-- After the run the four arguments hold what they held at launch. -/
theorem args_unchanged {r : PUnit × MemSt nD τ sig (Elt F)} (h : Pipeline.RDat.FramePost (cfgs 0) (fun c => rdat m c) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(Pipeline.RDat.FramePost.arr_in h c 0 rfl).trans ((A_eq m c 0).trans (V_main_arg0 m c)),
    ((h c).2 main_arg1 (Pipeline.mem_restRefs_of main_arg1 (by decide) (by decide))).trans (V_main_arg1 m c),
    (Pipeline.RDat.FramePost.arr_in h c 3 rfl).trans ((A_eq m c 3).trans (V_main_arg2 m c)),
    ((h c).2 main_arg3 (Pipeline.mem_restRefs_of main_arg3 (by decide) (by decide))).trans (V_main_arg3 m c)⟩

/-- The frame: every run ends with the four arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => args_unchanged m h.1 c, h.2⟩) (run_main m ρ)

end Cert.GateUp.Hand

end
-- ==== Proof.GateUpIdealBody.lean ====
/- What the gate/up kernel's body does at one grid point, on memrefs of any contents: one triple for each of the four
   kinds of point (first or later column block; a row block to compute, or only the previous one's codes to write).
   Every stored value is named by the printed payload that stores it. -/
module

public import proofs.«01_k».proof.Proof.Gen.GateUpIdeal.Frame
public import proofs.«01_k».proof.Proof.Gen.GateUpIdeal.Skeleton
public import Idealize.ShloMosaic.Lib.Pipeline.Frame
public import Idealize.ShloMosaic.Lib.Pipeline.Value
public import Idealize.ShloMosaic.Lib.Tactic
public import Idealize.ShloMosaic.Lib.VecWindow

@[expose] public section

set_option maxRecDepth 16384

noncomputable section

namespace Cert.GateUpIdeal.Hand

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)

variable {F : FTy → Type} [FloatOps F]

local notation "𝕄" => MT nD τ sig Unit (Elt F) ℕ (UR sig nD τ) ℕ

/-- The part of the activation scratch that the body reads at a point: one column block of 512 rows. -/
abbrev slab (i : grid0.Coords) : Rect S17x512x512 := Rect.unit (s := S17x512x512) (k0_off1 i) S1x512x512.size (k0_off1_inb i)

set_option maxHeartbeats 1000000 in
/-- The body at the first column block of a row block that is computed: the previous row block's maxima become its scale, the running
    maximum restarts from zero. -/
theorem run_start_compute (c : Dev nD) (E : Set ℕ) (i : grid0.Coords)
    (arg2 : Memref sig .tc .vmem S512x5120 .fp8e4m3) (harg2 : arg2.IsWhole) (arg3 : Memref sig .tc .vmem S1x1x512 .f32) (harg3 : arg3.IsWhole)
    (arg4 : Memref sig .tc .vmem S5120x512 .fp8e4m3) (harg4 : arg4.IsWhole) (arg5 : Memref sig .tc .vmem S5120x512 .fp8e4m3) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S512x512 .fp8e4m3) (harg8 : arg8.IsWhole) (arg9 : Memref sig .tc .vmem S1x1x512 .f32) (harg9 : arg9.IsWhole)
    (arg10 : Memref sig .tc .vmem S17x512x512 .f32) (harg10 : arg10.IsWhole) (arg11 : Memref sig .tc .vmem S512x1 .f32) (harg11 : arg11.IsWhole)
    (arg12 : Memref sig .tc .vmem S512x1 .f32) (harg12 : arg12.IsWhole)
    (h1 : k0_cond1 i = 1#1) (h2 : k0_cond2 i = 1#1)
    (x2 : Vec F S512x5120 .fp8e4m3) (x3 : Vec F S1x1x512 .f32) (x4 x5 : Vec F S5120x512 .fp8e4m3) (x6 x7 : Vec F S1x512 .f32)
    (x8 : Vec F S512x512 .fp8e4m3) (x9 : Vec F S1x1x512 .f32) (x10 : Vec F S17x512x512 .f32) (x11 x12 : Vec F S512x1 .f32) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare x8 ∗ owns (c : Thread nD τ) arg9 fullShare x9 ∗ owns (c : Thread nD τ) arg10 fullShare x10
        ∗ owns (c : Thread nD τ) arg11 fullShare x11 ∗ owns (c : Thread nD τ) arg12 fullShare x12
        ∗ (iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare (k0_pay5 (View.ld x10 (slab i)) (k0_pay2 x11)) ∗ owns (c : Thread nD τ) arg9 fullShare (k0_pay3 x11) ∗ owns (c : Thread nD τ) arg10 fullShare (VecWindow.put x10 (k0_off2 i) S1x512x512.size (k0_pay8 x3 x2 x4 x6 x2 x5 x7))
        ∗ owns (c : Thread nD τ) arg11 fullShare (k0_pay6 (k0_pay9 x3 x2 x4 x6 x2 x5 x7 k0_pay4)) ∗ owns (c : Thread nD τ) arg12 fullShare (k0_pay2 x11)) -∗ K ⟨⟩))
      ⊢ wp frame (wpE (defs₀ (F := F)) Variants.none c none) E (cc0_gateup i arg2 harg2 arg3 harg3 arg4 harg4 arg5 harg5 arg6 harg6 arg7 harg7 arg8 harg8 arg9 harg9
          arg10 harg10 arg11 harg11 arg12 harg12) K := by
  simp only [cc0_gateup_eq_skeleton]; unfold cc0_gateup_skel
  simp only [h1, h2, ↓reduceDIte, k0_part1_eq_skeleton]
  unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf2 hf3 hf4 hf5 hf6 hf7 hf8 hf9 hf10 hf11 hf12
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_full _ _ _ _ _).trans ?_
    unfold run_start_compute.sl.v6 run_start_compute.sl.H12_1
    rw [View.readCov_full]
    repeat rw [View.readAt_full]
    rfl
  isplitl [H9]
  · iexists _; isplitr
    swap; · iexact H9
    ipureintro
    refine (View.read_writes_full _ _ _ _ _).trans ?_
    repeat rw [View.readAt_full]
  isplitl [H10]
  · iexists _; isplitr
    swap; · iexact H10
    ipureintro
    refine (View.read_writes_cons_put _ _ _ _ _ rfl).trans ?_
    repeat rw [View.readAt_full]
    rfl
  isplitl [H11]
  · iexists _; isplitr
    swap; · iexact H11
    ipureintro
    refine (View.read_writes_full _ _ _ _ _).trans ?_
    unfold run_start_compute.sl.v46 run_start_compute.sl.H11_1
    rw [View.readCov_full]
    repeat rw [View.readAt_full]
  iexists _; isplitr
  swap; · iexact H12
  ipureintro
  unfold run_start_compute.sl.H12_1
  refine (View.read_writes_full _ _ _ _ _).trans ?_
  repeat rw [View.readAt_full]

set_option maxHeartbeats 1000000 in
/-- The body at the first column block after the last row block: the last row block's maxima become its scale, nothing is computed. -/
theorem run_start_drain (c : Dev nD) (E : Set ℕ) (i : grid0.Coords)
    (arg2 : Memref sig .tc .vmem S512x5120 .fp8e4m3) (harg2 : arg2.IsWhole) (arg3 : Memref sig .tc .vmem S1x1x512 .f32) (harg3 : arg3.IsWhole)
    (arg4 : Memref sig .tc .vmem S5120x512 .fp8e4m3) (harg4 : arg4.IsWhole) (arg5 : Memref sig .tc .vmem S5120x512 .fp8e4m3) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S512x512 .fp8e4m3) (harg8 : arg8.IsWhole) (arg9 : Memref sig .tc .vmem S1x1x512 .f32) (harg9 : arg9.IsWhole)
    (arg10 : Memref sig .tc .vmem S17x512x512 .f32) (harg10 : arg10.IsWhole) (arg11 : Memref sig .tc .vmem S512x1 .f32) (harg11 : arg11.IsWhole)
    (arg12 : Memref sig .tc .vmem S512x1 .f32) (harg12 : arg12.IsWhole)
    (h1 : k0_cond1 i = 1#1) (h2 : ¬ k0_cond2 i = 1#1)
    (x2 : Vec F S512x5120 .fp8e4m3) (x3 : Vec F S1x1x512 .f32) (x4 x5 : Vec F S5120x512 .fp8e4m3) (x6 x7 : Vec F S1x512 .f32)
    (x8 : Vec F S512x512 .fp8e4m3) (x9 : Vec F S1x1x512 .f32) (x10 : Vec F S17x512x512 .f32) (x11 x12 : Vec F S512x1 .f32) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare x8 ∗ owns (c : Thread nD τ) arg9 fullShare x9 ∗ owns (c : Thread nD τ) arg10 fullShare x10
        ∗ owns (c : Thread nD τ) arg11 fullShare x11 ∗ owns (c : Thread nD τ) arg12 fullShare x12
        ∗ (iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare (k0_pay5 (View.ld x10 (slab i)) (k0_pay2 x11)) ∗ owns (c : Thread nD τ) arg9 fullShare (k0_pay3 x11) ∗ owns (c : Thread nD τ) arg10 fullShare x10
        ∗ owns (c : Thread nD τ) arg11 fullShare k0_pay4 ∗ owns (c : Thread nD τ) arg12 fullShare (k0_pay2 x11)) -∗ K ⟨⟩))
      ⊢ wp frame (wpE (defs₀ (F := F)) Variants.none c none) E (cc0_gateup i arg2 harg2 arg3 harg3 arg4 harg4 arg5 harg5 arg6 harg6 arg7 harg7 arg8 harg8 arg9 harg9
          arg10 harg10 arg11 harg11 arg12 harg12) K := by
  simp only [cc0_gateup_eq_skeleton]; unfold cc0_gateup_skel
  simp only [h1, h2, ↓reduceDIte, k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf2 hf3 hf4 hf5 hf6 hf7 hf8 hf9 hf10 hf11 hf12
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_full _ _ _ _ _).trans ?_
    unfold run_start_drain.sl.v6 run_start_drain.sl.H12_1
    rw [View.readCov_full]
    repeat rw [View.readAt_full]
    rfl
  isplitl [H9]
  · iexists _; isplitr
    swap; · iexact H9
    ipureintro
    refine (View.read_writes_full _ _ _ _ _).trans ?_
    repeat rw [View.readAt_full]
  isplitl [H10]
  · iexists f10; isplitr; · ipureintro; rfl
    iexact H10
  isplitl [H11]
  · iexists _; isplitr
    swap; · iexact H11
    ipureintro
    refine (View.read_writes_full _ _ _ _ _).trans ?_
    repeat rw [View.readAt_full]
    rfl
  iexists _; isplitr
  swap; · iexact H12
  ipureintro
  unfold run_start_drain.sl.H12_1
  refine (View.read_writes_full _ _ _ _ _).trans ?_
  repeat rw [View.readAt_full]

set_option maxHeartbeats 1000000 in
/-- The body at a later column block of a row block that is computed. -/
theorem run_next_compute (c : Dev nD) (E : Set ℕ) (i : grid0.Coords)
    (arg2 : Memref sig .tc .vmem S512x5120 .fp8e4m3) (harg2 : arg2.IsWhole) (arg3 : Memref sig .tc .vmem S1x1x512 .f32) (harg3 : arg3.IsWhole)
    (arg4 : Memref sig .tc .vmem S5120x512 .fp8e4m3) (harg4 : arg4.IsWhole) (arg5 : Memref sig .tc .vmem S5120x512 .fp8e4m3) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S512x512 .fp8e4m3) (harg8 : arg8.IsWhole) (arg9 : Memref sig .tc .vmem S1x1x512 .f32) (harg9 : arg9.IsWhole)
    (arg10 : Memref sig .tc .vmem S17x512x512 .f32) (harg10 : arg10.IsWhole) (arg11 : Memref sig .tc .vmem S512x1 .f32) (harg11 : arg11.IsWhole)
    (arg12 : Memref sig .tc .vmem S512x1 .f32) (harg12 : arg12.IsWhole)
    (h1 : ¬ k0_cond1 i = 1#1) (h2 : k0_cond2 i = 1#1)
    (x2 : Vec F S512x5120 .fp8e4m3) (x3 : Vec F S1x1x512 .f32) (x4 x5 : Vec F S5120x512 .fp8e4m3) (x6 x7 : Vec F S1x512 .f32)
    (x8 : Vec F S512x512 .fp8e4m3) (x9 : Vec F S1x1x512 .f32) (x10 : Vec F S17x512x512 .f32) (x11 x12 : Vec F S512x1 .f32) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare x8 ∗ owns (c : Thread nD τ) arg9 fullShare x9 ∗ owns (c : Thread nD τ) arg10 fullShare x10
        ∗ owns (c : Thread nD τ) arg11 fullShare x11 ∗ owns (c : Thread nD τ) arg12 fullShare x12
        ∗ (iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare (k0_pay5 (View.ld x10 (slab i)) x12) ∗ owns (c : Thread nD τ) arg9 fullShare x9 ∗ owns (c : Thread nD τ) arg10 fullShare (VecWindow.put x10 (k0_off2 i) S1x512x512.size (k0_pay8 x3 x2 x4 x6 x2 x5 x7))
        ∗ owns (c : Thread nD τ) arg11 fullShare (k0_pay6 (k0_pay9 x3 x2 x4 x6 x2 x5 x7 x11)) ∗ owns (c : Thread nD τ) arg12 fullShare x12) -∗ K ⟨⟩))
      ⊢ wp frame (wpE (defs₀ (F := F)) Variants.none c none) E (cc0_gateup i arg2 harg2 arg3 harg3 arg4 harg4 arg5 harg5 arg6 harg6 arg7 harg7 arg8 harg8 arg9 harg9
          arg10 harg10 arg11 harg11 arg12 harg12) K := by
  simp only [cc0_gateup_eq_skeleton]; unfold cc0_gateup_skel
  simp only [h1, h2, ↓reduceDIte, k0_part1_eq_skeleton]
  unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf2 hf3 hf4 hf5 hf6 hf7 hf8 hf9 hf10 hf11 hf12
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_full _ _ _ _ _).trans ?_
    repeat rw [View.readAt_full]
    rfl
  isplitl [H9]
  · iexists f9; isplitr; · ipureintro; rfl
    iexact H9
  isplitl [H10]
  · iexists _; isplitr
    swap; · iexact H10
    ipureintro
    refine (View.read_writes_cons_put _ _ _ _ _ rfl).trans ?_
    repeat rw [View.readAt_full]
    rfl
  isplitl [H11]
  · iexists _; isplitr
    swap; · iexact H11
    ipureintro
    refine (View.read_writes_full _ _ _ _ _).trans ?_
    repeat rw [View.readAt_full]
  iexists f12; isplitr; · ipureintro; rfl
  iexact H12

set_option maxHeartbeats 1000000 in
/-- The body at a later column block after the last row block: only the codes are written. -/
theorem run_next_drain (c : Dev nD) (E : Set ℕ) (i : grid0.Coords)
    (arg2 : Memref sig .tc .vmem S512x5120 .fp8e4m3) (harg2 : arg2.IsWhole) (arg3 : Memref sig .tc .vmem S1x1x512 .f32) (harg3 : arg3.IsWhole)
    (arg4 : Memref sig .tc .vmem S5120x512 .fp8e4m3) (harg4 : arg4.IsWhole) (arg5 : Memref sig .tc .vmem S5120x512 .fp8e4m3) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S512x512 .fp8e4m3) (harg8 : arg8.IsWhole) (arg9 : Memref sig .tc .vmem S1x1x512 .f32) (harg9 : arg9.IsWhole)
    (arg10 : Memref sig .tc .vmem S17x512x512 .f32) (harg10 : arg10.IsWhole) (arg11 : Memref sig .tc .vmem S512x1 .f32) (harg11 : arg11.IsWhole)
    (arg12 : Memref sig .tc .vmem S512x1 .f32) (harg12 : arg12.IsWhole)
    (h1 : ¬ k0_cond1 i = 1#1) (h2 : ¬ k0_cond2 i = 1#1)
    (x2 : Vec F S512x5120 .fp8e4m3) (x3 : Vec F S1x1x512 .f32) (x4 x5 : Vec F S5120x512 .fp8e4m3) (x6 x7 : Vec F S1x512 .f32)
    (x8 : Vec F S512x512 .fp8e4m3) (x9 : Vec F S1x1x512 .f32) (x10 : Vec F S17x512x512 .f32) (x11 x12 : Vec F S512x1 .f32) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare x8 ∗ owns (c : Thread nD τ) arg9 fullShare x9 ∗ owns (c : Thread nD τ) arg10 fullShare x10
        ∗ owns (c : Thread nD τ) arg11 fullShare x11 ∗ owns (c : Thread nD τ) arg12 fullShare x12
        ∗ (iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare (k0_pay5 (View.ld x10 (slab i)) x12) ∗ owns (c : Thread nD τ) arg9 fullShare x9 ∗ owns (c : Thread nD τ) arg10 fullShare x10
        ∗ owns (c : Thread nD τ) arg11 fullShare x11 ∗ owns (c : Thread nD τ) arg12 fullShare x12) -∗ K ⟨⟩))
      ⊢ wp frame (wpE (defs₀ (F := F)) Variants.none c none) E (cc0_gateup i arg2 harg2 arg3 harg3 arg4 harg4 arg5 harg5 arg6 harg6 arg7 harg7 arg8 harg8 arg9 harg9
          arg10 harg10 arg11 harg11 arg12 harg12) K := by
  simp only [cc0_gateup_eq_skeleton]; unfold cc0_gateup_skel
  simp only [h1, h2, ↓reduceDIte, k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf2 hf3 hf4 hf5 hf6 hf7 hf8 hf9 hf10 hf11 hf12
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_full _ _ _ _ _).trans ?_
    repeat rw [View.readAt_full]
    rfl
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists f12; isplitr; · ipureintro; rfl
  iexact H12

end Cert.GateUpIdeal.Hand

end
-- ==== Proof.GateUpIdealData.lean ====
/- What the gate/up kernel's buffers hold between grid points. Point `t` is row block `t / 17`, column block `t % 17`;
   the scratch holds the activations of the last 17 points, the running maxima of the current row block, and the
   reciprocal scales of the row block that is being written out, one row block late. -/
module

public import proofs.«01_k».proof.Proof.Gen.GateUpIdeal.Frame
public import proofs.«01_k».proof.Proof.Gen.GateUpIdeal.Skeleton
public import Idealize.ShloMosaic.Lib.Pipeline.Frame
public import Idealize.ShloMosaic.Lib.Pipeline.Value
public import Idealize.ShloMosaic.Lib.Tactic
public import Idealize.ShloMosaic.Lib.Pointwise.Index
public import proofs.«01_k».proof.Proof.GateUpIdealBody

@[expose] public section

set_option maxRecDepth 16384

noncomputable section

namespace Cert.GateUpIdeal.Hand

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ)

/-! ## The grid -/

theorem cond1_iff : ∀ t : Fin cfg0.N, k0_cond1 (grid0.coords t) = 1#1 ↔ t.val % 17 = 0 :=
  (by decide +kernel : ∀ t : Fin grid0.N, k0_cond1 (grid0.coords t) = 1#1 ↔ t.val % 17 = 0)

theorem cond2_iff : ∀ t : Fin cfg0.N, k0_cond2 (grid0.coords t) = 1#1 ↔ t.val < 204 :=
  (by decide +kernel : ∀ t : Fin grid0.N, k0_cond2 (grid0.coords t) = 1#1 ↔ t.val < 204)

theorem off1_val : ∀ t : Fin cfg0.N, k0_off1 (grid0.coords t) (0 : Fin 3) = t.val % 17
    ∧ k0_off1 (grid0.coords t) (1 : Fin 3) = 0 ∧ k0_off1 (grid0.coords t) (2 : Fin 3) = 0 :=
  (by decide +kernel : ∀ t : Fin grid0.N, k0_off1 (grid0.coords t) (0 : Fin 3) = t.val % 17
    ∧ k0_off1 (grid0.coords t) (1 : Fin 3) = 0 ∧ k0_off1 (grid0.coords t) (2 : Fin 3) = 0)

theorem off2_val : ∀ t : Fin cfg0.N, k0_off2 (grid0.coords t) (0 : Fin 3) = t.val % 17
    ∧ k0_off2 (grid0.coords t) (1 : Fin 3) = 0 ∧ k0_off2 (grid0.coords t) (2 : Fin 3) = 0 :=
  (by decide +kernel : ∀ t : Fin grid0.N, k0_off2 (grid0.coords t) (0 : Fin 3) = t.val % 17
    ∧ k0_off2 (grid0.coords t) (1 : Fin 3) = 0 ∧ k0_off2 (grid0.coords t) (2 : Fin 3) = 0)

theorem fetch7 : ∀ t : Fin cfg0.N, (cfg0.win 7).fetch t = false :=
  (by decide +kernel : ∀ t : Fin grid0.N, win0_7.fetch t = false)

theorem flush7 : ∀ t : Fin cfg0.N, (cfg0.win 7).flush t = true → t.val % 17 = 16 ∧ 33 ≤ t.val :=
  (by decide +kernel : ∀ t : Fin grid0.N, win0_7.flush t = true → t.val % 17 = 16 ∧ 33 ≤ t.val)

theorem flush6 : ∀ t : Fin cfg0.N, (cfg0.win 6).flush t = true → 17 ≤ t.val :=
  (by decide +kernel : ∀ t : Fin grid0.N, win0_6.flush t = true → 17 ≤ t.val)

/-- Point number `n` (the last one from 220 on). -/
def pt (n : ℕ) : Fin cfg0.N := ⟨min n 220, by rw [show cfg0.N = grid0.N from rfl, N_0]; omega⟩

theorem pt_val (t : Fin cfg0.N) : pt t.val = t :=
  Fin.ext (by have : t.val < grid0.N := t.isLt; rw [N_0] at this; show min t.val 220 = t.val; omega)

theorem lt_N (t : Fin cfg0.N) : t.val < 221 := by have : t.val < grid0.N := t.isLt; rwa [N_0] at this

/-! ## One column block of the activation scratch -/

/-- Column block `n % 17` of the activation scratch. -/
def plane (x : Vec F S17x512x512 .f32) (n : ℕ) : Vec F S1x512x512 .f32 :=
  fun y => x (ix3 ⟨n % 17, Nat.mod_lt _ (by decide)⟩ (y 1) (y 2))

theorem ld_slab (x : Vec F S17x512x512 .f32) (t : Fin cfg0.N) : View.ld x (slab (grid0.coords t)) = plane x t.val := by
  obtain ⟨h0, h1, h2⟩ := off1_val t
  funext y
  refine congrArg x (funext fun a => Fin.ext ?_)
  have hy : (y (0 : Fin 3)).val < 1 := (y (0 : Fin 3)).isLt
  match a with
  | ⟨0, _⟩ => show k0_off1 (grid0.coords t) (0 : Fin 3) + 1 * (y (0 : Fin 3)).val = t.val % 17; omega
  | ⟨1, _⟩ => show k0_off1 (grid0.coords t) (1 : Fin 3) + 1 * (y (1 : Fin 3)).val = (y (1 : Fin 3)).val; omega
  | ⟨2, _⟩ => show k0_off1 (grid0.coords t) (2 : Fin 3) + 1 * (y (2 : Fin 3)).val = (y (2 : Fin 3)).val; omega

/-- A block stored at point `t` is the scratch's column block `t % 17`, and the other column blocks stay. -/
theorem plane_put (x : Vec F S17x512x512 .f32) (t : Fin cfg0.N) (w : Vec F S1x512x512 .f32) (n : ℕ) :
    plane (VecWindow.put x (k0_off2 (grid0.coords t)) S1x512x512.size w) n = if n % 17 = t.val % 17 then w else plane x n := by
  obtain ⟨h0, h1, h2⟩ := off2_val t
  have hn : n % 17 < 17 := Nat.mod_lt _ (by decide)
  funext y
  have hy0 : (y (0 : Fin 3)).val < 1 := (y (0 : Fin 3)).isLt
  have hy1 : (y (1 : Fin 3)).val < 512 := (y (1 : Fin 3)).isLt
  have hy2 : (y (2 : Fin 3)).val < 512 := (y (2 : Fin 3)).isLt
  unfold plane VecWindow.put
  by_cases h : n % 17 = t.val % 17
  · rw [if_pos h]
    rw [dif_pos (fun a => by
      match a with
      | ⟨0, _⟩ => show k0_off2 (grid0.coords t) (0 : Fin 3) ≤ n % 17 ∧ n % 17 < k0_off2 (grid0.coords t) (0 : Fin 3) + 1; omega
      | ⟨1, _⟩ => show k0_off2 (grid0.coords t) (1 : Fin 3) ≤ (y (1 : Fin 3)).val ∧ (y (1 : Fin 3)).val < k0_off2 (grid0.coords t) (1 : Fin 3) + 512; omega
      | ⟨2, _⟩ => show k0_off2 (grid0.coords t) (2 : Fin 3) ≤ (y (2 : Fin 3)).val ∧ (y (2 : Fin 3)).val < k0_off2 (grid0.coords t) (2 : Fin 3) + 512; omega)]
    refine congrArg w (funext fun a => Fin.ext ?_)
    match a with
    | ⟨0, _⟩ => show n % 17 - k0_off2 (grid0.coords t) (0 : Fin 3) = (y (0 : Fin 3)).val; omega
    | ⟨1, _⟩ => show (y (1 : Fin 3)).val - k0_off2 (grid0.coords t) (1 : Fin 3) = (y (1 : Fin 3)).val; omega
    | ⟨2, _⟩ => show (y (2 : Fin 3)).val - k0_off2 (grid0.coords t) (2 : Fin 3) = (y (2 : Fin 3)).val; omega
  · rw [if_neg h, dif_neg]
    intro hall
    have := hall (0 : Fin 3)
    have e : k0_off2 (grid0.coords t) (0 : Fin 3) ≤ n % 17 ∧ n % 17 < k0_off2 (grid0.coords t) (0 : Fin 3) + 1 := this
    omega

/-! ## What is computed at each point -/

/-- The block of activations computed at a point, from the point's input blocks. -/
def act (c : Dev nD) (t : Fin cfg0.N) : FVec F S1x512x512 .f32 :=
  k0_pay8 (iblk m c 1 t) (iblk m c 0 t) (iblk m c 2 t) (iblk m c 4 t) (iblk m c 0 t) (iblk m c 3 t) (iblk m c 5 t)

/-- The running row maxima after a point, from those before it. -/
def amaxStep (c : Dev nD) (t : Fin cfg0.N) (a : Vec F S512x1 .f32) : FVec F S512x1 .f32 :=
  k0_pay6 (k0_pay9 (iblk m c 1 t) (iblk m c 0 t) (iblk m c 2 t) (iblk m c 4 t) (iblk m c 0 t) (iblk m c 3 t) (iblk m c 5 t) a)

/-- The running row maxima after point `n`: they restart from zero at the first column block. -/
def amax (c : Dev nD) : ℕ → FVec F S512x1 .f32
  | 0 => amaxStep m c (pt 0) k0_pay4
  | n + 1 => amaxStep m c (pt (n + 1)) (if (n + 1) % 17 = 0 then k0_pay4 else amax c n)

theorem amax_zero (c : Dev nD) : amax m c 0 = amaxStep m c (pt 0) (k0_pay4 (F := F)) := rfl

theorem amax_succ (c : Dev nD) (n : ℕ) :
    amax m c (n + 1) = amaxStep m c (pt (n + 1)) (if (n + 1) % 17 = 0 then k0_pay4 (F := F) else amax m c n) := rfl

theorem amax_of_mod (c : Dev nD) (t : Fin cfg0.N) (h : t.val % 17 = 0) : amax m c t.val = amaxStep m c t k0_pay4 := by
  rcases hn : t.val with _ | n
  · show amaxStep m c (pt 0) k0_pay4 = _; rw [← hn, pt_val]
  · show amaxStep m c (pt (n + 1)) (if (n + 1) % 17 = 0 then k0_pay4 else amax m c n) = _
    rw [if_pos (by omega), ← hn, pt_val]

theorem amax_of_ne (c : Dev nD) (t : Fin cfg0.N) (h : t.val % 17 ≠ 0) :
    amax m c t.val = amaxStep m c t (amax m c (t.val - 1)) := by
  rcases hn : t.val with _ | n
  · rw [hn] at h; exact absurd rfl h
  · show amaxStep m c (pt (n + 1)) (if (n + 1) % 17 = 0 then k0_pay4 else amax m c n) = _
    rw [if_neg (by omega), ← hn, pt_val]; simp only [hn, Nat.add_sub_cancel]

/-- The row maxima of the row block before the one of point `n`. -/
def rowAmax (c : Dev nD) (n : ℕ) : FVec F S512x1 .f32 := amax m c (17 * (n / 17) - 1)

/-- The codes written at a point: the activations computed 17 points earlier, over their row block's scale. -/
def codesAt (c : Dev nD) (t : Fin cfg0.N) : FVec F S512x512 .fp8e4m3 :=
  k0_pay5 (act m c (pt (t.val - 17))) (k0_pay2 (rowAmax m c t.val))

/-- The scales written at a row block's points: those of the row block before. -/
def scalesAt (c : Dev nD) (t : Fin cfg0.N) : FVec F S1x1x512 .f32 := k0_pay3 (rowAmax m c t.val)

/-! ## The invariant of the scratch -/

/-- What the three scratch buffers hold before point `p`. -/
structure Holds (c : Dev nD) (p : ℕ) (x10 : Vec F S17x512x512 .f32) (x11 x12 : Vec F S512x1 .f32) : Prop where
  act : ∀ n, n < p → p ≤ n + 17 → n < 204 → plane x10 n = act m c (pt n)
  amax : ∀ n, n + 1 = p → n < 204 → x11 = amax m c n
  inv : ∀ n, n + 1 = p → 17 ≤ n → x12 = k0_pay2 (rowAmax m c n)

theorem Holds.zero (c : Dev nD) (x10 : Vec F S17x512x512 .f32) (x11 x12 : Vec F S512x1 .f32) : Holds m c 0 x10 x11 x12 :=
  ⟨fun n h => absurd h (Nat.not_lt_zero n), fun n h => absurd h (Nat.succ_ne_zero n), fun n h => absurd h (Nat.succ_ne_zero n)⟩

/-- The reciprocal scales the body uses at a point. -/
def invAt (t : Fin cfg0.N) (x11 x12 : Vec F S512x1 .f32) : Vec F S512x1 .f32 := if t.val % 17 = 0 then k0_pay2 x11 else x12

/-- The running maxima the body adds a point's activations to. -/
def amaxFrom (t : Fin cfg0.N) (x11 : Vec F S512x1 .f32) : Vec F S512x1 .f32 := if t.val % 17 = 0 then k0_pay4 else x11

theorem Holds.invAt_eq {c : Dev nD} {t : Fin cfg0.N} {x10 : Vec F S17x512x512 .f32} {x11 x12 : Vec F S512x1 .f32}
    (h : Holds m c t.val x10 x11 x12) (ht : 17 ≤ t.val) : invAt t x11 x12 = k0_pay2 (rowAmax m c t.val) := by
  have hN := lt_N t
  unfold invAt
  split
  · next h0 => rw [h.amax (t.val - 1) (by omega) (by omega)]; unfold rowAmax; rw [show 17 * (t.val / 17) - 1 = t.val - 1 by omega]
  · next h0 => rw [h.inv (t.val - 1) (by omega) (by omega)]; unfold rowAmax; rw [show (t.val - 1) / 17 = t.val / 17 by omega]

theorem Holds.codes {c : Dev nD} {t : Fin cfg0.N} {x10 : Vec F S17x512x512 .f32} {x11 x12 : Vec F S512x1 .f32}
    (h : Holds m c t.val x10 x11 x12) (ht : 17 ≤ t.val) : k0_pay5 (plane x10 t.val) (invAt t x11 x12) = codesAt m c t := by
  have hN := lt_N t
  rw [h.invAt_eq m ht]
  unfold codesAt
  have e : plane x10 t.val = plane x10 (t.val - 17) := by
    unfold plane; simp only [show (t.val - 17) % 17 = t.val % 17 by omega]
  rw [e, h.act (t.val - 17) (by omega) (by omega) (by omega)]

theorem Holds.scales {c : Dev nD} {t : Fin cfg0.N} {x10 : Vec F S17x512x512 .f32} {x11 x12 : Vec F S512x1 .f32}
    (h : Holds m c t.val x10 x11 x12) (ht : 17 ≤ t.val) (h0 : t.val % 17 = 0) : k0_pay3 x11 = scalesAt m c t := by
  have hN := lt_N t
  rw [h.amax (t.val - 1) (by omega) (by omega)]; unfold scalesAt rowAmax; rw [show 17 * (t.val / 17) - 1 = t.val - 1 by omega]

theorem Holds.compute {c : Dev nD} {t : Fin cfg0.N} {x10 : Vec F S17x512x512 .f32} {x11 x12 : Vec F S512x1 .f32}
    (h : Holds m c t.val x10 x11 x12) (ht : t.val < 204) :
    Holds m c (t.val + 1) (VecWindow.put x10 (k0_off2 (grid0.coords t)) S1x512x512.size (Hand.act m c t))
      (amaxStep m c t (amaxFrom t x11)) (invAt t x11 x12) where
  act n h1 h2 h3 := by
    rw [plane_put]
    split
    · next e => rw [show n = t.val by omega, pt_val]
    · next e => exact h.act n (by omega) (by omega) h3
  amax n h1 h2 := by
    obtain rfl : n = t.val := by omega
    unfold amaxFrom
    split
    · next e => rw [amax_of_mod m c t e]
    · next e => rw [amax_of_ne m c t e, h.amax (t.val - 1) (by omega) (by omega)]
  inv n h1 h2 := by
    obtain rfl : n = t.val := by omega
    exact h.invAt_eq m h2

theorem Holds.drain {c : Dev nD} {t : Fin cfg0.N} {x10 : Vec F S17x512x512 .f32} {x11 x12 : Vec F S512x1 .f32}
    (h : Holds m c t.val x10 x11 x12) (ht : ¬ t.val < 204) (x11' : Vec F S512x1 .f32) :
    Holds m c (t.val + 1) x10 x11' (invAt t x11 x12) where
  act n h1 h2 h3 := h.act n (by omega) (by omega) h3
  amax n h1 h2 := absurd h2 (by omega)
  inv n h1 h2 := by
    obtain rfl : n = t.val := by omega
    exact h.invAt_eq m h2

end Cert.GateUpIdeal.Hand

end
-- ==== Proof.GateUpIdealFrame.lean ====
/- The gate/up kernel's run: the body at every point keeps the scratch invariant and leaves the delayed codes and scales in the
   output blocks, so the launch terminates with the arguments unchanged and the outputs assembled from those blocks. -/
module

public import proofs.«01_k».proof.Proof.Gen.GateUpIdeal.Frame
public import proofs.«01_k».proof.Proof.Gen.GateUpIdeal.Skeleton
public import Idealize.ShloMosaic.Lib.Pipeline.Frame
public import Idealize.ShloMosaic.Lib.Pipeline.Value
public import Idealize.ShloMosaic.Lib.Tactic
public import proofs.«01_k».proof.Proof.GateUpIdealData

@[expose] public section

set_option maxRecDepth 16384

noncomputable section

namespace Cert.GateUpIdeal.Hand

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The body's invariant before point `p`: the three scratch buffers as `Holds` says, and the generator register. -/
def inv (c : Dev nD) (p : ℕ) : sProp 𝕄 :=
  iprop(∃ (x10 : Vec F S17x512x512 .f32) (x11 x12 : Vec F S512x1 .f32), ⌜Holds m c p x10 x11 x12⌝
    ∗ owns (c : Thread nD τ) (Memref.whole cc0_scratch0) fullShare x10 ∗ owns (c : Thread nD τ) (Memref.whole cc0_scratch1) fullShare x11
    ∗ owns (c : Thread nD τ) (Memref.whole cc0_scratch2) fullShare x12 ∗ (∃ r, prngReg c r))

/-- The proof data: inputs stay as found, and from the second row block on the two outputs' buffers hold the codes and the
    scales of the row block before. -/
def rdat (c : Dev nD) : RDat τ (Elt F) Unit ℕ (UR sig nD τ) ℕ cfg0 c where
  A w := V m c (Pipeline.arrRef spec0 w)
  after w := match w with
    | ⟨0, _⟩ => fun _ Y X => X = Y
    | ⟨1, _⟩ => fun _ Y X => X = Y
    | ⟨2, _⟩ => fun _ Y X => X = Y
    | ⟨3, _⟩ => fun _ Y X => X = Y
    | ⟨4, _⟩ => fun _ Y X => X = Y
    | ⟨5, _⟩ => fun _ Y X => X = Y
    | ⟨6, _⟩ => fun t _ X => 17 ≤ t.val → X = codesAt m c t
    | ⟨7, _⟩ => fun t _ X => 17 ≤ t.val → X = scalesAt m c t
  Φ p := inv m c p.val
  q := Pipeline.shareOf spec0
  owed _ := 0

theorem A_eq (c : Dev nD) (w : Fin cfg0.W) : (rdat m c).A w = V m c (Pipeline.arrRef spec0 w) := by dsimp only [rdat]

theorem finds0_0 (c : Dev nD) (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  exact hd.trans (by unfold RDat.fetched RDat.blockOf iblk; rw [A_eq]; try rfl)
theorem finds0_1 (c : Dev nD) (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  exact hd.trans (by unfold RDat.fetched RDat.blockOf iblk; rw [A_eq]; try rfl)
theorem finds0_2 (c : Dev nD) (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  exact hd.trans (by unfold RDat.fetched RDat.blockOf iblk; rw [A_eq]; try rfl)
theorem finds0_3 (c : Dev nD) (t : Fin cfg0.N) (Y) (h : (rdat m c).Finds 3 t Y) : Y = iblk m c 3 t := by
  obtain ⟨d, hd⟩ := (rdat m c).finds_in_eq_fetched 3 rfl (fun _ _ _ => rfl) (fun _ _ _ h => h) t Y h
  exact hd.trans (by unfold RDat.fetched RDat.blockOf iblk; rw [A_eq]; try rfl)
theorem finds0_4 (c : Dev nD) (t : Fin cfg0.N) (Y) (h : (rdat m c).Finds 4 t Y) : Y = iblk m c 4 t := by
  obtain ⟨d, hd⟩ := (rdat m c).finds_in_eq_fetched 4 rfl (fun _ _ _ => rfl) (fun _ _ _ h => h) t Y h
  exact hd.trans (by unfold RDat.fetched RDat.blockOf iblk; rw [A_eq]; try rfl)
theorem finds0_5 (c : Dev nD) (t : Fin cfg0.N) (Y) (h : (rdat m c).Finds 5 t Y) : Y = iblk m c 5 t := by
  obtain ⟨d, hd⟩ := (rdat m c).finds_in_eq_fetched 5 rfl (fun _ _ _ => rfl) (fun _ _ _ h => h) t Y h
  exact hd.trans (by unfold RDat.fetched RDat.blockOf iblk; rw [A_eq]; try rfl)

/-- The scales' buffer, past a row block's first point, holds what that first point left. -/
theorem finds0_7 (c : Dev nD) (t : Fin cfg0.N) (Y) (h : (rdat m c).Finds 7 t Y) (h0 : t.val % 17 ≠ 0) (h17 : 17 ≤ t.val) :
    Y = scalesAt m c t := by
  have hN := lt_N t
  rcases ((rdat m c).finds_of_pos (fetch7 t) (by omega) Y).mp h with hf | ⟨Y', _, hY'⟩
  · exact absurd (flush7 _ hf).1 (by show (t.val - 1) % 17 ≠ 16; omega)
  · have e : 17 ≤ t.val - 1 → Y = scalesAt m c ⟨t.val - 1, Nat.lt_of_le_of_lt (Nat.sub_le _ _) t.isLt⟩ := hY'
    rw [e (by omega)]; unfold scalesAt rowAmax
    show k0_pay3 (amax m c (17 * ((t.val - 1) / 17) - 1)) = _
    rw [show (t.val - 1) / 17 = t.val / 17 by omega]

/-! ## The body at a point -/

/-- What the body is called with at point `t`, the windows one by one, -/
def bodyPre (c : Dev nD) (t : Fin cfg0.N) (Y6 : Vec F S512x512 .fp8e4m3) (Y7 : Vec F S1x1x512 .f32) : sProp 𝕄 :=
  iprop(inv m c t.val ∗ (rdat m c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare Y6 ∗ owns (c : Thread nD τ) (st0_7 t) fullShare Y7)

/-- and what it returns. -/
def bodyPost (c : Dev nD) (t : Fin cfg0.N) : sProp 𝕄 :=
  iprop(inv m c (t.val + 1) ∗ (rdat m c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ (∃ X, ⌜17 ≤ t.val → X = codesAt m c t⌝ ∗ owns (c : Thread nD τ) (st0_6 t) fullShare X)
    ∗ (∃ X, ⌜17 ≤ t.val → X = scalesAt m c t⌝ ∗ owns (c : Thread nD τ) (st0_7 t) fullShare X))

theorem body_start_compute (c : Dev nD) (t : Fin cfg0.N) (Y6 : Vec F S512x512 .fp8e4m3) (Y7 : Vec F S1x1x512 .f32) (h1 : t.val % 17 = 0) (h2 : t.val < 204) :
    bodyPre m c t Y6 Y7 ⊢ wp frame (wpE (defs₀ (F := F)) Variants.none c none) Set.univ (bodyAt0 t) (fun _ => bodyPost m c t) := by
  unfold bodyPre bodyPost bodyAt0 inv
  rw [show (rdat m c).owesAt () t.succ = (rdat m c).owesAt () t.castSucc from rfl]
  iintro ⟨⟨%x10, %x11, %x12, %hh, H10, H11, H12, Hg⟩, Ho, H0, H1, H2, H3, H4, H5, H6, H7⟩
  have ei : invAt t x11 x12 = k0_pay2 x11 := if_pos h1
  have ea : amaxFrom t x11 = k0_pay4 := if_pos h1
  iapply (run_start_compute c Set.univ (grid0.coords t) _ _ _ _ _ _ _ _ _ _ _ _ _ _ _ _ _ _ _ _ _ _ ((cond1_iff t).mpr h1) ((cond2_iff t).mpr h2)
    (iblk m c 0 t) (iblk m c 1 t) (iblk m c 2 t) (iblk m c 3 t) (iblk m c 4 t) (iblk m c 5 t) Y6 Y7 x10 x11 x12 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H10]; · iexact H10
  isplitl [H11]; · iexact H11
  isplitl [H12]; · iexact H12
  iintro ⟨H0, H1, H2, H3, H4, H5, H6, H7, H10, H11, H12⟩
  isplitl [H10 H11 H12 Hg]
  · iexists _; iexists _; iexists _; isplitr
    swap
    · isplitl [H10]; · iexact H10
      isplitl [H11]; · iexact H11
      isplitl [H12]; · iexact H12
      iexact Hg
    ipureintro
    have := hh.compute m h2; rw [ei, ea] at this; exact this
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr
    swap; · iexact H6
    ipureintro; intro h17; have := hh.codes m h17; rw [ei] at this; rw [ld_slab]; exact this
  iexists _; isplitr
  swap; · iexact H7
  ipureintro; intro h17; exact hh.scales m h17 h1

theorem body_start_drain (c : Dev nD) (t : Fin cfg0.N) (Y6 : Vec F S512x512 .fp8e4m3) (Y7 : Vec F S1x1x512 .f32) (h1 : t.val % 17 = 0) (h2 : ¬ t.val < 204) :
    bodyPre m c t Y6 Y7 ⊢ wp frame (wpE (defs₀ (F := F)) Variants.none c none) Set.univ (bodyAt0 t) (fun _ => bodyPost m c t) := by
  unfold bodyPre bodyPost bodyAt0 inv
  rw [show (rdat m c).owesAt () t.succ = (rdat m c).owesAt () t.castSucc from rfl]
  iintro ⟨⟨%x10, %x11, %x12, %hh, H10, H11, H12, Hg⟩, Ho, H0, H1, H2, H3, H4, H5, H6, H7⟩
  have ei : invAt t x11 x12 = k0_pay2 x11 := if_pos h1
  have ea : amaxFrom t x11 = k0_pay4 := if_pos h1
  iapply (run_start_drain c Set.univ (grid0.coords t) _ _ _ _ _ _ _ _ _ _ _ _ _ _ _ _ _ _ _ _ _ _ ((cond1_iff t).mpr h1) (fun h => h2 ((cond2_iff t).mp h))
    (iblk m c 0 t) (iblk m c 1 t) (iblk m c 2 t) (iblk m c 3 t) (iblk m c 4 t) (iblk m c 5 t) Y6 Y7 x10 x11 x12 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H10]; · iexact H10
  isplitl [H11]; · iexact H11
  isplitl [H12]; · iexact H12
  iintro ⟨H0, H1, H2, H3, H4, H5, H6, H7, H10, H11, H12⟩
  isplitl [H10 H11 H12 Hg]
  · iexists _; iexists _; iexists _; isplitr
    swap
    · isplitl [H10]; · iexact H10
      isplitl [H11]; · iexact H11
      isplitl [H12]; · iexact H12
      iexact Hg
    ipureintro
    have := hh.drain m h2 k0_pay4; rw [ei] at this; exact this
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr
    swap; · iexact H6
    ipureintro; intro h17; have := hh.codes m h17; rw [ei] at this; rw [ld_slab]; exact this
  iexists _; isplitr
  swap; · iexact H7
  ipureintro; intro h17; exact hh.scales m h17 h1

theorem body_next_compute (c : Dev nD) (t : Fin cfg0.N) (Y6 : Vec F S512x512 .fp8e4m3) (Y7 : Vec F S1x1x512 .f32) (h1 : t.val % 17 ≠ 0) (h2 : t.val < 204) (h7 : 17 ≤ t.val → Y7 = scalesAt m c t) :
    bodyPre m c t Y6 Y7 ⊢ wp frame (wpE (defs₀ (F := F)) Variants.none c none) Set.univ (bodyAt0 t) (fun _ => bodyPost m c t) := by
  unfold bodyPre bodyPost bodyAt0 inv
  rw [show (rdat m c).owesAt () t.succ = (rdat m c).owesAt () t.castSucc from rfl]
  iintro ⟨⟨%x10, %x11, %x12, %hh, H10, H11, H12, Hg⟩, Ho, H0, H1, H2, H3, H4, H5, H6, H7⟩
  have ei : invAt t x11 x12 = x12 := if_neg h1
  have ea : amaxFrom t x11 = x11 := if_neg h1
  iapply (run_next_compute c Set.univ (grid0.coords t) _ _ _ _ _ _ _ _ _ _ _ _ _ _ _ _ _ _ _ _ _ _ (fun h => h1 ((cond1_iff t).mp h)) ((cond2_iff t).mpr h2)
    (iblk m c 0 t) (iblk m c 1 t) (iblk m c 2 t) (iblk m c 3 t) (iblk m c 4 t) (iblk m c 5 t) Y6 Y7 x10 x11 x12 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H10]; · iexact H10
  isplitl [H11]; · iexact H11
  isplitl [H12]; · iexact H12
  iintro ⟨H0, H1, H2, H3, H4, H5, H6, H7, H10, H11, H12⟩
  isplitl [H10 H11 H12 Hg]
  · iexists _; iexists _; iexists _; isplitr
    swap
    · isplitl [H10]; · iexact H10
      isplitl [H11]; · iexact H11
      isplitl [H12]; · iexact H12
      iexact Hg
    ipureintro
    have := hh.compute m h2; rw [ei, ea] at this; exact this
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr
    swap; · iexact H6
    ipureintro; intro h17; have := hh.codes m h17; rw [ei] at this; rw [ld_slab]; exact this
  iexists _; isplitr
  swap; · iexact H7
  ipureintro; exact h7

theorem body_next_drain (c : Dev nD) (t : Fin cfg0.N) (Y6 : Vec F S512x512 .fp8e4m3) (Y7 : Vec F S1x1x512 .f32) (h1 : t.val % 17 ≠ 0) (h2 : ¬ t.val < 204) (h7 : 17 ≤ t.val → Y7 = scalesAt m c t) :
    bodyPre m c t Y6 Y7 ⊢ wp frame (wpE (defs₀ (F := F)) Variants.none c none) Set.univ (bodyAt0 t) (fun _ => bodyPost m c t) := by
  unfold bodyPre bodyPost bodyAt0 inv
  rw [show (rdat m c).owesAt () t.succ = (rdat m c).owesAt () t.castSucc from rfl]
  iintro ⟨⟨%x10, %x11, %x12, %hh, H10, H11, H12, Hg⟩, Ho, H0, H1, H2, H3, H4, H5, H6, H7⟩
  have ei : invAt t x11 x12 = x12 := if_neg h1
  have ea : amaxFrom t x11 = x11 := if_neg h1
  iapply (run_next_drain c Set.univ (grid0.coords t) _ _ _ _ _ _ _ _ _ _ _ _ _ _ _ _ _ _ _ _ _ _ (fun h => h1 ((cond1_iff t).mp h)) (fun h => h2 ((cond2_iff t).mp h))
    (iblk m c 0 t) (iblk m c 1 t) (iblk m c 2 t) (iblk m c 3 t) (iblk m c 4 t) (iblk m c 5 t) Y6 Y7 x10 x11 x12 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H10]; · iexact H10
  isplitl [H11]; · iexact H11
  isplitl [H12]; · iexact H12
  iintro ⟨H0, H1, H2, H3, H4, H5, H6, H7, H10, H11, H12⟩
  isplitl [H10 H11 H12 Hg]
  · iexists _; iexists _; iexists _; isplitr
    swap
    · isplitl [H10]; · iexact H10
      isplitl [H11]; · iexact H11
      isplitl [H12]; · iexact H12
      iexact Hg
    ipureintro
    have := hh.drain m h2 x11; rw [ei] at this; exact this
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr
    swap; · iexact H6
    ipureintro; intro h17; have := hh.codes m h17; rw [ei] at this; rw [ld_slab]; exact this
  iexists _; isplitr
  swap; · iexact H7
  ipureintro; exact h7

/-- The body at any point. -/
theorem sound_body (c : Dev nD) (t : Fin cfg0.N) (Y6 : Vec F S512x512 .fp8e4m3) (Y7 : Vec F S1x1x512 .f32)
    (h7 : t.val % 17 ≠ 0 → 17 ≤ t.val → Y7 = scalesAt m c t) :
    bodyPre m c t Y6 Y7 ⊢ wp frame (wpE (defs₀ (F := F)) Variants.none c none) Set.univ (bodyAt0 t) (fun _ => bodyPost m c t) := by
  by_cases h1 : t.val % 17 = 0 <;> by_cases h2 : t.val < 204
  · exact body_start_compute m c t Y6 Y7 h1 h2
  · exact body_start_drain m c t Y6 Y7 h1 h2
  · exact body_next_compute m c t Y6 Y7 h1 h2 (h7 h1)
  · exact body_next_drain m c t Y6 Y7 h1 h2 (h7 h1)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y hY => by
  rw [bigSep_W0, bigSep_W0, defs₀_row,
    finds0_0 m c t _ (hY 0), finds0_1 m c t _ (hY 1), finds0_2 m c t _ (hY 2), finds0_3 m c t _ (hY 3), finds0_4 m c t _ (hY 4),
    finds0_5 m c t _ (hY 5)]
  refine triple_restated (sound_body m c t (Y 6) (Y 7) (fun h0 h17 => finds0_7 m c t _ (hY 7) h0 h17)) rfl .rfl fun _ => ?_
  unfold bodyPost
  rw [show (rdat m c).Φ t.succ = inv m c (t.val + 1) from rfl]
  iintro ⟨Hi, Ho, H0, H1, H2, H3, H4, H5, H6, H7⟩
  isplitl [Hi]; · iexact Hi
  isplitl [Ho]; · iexact Ho
  isplitl [H0]
  · iexists _; isplitr
    swap; · iexact H0
    ipureintro; exact rfl
  isplitl [H1]
  · iexists _; isplitr
    swap; · iexact H1
    ipureintro; exact rfl
  isplitl [H2]
  · iexists _; isplitr
    swap; · iexact H2
    ipureintro; exact rfl
  isplitl [H3]
  · iexists _; isplitr
    swap; · iexact H3
    ipureintro; exact rfl
  isplitl [H4]
  · iexists _; isplitr
    swap; · iexact H4
    ipureintro; exact rfl
  isplitl [H5]
  · iexists _; isplitr
    swap; · iexact H5
    ipureintro; exact rfl
  isplitl [H6]; · iexact H6
  iexact H7

/-! ## The launch -/

theorem inv_in (c : Dev nD) : Pipeline.ΦA spec0 c ⊢ inv m c 0 := by
  unfold Pipeline.ΦA inv
  rw [scopedRest0_eq]
  simp only [owns_whole]
  iintro ⟨⟨⟨%x10, H10⟩, ⟨%x11, H11⟩, ⟨%x12, H12⟩⟩, Hg⟩
  iexists x10; iexists x11; iexists x12
  isplitr; · ipureintro; exact Holds.zero m c x10 x11 x12
  isplitl [H10]; · iexact H10
  isplitl [H11]; · iexact H11
  isplitl [H12]; · iexact H12
  iexact Hg

theorem inv_out (c : Dev nD) (p : ℕ) : inv m c p ⊢ Pipeline.ΦA spec0 c := by
  unfold Pipeline.ΦA inv
  rw [scopedRest0_eq]
  simp only [owns_whole]
  iintro ⟨%x10, %x11, %x12, -, H10, H11, H12, Hg⟩
  isplitl [H10 H11 H12]
  · isplitl [H10]; · iexists _; iexact H10
    isplitl [H11]; · iexists _; iexact H11
    iexists _; iexact H12
  iexact Hg

set_option backward.isDefEq.respectTransparency.types false in
set_option maxHeartbeats 800000 in
/-- The launch: from any memory every run ends with the arrays as the proof data says and the semaphores at zero. -/
theorem run_main : θ_run defs (onTc (τ := τ) (main (F := F))) (s₀ m ρ)
    (fun r => Pipeline.RDat.FramePost (cfgs 0) (fun c => rdat m c) (V m) r ∧ r.2.sem = fun _ => 0) :=
  Pipeline.RDat.θ_run_frame_track_shared (Q' := _) cfgs (0 : Fin 1) launch₀0 defs₀ Variants.none (fun c => rdat m c) m ρ main
    (hbody := fun c => body_obligation m c) (hq := fun _ _ _ => rfl) (howed := fun _ _ => rfl) (V := V m)
    (hmain := hmain m Variants.none) (hA := A_eq m) (hin := fun c => inv_in m c) (hout := fun c => inv_out m c _)

/-- After the run the four arguments hold what they held at launch. -/
theorem args_unchanged {r : PUnit × MemSt nD τ sig (Elt F)} (h : Pipeline.RDat.FramePost (cfgs 0) (fun c => rdat m c) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(Pipeline.RDat.FramePost.arr_in h c 0 rfl).trans ((A_eq m c 0).trans (V_main_arg0 m c)),
    ((h c).2 main_arg1 (Pipeline.mem_restRefs_of main_arg1 (by decide) (by decide))).trans (V_main_arg1 m c),
    (Pipeline.RDat.FramePost.arr_in h c 3 rfl).trans ((A_eq m c 3).trans (V_main_arg2 m c)),
    ((h c).2 main_arg3 (Pipeline.mem_restRefs_of main_arg3 (by decide) (by decide))).trans (V_main_arg3 m c)⟩

/-- The frame: every run ends with the four arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => args_unchanged m h.1 c, h.2⟩) (run_main m ρ)

end Cert.GateUpIdeal.Hand

end
-- ==== Proof.GateUpBlock.lean ====
/- The gate/up kernel at one grid point, element by element: the activations, the running maxima, the scales and the
   codes, and which rows and columns of the argument arrays the point's blocks are. -/
module

public import proofs.«01_k».proof.Proof.GateUpIdealFrame
public import proofs.«01_k».proof.Proof.GateUpSpec
public import Idealize.ShloMosaic.Lib.StableHlo.ReadAt

@[expose] public section

set_option maxRecDepth 16384

noncomputable section

namespace Cert.GateUpValue

open Idealize.ShloMosaic Idealize.ShloMosaic.TcCoe Idealize.SL.Sem
open Cert.GateUpIdeal Cert.GateUpIdeal.Gen Cert.GateUpIdeal.Hand
open Cert.Quant

/-! ## The body's expressions at an element -/

/-- One element of the scaled product of two blocks. -/
def projBlk (x : FVec Ideal ⟨2, ![512, 5120]⟩ .fp8e4m3) (s : FVec Ideal ⟨3, ![1, 1, 512]⟩ .f32) (w : FVec Ideal ⟨2, ![5120, 512]⟩ .fp8e4m3)
    (ws : FVec Ideal ⟨2, ![1, 512]⟩ .f32) (r q : Fin 512) : EReal :=
  (∑ k : Fin 5120, x (ix2 r k) * w (ix2 k q)) * (s (ix3 0 0 r) * ws (ix2 0 q))

/-- Where the blocks hold the arrays' rows and columns, the block's expression is the array's. -/
theorem projBlk_eq {x s w ws a sa wa wsa} {r q : Fin 512} {R : Fin 6144} {C : Fin 17408}
    (h0 : ∀ k, x (ix2 r k) = a (ix2 R k)) (h1 : s (ix3 0 0 r) = sa (ix1 R)) (h2 : ∀ k, w (ix2 k q) = wa (ix2 k C))
    (h3 : ws (ix2 0 q) = wsa (ix1 C)) : projBlk x s w ws r q = proj a sa wa wsa R C := by
  unfold projBlk proj
  simp only [h0, h1, h2, h3]

theorem pay7_apply (s x wg wgs wu wus) (r q : Fin 512) :
    k0_pay7 (F := Ideal) s x wg wgs x wu wus (ix2 r q) = glu (projBlk x s wg wgs r q) (projBlk x s wu wus r q) := by
  unfold glu projBlk
  pointwise [k0_pay7]

theorem pay8_apply (s x wg wgs wu wus) (r q : Fin 512) :
    k0_pay8 (F := Ideal) s x wg wgs x wu wus (ix3 0 r q) = k0_pay7 (F := Ideal) s x wg wgs x wu wus (ix2 r q) := by
  pointwise [k0_pay8]

theorem pay9_apply (s x wg wgs wu wus v) (r : Fin 512) :
    k0_pay9 (F := Ideal) s x wg wgs x wu wus v (ix2 r 0)
      = max (v (ix2 r 0)) (Finset.univ.fold max ⊥ fun q : Fin 512 =>
          max (k0_pay7 (F := Ideal) s x wg wgs x wu wus (ix2 r q)) (-(k0_pay7 (F := Ideal) s x wg wgs x wu wus (ix2 r q)))) := by
  rw [← ofBits_neg_inf]
  pointwise [k0_pay9]
  rfl

theorem pay6_apply (v) (r : Fin 512) : k0_pay6 (F := Ideal) v (ix2 r 0) = v (ix2 r 0) := by
  pointwise [k0_pay6]

theorem pay4_apply (r : Fin 512) : k0_pay4 (F := Ideal) (ix2 r 0) = 0 := by
  pointwise [k0_pay4]

theorem pay1_apply (v) (r : Fin 512) : k0_pay1 (F := Ideal) v (ix2 r 0) = scaleOf (v (ix2 r 0)) := by
  unfold scaleOf
  pointwise [k0_pay1]

theorem pay2_apply (v) (r : Fin 512) : k0_pay2 (F := Ideal) v (ix2 r 0) = Ideal.div 1 (scaleOf (v (ix2 r 0))) := by
  rw [← pay1_apply]
  pointwise [k0_pay2]

theorem pay3_apply (v) (r : Fin 512) : k0_pay3 (F := Ideal) v (ix3 0 0 r) = scaleOf (v (ix2 r 0)) := by
  rw [← pay1_apply]
  pointwise [k0_pay3]

theorem pay5_apply (a v) (r q : Fin 512) : k0_pay5 (F := Ideal) a v (ix2 r q)
    = min (Ideal.ofBits .f32 0x43E00000#32) (max (Ideal.ofBits .f32 0xC3E00000#32) (a (ix3 0 r q) * v (ix2 r 0))) := by
  pointwise [k0_pay5]

/-! ## The blocks of the arguments -/

variable (m : (ℓ : Loc nD τ sig) → Buf (Elt Ideal) ℓ)

/-- The input windows' block indices at a point that computes. -/
theorem in_facts : ∀ t : Fin cfg0.N, t.val < 204 →
    win0_0.index t (0 : Fin 2) = t.val / 17 ∧ win0_0.index t (1 : Fin 2) = 0
    ∧ win0_1.index t (0 : Fin 3) = t.val / 17 ∧ win0_1.index t (1 : Fin 3) = 0 ∧ win0_1.index t (2 : Fin 3) = 0
    ∧ win0_2.index t (0 : Fin 2) = 0 ∧ win0_2.index t (1 : Fin 2) = t.val % 17
    ∧ win0_3.index t (0 : Fin 2) = 0 ∧ win0_3.index t (1 : Fin 2) = t.val % 17 + 17
    ∧ win0_4.index t (0 : Fin 2) = 0 ∧ win0_4.index t (1 : Fin 2) = t.val % 17
    ∧ win0_5.index t (0 : Fin 2) = 0 ∧ win0_5.index t (1 : Fin 2) = t.val % 17 + 17 :=
  (by decide +kernel : ∀ t : Fin grid0.N, t.val < 204 → _)

/-- The array's row at row `r` of row block `p`. -/
def row (p : ℕ) (hp : p < 12) (r : Fin 512) : Fin 6144 := ⟨p * 512 + r.val, by omega⟩
/-- The activation's column at column `q` of column block `n % 17`. -/
def col (n : ℕ) (q : Fin 512) : Fin 8704 := ⟨n % 17 * 512 + q.val, by have : n % 17 < 17 := Nat.mod_lt _ (by decide); omega⟩

/-- The row scales as the host reshapes them: block `p`, row `r` is entry `512 p + r`. -/
theorem V_scales (c : Dev nD) (p : Fin 12) (r : Fin 512) :
    (V m c main_v1 : FVec Ideal S12x1x512 .f32) (ix3 p 0 r) = (m ((c : Thread nD τ).loc main_arg1) : FVec Ideal S6144 .f32) (ix1 ⟨p.val * 512 + r.val, by omega⟩) := by
  unfold V hostOps0
  after_reads_at

/-- The column scales as the host reshapes them. -/
theorem V_colScales (c : Dev nD) (q : Fin 17408) :
    (V m c main_v0 : FVec Ideal S1x17408 .f32) (ix2 0 q) = (m ((c : Thread nD τ).loc main_arg3) : FVec Ideal S17408 .f32) (ix1 q) := by
  unfold V hostOps0
  after_reads_at

theorem blk0 (c : Dev nD) (t : Fin cfg0.N) (ht : t.val < 204) (r : Fin 512) (k : Fin 5120) :
    (iblk m c 0 t : FVec Ideal S512x5120 .fp8e4m3) (ix2 r k)
      = (m ((c : Thread nD τ).loc main_arg0) : FVec Ideal S6144x5120 .fp8e4m3) (ix2 (row (t.val / 17) (by omega) r) k) := by
  obtain ⟨e0, e1, -⟩ := in_facts t ht
  show V m c main_arg0 (((cfg0.win 0).blk t).view.emb (ix2 r k)) = _
  rw [V_main_arg0]
  refine congrArg _ (funext fun a => Fin.ext ?_)
  match a with
  | ⟨0, _⟩ => show win0_0.index t (0 : Fin 2) * 512 + 1 * r.val = t.val / 17 * 512 + r.val; omega
  | ⟨1, _⟩ => show win0_0.index t (1 : Fin 2) * 5120 + 1 * k.val = k.val; omega

theorem blk1 (c : Dev nD) (t : Fin cfg0.N) (ht : t.val < 204) (r : Fin 512) :
    (iblk m c 1 t : FVec Ideal S1x1x512 .f32) (ix3 0 0 r)
      = (m ((c : Thread nD τ).loc main_arg1) : FVec Ideal S6144 .f32) (ix1 (row (t.val / 17) (by omega) r)) := by
  obtain ⟨-, -, e0, e1, e2, -⟩ := in_facts t ht
  refine Eq.trans ?_ (V_scales m c ⟨t.val / 17, by omega⟩ r)
  show V m c main_v1 (((cfg0.win 1).blk t).view.emb (ix3 0 0 r)) = _
  refine congrArg _ (funext fun a => Fin.ext ?_)
  match a with
  | ⟨0, _⟩ => show win0_1.index t (0 : Fin 3) * 1 + 1 * 0 = t.val / 17; omega
  | ⟨1, _⟩ => show win0_1.index t (1 : Fin 3) * 1 + 1 * 0 = 0; omega
  | ⟨2, _⟩ => show win0_1.index t (2 : Fin 3) * 512 + 1 * r.val = r.val; omega

theorem blk2 (c : Dev nD) (t : Fin cfg0.N) (ht : t.val < 204) (k : Fin 5120) (q : Fin 512) :
    (iblk m c 2 t : FVec Ideal S5120x512 .fp8e4m3) (ix2 k q)
      = (m ((c : Thread nD τ).loc main_arg2) : FVec Ideal S5120x17408 .fp8e4m3) (ix2 k ⟨(col t.val q).val, by omega⟩) := by
  obtain ⟨-, -, -, -, -, e0, e1, -⟩ := in_facts t ht
  show V m c main_arg2 (((cfg0.win 2).blk t).view.emb (ix2 k q)) = _
  rw [V_main_arg2]
  refine congrArg _ (funext fun a => Fin.ext ?_)
  match a with
  | ⟨0, _⟩ => show win0_2.index t (0 : Fin 2) * 5120 + 1 * k.val = k.val; omega
  | ⟨1, _⟩ => show win0_2.index t (1 : Fin 2) * 512 + 1 * q.val = t.val % 17 * 512 + q.val; omega

theorem blk3 (c : Dev nD) (t : Fin cfg0.N) (ht : t.val < 204) (k : Fin 5120) (q : Fin 512) :
    (iblk m c 3 t : FVec Ideal S5120x512 .fp8e4m3) (ix2 k q)
      = (m ((c : Thread nD τ).loc main_arg2) : FVec Ideal S5120x17408 .fp8e4m3) (ix2 k ⟨8704 + (col t.val q).val, by omega⟩) := by
  obtain ⟨-, -, -, -, -, -, -, e0, e1, -⟩ := in_facts t ht
  show V m c main_arg2 (((cfg0.win 3).blk t).view.emb (ix2 k q)) = _
  rw [V_main_arg2]
  refine congrArg _ (funext fun a => Fin.ext ?_)
  match a with
  | ⟨0, _⟩ => show win0_3.index t (0 : Fin 2) * 5120 + 1 * k.val = k.val; omega
  | ⟨1, _⟩ => show win0_3.index t (1 : Fin 2) * 512 + 1 * q.val = 8704 + (t.val % 17 * 512 + q.val); omega

theorem blk4 (c : Dev nD) (t : Fin cfg0.N) (ht : t.val < 204) (q : Fin 512) :
    (iblk m c 4 t : FVec Ideal S1x512 .f32) (ix2 0 q)
      = (m ((c : Thread nD τ).loc main_arg3) : FVec Ideal S17408 .f32) (ix1 ⟨(col t.val q).val, by omega⟩) := by
  obtain ⟨-, -, -, -, -, -, -, -, -, e0, e1, -⟩ := in_facts t ht
  refine Eq.trans ?_ (V_colScales m c ⟨(col t.val q).val, by omega⟩)
  show V m c main_v0 (((cfg0.win 4).blk t).view.emb (ix2 0 q)) = _
  refine congrArg _ (funext fun a => Fin.ext ?_)
  match a with
  | ⟨0, _⟩ => show win0_4.index t (0 : Fin 2) * 1 + 1 * 0 = 0; omega
  | ⟨1, _⟩ => show win0_4.index t (1 : Fin 2) * 512 + 1 * q.val = t.val % 17 * 512 + q.val; omega

theorem blk5 (c : Dev nD) (t : Fin cfg0.N) (ht : t.val < 204) (q : Fin 512) :
    (iblk m c 5 t : FVec Ideal S1x512 .f32) (ix2 0 q)
      = (m ((c : Thread nD τ).loc main_arg3) : FVec Ideal S17408 .f32) (ix1 ⟨8704 + (col t.val q).val, by omega⟩) := by
  obtain ⟨-, -, -, -, -, -, -, -, -, -, -, e0, e1⟩ := in_facts t ht
  refine Eq.trans ?_ (V_colScales m c ⟨8704 + (col t.val q).val, by omega⟩)
  show V m c main_v0 (((cfg0.win 5).blk t).view.emb (ix2 0 q)) = _
  refine congrArg _ (funext fun a => Fin.ext ?_)
  match a with
  | ⟨0, _⟩ => show win0_5.index t (0 : Fin 2) * 1 + 1 * 0 = 0; omega
  | ⟨1, _⟩ => show win0_5.index t (1 : Fin 2) * 512 + 1 * q.val = 8704 + (t.val % 17 * 512 + q.val); omega

/-! ## What a point computes -/

/-- The activations of the argument arrays as launched. -/
abbrev ActV (c : Dev nD) : Fin 6144 → Fin 8704 → EReal :=
  Act (m ((c : Thread nD τ).loc main_arg0)) (m ((c : Thread nD τ).loc main_arg1)) (m ((c : Thread nD τ).loc main_arg2))
    (m ((c : Thread nD τ).loc main_arg3))

/-- A computing point's activations are its block of the whole array's. -/
theorem pay7_eq (c : Dev nD) (t : Fin cfg0.N) (ht : t.val < 204) (r q : Fin 512) :
    k0_pay7 (F := Ideal) (iblk m c 1 t) (iblk m c 0 t) (iblk m c 2 t) (iblk m c 4 t) (iblk m c 0 t) (iblk m c 3 t) (iblk m c 5 t) (ix2 r q)
      = ActV m c (row (t.val / 17) (by omega) r) (col t.val q) := by
  refine (pay7_apply _ _ _ _ _ _ r q).trans ?_
  unfold ActV Act
  exact congrArg₂ glu
    (projBlk_eq (blk0 m c t ht r) (blk1 m c t ht r) (fun k => blk2 m c t ht k q) (blk4 m c t ht q))
    (projBlk_eq (blk0 m c t ht r) (blk1 m c t ht r) (fun k => blk3 m c t ht k q) (blk5 m c t ht q))

theorem act_eq (c : Dev nD) (t : Fin cfg0.N) (ht : t.val < 204) (r q : Fin 512) :
    act m c t (ix3 0 r q) = ActV m c (row (t.val / 17) (by omega) r) (col t.val q) := by
  unfold act
  exact (pay8_apply _ _ _ _ _ _ r q).trans (pay7_eq m c t ht r q)

/-- A bound of the maxima after a computing point bounds those before it and the magnitudes of the point's block. -/
theorem amaxStep_le (c : Dev nD) (t : Fin cfg0.N) (ht : t.val < 204) (v : Vec Ideal S512x1 .f32) (r : Fin 512) (b : EReal) :
    amaxStep m c t v (ix2 r 0) ≤ b ↔ v (ix2 r 0) ≤ b
      ∧ ∀ q : Fin 512, max (ActV m c (row (t.val / 17) (by omega) r) (col t.val q)) (-(ActV m c (row (t.val / 17) (by omega) r) (col t.val q))) ≤ b := by
  have e : amaxStep m c t v (ix2 r 0) = _ := (pay6_apply _ r).trans (pay9_apply _ _ _ _ _ _ v r)
  rw [e, max_le_iff, Finset.fold_max_le]
  simp only [pay7_eq m c t ht, Finset.mem_univ, true_implies, bot_le, true_and]

/-- A bound of the maxima after point `n` bounds the magnitudes of the row block's columns up to the point's. -/
theorem amax_le (c : Dev nD) (r : Fin 512) (b : EReal) : ∀ (n : ℕ) (hn : n < 204),
    amax m c n (ix2 r 0) ≤ b ↔ 0 ≤ b ∧ ∀ C : Fin 8704, C.val / 512 ≤ n % 17 →
      max (ActV m c (row (n / 17) (by omega) r) C) (-(ActV m c (row (n / 17) (by omega) r) C)) ≤ b := by
  have key : ∀ (n : ℕ) (hn : n < 204) (P : Fin 8704 → Prop), (∀ q, P (col n q)) ↔ ∀ C : Fin 8704, C.val / 512 = n % 17 → P C := by
    intro n hn P
    constructor
    · intro h C hC
      have e : C = col n ⟨C.val % 512, Nat.mod_lt _ (by decide)⟩ := Fin.ext (by show C.val = n % 17 * 512 + C.val % 512; omega)
      rw [e]; exact h _
    · intro h q
      exact h _ (by show (n % 17 * 512 + q.val) / 512 = n % 17; omega)
  intro n
  induction n with
  | zero =>
    intro hn
    have ht : (pt 0).val = 0 := by show min 0 220 = 0; omega
    rw [amax_zero, amaxStep_le m c (pt 0) (by rw [ht]; omega)]
    simp only [ht]
    rw [show k0_pay4 (F := Ideal) (ix2 r 0) = 0 from pay4_apply r]
    refine and_congr_right fun _ => ?_
    refine (key 0 hn fun C => max (ActV m c (row (0 / 17) (by omega) r) C) (-(ActV m c (row (0 / 17) (by omega) r) C)) ≤ b).trans ?_
    exact forall_congr' fun C => by rw [show C.val / 512 = 0 % 17 ↔ C.val / 512 ≤ 0 % 17 by omega]
  | succ n ih =>
    intro hn
    have ht : (pt (n + 1)).val = n + 1 := by show min (n + 1) 220 = n + 1; omega
    have hk := key (n + 1) hn fun C => max (ActV m c (row ((n + 1) / 17) (by omega) r) C) (-(ActV m c (row ((n + 1) / 17) (by omega) r) C)) ≤ b
    rw [amax_succ, amaxStep_le m c (pt (n + 1)) (by rw [ht]; omega)]
    simp only [ht]
    rw [hk]
    by_cases h0 : (n + 1) % 17 = 0
    · rw [if_pos h0, show k0_pay4 (F := Ideal) (ix2 r 0) = 0 from pay4_apply r]
      refine and_congr_right fun _ => forall_congr' fun C => ?_
      rw [show C.val / 512 = (n + 1) % 17 ↔ C.val / 512 ≤ (n + 1) % 17 by omega]
    · rw [if_neg h0, ih (by omega), and_assoc]
      refine and_congr_right fun _ => ?_
      have hrow : n / 17 = (n + 1) / 17 := by omega
      simp only [hrow]
      rw [← forall_and]
      refine forall_congr' fun C => ?_
      rw [← or_imp, show (C.val / 512 ≤ n % 17 ∨ C.val / 512 = (n + 1) % 17) ↔ C.val / 512 ≤ (n + 1) % 17 by omega]

/-- After a row block's last column block the maxima are the rows'. -/
theorem rowAmax_eq (c : Dev nD) (t : Fin cfg0.N) (ht : 17 ≤ t.val) (r : Fin 512) :
    rowAmax m c t.val (ix2 r 0) = rowMax (ActV m c) (row (t.val / 17 - 1) (by have := lt_N t; omega) r) := by
  have hN := lt_N t
  refine eq_of_forall_ge_iff fun b => ?_
  unfold rowAmax rowMax
  rw [amax_le m c r b (17 * (t.val / 17) - 1) (by omega), Finset.fold_max_le]
  have hrow : (17 * (t.val / 17) - 1) / 17 = t.val / 17 - 1 := by omega
  have hmod : (17 * (t.val / 17) - 1) % 17 = 16 := by omega
  simp only [hrow, hmod, Finset.mem_univ, true_implies, bot_le, true_and]
  constructor
  · rintro ⟨-, h⟩ C
    exact h C (by have := C.isLt; omega)
  · intro h
    exact ⟨(abs_nonneg _).trans (h 0), fun C _ => h C⟩

/-- The codes written at a point, element by element. -/
theorem codesAt_eq (c : Dev nD) (t : Fin cfg0.N) (ht : 17 ≤ t.val) (r q : Fin 512) :
    codesAt m c t (ix2 r q) = Codes (ActV m c) (ix2 (row (t.val / 17 - 1) (by have := lt_N t; omega) r) (col t.val q)) := by
  have hN := lt_N t
  have hp : (pt (t.val - 17)).val = t.val - 17 := by show min (t.val - 17) 220 = _; omega
  unfold codesAt
  refine (pay5_apply _ _ r q).trans ?_
  rw [pay2_apply, rowAmax_eq m c t ht, codeOf_mul, act_eq m c _ (by rw [hp]; omega)]
  have hrow : (t.val - 17) / 17 = t.val / 17 - 1 := by omega
  have hcol : col (t.val - 17) q = col t.val q := Fin.ext (by show (t.val - 17) % 17 * 512 + q.val = t.val % 17 * 512 + q.val; omega)
  simp only [hp, hrow, hcol]
  rfl

/-- The scales written at a point, element by element. -/
theorem scalesAt_eq (c : Dev nD) (t : Fin cfg0.N) (ht : 17 ≤ t.val) (r : Fin 512) :
    scalesAt m c t (ix3 0 0 r) = Scales (ActV m c) (ix3 ⟨t.val / 17 - 1, by have := lt_N t; omega⟩ 0 r) := by
  unfold scalesAt
  refine (pay3_apply _ r).trans ?_
  rw [rowAmax_eq m c t ht]
  rfl

end Cert.GateUpValue

end
-- ==== Proof.GateUpArray.lean ====
/- The gate/up kernel's result arrays: the blocks written back from the second row block of points on make the whole
   arrays, and the equation with the reference. -/
module

public import proofs.«01_k».proof.Defs
public import proofs.«01_k».proof.Proof.GateUpBlock
public import Idealize.ShloMosaic.Lib.Pipeline.ArrRel

@[expose] public section

set_option maxRecDepth 16384

noncomputable section

namespace Cert.GateUpValue

open Idealize.ShloMosaic Idealize.ShloMosaic.TcCoe Idealize.SL.Sem
open Cert.GateUpIdeal Cert.GateUpIdeal.Gen Cert.GateUpIdeal.Hand

variable (m : (ℓ : Loc nD τ sig) → Buf (Elt Ideal) ℓ)

/-- The output windows' block indices from the second row block of points on, and when they are written back. -/
theorem out_facts : ∀ t : Fin cfg0.N, 17 ≤ t.val →
    win0_6.index t (0 : Fin 2) = t.val / 17 - 1 ∧ win0_6.index t (1 : Fin 2) = t.val % 17
    ∧ win0_7.index t (0 : Fin 3) = t.val / 17 - 1 ∧ win0_7.index t (1 : Fin 3) = 0 ∧ win0_7.index t (2 : Fin 3) = 0
    ∧ win0_6.flush t = true ∧ (t.val % 17 = 16 → win0_7.flush t = true) :=
  (by decide +kernel : ∀ t : Fin grid0.N, 17 ≤ t.val → _)

/-- An element of the codes' block at `t` sits at its row and column in the array. -/
theorem emb6 (t : Fin cfg0.N) (ht : 17 ≤ t.val) (r q : Fin 512) :
    (((cfg0.win 6).blk t).view.emb (ix2 r q) : S6144x8704.Idx) = ix2 (row (t.val / 17 - 1) (by have := lt_N t; omega) r) (col t.val q) := by
  obtain ⟨e0, e1, -⟩ := out_facts t ht
  funext a; apply Fin.ext
  match a with
  | ⟨0, _⟩ => show win0_6.index t (0 : Fin 2) * 512 + 1 * r.val = (t.val / 17 - 1) * 512 + r.val; rw [e0]; omega
  | ⟨1, _⟩ => show win0_6.index t (1 : Fin 2) * 512 + 1 * q.val = t.val % 17 * 512 + q.val; rw [e1]; omega

/-- An element of the scales' block at `t` sits in its row block. -/
theorem emb7 (t : Fin cfg0.N) (ht : 17 ≤ t.val) (r : Fin 512) :
    (((cfg0.win 7).blk t).view.emb (ix3 0 0 r) : S12x1x512.Idx) = ix3 ⟨t.val / 17 - 1, by have := lt_N t; omega⟩ 0 r := by
  obtain ⟨-, -, e0, e1, e2, -⟩ := out_facts t ht
  funext a; apply Fin.ext
  match a with
  | ⟨0, _⟩ => show win0_7.index t (0 : Fin 3) * 1 + 1 * 0 = t.val / 17 - 1; omega
  | ⟨1, _⟩ => show win0_7.index t (1 : Fin 3) * 1 + 1 * 0 = 0; omega
  | ⟨2, _⟩ => show win0_7.index t (2 : Fin 3) * 512 + 1 * r.val = r.val; omega

/-- Every element of the codes is in the block of a point that writes back. -/
theorem covered6 (i : S6144x8704.Idx) : ∃ t : Fin cfg0.N, (cfg0.win 6).flush t = true ∧ i ∈ ((cfg0.win 6).blk t).view.set := by
  have h0 : (i 0).val < 6144 := (i 0).isLt
  have h1 : (i 1).val < 8704 := (i 1).isLt
  have hn : ((i 0).val / 512 + 1) * 17 + (i 1).val / 512 < cfg0.N := by
    rw [show cfg0.N = grid0.N from rfl, N_0]; omega
  obtain ⟨t, ht⟩ : ∃ t : Fin cfg0.N, t.val = ((i 0).val / 512 + 1) * 17 + (i 1).val / 512 := ⟨⟨_, hn⟩, rfl⟩
  have h17 : 17 ≤ t.val := by omega
  refine ⟨t, (out_facts t h17).2.2.2.2.2.1, ?_⟩
  have h := ((cfg0.win 6).blk t).view.emb_mem_set (ix2 ⟨(i 0).val % 512, by omega⟩ ⟨(i 1).val % 512, by omega⟩ : S512x512.Idx)
  rw [emb6 t h17] at h
  refine (congrArg (· ∈ ((cfg0.win 6).blk t).view.set) (?_ : i = _)).mpr h
  funext a; apply Fin.ext
  match a with
  | ⟨0, _⟩ => show (i 0).val = (t.val / 17 - 1) * 512 + (i 0).val % 512; omega
  | ⟨1, _⟩ => show (i 1).val = t.val % 17 * 512 + (i 1).val % 512; omega

/-- Every element of the scales is in the block of a point that writes back. -/
theorem covered7 (i : S12x1x512.Idx) : ∃ t : Fin cfg0.N, (cfg0.win 7).flush t = true ∧ i ∈ ((cfg0.win 7).blk t).view.set := by
  have h0 : (i 0).val < 12 := (i 0).isLt
  have h1 : (i 1).val < 1 := (i 1).isLt
  have h2 : (i 2).val < 512 := (i 2).isLt
  have hn : ((i 0).val + 1) * 17 + 16 < cfg0.N := by
    rw [show cfg0.N = grid0.N from rfl, N_0]; omega
  obtain ⟨t, ht⟩ : ∃ t : Fin cfg0.N, t.val = ((i 0).val + 1) * 17 + 16 := ⟨⟨_, hn⟩, rfl⟩
  have h17 : 17 ≤ t.val := by omega
  refine ⟨t, (out_facts t h17).2.2.2.2.2.2 (by omega), ?_⟩
  have h := ((cfg0.win 7).blk t).view.emb_mem_set (ix3 0 0 ⟨(i 2).val, h2⟩ : S1x1x512.Idx)
  rw [emb7 t h17] at h
  refine (congrArg (· ∈ ((cfg0.win 7).blk t).view.set) (?_ : i = _)).mpr h
  funext a; apply Fin.ext
  match a with
  | ⟨0, _⟩ => show (i 0).val = t.val / 17 - 1; omega
  | ⟨1, _⟩ => show (i 1).val = 0; omega
  | ⟨2, _⟩ => show (i 2).val = (i 2).val; rfl

/-- The result arrays after the run. -/
theorem final {r : PUnit × MemSt nD τ sig (Elt Ideal)} (h : Pipeline.RDat.FramePost (cfgs 0) (fun c => rdat m c) (V m) r) (c : Dev nD) :
    r.2.mem ((c.tc : Thread nD τ).loc main_v2_0) = Codes (ActV m c) ∧ r.2.mem ((c.tc : Thread nD τ).loc main_v2_1) = Scales (ActV m c) := by
  obtain ⟨after, hL, hA⟩ := Pipeline.RDat.FramePost.exists_exact h c
  refine ⟨(hA 6).trans ?_, (hA 7).trans ?_⟩
  · refine ((rdat m c).withAfter after).arrAt_eq_of_cover 6 (Codes (ActV m c)) (fun t hf => ?_) covered6
    have ht := flush6 t hf
    obtain ⟨Y, -, hY⟩ := hL 6 t hf
    have e : after 6 t = codesAt m c t := hY ht
    funext j
    show after 6 t j = Codes (ActV m c) (((cfg0.win 6).blk t).view.emb j)
    obtain ⟨r, q, rfl⟩ : ∃ (r : Fin 512) (q : Fin 512), j = ix2 r q := ⟨j 0, j 1, eq_ix2 j⟩
    rw [emb6 t ht, e]
    exact codesAt_eq m c t ht r q
  · refine ((rdat m c).withAfter after).arrAt_eq_of_cover 7 (Scales (ActV m c)) (fun t hf => ?_) covered7
    have ht : 17 ≤ t.val := by have := (flush7 t hf).2; omega
    obtain ⟨Y, -, hY⟩ := hL 7 t hf
    have e : after 7 t = scalesAt m c t := hY ht
    funext j
    show after 7 t j = Scales (ActV m c) (((cfg0.win 7).blk t).view.emb j)
    obtain ⟨p, z, r, rfl⟩ : ∃ (p : Fin 1) (z : Fin 1) (r : Fin 512), j = ix3 p z r := ⟨j 0, j 1, j 2, eq_ix3 j⟩
    obtain rfl : z = 0 := Subsingleton.elim _ _
    obtain rfl : p = 0 := Subsingleton.elim _ _
    rw [emb7 t ht, e]
    exact scalesAt_eq m c t ht r

/-- THE EQUATION: on any launch memory the kernel and the reference end with the same codes and the same scales. -/
theorem algebraic : Cert.algebraic_GateUpIdeal_GateUpRefIdeal (hGateUpIdeal := Cert.GateUpIdeal.Gen.facts) (hGateUpRefIdeal := Cert.GateUpRefIdeal.Gen.facts) := by
  intro m ρ m' ρ' _ hag
  refine ⟨fun c => Codes (ActV m c), fun c => Scales (ActV m c), ?_, ?_⟩
  · exact (θ_run _ _ _).mono (fun _ h c => ⟨(final m h.1 c).1, (final m h.1 c).2, args_unchanged m h.1 c⟩) (run_main m ρ)
  · refine (θ_run _ _ _).mono (fun _ h c => ?_) (Cert.GateUpRefIdeal.Value.run m' ρ')
    obtain ⟨e0, e1, e2, e3⟩ := hag c
    refine ⟨(h c).1.trans ?_, (h c).2.1.trans ?_, (h c).2.2⟩
    · refine (Ref.ref_codes _ _ _ _).trans ?_
      rw [e0, e1, e2, e3]
    · refine (Ref.ref_scales _ _ _ _).trans ?_
      rw [e0, e1, e2, e3]

end Cert.GateUpValue

end
-- ==== Proof.DownBlock.lean ====
/- The down projection, one block: what the kernel's two stores leave in an output block, and what the whole-array
   reference computes, each element written as one expression over the operands. -/
module

public import proofs.«01_k».proof.Proof.Gen.DownIdeal.Value
public import proofs.«01_k».proof.Proof.Gen.DownRefIdeal.Value
public import Idealize.ShloMosaic.Lib.Pointwise

@[expose] public section

set_option maxRecDepth 16384

noncomputable section

namespace Cert.DownValue

open Idealize.ShloMosaic Idealize.ShloMosaic.TcCoe Idealize.SL.Sem

/-- The down projection at one element, from whole arrays: the residual plus the product of the codes, scaled by the
    row's scale times the column's. -/
def Y (a : FVec Ideal ⟨2, ![6144, 8704]⟩ .fp8e4m3) (s : FVec Ideal ⟨1, ![6144]⟩ .f32) (w : FVec Ideal ⟨2, ![8704, 5120]⟩ .fp8e4m3)
    (ws : FVec Ideal ⟨1, ![5120]⟩ .f32) (h : FVec Ideal ⟨2, ![6144, 5120]⟩ .f32) : FVec Ideal ⟨2, ![6144, 5120]⟩ .bf16 :=
  fun j => h j + (∑ k : Fin 8704, a (ix2 (j 0) k) * w (ix2 k (j 1))) * (s (ix1 (j 0)) * ws (ix1 (j 1)))

/-- The reference computes `Y`. -/
theorem ref_eq (a s w ws h) : Cert.DownRefIdeal.Value.G5 (F := Ideal) a s w ws h = Y a s w ws h := by
  funext j
  unfold Y
  pointwise [Cert.DownRefIdeal.Value.G5, Cert.DownRefIdeal.Gen.k0_pay1]

/-- The same expression over one point's blocks. -/
def Yblk (x0 : FVec Ideal ⟨2, ![512, 8704]⟩ .fp8e4m3) (x1 : FVec Ideal ⟨3, ![1, 1, 512]⟩ .f32) (x2 : FVec Ideal ⟨2, ![8704, 1024]⟩ .fp8e4m3)
    (x3 : FVec Ideal ⟨2, ![1, 1024]⟩ .f32) (x4 : FVec Ideal ⟨2, ![512, 1024]⟩ .f32) : FVec Ideal ⟨2, ![512, 1024]⟩ .bf16 :=
  fun j => x4 j + (∑ k : Fin 8704, x0 (ix2 (j 0) k) * x2 (ix2 k (j 1))) * (x1 (ix3 0 0 (j 0)) * x3 (ix2 0 (j 1)))

/-- Where the blocks hold the arrays' rows and columns, the block's expression is the array's. -/
theorem Yblk_eq_Y {x0 x1 x2 x3 x4 a s w ws h} {r : Fin 512} {q : Fin 1024} {R : Fin 6144} {C : Fin 5120}
    (h0 : ∀ k, x0 (ix2 r k) = a (ix2 R k)) (h1 : x1 (ix3 0 0 r) = s (ix1 R)) (h2 : ∀ k, x2 (ix2 k q) = w (ix2 k C))
    (h3 : x3 (ix2 0 q) = ws (ix1 C)) (h4 : x4 (ix2 r q) = h (ix2 R C)) :
    Yblk x0 x1 x2 x3 x4 (ix2 r q) = Y a s w ws h (ix2 R C) := by
  unfold Yblk Y
  simp only [ix2_0, ix2_1, h0, h1, h2, h3, h4]

open Cert.DownIdeal Cert.DownIdeal.Gen

/-- An element of the first store sits at its own coordinates in the block. -/
theorem emb_lo (x : S512x512.Idx) : r0_1.emb x = ix2 (x 0) ⟨(x 1).val, Nat.lt_of_lt_of_le (x 1).isLt (by decide)⟩ := by
  funext a; apply Fin.ext; rw [Rect.emb_apply]
  match a with
  | ⟨0, _⟩ => show 0 + 1 * (x 0).val = (x 0).val; omega
  | ⟨1, _⟩ => show 0 + 1 * (x 1).val = (x 1).val; omega

/-- An element of the second store sits 512 columns further right. -/
theorem emb_hi (x : S512x512.Idx) : r0_5.emb x = ix2 (x 0) ⟨512 + (x 1).val, Nat.add_lt_add_left (x 1).isLt 512⟩ := by
  funext a; apply Fin.ext; rw [Rect.emb_apply]
  match a with
  | ⟨0, _⟩ => show 0 + 1 * (x 0).val = (x 0).val; omega
  | ⟨1, _⟩ => show 512 + 1 * (x 1).val = 512 + (x 1).val; omega

/-- The two stores of 512 columns each leave `Yblk` of the blocks. -/
theorem out_eq (x0 x1 x2 x3 x4) : out0_5 (F := Ideal) x0 x1 x2 x3 x4 = Yblk x0 x1 x2 x3 x4 := by
  funext y
  unfold out0_5
  refine View.canon_apply_of_pieces (Val := Elt Ideal) (Yblk x0 x1 x2 x3 x4) _ ?_ y (cover0_5 _ _ y)
  intro p hp x
  simp only [List.mem_cons, List.not_mem_nil, or_false] at hp
  rcases hp with rfl | rfl
  · rw [show r0_5.emb x = _ from emb_hi x]
    unfold Yblk
    pointwise [k0_pay3, k0_pay1]
  · rw [show r0_1.emb x = _ from emb_lo x]
    unfold Yblk
    pointwise [k0_pay2, k0_pay1]

end Cert.DownValue

end
-- ==== Proof.DownArray.lean ====
/- The down projection, the whole array: the blocks the grid points read, the array that their write-backs make, and
   the equation with the reference. -/
module

public import proofs.«01_k».proof.Defs
public import proofs.«01_k».proof.Proof.DownBlock
public import Idealize.ShloMosaic.Lib.StableHlo.ReadAt

@[expose] public section

set_option maxRecDepth 16384

noncomputable section

namespace Cert.DownValue

open Idealize.ShloMosaic Idealize.ShloMosaic.TcCoe Idealize.SL.Sem
open Cert.DownIdeal Cert.DownIdeal.Gen

variable (m : (ℓ : Loc nD τ sig) → Buf (Elt Ideal) ℓ)

/-- Every window's block index at a point, as the output's: rows with the output's rows, columns with its columns. -/
theorem idx_facts : ∀ t : Fin cfg0.N,
    win0_0.index t (0 : Fin 2) = win0_5.index t (0 : Fin 2) ∧ win0_0.index t (1 : Fin 2) = 0
    ∧ win0_1.index t (0 : Fin 3) = win0_5.index t (0 : Fin 2) ∧ win0_1.index t (1 : Fin 3) = 0 ∧ win0_1.index t (2 : Fin 3) = 0
    ∧ win0_2.index t (0 : Fin 2) = 0 ∧ win0_2.index t (1 : Fin 2) = win0_5.index t (1 : Fin 2)
    ∧ win0_3.index t (0 : Fin 2) = 0 ∧ win0_3.index t (1 : Fin 2) = win0_5.index t (1 : Fin 2)
    ∧ win0_4.index t (0 : Fin 2) = win0_5.index t (0 : Fin 2) ∧ win0_4.index t (1 : Fin 2) = win0_5.index t (1 : Fin 2)
    ∧ win0_5.index t (0 : Fin 2) < 12 ∧ win0_5.index t (1 : Fin 2) < 5 :=
  (by decide +kernel : ∀ t : Fin grid0.N, _)

/-- Every block of the output is some point's. -/
theorem idx_onto : ∀ (p : Fin 12) (q : Fin 5), ∃ t : Fin cfg0.N, win0_5.index t (0 : Fin 2) = p.val ∧ win0_5.index t (1 : Fin 2) = q.val :=
  (by decide +kernel : ∀ (p : Fin 12) (q : Fin 5), ∃ t : Fin grid0.N, _)

/-- The row of the array that row `r` of point `t`'s block is. -/
def row (t : Fin cfg0.N) (r : Fin 512) : Fin 6144 := ⟨win0_5.index t (0 : Fin 2) * 512 + r.val, by
  have := (idx_facts t).2.2.2.2.2.2.2.2.2.2.2.1; omega⟩
/-- The column of the array that column `q` of point `t`'s block is. -/
def col (t : Fin cfg0.N) (q : Fin 1024) : Fin 5120 := ⟨win0_5.index t (1 : Fin 2) * 1024 + q.val, by
  have := (idx_facts t).2.2.2.2.2.2.2.2.2.2.2.2; omega⟩

/-- The scales as the host reshapes them: block `p`, row `r` is entry `512 p + r`. -/
theorem V_scales (c : Dev nD) (p : Fin 12) (r : Fin 512) :
    (V m c main_v1 : FVec Ideal S12x1x512 .f32) (ix3 p 0 r) = (m ((c : Thread nD τ).loc main_arg1) : FVec Ideal S6144 .f32) (ix1 ⟨p.val * 512 + r.val, by omega⟩) := by
  unfold V hostOps0
  after_reads_at

/-- The column scales as the host reshapes them. -/
theorem V_colScales (c : Dev nD) (q : Fin 5120) :
    (V m c main_v0 : FVec Ideal S1x5120 .f32) (ix2 0 q) = (m ((c : Thread nD τ).loc main_arg3) : FVec Ideal S5120 .f32) (ix1 q) := by
  unfold V hostOps0
  after_reads_at

theorem blk0 (c : Dev nD) (t : Fin cfg0.N) (r : Fin 512) (k : Fin 8704) :
    (iblk m c 0 t : FVec Ideal S512x8704 .fp8e4m3) (ix2 r k) = (m ((c : Thread nD τ).loc main_arg0) : FVec Ideal S6144x8704 .fp8e4m3) (ix2 (row t r) k) := by
  obtain ⟨e0, e1, -⟩ := idx_facts t
  show V m c main_arg0 (((cfg0.win 0).blk t).view.emb (ix2 r k)) = _
  rw [V_main_arg0]
  refine congrArg _ (funext fun a => Fin.ext ?_)
  match a with
  | ⟨0, _⟩ => show win0_0.index t (0 : Fin 2) * 512 + 1 * r.val = win0_5.index t (0 : Fin 2) * 512 + r.val; omega
  | ⟨1, _⟩ => show win0_0.index t (1 : Fin 2) * 8704 + 1 * k.val = k.val; omega

theorem blk1 (c : Dev nD) (t : Fin cfg0.N) (r : Fin 512) :
    (iblk m c 1 t : FVec Ideal S1x1x512 .f32) (ix3 0 0 r) = (m ((c : Thread nD τ).loc main_arg1) : FVec Ideal S6144 .f32) (ix1 (row t r)) := by
  obtain ⟨-, -, e0, e1, e2, -, -, -, -, -, -, h0, -⟩ := idx_facts t
  refine Eq.trans ?_ (V_scales m c ⟨win0_5.index t (0 : Fin 2), h0⟩ r)
  show V m c main_v1 (((cfg0.win 1).blk t).view.emb (ix3 0 0 r)) = _
  refine congrArg _ (funext fun a => Fin.ext ?_)
  match a with
  | ⟨0, _⟩ => show win0_1.index t (0 : Fin 3) * 1 + 1 * 0 = win0_5.index t (0 : Fin 2); omega
  | ⟨1, _⟩ => show win0_1.index t (1 : Fin 3) * 1 + 1 * 0 = 0; omega
  | ⟨2, _⟩ => show win0_1.index t (2 : Fin 3) * 512 + 1 * r.val = r.val; omega

theorem blk2 (c : Dev nD) (t : Fin cfg0.N) (k : Fin 8704) (q : Fin 1024) :
    (iblk m c 2 t : FVec Ideal S8704x1024 .fp8e4m3) (ix2 k q) = (m ((c : Thread nD τ).loc main_arg2) : FVec Ideal S8704x5120 .fp8e4m3) (ix2 k (col t q)) := by
  obtain ⟨-, -, -, -, -, e0, e1, -⟩ := idx_facts t
  show V m c main_arg2 (((cfg0.win 2).blk t).view.emb (ix2 k q)) = _
  rw [V_main_arg2]
  refine congrArg _ (funext fun a => Fin.ext ?_)
  match a with
  | ⟨0, _⟩ => show win0_2.index t (0 : Fin 2) * 8704 + 1 * k.val = k.val; omega
  | ⟨1, _⟩ => show win0_2.index t (1 : Fin 2) * 1024 + 1 * q.val = win0_5.index t (1 : Fin 2) * 1024 + q.val; omega

theorem blk3 (c : Dev nD) (t : Fin cfg0.N) (q : Fin 1024) :
    (iblk m c 3 t : FVec Ideal S1x1024 .f32) (ix2 0 q) = (m ((c : Thread nD τ).loc main_arg3) : FVec Ideal S5120 .f32) (ix1 (col t q)) := by
  obtain ⟨-, -, -, -, -, -, -, e0, e1, -⟩ := idx_facts t
  refine Eq.trans ?_ (V_colScales m c (col t q))
  show V m c main_v0 (((cfg0.win 3).blk t).view.emb (ix2 0 q)) = _
  refine congrArg _ (funext fun a => Fin.ext ?_)
  match a with
  | ⟨0, _⟩ => show win0_3.index t (0 : Fin 2) * 1 + 1 * 0 = 0; omega
  | ⟨1, _⟩ => show win0_3.index t (1 : Fin 2) * 1024 + 1 * q.val = win0_5.index t (1 : Fin 2) * 1024 + q.val; omega

theorem blk4 (c : Dev nD) (t : Fin cfg0.N) (r : Fin 512) (q : Fin 1024) :
    (iblk m c 4 t : FVec Ideal S512x1024 .f32) (ix2 r q) = (m ((c : Thread nD τ).loc main_arg4) : FVec Ideal S6144x5120 .f32) (ix2 (row t r) (col t q)) := by
  obtain ⟨-, -, -, -, -, -, -, -, -, e0, e1, -⟩ := idx_facts t
  show V m c main_arg4 (((cfg0.win 4).blk t).view.emb (ix2 r q)) = _
  rw [V_main_arg4]
  refine congrArg _ (funext fun a => Fin.ext ?_)
  match a with
  | ⟨0, _⟩ => show win0_4.index t (0 : Fin 2) * 512 + 1 * r.val = win0_5.index t (0 : Fin 2) * 512 + r.val; omega
  | ⟨1, _⟩ => show win0_4.index t (1 : Fin 2) * 1024 + 1 * q.val = win0_5.index t (1 : Fin 2) * 1024 + q.val; omega

/-- An element of the output's block at `t` sits at `row`, `col` in the array. -/
theorem emb5 (t : Fin cfg0.N) (j : S512x1024.Idx) : (((cfg0.win 5).blk t).view.emb j : S6144x5120.Idx) = ix2 (row t (j 0)) (col t (j 1)) := by
  funext a; apply Fin.ext
  match a with
  | ⟨0, _⟩ => show win0_5.index t (0 : Fin 2) * 512 + 1 * (j 0).val = win0_5.index t (0 : Fin 2) * 512 + (j 0).val; omega
  | ⟨1, _⟩ => show win0_5.index t (1 : Fin 2) * 1024 + 1 * (j 1).val = win0_5.index t (1 : Fin 2) * 1024 + (j 1).val; omega

/-- `Y` of the argument arrays as launched. -/
abbrev YV (c : Dev nD) : FVec Ideal S6144x5120 .bf16 :=
  Y (m ((c : Thread nD τ).loc main_arg0)) (m ((c : Thread nD τ).loc main_arg1)) (m ((c : Thread nD τ).loc main_arg2))
    (m ((c : Thread nD τ).loc main_arg3)) (m ((c : Thread nD τ).loc main_arg4))

/-- What point `t` writes back is its block of `Y`. -/
theorem flushed_eq (c : Dev nD) (t : Fin cfg0.N) :
    (dats m 0 c).flushed 5 t = ((cfg0.win 5).blk t).view.read (Elt Ideal) (YV m c) := by
  rw [Cert.DownIdeal.Value.flushed5, out_eq]
  funext j
  show Yblk (iblk m c 0 t) (iblk m c 1 t) (iblk m c 2 t) (iblk m c 3 t) (iblk m c 4 t) j = YV m c (((cfg0.win 5).blk t).view.emb j)
  rw [emb5]
  obtain ⟨r, q, rfl⟩ : ∃ (r : Fin 512) (q : Fin 1024), j = ix2 r q := ⟨j 0, j 1, eq_ix2 j⟩
  exact Yblk_eq_Y (blk0 m c t r) (blk1 m c t r) (fun k => blk2 m c t k q) (blk3 m c t q) (blk4 m c t r q)

/-- Every element of the output is in some point's block. -/
theorem covered (i : S6144x5120.Idx) : ∃ t : Fin cfg0.N, (cfg0.win 5).flush t = true ∧ i ∈ ((cfg0.win 5).blk t).view.set := by
  have h0 : (i 0).val < 6144 := (i 0).isLt
  have h1 : (i 1).val < 5120 := (i 1).isLt
  obtain ⟨t, e0, e1⟩ := idx_onto ⟨(i 0).val / 512, by omega⟩ ⟨(i 1).val / 1024, by omega⟩
  refine ⟨t, flush0_5 t, ?_⟩
  have h := ((cfg0.win 5).blk t).view.emb_mem_set (ix2 ⟨(i 0).val % 512, by omega⟩ ⟨(i 1).val % 1024, by omega⟩ : S512x1024.Idx)
  rw [emb5] at h
  refine (congrArg (· ∈ ((cfg0.win 5).blk t).view.set) (?_ : i = _)).mpr h
  funext a; apply Fin.ext
  match a with
  | ⟨0, _⟩ => show (i 0).val = win0_5.index t (0 : Fin 2) * 512 + (i 0).val % 512; rw [e0]; show _ = (i 0).val / 512 * 512 + _; omega
  | ⟨1, _⟩ => show (i 1).val = win0_5.index t (1 : Fin 2) * 1024 + (i 1).val % 1024; rw [e1]; show _ = (i 1).val / 1024 * 1024 + _; omega

/-- The array after the run. -/
theorem final (c : Dev nD) : (dats m 0 c).arrAt 5 cfg0.N = YV m c :=
  (dats m 0 c).arrAt_eq_of_cover 5 (YV m c) (fun t _ => flushed_eq m c t) covered

/-- THE EQUATION: on any launch memory the kernel and the reference end with the same array. -/
theorem algebraic : Cert.algebraic_DownIdeal_DownRefIdeal (hDownIdeal := Cert.DownIdeal.Gen.facts) (hDownRefIdeal := Cert.DownRefIdeal.Gen.facts) := by
  intro m ρ m' ρ' _ hag
  refine ⟨fun c => YV m c, ?_, ?_⟩
  · exact (θ_run _ _ _).mono (fun _ h c => ⟨(h c).1.trans (final m c), (h c).2⟩) (Cert.DownIdeal.Value.run_blocks m ρ)
  · refine (θ_run _ _ _).mono (fun _ h c => ⟨(h c).1.trans ?_, (h c).2⟩) (Cert.DownRefIdeal.Value.run m' ρ')
    obtain ⟨e0, e1, e2, e3, e4⟩ := hag c
    refine (ref_eq _ _ _ _ _).trans ?_
    rw [e0, e1, e2, e3, e4]

end Cert.DownValue

end
-- ==== Proof.AttnWord.lean ====
/- The attention kernel's loop bounds, of any words: the first key block is at most the query block, so every trip reads
   inside the two scratch buffers; the second loop never runs. -/
module

public import proofs.«01_k».proof.Attn
public import Idealize.ShloMosaic.Lib.Tactic

@[expose] public section

set_option maxRecDepth 16384

noncomputable section

namespace Cert.Attn.Hand

open Cert.Attn
open Idealize.ShloMosaic

theorem divsi_one (x : BitVec 32) : Scalar.divsi x 1#32 = x := by
  unfold Scalar.divsi IntOp.divsi
  rw [if_neg (by rintro (h | ⟨_, h⟩) <;> exact absurd h (by decide))]
  exact BitVec.sdiv_one

theorem shrui_lt (x : BitVec 32) : (Scalar.shrui x 8#32).toNat < 2 ^ 24 := by
  have hx := x.isLt
  unfold Scalar.shrui IntOp.shrui
  simp only [BitVec.toNat_ofNat, BitVec.ushiftRight_eq', BitVec.toNat_ushiftRight, Nat.shiftRight_eq_div_pow]
  simp
  omega

/-- The key block of trip `k` is at most the query block. -/
theorem trip_le (n : ℕ) (hn : n < 24) (f : BitVec 32) (hf : f.toNat < 2 ^ 24) (k : ℕ)
    (hk : k < Scf.trips f (BitVec.ofNat 32 n + 1#32) 1#32) : f.toNat + k ≤ n := by
  unfold Scf.trips at hk
  have h1 : f.toInt = f.toNat := BitVec.toInt_eq_toNat_of_lt (by omega)
  have h2 : (BitVec.ofNat 32 n + 1#32).toInt = n + 1 := by
    rw [BitVec.toInt_eq_toNat_of_lt] <;> simp <;> omega
  have h3 : (1#32 : BitVec 32).toInt = 1 := by decide
  rw [h1, h2, h3] at hk
  omega

theorem ok_of (n : ℕ) (hn : n < 24) (f : BitVec 32) (hf : f.toNat < 2 ^ 24) : Scf.OK f (BitVec.ofNat 32 n + 1#32) 1#32 := by
  unfold Scf.OK Scf.trips
  have h1 : f.toInt = f.toNat := BitVec.toInt_eq_toNat_of_lt (by omega)
  have h2 : (BitVec.ofNat 32 n + 1#32).toInt = n + 1 := by
    rw [BitVec.toInt_eq_toNat_of_lt] <;> simp <;> omega
  have h3 : (1#32 : BitVec 32).toInt = 1 := by decide
  rw [h1, h2, h3]
  constructor <;> omega

theorem trips_self (x : BitVec 32) : Scf.trips x x 1#32 = 0 := by
  unfold Scf.trips
  have h3 : (1#32 : BitVec 32).toInt = 1 := by decide
  rw [h3]; omega

/-- The trip's row offset. -/
theorem row_of (n : ℕ) (hn : n < 24) (f : BitVec 32) (hf : f.toNat < 2 ^ 24) (k : ℕ) (h : f.toNat + k ≤ n) :
    (Scalar.muli (Scf.iv f 1#32 k) 256#32).toNat = 256 * (f.toNat + k) := by
  unfold Scalar.muli Scf.iv
  simp [IntOp.muli, BitVec.toNat_add, BitVec.toNat_mul]
  omega

/-- The position at which the segment of the query block's first row begins. -/
def firstWord (i : grid0.Coords) (v50 v58 v66 v74 v82 : BitVec 32) : BitVec 32 :=
  (k0_t1_loop i v50 v58 v66 v74 v82).lb

theorem firstWord_lt (i : grid0.Coords) (v50 v58 v66 v74 v82 : BitVec 32) : (firstWord i v50 v58 v66 v74 v82).toNat < 2 ^ 24 :=
  shrui_lt _

theorem add_sub' (f x : BitVec 32) : Scalar.addi f (Scalar.subi x f) = x := by
  unfold Scalar.addi Scalar.subi IntOp.addi IntOp.subi
  rw [BitVec.add_comm, BitVec.sub_add_cancel]

theorem add_sub (f x : BitVec 32) : Scalar.addi f (Scalar.muli (Scalar.divsi (Scalar.subi x f) 1#32) 1#32) = x := by
  rw [divsi_one, show Scalar.muli (Scalar.subi x f) 1#32 = Scalar.subi x f from BitVec.mul_one _]
  exact add_sub' f x

theorem t1_ub (i : grid0.Coords) (v50 v58 v66 v74 v82 : BitVec 32) :
    (k0_t1_loop i v50 v58 v66 v74 v82).ub = BitVec.ofNat 32 (i 0).val + 1#32 := add_sub _ _

theorem t1_loop_eq (i : grid0.Coords) (v50 v58 v66 v74 v82 : BitVec 32) :
    k0_t1_loop i v50 v58 v66 v74 v82 = ⟨firstWord i v50 v58 v66 v74 v82, BitVec.ofNat 32 (i 0).val + 1#32, 1#32⟩ := by
  rw [← t1_ub i v50 v58 v66 v74 v82]; rfl

theorem coord_lt (i : grid0.Coords) : (i 0).val < 24 := (i 0).isLt

theorem trip1_le (i : grid0.Coords) (v50 v58 v66 v74 v82 : BitVec 32) (k : ℕ) (hk : k < (k0_t1_loop i v50 v58 v66 v74 v82).trips) :
    (firstWord i v50 v58 v66 v74 v82).toNat + k ≤ (i 0).val := by
  refine trip_le _ (coord_lt i) _ (firstWord_lt ..) k ?_
  rw [t1_loop_eq] at hk; exact hk

theorem t2_trips (i : grid0.Coords) (v50 v58 v66 v74 v82 : BitVec 32) : (k0_t2_loop i v50 v58 v66 v74 v82).trips = 0 := by
  have h1 : (k0_t2_loop i v50 v58 v66 v74 v82).lb = BitVec.ofNat 32 (i 0).val + 1#32 := add_sub _ _
  have h2 : (k0_t2_loop i v50 v58 v66 v74 v82).ub = BitVec.ofNat 32 (i 0).val + 1#32 := by
    show Scalar.addi _ (Scalar.subi _ _) = _
    exact add_sub' _ _
  unfold Scf.Loop.trips
  rw [h1, h2]; exact trips_self _

theorem row1 (i : grid0.Coords) (v50 v58 v66 v74 v82 : BitVec 32) (k : Fin (k0_t1_loop i v50 v58 v66 v74 v82).trips) :
    (k0_mult2 i v50 v58 v66 v74 v82 k).toNat = 256 * ((firstWord i v50 v58 v66 v74 v82).toNat + k.val) :=
  row_of _ (coord_lt i) _ (firstWord_lt ..) _ (trip1_le i v50 v58 v66 v74 v82 k.val k.isLt)

/-- The facts the kernel assumes of its words hold of all words. -/
theorem chk_all (i : grid0.Coords) (v50 v58 v66 v74 v82 : BitVec 32) : k0_chk1 i v50 v58 v66 v74 v82 := by
  have ht2 : ∀ k : Fin (k0_t2_loop i v50 v58 v66 v74 v82).trips, False := fun k => by
    have := k.isLt.trans_eq (t2_trips i v50 v58 v66 v74 v82); omega
  have hr : ∀ k : Fin (k0_t1_loop i v50 v58 v66 v74 v82).trips,
      256 ∣ (k0_mult2 i v50 v58 v66 v74 v82 k).toNat ∧ (k0_mult2 i v50 v58 v66 v74 v82 k).toNat ≤ 5888 := fun k => by
    rw [row1]; have := trip1_le i v50 v58 v66 v74 v82 k.val k.isLt; have := coord_lt i
    exact ⟨⟨_, rfl⟩, by omega⟩
  refine ⟨?_, fun k => (hr k).1, ?_, ?_, ?_, ?_, ?_, ?_, ?_, ?_, ?_, fun k => (ht2 k).elim, fun k => (ht2 k).elim, fun k => (ht2 k).elim,
    fun k => (ht2 k).elim, fun k => (ht2 k).elim, fun k => (ht2 k).elim, fun k => (ht2 k).elim, fun k => (ht2 k).elim, fun k => (ht2 k).elim⟩
  · rw [t1_loop_eq]; exact ok_of _ (coord_lt i) _ (firstWord_lt ..)
  · intro k a; have := (hr k).2; fin_cases a
    · show (k0_mult2 i v50 v58 v66 v74 v82 k).toNat + 256 ≤ 6144; omega
    · show 0 + 128 ≤ 512; omega
  · intro k a; have := (hr k).2; fin_cases a
    · show 0 + 128 ≤ 512; omega
    · show (k0_mult2 i v50 v58 v66 v74 v82 k).toNat + 256 ≤ 6144; omega
  · intro k a; have := (hr k).2; fin_cases a
    · show (k0_mult2 i v50 v58 v66 v74 v82 k).toNat + 256 ≤ 6144; omega
    · show 128 + 128 ≤ 512; omega
  · intro k a; have := (hr k).2; fin_cases a
    · show 128 + 128 ≤ 512; omega
    · show (k0_mult2 i v50 v58 v66 v74 v82 k).toNat + 256 ≤ 6144; omega
  · intro k a; have := (hr k).2; fin_cases a
    · show (k0_mult2 i v50 v58 v66 v74 v82 k).toNat + 256 ≤ 6144; omega
    · show 256 + 128 ≤ 512; omega
  · intro k a; have := (hr k).2; fin_cases a
    · show 256 + 128 ≤ 512; omega
    · show (k0_mult2 i v50 v58 v66 v74 v82 k).toNat + 256 ≤ 6144; omega
  · intro k a; have := (hr k).2; fin_cases a
    · show (k0_mult2 i v50 v58 v66 v74 v82 k).toNat + 256 ≤ 6144; omega
    · show 384 + 128 ≤ 512; omega
  · intro k a; have := (hr k).2; fin_cases a
    · show 384 + 128 ≤ 512; omega
    · show (k0_mult2 i v50 v58 v66 v74 v82 k).toNat + 256 ≤ 6144; omega
  · have h1 : (k0_t2_loop i v50 v58 v66 v74 v82).lb = BitVec.ofNat 32 (i 0).val + 1#32 := add_sub _ _
    have h0 := t2_trips i v50 v58 v66 v74 v82
    have h2 : (BitVec.ofNat 32 (i 0).val + 1#32).toInt = (i 0).val + 1 := by
      have := coord_lt i
      rw [BitVec.toInt_eq_toNat_of_lt] <;> simp <;> omega
    refine ⟨show 0 < (1#32 : BitVec 32).toInt by decide, ?_⟩
    have h0' : Scf.trips (k0_t2_loop i v50 v58 v66 v74 v82).lb (k0_t2_loop i v50 v58 v66 v74 v82).ub (k0_t2_loop i v50 v58 v66 v74 v82).st = 0 := h0
    rw [h0', h1, h2]; have := coord_lt i
    simp; omega

end Cert.Attn.Hand
-- ==== Proof.AttnRun.lean ====
/- What the attention kernel's body does at one grid point, on memrefs of any contents. -/
module

public import proofs.«01_k».proof.Proof.Gen.Attn.Loops
public import proofs.«01_k».proof.Proof.AttnWord
public import Idealize.ShloMosaic.Lib.Pipeline.Frame
public import Idealize.ShloMosaic.Lib.Pipeline.Value
public import Idealize.ShloMosaic.Lib.Tactic

@[expose] public section

set_option maxRecDepth 16384

noncomputable section

namespace Cert.Attn.Hand

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)

variable {F : FTy → Type} [FloatOps F]

local notation "𝕄" => MT nD τ sig Unit (Elt F) ℕ (UR sig nD τ) ℕ

set_option maxHeartbeats 0 in
theorem run_body (c : Dev nD) (E : Set ℕ) (i : grid0.Coords)
    (arg1 : Memref sig .tc .smem S7 .i32) (harg1 : arg1.IsWhole)
    (arg2 : Memref sig .tc .smem S1 .f32) (harg2 : arg2.IsWhole)
    (arg3 : Memref sig .tc .smem S1 .f32) (harg3 : arg3.IsWhole)
    (arg4 : Memref sig .tc .vmem S256x2560 .bf16) (harg4 : arg4.IsWhole)
    (arg5 : Memref sig .tc .vmem S6144x512 .fp8e4m3) (harg5 : arg5.IsWhole)
    (arg6 : Memref sig .tc .vmem S6144x512 .fp8e4m3) (harg6 : arg6.IsWhole)
    (arg7 : Memref sig .tc .vmem S20x256x128 .f32) (harg7 : arg7.IsWhole)
    (arg8 : Memref sig .tc .vmem S20x256x128 .fp8e4m3) (harg8 : arg8.IsWhole)
    (arg9 : Memref sig .tc .vmem S1x1x256 .f32) (harg9 : arg9.IsWhole)
    (arg10 : Memref sig .tc .vmem S6144x512 .bf16) (harg10 : arg10.IsWhole)
    (arg11 : Memref sig .tc .vmem S512x6144 .bf16) (harg11 : arg11.IsWhole)
    (arg12 : Memref sig .tc .vmem S20x128x256 .f32) (harg12 : arg12.IsWhole)
    (arg13 : Memref sig .tc .vmem S24x256 .f32) (harg13 : arg13.IsWhole)
    (arg14 : Memref sig .tc .vmem S24x256 .f32) (harg14 : arg14.IsWhole)
    (x1 : Vec F S7 .i32)    (x2 : Vec F S1 .f32)    (x3 : Vec F S1 .f32)    (x4 : Vec F S256x2560 .bf16)    (x5 : Vec F S6144x512 .fp8e4m3)    (x6 : Vec F S6144x512 .fp8e4m3)    (x7 : Vec F S20x256x128 .f32)    (x8 : Vec F S20x256x128 .fp8e4m3)    (x9 : Vec F S1x1x256 .f32)    (x10 : Vec F S6144x512 .bf16)    (x11 : Vec F S512x6144 .bf16)    (x12 : Vec F S20x128x256 .f32)    (x13 : Vec F S24x256 .f32)    (x14 : Vec F S24x256 .f32)
    (K : PUnit → sProp 𝕄) :
    iprop(owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ owns (c : Thread nD τ) arg10 fullShare x10
      ∗ owns (c : Thread nD τ) arg11 fullShare x11
      ∗ owns (c : Thread nD τ) arg12 fullShare x12
      ∗ owns (c : Thread nD τ) arg13 fullShare x13
      ∗ owns (c : Thread nD τ) arg14 fullShare x14
      ∗ (iprop(owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ (∃ y, owns (c : Thread nD τ) arg7 fullShare y)
      ∗ (∃ y, owns (c : Thread nD τ) arg8 fullShare y)
      ∗ (∃ y, owns (c : Thread nD τ) arg9 fullShare y)
      ∗ (∃ y, owns (c : Thread nD τ) arg10 fullShare y)
      ∗ (∃ y, owns (c : Thread nD τ) arg11 fullShare y)
      ∗ (∃ y, owns (c : Thread nD τ) arg12 fullShare y)
      ∗ (∃ y, owns (c : Thread nD τ) arg13 fullShare y)
      ∗ (∃ y, owns (c : Thread nD τ) arg14 fullShare y)) -∗ K ⟨⟩))
    ⊢ wp frame (wpE (defs₀ (F := F)) Variants.none c none) E (cc0_attn i arg1 harg1 arg2 harg2 arg3 harg3 arg4 harg4 arg5 harg5 arg6 harg6 arg7 harg7 arg8 harg8 arg9 harg9 arg10 harg10 arg11 harg11 arg12 harg12 arg13 harg13 arg14 harg14) K := by
  have hchk := chk_all i
  unfold cc0_attn owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  subst hf1 hf2 hf3 hf4 hf5 hf6 hf7 hf8 hf9 hf10 hf11 hf12 hf13 hf14
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  iexists _; iexists _; isplitr
  swap; · iexact H14
  ipureintro; rfl

end Cert.Attn.Hand
-- ==== Proof.AttnFrame.lean ====
/- The attention kernel's run: every point's body runs, so the launch terminates with the arguments unchanged. -/
module

public import proofs.«01_k».proof.Proof.Gen.Attn.Frame
public import Idealize.ShloMosaic.Lib.Pipeline.Frame
public import Idealize.ShloMosaic.Lib.Pipeline.Value
public import Idealize.ShloMosaic.Lib.Tactic
public import proofs.«01_k».proof.Proof.AttnRun

@[expose] public section

set_option maxRecDepth 16384

noncomputable section

namespace Cert.Attn.Hand

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The body's invariant before point `p`: the five scratch buffers and the generator register. -/
def inv (c : Dev nD) (p : ℕ) : sProp 𝕄 :=
  iprop(∃ (x10 : Vec F S6144x512 .bf16) (x11 : Vec F S512x6144 .bf16) (x12 : Vec F S20x128x256 .f32) (x13 : Vec F S24x256 .f32) (x14 : Vec F S24x256 .f32), ⌜True⌝
    ∗ owns (c : Thread nD τ) (Memref.whole cc0_scratch0) fullShare x10
    ∗ owns (c : Thread nD τ) (Memref.whole cc0_scratch1) fullShare x11
    ∗ owns (c : Thread nD τ) (Memref.whole cc0_scratch2) fullShare x12
    ∗ owns (c : Thread nD τ) (Memref.whole cc0_scratch3) fullShare x13
    ∗ owns (c : Thread nD τ) (Memref.whole cc0_scratch4) fullShare x14
    ∗ (∃ r, prngReg c r))

/-- The proof data: inputs stay as found. -/
def rdat (c : Dev nD) : RDat τ (Elt F) Unit ℕ (UR sig nD τ) ℕ cfg0 c where
  A w := V m c (Pipeline.arrRef spec0 w)
  after w := match w with
    | ⟨0, _⟩ => fun _ Y X => X = Y
    | ⟨1, _⟩ => fun _ Y X => X = Y
    | ⟨2, _⟩ => fun _ Y X => X = Y
    | ⟨3, _⟩ => fun _ Y X => X = Y
    | ⟨4, _⟩ => fun _ Y X => X = Y
    | ⟨5, _⟩ => fun _ Y X => X = Y
    | ⟨6, _⟩ => fun _ _ _ => True
    | ⟨7, _⟩ => fun _ _ _ => True
    | ⟨8, _⟩ => fun _ _ _ => True
  Φ p := inv (F := F) c p.val
  q _ := fullShare
  owed _ := 0

theorem A_eq (c : Dev nD) (w : Fin cfg0.W) : (rdat m c).A w = V m c (Pipeline.arrRef spec0 w) := by dsimp only [rdat]

theorem finds0_0 (c : Dev nD) (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  exact hd.trans (by unfold RDat.fetched RDat.blockOf iblk; rw [A_eq]; try rfl)
theorem finds0_1 (c : Dev nD) (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  exact hd.trans (by unfold RDat.fetched RDat.blockOf iblk; rw [A_eq]; try rfl)
theorem finds0_2 (c : Dev nD) (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  exact hd.trans (by unfold RDat.fetched RDat.blockOf iblk; rw [A_eq]; try rfl)
theorem finds0_3 (c : Dev nD) (t : Fin cfg0.N) (Y) (h : (rdat m c).Finds 3 t Y) : Y = iblk m c 3 t := by
  obtain ⟨d, hd⟩ := (rdat m c).finds_in_eq_fetched 3 rfl (fun _ _ _ => rfl) (fun _ _ _ h => h) t Y h
  exact hd.trans (by unfold RDat.fetched RDat.blockOf iblk; rw [A_eq]; try rfl)
theorem finds0_4 (c : Dev nD) (t : Fin cfg0.N) (Y) (h : (rdat m c).Finds 4 t Y) : Y = iblk m c 4 t := by
  obtain ⟨d, hd⟩ := (rdat m c).finds_in_eq_fetched 4 rfl (fun _ _ _ => rfl) (fun _ _ _ h => h) t Y h
  exact hd.trans (by unfold RDat.fetched RDat.blockOf iblk; rw [A_eq]; try rfl)
theorem finds0_5 (c : Dev nD) (t : Fin cfg0.N) (Y) (h : (rdat m c).Finds 5 t Y) : Y = iblk m c 5 t := by
  obtain ⟨d, hd⟩ := (rdat m c).finds_in_eq_fetched 5 rfl (fun _ _ _ => rfl) (fun _ _ _ h => h) t Y h
  exact hd.trans (by unfold RDat.fetched RDat.blockOf iblk; rw [A_eq]; try rfl)

/-! ## The body at a point -/

/-- What the body is called with at point `t`, the windows one by one, -/
def bodyPre (c : Dev nD) (t : Fin cfg0.N) (Y6 : Vec F S20x256x128 .f32) (Y7 : Vec F S20x256x128 .fp8e4m3) (Y8 : Vec F S1x1x256 .f32) : sProp 𝕄 :=
  iprop(inv (F := F) c t.val ∗ (rdat m c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare Y6 ∗ owns (c : Thread nD τ) (st0_7 t) fullShare Y7 ∗ owns (c : Thread nD τ) (st0_8 t) fullShare Y8)

/-- and what it returns. -/
def bodyPost (c : Dev nD) (t : Fin cfg0.N) : sProp 𝕄 :=
  iprop(inv (F := F) c (t.val + 1) ∗ (rdat m c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ (∃ X, ⌜True⌝ ∗ owns (c : Thread nD τ) (st0_6 t) fullShare X)
    ∗ (∃ X, ⌜True⌝ ∗ owns (c : Thread nD τ) (st0_7 t) fullShare X)
    ∗ (∃ X, ⌜True⌝ ∗ owns (c : Thread nD τ) (st0_8 t) fullShare X))

set_option maxHeartbeats 800000 in
/-- The body at any point. -/
theorem sound_body (c : Dev nD) (t : Fin cfg0.N) (Y6 : Vec F S20x256x128 .f32) (Y7 : Vec F S20x256x128 .fp8e4m3) (Y8 : Vec F S1x1x256 .f32) :
    bodyPre m c t Y6 Y7 Y8 ⊢ wp frame (wpE (defs₀ (F := F)) Variants.none c none) Set.univ (bodyAt0 t) (fun _ => bodyPost m c t) := by
  unfold bodyPre bodyPost bodyAt0 inv
  rw [show (rdat m c).owesAt () t.succ = (rdat m c).owesAt () t.castSucc from rfl]
  iintro ⟨⟨%x10, %x11, %x12, %x13, %x14, %hh, H10, H11, H12, H13, H14, Hg⟩, Ho, H0, H1, H2, H3, H4, H5, H6, H7, H8⟩
  iapply (run_body c Set.univ (grid0.coords t) _ _ _ _ _ _ _ _ _ _ _ _ _ _ _ _ _ _ _ _ _ _ _ _ _ _ _ _
    (iblk m c 0 t) (iblk m c 1 t) (iblk m c 2 t) (iblk m c 3 t) (iblk m c 4 t) (iblk m c 5 t) Y6 Y7 Y8 x10 x11 x12 x13 x14 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexact H10
  isplitl [H11]; · iexact H11
  isplitl [H12]; · iexact H12
  isplitl [H13]; · iexact H13
  isplitl [H14]; · iexact H14
  iintro ⟨H0, H1, H2, H3, H4, H5, ⟨%y7, H6⟩, ⟨%y8, H7⟩, ⟨%y9, H8⟩, ⟨%z10, H10⟩, ⟨%z11, H11⟩, ⟨%z12, H12⟩, ⟨%z13, H13⟩, ⟨%z14, H14⟩⟩
  isplitl [H10 H11 H12 H13 H14 Hg]
  · iexists _; iexists _; iexists _; iexists _; iexists _; isplitr
    swap
    · isplitl [H10]; · iexact H10
      isplitl [H11]; · iexact H11
      isplitl [H12]; · iexact H12
      isplitl [H13]; · iexact H13
      isplitl [H14]; · iexact H14
      iexact Hg
    ipureintro
    exact trivial
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr
    swap; · iexact H6
    ipureintro; exact trivial
  isplitl [H7]
  · iexists _; isplitr
    swap; · iexact H7
    ipureintro; exact trivial
  iexists _; isplitr
  swap; · iexact H8
  ipureintro; exact trivial

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y hY => by
  rw [bigSep_W0, bigSep_W0, defs₀_row,
    finds0_0 m c t _ (hY 0), finds0_1 m c t _ (hY 1), finds0_2 m c t _ (hY 2), finds0_3 m c t _ (hY 3), finds0_4 m c t _ (hY 4),
    finds0_5 m c t _ (hY 5)]
  refine triple_restated (sound_body m c t (Y 6) (Y 7) (Y 8)) rfl .rfl fun _ => ?_
  unfold bodyPost
  rw [show (rdat m c).Φ t.succ = inv (F := F) c (t.val + 1) from rfl]
  iintro ⟨Hi, Ho, H0, H1, H2, H3, H4, H5, H6, H7, H8⟩
  isplitl [Hi]; · iexact Hi
  isplitl [Ho]; · iexact Ho
  isplitl [H0]
  · iexists _; isplitr
    swap; · iexact H0
    ipureintro; exact rfl
  isplitl [H1]
  · iexists _; isplitr
    swap; · iexact H1
    ipureintro; exact rfl
  isplitl [H2]
  · iexists _; isplitr
    swap; · iexact H2
    ipureintro; exact rfl
  isplitl [H3]
  · iexists _; isplitr
    swap; · iexact H3
    ipureintro; exact rfl
  isplitl [H4]
  · iexists _; isplitr
    swap; · iexact H4
    ipureintro; exact rfl
  isplitl [H5]
  · iexists _; isplitr
    swap; · iexact H5
    ipureintro; exact rfl
  isplitl [H6]; · iexact H6
  isplitl [H7]; · iexact H7
  iexact H8

/-! ## The launch -/

theorem inv_in (c : Dev nD) : Pipeline.ΦA spec0 c ⊢ inv (F := F) c 0 := by
  unfold Pipeline.ΦA inv
  rw [scopedRest0_eq]
  simp only [owns_whole]
  iintro ⟨⟨⟨%x10, H10⟩, ⟨%x11, H11⟩, ⟨%x12, H12⟩, ⟨%x13, H13⟩, ⟨%x14, H14⟩⟩, Hg⟩
  iexists x10; iexists x11; iexists x12; iexists x13; iexists x14
  isplitr; · ipureintro; exact trivial
  isplitl [H10]; · iexact H10
  isplitl [H11]; · iexact H11
  isplitl [H12]; · iexact H12
  isplitl [H13]; · iexact H13
  isplitl [H14]; · iexact H14
  iexact Hg

theorem inv_out (c : Dev nD) (p : ℕ) : inv (F := F) c p ⊢ Pipeline.ΦA spec0 c := by
  unfold Pipeline.ΦA inv
  rw [scopedRest0_eq]
  simp only [owns_whole]
  iintro ⟨%x10, %x11, %x12, %x13, %x14, -, H10, H11, H12, H13, H14, Hg⟩
  isplitl [H10 H11 H12 H13 H14]
  · isplitl [H10]; · iexists _; iexact H10
    isplitl [H11]; · iexists _; iexact H11
    isplitl [H12]; · iexists _; iexact H12
    isplitl [H13]; · iexists _; iexact H13
    iexists _; iexact H14
  iexact Hg

set_option backward.isDefEq.respectTransparency.types false in
set_option maxHeartbeats 800000 in
/-- The launch: from any memory every run ends with the arrays as the proof data says and the semaphores at zero. -/
theorem run_main : θ_run defs (onTc (τ := τ) (main (F := F))) (s₀ m ρ)
    (fun r => Pipeline.RDat.FramePost (cfgs 0) (fun c => rdat m c) (V m) r ∧ r.2.sem = fun _ => 0) :=
  Pipeline.RDat.θ_run_frame_track (Q' := _) cfgs (0 : Fin 1) launch0 defs₀ Variants.none (fun c => rdat m c) m ρ main
    (hbody := fun c => body_obligation m c) (hshare := fun c => (rdat m c).share_full fun _ => rfl) (howed := fun _ _ => rfl) (V := V m)
    (hmain := hmain m Variants.none) (hA := A_eq m) (hin := fun c => inv_in c) (hout := fun c => inv_out c cfg0.N)

/-- After the run the six arguments hold what they held at launch. -/
theorem args_unchanged {r : PUnit × MemSt nD τ sig (Elt F)} (h : Pipeline.RDat.FramePost (cfgs 0) (fun c => rdat m c) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨(Pipeline.RDat.FramePost.arr_in h c 0 rfl).trans ((A_eq m c 0).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    (Pipeline.RDat.FramePost.arr_in h c 3 rfl).trans ((A_eq m c 3).trans (V_main_arg3 m c)),
    (Pipeline.RDat.FramePost.arr_in h c 4 rfl).trans ((A_eq m c 4).trans (V_main_arg4 m c)),
    (Pipeline.RDat.FramePost.arr_in h c 5 rfl).trans ((A_eq m c 5).trans (V_main_arg5 m c))⟩

/-- The frame: every run ends with the six arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => args_unchanged m h.1 c, h.2⟩) (run_main m ρ)

end Cert.Attn.Hand

end
-- ==== Proof.AttnIdealWord.lean ====
/- The attention kernel's loop bounds, of any words: the first key block is at most the query block, so every trip reads
   inside the two scratch buffers; the second loop never runs. -/
module

public import proofs.«01_k».proof.AttnIdeal
public import Idealize.ShloMosaic.Lib.Tactic

@[expose] public section

set_option maxRecDepth 16384

noncomputable section

namespace Cert.AttnIdeal.Hand

open Cert.AttnIdeal
open Idealize.ShloMosaic

theorem divsi_one (x : BitVec 32) : Scalar.divsi x 1#32 = x := by
  unfold Scalar.divsi IntOp.divsi
  rw [if_neg (by rintro (h | ⟨_, h⟩) <;> exact absurd h (by decide))]
  exact BitVec.sdiv_one

theorem shrui_lt (x : BitVec 32) : (Scalar.shrui x 8#32).toNat < 2 ^ 24 := by
  have hx := x.isLt
  unfold Scalar.shrui IntOp.shrui
  simp only [BitVec.toNat_ofNat, BitVec.ushiftRight_eq', BitVec.toNat_ushiftRight, Nat.shiftRight_eq_div_pow]
  simp
  omega

/-- The key block of trip `k` is at most the query block. -/
theorem trip_le (n : ℕ) (hn : n < 24) (f : BitVec 32) (hf : f.toNat < 2 ^ 24) (k : ℕ)
    (hk : k < Scf.trips f (BitVec.ofNat 32 n + 1#32) 1#32) : f.toNat + k ≤ n := by
  unfold Scf.trips at hk
  have h1 : f.toInt = f.toNat := BitVec.toInt_eq_toNat_of_lt (by omega)
  have h2 : (BitVec.ofNat 32 n + 1#32).toInt = n + 1 := by
    rw [BitVec.toInt_eq_toNat_of_lt] <;> simp <;> omega
  have h3 : (1#32 : BitVec 32).toInt = 1 := by decide
  rw [h1, h2, h3] at hk
  omega

theorem ok_of (n : ℕ) (hn : n < 24) (f : BitVec 32) (hf : f.toNat < 2 ^ 24) : Scf.OK f (BitVec.ofNat 32 n + 1#32) 1#32 := by
  unfold Scf.OK Scf.trips
  have h1 : f.toInt = f.toNat := BitVec.toInt_eq_toNat_of_lt (by omega)
  have h2 : (BitVec.ofNat 32 n + 1#32).toInt = n + 1 := by
    rw [BitVec.toInt_eq_toNat_of_lt] <;> simp <;> omega
  have h3 : (1#32 : BitVec 32).toInt = 1 := by decide
  rw [h1, h2, h3]
  constructor <;> omega

theorem trips_self (x : BitVec 32) : Scf.trips x x 1#32 = 0 := by
  unfold Scf.trips
  have h3 : (1#32 : BitVec 32).toInt = 1 := by decide
  rw [h3]; omega

/-- The trip's row offset. -/
theorem row_of (n : ℕ) (hn : n < 24) (f : BitVec 32) (hf : f.toNat < 2 ^ 24) (k : ℕ) (h : f.toNat + k ≤ n) :
    (Scalar.muli (Scf.iv f 1#32 k) 256#32).toNat = 256 * (f.toNat + k) := by
  unfold Scalar.muli Scf.iv
  simp [IntOp.muli, BitVec.toNat_add, BitVec.toNat_mul]
  omega

/-- The position at which the segment of the query block's first row begins. -/
def firstWord (i : grid0.Coords) (v50 v58 v66 v74 v82 : BitVec 32) : BitVec 32 :=
  (k0_t1_loop i v50 v58 v66 v74 v82).lb

theorem firstWord_lt (i : grid0.Coords) (v50 v58 v66 v74 v82 : BitVec 32) : (firstWord i v50 v58 v66 v74 v82).toNat < 2 ^ 24 :=
  shrui_lt _

theorem add_sub' (f x : BitVec 32) : Scalar.addi f (Scalar.subi x f) = x := by
  unfold Scalar.addi Scalar.subi IntOp.addi IntOp.subi
  rw [BitVec.add_comm, BitVec.sub_add_cancel]

theorem add_sub (f x : BitVec 32) : Scalar.addi f (Scalar.muli (Scalar.divsi (Scalar.subi x f) 1#32) 1#32) = x := by
  rw [divsi_one, show Scalar.muli (Scalar.subi x f) 1#32 = Scalar.subi x f from BitVec.mul_one _]
  exact add_sub' f x

theorem t1_ub (i : grid0.Coords) (v50 v58 v66 v74 v82 : BitVec 32) :
    (k0_t1_loop i v50 v58 v66 v74 v82).ub = BitVec.ofNat 32 (i 0).val + 1#32 := add_sub _ _

theorem t1_loop_eq (i : grid0.Coords) (v50 v58 v66 v74 v82 : BitVec 32) :
    k0_t1_loop i v50 v58 v66 v74 v82 = ⟨firstWord i v50 v58 v66 v74 v82, BitVec.ofNat 32 (i 0).val + 1#32, 1#32⟩ := by
  rw [← t1_ub i v50 v58 v66 v74 v82]; rfl

theorem coord_lt (i : grid0.Coords) : (i 0).val < 24 := (i 0).isLt

theorem trip1_le (i : grid0.Coords) (v50 v58 v66 v74 v82 : BitVec 32) (k : ℕ) (hk : k < (k0_t1_loop i v50 v58 v66 v74 v82).trips) :
    (firstWord i v50 v58 v66 v74 v82).toNat + k ≤ (i 0).val := by
  refine trip_le _ (coord_lt i) _ (firstWord_lt ..) k ?_
  rw [t1_loop_eq] at hk; exact hk

theorem t2_trips (i : grid0.Coords) (v50 v58 v66 v74 v82 : BitVec 32) : (k0_t2_loop i v50 v58 v66 v74 v82).trips = 0 := by
  have h1 : (k0_t2_loop i v50 v58 v66 v74 v82).lb = BitVec.ofNat 32 (i 0).val + 1#32 := add_sub _ _
  have h2 : (k0_t2_loop i v50 v58 v66 v74 v82).ub = BitVec.ofNat 32 (i 0).val + 1#32 := by
    show Scalar.addi _ (Scalar.subi _ _) = _
    exact add_sub' _ _
  unfold Scf.Loop.trips
  rw [h1, h2]; exact trips_self _

theorem row1 (i : grid0.Coords) (v50 v58 v66 v74 v82 : BitVec 32) (k : Fin (k0_t1_loop i v50 v58 v66 v74 v82).trips) :
    (k0_mult2 i v50 v58 v66 v74 v82 k).toNat = 256 * ((firstWord i v50 v58 v66 v74 v82).toNat + k.val) :=
  row_of _ (coord_lt i) _ (firstWord_lt ..) _ (trip1_le i v50 v58 v66 v74 v82 k.val k.isLt)

/-- The facts the kernel assumes of its words hold of all words. -/
theorem chk_all (i : grid0.Coords) (v50 v58 v66 v74 v82 : BitVec 32) : k0_chk1 i v50 v58 v66 v74 v82 := by
  have ht2 : ∀ k : Fin (k0_t2_loop i v50 v58 v66 v74 v82).trips, False := fun k => by
    have := k.isLt.trans_eq (t2_trips i v50 v58 v66 v74 v82); omega
  have hr : ∀ k : Fin (k0_t1_loop i v50 v58 v66 v74 v82).trips,
      256 ∣ (k0_mult2 i v50 v58 v66 v74 v82 k).toNat ∧ (k0_mult2 i v50 v58 v66 v74 v82 k).toNat ≤ 5888 := fun k => by
    rw [row1]; have := trip1_le i v50 v58 v66 v74 v82 k.val k.isLt; have := coord_lt i
    exact ⟨⟨_, rfl⟩, by omega⟩
  refine ⟨?_, fun k => (hr k).1, ?_, ?_, ?_, ?_, ?_, ?_, ?_, ?_, ?_, fun k => (ht2 k).elim, fun k => (ht2 k).elim, fun k => (ht2 k).elim,
    fun k => (ht2 k).elim, fun k => (ht2 k).elim, fun k => (ht2 k).elim, fun k => (ht2 k).elim, fun k => (ht2 k).elim, fun k => (ht2 k).elim⟩
  · rw [t1_loop_eq]; exact ok_of _ (coord_lt i) _ (firstWord_lt ..)
  · intro k a; have := (hr k).2; fin_cases a
    · show (k0_mult2 i v50 v58 v66 v74 v82 k).toNat + 256 ≤ 6144; omega
    · show 0 + 128 ≤ 512; omega
  · intro k a; have := (hr k).2; fin_cases a
    · show 0 + 128 ≤ 512; omega
    · show (k0_mult2 i v50 v58 v66 v74 v82 k).toNat + 256 ≤ 6144; omega
  · intro k a; have := (hr k).2; fin_cases a
    · show (k0_mult2 i v50 v58 v66 v74 v82 k).toNat + 256 ≤ 6144; omega
    · show 128 + 128 ≤ 512; omega
  · intro k a; have := (hr k).2; fin_cases a
    · show 128 + 128 ≤ 512; omega
    · show (k0_mult2 i v50 v58 v66 v74 v82 k).toNat + 256 ≤ 6144; omega
  · intro k a; have := (hr k).2; fin_cases a
    · show (k0_mult2 i v50 v58 v66 v74 v82 k).toNat + 256 ≤ 6144; omega
    · show 256 + 128 ≤ 512; omega
  · intro k a; have := (hr k).2; fin_cases a
    · show 256 + 128 ≤ 512; omega
    · show (k0_mult2 i v50 v58 v66 v74 v82 k).toNat + 256 ≤ 6144; omega
  · intro k a; have := (hr k).2; fin_cases a
    · show (k0_mult2 i v50 v58 v66 v74 v82 k).toNat + 256 ≤ 6144; omega
    · show 384 + 128 ≤ 512; omega
  · intro k a; have := (hr k).2; fin_cases a
    · show 384 + 128 ≤ 512; omega
    · show (k0_mult2 i v50 v58 v66 v74 v82 k).toNat + 256 ≤ 6144; omega
  · have h1 : (k0_t2_loop i v50 v58 v66 v74 v82).lb = BitVec.ofNat 32 (i 0).val + 1#32 := add_sub _ _
    have h0 := t2_trips i v50 v58 v66 v74 v82
    have h2 : (BitVec.ofNat 32 (i 0).val + 1#32).toInt = (i 0).val + 1 := by
      have := coord_lt i
      rw [BitVec.toInt_eq_toNat_of_lt] <;> simp <;> omega
    refine ⟨show 0 < (1#32 : BitVec 32).toInt by decide, ?_⟩
    have h0' : Scf.trips (k0_t2_loop i v50 v58 v66 v74 v82).lb (k0_t2_loop i v50 v58 v66 v74 v82).ub (k0_t2_loop i v50 v58 v66 v74 v82).st = 0 := h0
    rw [h0', h1, h2]; have := coord_lt i
    simp; omega

end Cert.AttnIdeal.Hand
-- ==== Proof.AttnIdealTrip.lean ====
/- One head of one trip of the attention kernel's loop over key blocks, as functions of the head's running maximum,
   denominator and accumulator. -/
module

public import proofs.«01_k».proof.Proof.Gen.AttnIdeal.Loops
public import proofs.«01_k».proof.Proof.AttnIdealWord
public import Idealize.ShloMosaic.Lib.Pipeline.Frame
public import Idealize.ShloMosaic.Lib.Pipeline.Value
public import Idealize.ShloMosaic.Lib.Tactic

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic

variable {F : FTy → Type} [FloatOps F]

theorem row2_in (h : Fin 20) : ∀ a, (![h.val, 0] : Fin 2 → ℕ) a + S1x256.size a ≤ S24x256.size a := by
  have := h.isLt
  intro a; fin_cases a <;> simp [Shape.size] <;> omega

theorem row3_in (h : Fin 20) : ∀ a, (![h.val, 0, 0] : Fin 3 → ℕ) a + S1x128x256.size a ≤ S20x128x256.size a := by
  have := h.isLt
  intro a; fin_cases a <;> simp [Shape.size] <;> omega

theorem q_in (h : Fin 20) : ∀ a, (![0, 128 * h.val] : Fin 2 → ℕ) a + S256x128.size a ≤ S256x2560.size a := by
  have := h.isLt
  intro a; fin_cases a <;> simp [Shape.size] <;> omega

theorem k_in (h : Fin 20) {r : ℕ} (hr : r + 256 ≤ 6144) :
    ∀ a, (![r, 128 * (h.val / 5)] : Fin 2 → ℕ) a + S256x128.size a ≤ S6144x512.size a := by
  have := h.isLt
  intro a; fin_cases a <;> simp [Shape.size] <;> omega

theorem v_in (h : Fin 20) {r : ℕ} (hr : r + 256 ≤ 6144) :
    ∀ a, (![128 * (h.val / 5), r] : Fin 2 → ℕ) a + S128x256.size a ≤ S512x6144.size a := by
  have := h.isLt
  intro a; fin_cases a <;> simp [Shape.size] <;> omega

/-- Head `h`'s row of a scratch array of one row per head. -/
abbrev row2 (h : Fin 20) : Rect S24x256 := Rect.unit (s := S24x256) ![h.val, 0] S1x256.size (row2_in h)

/-- Head `h`'s plane of the accumulator. -/
abbrev row3 (h : Fin 20) : Rect S20x128x256 := Rect.unit (s := S20x128x256) ![h.val, 0, 0] S1x128x256.size (row3_in h)

/-- Head `h`'s columns of the queries. -/
def qHead (q : Vec F S256x2560 .bf16) (h : Fin 20) : Vec F S256x128 .bf16 :=
  View.ld q (Rect.unit (s := S256x2560) ![0, 128 * h.val] S256x128.size (q_in h))

/-- The 256 keys from row `r` on, of head `h`'s group. -/
def kBlk (kb : Vec F S6144x512 .bf16) (r : ℕ) (hr : r + 256 ≤ 6144) (h : Fin 20) : Vec F S256x128 .bf16 :=
  View.ld kb (Rect.unit (s := S6144x512) ![r, 128 * (h.val / 5)] S256x128.size (k_in h hr))

/-- The 256 values from row `r` on, of head `h`'s group. -/
def vBlk (vt : Vec F S512x6144 .bf16) (r : ℕ) (hr : r + 256 ≤ 6144) (h : Fin 20) : Vec F S128x256 .bf16 :=
  View.ld vt (Rect.unit (s := S512x6144) ![128 * (h.val / 5), r] S128x256.size (v_in h hr))

/-- The scaled and masked scores, key by query. -/
def score (c : F .f32) (bias : FVec F S256x256 .f32) (k q : Vec F S256x128 .bf16) : FVec F S256x256 .f32 :=
  k0_pay12 c bias k q

/-- The running maximum. -/
def newMax (s : FVec F S256x256 .f32) (m : Vec F S1x256 .f32) : FVec F S1x256 .f32 :=
  maximumf m (ceil (shapeCast S1x256
    (multiReduction .maximumf [0] S256 s 0xFF800000#32 reduces_S256x256_S256 (.inl rfl) rfl) shapeCasts_S256_S1x256))

/-- The factor by which the earlier terms shrink. -/
def shrink (m m' : FVec F S1x256 .f32) : FVec F S1x256 .f32 := exp2 (subf m m')

/-- The terms of this block. -/
def terms (s : FVec F S256x256 .f32) (m' : FVec F S1x256 .f32) : FVec F S256x256 .f32 :=
  exp2 (subf s (broadcastTo S256x256 m' broadcasts_S1x256_S256x256))

/-- The running maximum as it is stored. -/
def stMax (m' : FVec F S1x256 .f32) : FVec F S1x256 .f32 := k0_pay10 m'

/-- The running denominator. -/
def newDen (r : FVec F S1x256 .f32) (p : FVec F S256x256 .f32) (d : Vec F S1x256 .f32) : FVec F S1x256 .f32 := k0_pay24 r p d

/-- The running accumulator. -/
def newAcc (vs : F .f32) (r : FVec F S1x256 .f32) (p : FVec F S256x256 .f32) (v : Vec F S128x256 .bf16)
    (a : Vec F S1x128x256 .f32) : FVec F S1x128x256 .f32 := k0_pay11 vs r p v a

/-- The twenty pieces a trip writes into an array of one row per head. -/
def rows2 (w : Fin 20 → FVec F S1x256 .f32) : List (View.Piece (Elt F) S24x256 .f32) :=
  [⟨row2 19, w 19⟩, ⟨row2 18, w 18⟩, ⟨row2 17, w 17⟩, ⟨row2 16, w 16⟩, ⟨row2 15, w 15⟩, ⟨row2 14, w 14⟩, ⟨row2 13, w 13⟩, ⟨row2 12, w 12⟩, ⟨row2 11, w 11⟩, ⟨row2 10, w 10⟩, ⟨row2 9, w 9⟩, ⟨row2 8, w 8⟩, ⟨row2 7, w 7⟩, ⟨row2 6, w 6⟩, ⟨row2 5, w 5⟩, ⟨row2 4, w 4⟩, ⟨row2 3, w 3⟩, ⟨row2 2, w 2⟩, ⟨row2 1, w 1⟩, ⟨row2 0, w 0⟩]

/-- The twenty pieces a trip writes into the accumulator. -/
def rows3 (w : Fin 20 → FVec F S1x128x256 .f32) : List (View.Piece (Elt F) S20x128x256 .f32) :=
  [⟨row3 19, w 19⟩, ⟨row3 18, w 18⟩, ⟨row3 17, w 17⟩, ⟨row3 16, w 16⟩, ⟨row3 15, w 15⟩, ⟨row3 14, w 14⟩, ⟨row3 13, w 13⟩, ⟨row3 12, w 12⟩, ⟨row3 11, w 11⟩, ⟨row3 10, w 10⟩, ⟨row3 9, w 9⟩, ⟨row3 8, w 8⟩, ⟨row3 7, w 7⟩, ⟨row3 6, w 6⟩, ⟨row3 5, w 5⟩, ⟨row3 4, w 4⟩, ⟨row3 3, w 3⟩, ⟨row3 2, w 2⟩, ⟨row3 1, w 1⟩, ⟨row3 0, w 0⟩]

set_option maxHeartbeats 0 in
theorem trip_max (𝒱 : Variants) (c : Dev nD) (bd : Option 𝒱.V) (i : grid0.Coords)
    (arg1 : Memref sig .tc .smem S7 .i32) (harg1 : arg1.IsWhole)
    (arg2 : Memref sig .tc .smem S1 .f32) (harg2 : arg2.IsWhole)
    (arg3 : Memref sig .tc .smem S1 .f32) (harg3 : arg3.IsWhole)
    (arg4 : Memref sig .tc .vmem S256x2560 .bf16) (harg4 : arg4.IsWhole)
    (arg5 : Memref sig .tc .vmem S6144x512 .fp8e4m3) (harg5 : arg5.IsWhole)
    (arg6 : Memref sig .tc .vmem S6144x512 .fp8e4m3) (harg6 : arg6.IsWhole)
    (arg7 : Memref sig .tc .vmem S20x256x128 .f32) (harg7 : arg7.IsWhole)
    (arg8 : Memref sig .tc .vmem S20x256x128 .fp8e4m3) (harg8 : arg8.IsWhole)
    (arg9 : Memref sig .tc .vmem S1x1x256 .f32) (harg9 : arg9.IsWhole)
    (arg10 : Memref sig .tc .vmem S6144x512 .bf16) (harg10 : arg10.IsWhole)
    (arg11 : Memref sig .tc .vmem S512x6144 .bf16) (harg11 : arg11.IsWhole)
    (arg12 : Memref sig .tc .vmem S20x128x256 .f32) (harg12 : arg12.IsWhole)
    (arg13 : Memref sig .tc .vmem S24x256 .f32) (harg13 : arg13.IsWhole)
    (arg14 : Memref sig .tc .vmem S24x256 .f32) (harg14 : arg14.IsWhole)
    (arg0 : BitVec 32) (v48 : IVec S1x256 32) (v50 v58 v66 v74 : BitVec 32) (v81 : BitVec 32) (v82 : BitVec 32)
    (hw : k0_chk1 i v50 v58 v66 v74 v82) (v86 : IVec S1x256 32) (v88 : BitVec 1) (v90 : BitVec 32) (v91 v94 : F .f32)
    (X4 : BufTy.Contents (Elt F) arg4.view.ty) (X10 : BufTy.Contents (Elt F) arg10.view.ty)
    (X11 : BufTy.Contents (Elt F) arg11.view.ty)
    (k : Fin (k0_t1_loop i v50 v58 v66 v74 v82).trips)
    (acc : BitVec 32) (f12 : BufTy.Contents (Elt F) arg12.view.ty) (f13 : BufTy.Contents (Elt F) arg13.view.ty)
    (f14 : BufTy.Contents (Elt F) arg14.view.ty)
    (hr : (k0_mult2 i v50 v58 v66 v74 v82 k).toNat + 256 ≤ 6144) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v48 v50 v58 v66 v74 v81 v82 hw v86 v88 v90 v91 v94 X4 X10 X11 k).2.2.1 acc f12 f13 f14 = rows2 fun h => stMax (newMax (score (k0_pay324 v91) (k0_pay4 i v48 v50 v58 v66 v74 v82 v86 v90 1#32 k) (kBlk (arg10.view.read (Elt F) X10) (k0_mult2 i v50 v58 v66 v74 v82 k).toNat hr h) (qHead (arg4.view.read (Elt F) X4) h)) (View.ld (arg13.view.read (Elt F) f13) (row2 h))) := by
  unfold trip_k0_t1
  rfl

set_option maxHeartbeats 0 in
theorem trip_den (𝒱 : Variants) (c : Dev nD) (bd : Option 𝒱.V) (i : grid0.Coords)
    (arg1 : Memref sig .tc .smem S7 .i32) (harg1 : arg1.IsWhole)
    (arg2 : Memref sig .tc .smem S1 .f32) (harg2 : arg2.IsWhole)
    (arg3 : Memref sig .tc .smem S1 .f32) (harg3 : arg3.IsWhole)
    (arg4 : Memref sig .tc .vmem S256x2560 .bf16) (harg4 : arg4.IsWhole)
    (arg5 : Memref sig .tc .vmem S6144x512 .fp8e4m3) (harg5 : arg5.IsWhole)
    (arg6 : Memref sig .tc .vmem S6144x512 .fp8e4m3) (harg6 : arg6.IsWhole)
    (arg7 : Memref sig .tc .vmem S20x256x128 .f32) (harg7 : arg7.IsWhole)
    (arg8 : Memref sig .tc .vmem S20x256x128 .fp8e4m3) (harg8 : arg8.IsWhole)
    (arg9 : Memref sig .tc .vmem S1x1x256 .f32) (harg9 : arg9.IsWhole)
    (arg10 : Memref sig .tc .vmem S6144x512 .bf16) (harg10 : arg10.IsWhole)
    (arg11 : Memref sig .tc .vmem S512x6144 .bf16) (harg11 : arg11.IsWhole)
    (arg12 : Memref sig .tc .vmem S20x128x256 .f32) (harg12 : arg12.IsWhole)
    (arg13 : Memref sig .tc .vmem S24x256 .f32) (harg13 : arg13.IsWhole)
    (arg14 : Memref sig .tc .vmem S24x256 .f32) (harg14 : arg14.IsWhole)
    (arg0 : BitVec 32) (v48 : IVec S1x256 32) (v50 v58 v66 v74 : BitVec 32) (v81 : BitVec 32) (v82 : BitVec 32)
    (hw : k0_chk1 i v50 v58 v66 v74 v82) (v86 : IVec S1x256 32) (v88 : BitVec 1) (v90 : BitVec 32) (v91 v94 : F .f32)
    (X4 : BufTy.Contents (Elt F) arg4.view.ty) (X10 : BufTy.Contents (Elt F) arg10.view.ty)
    (X11 : BufTy.Contents (Elt F) arg11.view.ty)
    (k : Fin (k0_t1_loop i v50 v58 v66 v74 v82).trips)
    (acc : BitVec 32) (f12 : BufTy.Contents (Elt F) arg12.view.ty) (f13 : BufTy.Contents (Elt F) arg13.view.ty)
    (f14 : BufTy.Contents (Elt F) arg14.view.ty)
    (hr : (k0_mult2 i v50 v58 v66 v74 v82 k).toNat + 256 ≤ 6144) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v48 v50 v58 v66 v74 v81 v82 hw v86 v88 v90 v91 v94 X4 X10 X11 k).2.2.2.1 acc f12 f13 f14 = rows2 fun h => newDen (shrink (View.ld (arg13.view.read (Elt F) f13) (row2 h)) (newMax (score (k0_pay324 v91) (k0_pay4 i v48 v50 v58 v66 v74 v82 v86 v90 1#32 k) (kBlk (arg10.view.read (Elt F) X10) (k0_mult2 i v50 v58 v66 v74 v82 k).toNat hr h) (qHead (arg4.view.read (Elt F) X4) h)) (View.ld (arg13.view.read (Elt F) f13) (row2 h)))) (terms (score (k0_pay324 v91) (k0_pay4 i v48 v50 v58 v66 v74 v82 v86 v90 1#32 k) (kBlk (arg10.view.read (Elt F) X10) (k0_mult2 i v50 v58 v66 v74 v82 k).toNat hr h) (qHead (arg4.view.read (Elt F) X4) h)) (newMax (score (k0_pay324 v91) (k0_pay4 i v48 v50 v58 v66 v74 v82 v86 v90 1#32 k) (kBlk (arg10.view.read (Elt F) X10) (k0_mult2 i v50 v58 v66 v74 v82 k).toNat hr h) (qHead (arg4.view.read (Elt F) X4) h)) (View.ld (arg13.view.read (Elt F) f13) (row2 h)))) (View.ld (arg14.view.read (Elt F) f14) (row2 h)) := by
  unfold trip_k0_t1
  rfl

set_option maxHeartbeats 0 in
theorem trip_acc (𝒱 : Variants) (c : Dev nD) (bd : Option 𝒱.V) (i : grid0.Coords)
    (arg1 : Memref sig .tc .smem S7 .i32) (harg1 : arg1.IsWhole)
    (arg2 : Memref sig .tc .smem S1 .f32) (harg2 : arg2.IsWhole)
    (arg3 : Memref sig .tc .smem S1 .f32) (harg3 : arg3.IsWhole)
    (arg4 : Memref sig .tc .vmem S256x2560 .bf16) (harg4 : arg4.IsWhole)
    (arg5 : Memref sig .tc .vmem S6144x512 .fp8e4m3) (harg5 : arg5.IsWhole)
    (arg6 : Memref sig .tc .vmem S6144x512 .fp8e4m3) (harg6 : arg6.IsWhole)
    (arg7 : Memref sig .tc .vmem S20x256x128 .f32) (harg7 : arg7.IsWhole)
    (arg8 : Memref sig .tc .vmem S20x256x128 .fp8e4m3) (harg8 : arg8.IsWhole)
    (arg9 : Memref sig .tc .vmem S1x1x256 .f32) (harg9 : arg9.IsWhole)
    (arg10 : Memref sig .tc .vmem S6144x512 .bf16) (harg10 : arg10.IsWhole)
    (arg11 : Memref sig .tc .vmem S512x6144 .bf16) (harg11 : arg11.IsWhole)
    (arg12 : Memref sig .tc .vmem S20x128x256 .f32) (harg12 : arg12.IsWhole)
    (arg13 : Memref sig .tc .vmem S24x256 .f32) (harg13 : arg13.IsWhole)
    (arg14 : Memref sig .tc .vmem S24x256 .f32) (harg14 : arg14.IsWhole)
    (arg0 : BitVec 32) (v48 : IVec S1x256 32) (v50 v58 v66 v74 : BitVec 32) (v81 : BitVec 32) (v82 : BitVec 32)
    (hw : k0_chk1 i v50 v58 v66 v74 v82) (v86 : IVec S1x256 32) (v88 : BitVec 1) (v90 : BitVec 32) (v91 v94 : F .f32)
    (X4 : BufTy.Contents (Elt F) arg4.view.ty) (X10 : BufTy.Contents (Elt F) arg10.view.ty)
    (X11 : BufTy.Contents (Elt F) arg11.view.ty)
    (k : Fin (k0_t1_loop i v50 v58 v66 v74 v82).trips)
    (acc : BitVec 32) (f12 : BufTy.Contents (Elt F) arg12.view.ty) (f13 : BufTy.Contents (Elt F) arg13.view.ty)
    (f14 : BufTy.Contents (Elt F) arg14.view.ty)
    (hr : (k0_mult2 i v50 v58 v66 v74 v82 k).toNat + 256 ≤ 6144) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v48 v50 v58 v66 v74 v81 v82 hw v86 v88 v90 v91 v94 X4 X10 X11 k).2.1 acc f12 f13 f14 = rows3 fun h => newAcc v94 (shrink (View.ld (arg13.view.read (Elt F) f13) (row2 h)) (newMax (score (k0_pay324 v91) (k0_pay4 i v48 v50 v58 v66 v74 v82 v86 v90 1#32 k) (kBlk (arg10.view.read (Elt F) X10) (k0_mult2 i v50 v58 v66 v74 v82 k).toNat hr h) (qHead (arg4.view.read (Elt F) X4) h)) (View.ld (arg13.view.read (Elt F) f13) (row2 h)))) (terms (score (k0_pay324 v91) (k0_pay4 i v48 v50 v58 v66 v74 v82 v86 v90 1#32 k) (kBlk (arg10.view.read (Elt F) X10) (k0_mult2 i v50 v58 v66 v74 v82 k).toNat hr h) (qHead (arg4.view.read (Elt F) X4) h)) (newMax (score (k0_pay324 v91) (k0_pay4 i v48 v50 v58 v66 v74 v82 v86 v90 1#32 k) (kBlk (arg10.view.read (Elt F) X10) (k0_mult2 i v50 v58 v66 v74 v82 k).toNat hr h) (qHead (arg4.view.read (Elt F) X4) h)) (View.ld (arg13.view.read (Elt F) f13) (row2 h)))) (vBlk (arg11.view.read (Elt F) X11) (k0_mult2 i v50 v58 v66 v74 v82 k).toNat hr h) (View.ld (arg12.view.read (Elt F) f12) (row3 h)) := by
  unfold trip_k0_t1
  rfl

end Cert.AttnIdeal.Hand
-- ==== Proof.AttnIdealState.lean ====
/- What the attention kernel's loop over key blocks leaves in its three scratch arrays, head by head. -/
module

public import proofs.«01_k».proof.Proof.AttnIdealTrip

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic

variable {F : FTy → Type} [FloatOps F]

section Rows

variable {Val : EltTy → Type} [∀ e, Inhabited (Val e)] {κ : Kind} {sp : Space} {s : Shape} {e : EltTy}

/-- Pairwise disjoint pieces: each rectangle reads back what its own piece wrote. -/
theorem ld_pieces (v : View sig κ sp s e) (f : v.ty.Contents Val) (R : Fin 20 → Rect s)
    (w : ∀ h, (R h).shape.Idx → Val e)
    (hd : ∀ h h' : Fin 20, h ≠ h' → ∀ x, (R h).idx x ∉ (R h').set) (h : Fin 20) :
    ∀ l : List (Fin 20), h ∈ l →
      View.ld (v.read Val (v.writes Val f (l.map fun h => (⟨R h, w h⟩ : View.Piece Val s e)))) (R h) = w h
  | [], hm => absurd hm List.not_mem_nil
  | a :: l, hm => by
    funext x
    by_cases ha : h = a
    · subst ha
      exact View.read_writes_cons_emb v f (R h) (w h) _ x
    · have hl : h ∈ l := (List.mem_cons.1 hm).resolve_left ha
      have := View.read_writes_cons_miss v f (⟨R a, w a⟩ : View.Piece Val s e)
        (l.map fun h => (⟨R h, w h⟩ : View.Piece Val s e)) ((R h).idx x) (hd h a ha x)
      exact this.trans (congrFun (ld_pieces v f R w hd h l hl) x)

end Rows

theorem row2_disj (h h' : Fin 20) (hh : h ≠ h') (x : (row2 h).shape.Idx) : (row2 h).idx x ∉ (row2 h').set := by
  refine Rect.not_mem_set_of_axis _ _ 0 h'.val 1 rfl rfl rfl ?_
  have hx : (x 0).val < 1 := (x 0).isLt
  have : ((row2 h).idx x 0).val = h.val + 1 * (x 0).val := rfl
  have hne : h.val ≠ h'.val := fun e => hh (Fin.ext e)
  omega

theorem row3_disj (h h' : Fin 20) (hh : h ≠ h') (x : (row3 h).shape.Idx) : (row3 h).idx x ∉ (row3 h').set := by
  refine Rect.not_mem_set_of_axis _ _ 0 h'.val 1 rfl rfl rfl ?_
  have hx : (x 0).val < 1 := (x 0).isLt
  have : ((row3 h).idx x 0).val = h.val + 1 * (x 0).val := rfl
  have hne : h.val ≠ h'.val := fun e => hh (Fin.ext e)
  omega

theorem ld_rows2 {κ : Kind} {sp : Space} (v : View sig κ sp S24x256 .f32) (f : v.ty.Contents (Elt F))
    (w : Fin 20 → FVec F S1x256 .f32) (h : Fin 20) :
    View.ld (v.read (Elt F) (v.writes (Elt F) f (rows2 w))) (row2 h) = w h :=
  ld_pieces v f row2 w row2_disj h ((List.finRange 20).reverse) (by simp)

theorem ld_rows3 {κ : Kind} {sp : Space} (v : View sig κ sp S20x128x256 .f32) (f : v.ty.Contents (Elt F))
    (w : Fin 20 → FVec F S1x128x256 .f32) (h : Fin 20) :
    View.ld (v.read (Elt F) (v.writes (Elt F) f (rows3 w))) (row3 h) = w h :=
  ld_pieces v f row3 w row3_disj h ((List.finRange 20).reverse) (by simp)

/-- The mask of the key block that starts at `b`: 0 where the key is of the query's segment and not after it, else −∞. -/
def maskAt (v48 v86 : IVec S1x256 32) (b : BitVec 32) : FVec F S256x256 .f32 :=
  select (andi
      (cmpi .sge (addi (broadcast S256x256 b) (iota .tc S256x256 32 [0] iota_S256x256_d0_w32))
        (broadcastTo S256x256 v86 broadcasts_S1x256_S256x256))
      (cmpi .sle (addi (broadcast S256x256 b) (iota .tc S256x256 32 [0] iota_S256x256_d0_w32))
        (broadcastTo S256x256 v48 broadcasts_S1x256_S256x256)))
    (broadcast S256x256 (Scalar.ofBits .f32 0x00000000#32 : F .f32))
    (broadcast S256x256 (Scalar.ofBits .f32 0xFF800000#32 : F .f32))

theorem word_at (i : grid0.Coords) (v50 v58 v66 v74 v82 : BitVec 32) (k : Fin (k0_t1_loop i v50 v58 v66 v74 v82).trips) :
    k0_mult2 i v50 v58 v66 v74 v82 k = BitVec.ofNat 32 (256 * ((firstWord i v50 v58 v66 v74 v82).toNat + k.val)) := by
  apply BitVec.eq_of_toNat_eq
  have h1 := trip1_le i v50 v58 v66 v74 v82 k.val k.isLt
  have h2 := coord_lt i
  rw [row1, BitVec.toNat_ofNat, Nat.mod_eq_of_lt (by omega)]

theorem pay4_eq (i : grid0.Coords) (v48 : IVec S1x256 32) (v50 v58 v66 v74 v82 : BitVec 32) (v86 : IVec S1x256 32)
    (k : Fin (k0_t1_loop i v50 v58 v66 v74 v82).trips) :
    (k0_pay4 i v48 v50 v58 v66 v74 v82 v86 (firstWord i v50 v58 v66 v74 v82) 1#32 k : FVec F S256x256 .f32)
      = maskAt v48 v86 (BitVec.ofNat 32 (256 * ((firstWord i v50 v58 v66 v74 v82).toNat + k.val))) := by
  rw [← word_at]; rfl

/-- A head's running maximum, denominator and accumulator. -/
abbrev HSt (F : FTy → Type) := Vec F S1x256 .f32 × Vec F S1x256 .f32 × Vec F S1x128x256 .f32

/-- One head's step over the key block that starts at row `r`. -/
def hstep (c vs : F .f32) (v48 v86 : IVec S1x256 32) (q : Vec F S256x2560 .bf16) (kb : Vec F S6144x512 .bf16)
    (vt : Vec F S512x6144 .bf16) (h : Fin 20) (r : ℕ) (hr : r + 256 ≤ 6144) (st : HSt F) : HSt F :=
  let s := score c (maskAt v48 v86 (BitVec.ofNat 32 r)) (kBlk kb r hr h) (qHead q h)
  let m := newMax s st.1
  (stMax m, newDen (shrink st.1 m) (terms s m) st.2.1, newAcc vs (shrink st.1 m) (terms s m) (vBlk vt r hr h) st.2.2)

/-- One head after `n` key blocks from block `j` on. -/
def hrun (c vs : F .f32) (v48 v86 : IVec S1x256 32) (q : Vec F S256x2560 .bf16) (kb : Vec F S6144x512 .bf16)
    (vt : Vec F S512x6144 .bf16) (h : Fin 20) (j : ℕ) (st : HSt F) : ℕ → HSt F
  | 0 => st
  | n + 1 => if hr : 256 * (j + n) + 256 ≤ 6144 then
      hstep c vs v48 v86 q kb vt h (256 * (j + n)) hr (hrun c vs v48 v86 q kb vt h j st n)
    else hrun c vs v48 v86 q kb vt h j st n

set_option maxHeartbeats 0 in
theorem st_rows (𝒱 : Variants) (c : Dev nD) (bd : Option 𝒱.V) (i : grid0.Coords)
    (arg1 : Memref sig .tc .smem S7 .i32) (harg1 : arg1.IsWhole)
    (arg2 : Memref sig .tc .smem S1 .f32) (harg2 : arg2.IsWhole)
    (arg3 : Memref sig .tc .smem S1 .f32) (harg3 : arg3.IsWhole)
    (arg4 : Memref sig .tc .vmem S256x2560 .bf16) (harg4 : arg4.IsWhole)
    (arg5 : Memref sig .tc .vmem S6144x512 .fp8e4m3) (harg5 : arg5.IsWhole)
    (arg6 : Memref sig .tc .vmem S6144x512 .fp8e4m3) (harg6 : arg6.IsWhole)
    (arg7 : Memref sig .tc .vmem S20x256x128 .f32) (harg7 : arg7.IsWhole)
    (arg8 : Memref sig .tc .vmem S20x256x128 .fp8e4m3) (harg8 : arg8.IsWhole)
    (arg9 : Memref sig .tc .vmem S1x1x256 .f32) (harg9 : arg9.IsWhole)
    (arg10 : Memref sig .tc .vmem S6144x512 .bf16) (harg10 : arg10.IsWhole)
    (arg11 : Memref sig .tc .vmem S512x6144 .bf16) (harg11 : arg11.IsWhole)
    (arg12 : Memref sig .tc .vmem S20x128x256 .f32) (harg12 : arg12.IsWhole)
    (arg13 : Memref sig .tc .vmem S24x256 .f32) (harg13 : arg13.IsWhole)
    (arg14 : Memref sig .tc .vmem S24x256 .f32) (harg14 : arg14.IsWhole)
    (arg0 : BitVec 32) (v48 : IVec S1x256 32) (v50 v58 v66 v74 : BitVec 32) (v81 : BitVec 32) (v82 : BitVec 32)
    (hw : k0_chk1 i v50 v58 v66 v74 v82) (v86 : IVec S1x256 32) (v88 : BitVec 1) (v91 v94 : F .f32)
    (X4 : BufTy.Contents (Elt F) arg4.view.ty) (X10 : BufTy.Contents (Elt F) arg10.view.ty)
    (X11 : BufTy.Contents (Elt F) arg11.view.ty)

    (G12 : BufTy.Contents (Elt F) arg12.view.ty) (G13 : BufTy.Contents (Elt F) arg13.view.ty)
    (G14 : BufTy.Contents (Elt F) arg14.view.ty) (init : BitVec 32) (st : Fin 20 → HSt F)
    (hG : ∀ h, (View.ld (arg13.view.read (Elt F) G13) (row2 h), View.ld (arg14.view.read (Elt F) G14) (row2 h),
      View.ld (arg12.view.read (Elt F) G12) (row3 h)) = st h) :
    ∀ n : ℕ, n ≤ (k0_t1_loop i v50 v58 v66 v74 v82).trips → ∀ h : Fin 20,
      ((View.ld (arg13.view.read (Elt F) (arg13.view.writes (Elt F) G13 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v48 v50 v58 v66 v74 v81 v82 hw v86 v88 (firstWord i v50 v58 v66 v74 v82) v91 v94 X4 X10 X11 G12 G13 G14 init n).2.2.1)) (row2 h),
        View.ld (arg14.view.read (Elt F) (arg14.view.writes (Elt F) G14 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v48 v50 v58 v66 v74 v81 v82 hw v86 v88 (firstWord i v50 v58 v66 v74 v82) v91 v94 X4 X10 X11 G12 G13 G14 init n).2.2.2)) (row2 h),
        View.ld (arg12.view.read (Elt F) (arg12.view.writes (Elt F) G12 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v48 v50 v58 v66 v74 v81 v82 hw v86 v88 (firstWord i v50 v58 v66 v74 v82) v91 v94 X4 X10 X11 G12 G13 G14 init n).2.1)) (row3 h)) : HSt F)
      = hrun (k0_pay324 v91) v94 v48 v86 (arg4.view.read (Elt F) X4) (arg10.view.read (Elt F) X10) (arg11.view.read (Elt F) X11) h
          (firstWord i v50 v58 v66 v74 v82).toNat (st h) n
  | 0, _, h => hG h
  | n + 1, hn, h => by
    have ih := st_rows 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v48 v50 v58 v66 v74 v81 v82 hw v86 v88 v91 v94 X4 X10 X11 G12 G13 G14 init st hG n (by omega) h
    have h1 := trip1_le i v50 v58 v66 v74 v82 n (by omega)
    have h2 := coord_lt i
    have hr : 256 * ((firstWord i v50 v58 v66 v74 v82).toNat + n) + 256 ≤ 6144 := by omega
    have hr' : (k0_mult2 i v50 v58 v66 v74 v82 ⟨n, by omega⟩).toNat + 256 ≤ 6144 := by rw [row1]; exact hr
    have e := st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v48 v50 v58 v66 v74 v81 v82 hw v86 v88 (firstWord i v50 v58 v66 v74 v82) v91 v94 X4 X10 X11 G12 G13 G14 init ⟨n, by omega⟩
    rw [e]
    dsimp only
    rw [View.writes_append, View.writes_append, View.writes_append]
    rw [trip_max (hr := hr'), trip_den (hr := hr'), trip_acc (hr := hr'), ld_rows2, ld_rows2, ld_rows3, pay4_eq]
    rw [hrun, dif_pos hr, ← ih]
    have hb : ∀ r : ℕ, r = 256 * ((firstWord i v50 v58 v66 v74 v82).toNat + n) → ∀ (p : r + 256 ≤ 6144),
        kBlk (arg10.view.read (Elt F) X10) r p h = kBlk (arg10.view.read (Elt F) X10) _ hr h
        ∧ vBlk (arg11.view.read (Elt F) X11) r p h = vBlk (arg11.view.read (Elt F) X11) _ hr h := by
      rintro r rfl p; exact ⟨rfl, rfl⟩
    rw [(hb _ (row1 ..) hr').1, (hb _ (row1 ..) hr').2]
    rfl

end Cert.AttnIdeal.Hand
-- ==== Proof.AttnIdealEpi.lean ====
/- The attention kernel's epilogue: every head divided by its denominator, then all heads of a token quantised together. -/
module

public import proofs.«01_k».proof.Proof.AttnIdealState
public import Idealize.ShloMosaic.Lib.VecWindow

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic

variable {F : FTy → Type} [FloatOps F]

theorem row7_in (h : Fin 20) : ∀ a, (![h.val, 0, 0] : Fin 3 → ℕ) a + S1x256x128.size a ≤ S20x256x128.size a := by
  have := h.isLt
  intro a; fin_cases a <;> simp [Shape.size] <;> omega

/-- Head `h`'s plane of a result block. -/
abbrev row7 (h : Fin 20) : Rect S20x256x128 := Rect.unit (s := S20x256x128) ![h.val, 0, 0] S1x256x128.size (row7_in h)

theorem row7_disj (h h' : Fin 20) (hh : h ≠ h') (x : (row7 h).shape.Idx) : (row7 h).idx x ∉ (row7 h').set := by
  refine Rect.not_mem_set_of_axis _ _ 0 h'.val 1 rfl rfl rfl ?_
  have hx : (x 0).val < 1 := (x 0).isLt
  have : ((row7 h).idx x 0).val = h.val + 1 * (x 0).val := rfl
  have hne : h.val ≠ h'.val := fun e => hh (Fin.ext e)
  omega

/-- The twenty pieces written into a result block. -/
def rows7 {e : EltTy} (w : Fin 20 → Vec F S1x256x128 e) : List (View.Piece (Elt F) S20x256x128 e) :=
  [⟨row7 19, w 19⟩, ⟨row7 18, w 18⟩, ⟨row7 17, w 17⟩, ⟨row7 16, w 16⟩, ⟨row7 15, w 15⟩, ⟨row7 14, w 14⟩, ⟨row7 13, w 13⟩, ⟨row7 12, w 12⟩, ⟨row7 11, w 11⟩, ⟨row7 10, w 10⟩, ⟨row7 9, w 9⟩, ⟨row7 8, w 8⟩, ⟨row7 7, w 7⟩, ⟨row7 6, w 6⟩, ⟨row7 5, w 5⟩, ⟨row7 4, w 4⟩, ⟨row7 3, w 3⟩, ⟨row7 2, w 2⟩, ⟨row7 1, w 1⟩, ⟨row7 0, w 0⟩]

theorem ld_rows7 {κ : Kind} {sp : Space} {e : EltTy} (v : View sig κ sp S20x256x128 e) (f : v.ty.Contents (Elt F))
    (w : Fin 20 → Vec F S1x256x128 e) (h : Fin 20) :
    View.ld (v.read (Elt F) (v.writes (Elt F) f (rows7 w))) (row7 h) = w h :=
  ld_pieces v f row7 w row7_disj h ((List.finRange 20).reverse) (by simp)

/-- A head's attention: the accumulator over the denominator. -/
def headOut (a : Vec F S1x128x256 .f32) (d : Vec F S1x256 .f32) : FVec F S128x256 .f32 := k0_pay332 a d

/-- The head's attention as it is stored back. -/
def stOut (o : FVec F S128x256 .f32) : FVec F S1x128x256 .f32 := shapeCast S1x128x256 o shapeCasts_S128x256_S1x128x256

/-- A head's greatest magnitude, with `m` before it. -/
def accMax (m : FVec F S1x256 .f32) (o : FVec F S128x256 .f32) : FVec F S1x256 .f32 :=
  maximumf m (shapeCast S1x256
    (multiReduction .maximumf [0] S256 (absf o) 0xFF800000#32 reduces_S128x256_S256 (.inl rfl) rfl) shapeCasts_S256_S1x256)

/-- The greatest magnitude of the first `n` heads, per token. -/
def headsMax (o : Fin 20 → FVec F S128x256 .f32) : FVec F S1x256 .f32 :=
  accMax (accMax (accMax (accMax (accMax (accMax (accMax (accMax (accMax (accMax (accMax (accMax (accMax (accMax (accMax (accMax (accMax (accMax (accMax (k0_pay328) (o 0)) (o 1)) (o 2)) (o 3)) (o 4)) (o 5)) (o 6)) (o 7)) (o 8)) (o 9)) (o 10)) (o 11)) (o 12)) (o 13)) (o 14)) (o 15)) (o 16)) (o 17)) (o 18)

/-- The token's scale as it is stored. -/
def scaleOut (o : Fin 20 → FVec F S128x256 .f32) : FVec F S1x1x256 .f32 := k0_pay381 (headsMax o) (o 19)

/-- The reciprocal of the token's scale. -/
def invScale (o : Fin 20 → FVec F S128x256 .f32) : FVec F S1x256 .f32 := k0_pay382 (headsMax o) (o 19)

/-- A head's attention, token by feature. -/
def attnOut (o : FVec F S128x256 .f32) : FVec F S1x256x128 .f32 := k0_pay447 (stOut o)

/-- A head's codes. -/
def codesOut (inv : FVec F S1x256 .f32) (o : FVec F S128x256 .f32) : FVec F S1x256x128 .fp8e4m3 := k0_pay448 inv (stOut o)

/-- The pieces of the accumulator after the first `n` heads are divided. -/
def outPieces (v : View sig .tc .vmem S20x128x256 .f32) (B : List (View.Piece (Elt F) S20x128x256 .f32))
    (d : Fin 20 → Vec F S1x256 .f32) : ℕ → List (View.Piece (Elt F) S20x128x256 .f32)
  | 0 => B
  | n + 1 => if hn : n < 20 then
      ⟨row3 ⟨n, hn⟩, stOut (headOut (v.readCov (outPieces v B d n) (row3 ⟨n, hn⟩).toLoadRect) (d ⟨n, hn⟩))⟩ :: outPieces v B d n
    else outPieces v B d n

theorem readCov_outPieces (v : View sig .tc .vmem S20x128x256 .f32) (B : List (View.Piece (Elt F) S20x128x256 .f32))
    (d : Fin 20 → Vec F S1x256 .f32) (h : Fin 20) : ∀ n : ℕ, n ≤ 20 →
    v.readCov (outPieces v B d n) (row3 h).toLoadRect
      = if h.val < n then stOut (headOut (v.readCov B (row3 h).toLoadRect) (d h)) else v.readCov B (row3 h).toLoadRect
  | 0, _ => by simp [outPieces]
  | n + 1, hn => by
    have ih := readCov_outPieces v B d h n (by omega)
    have hn' : n < 20 := by omega
    rw [outPieces, dif_pos hn']
    by_cases hh : h = ⟨n, hn'⟩
    · subst hh
      rw [if_neg (by simp)] at ih
      rw [if_pos (Nat.lt_succ_self n), ← ih]
      funext x
      exact View.read_writes_cons_emb v v.junk (row3 ⟨n, hn'⟩) _ _ x
    · have hne : h.val ≠ n := fun e => hh (Fin.ext e)
      have : (h.val < n + 1) = (h.val < n) := by rw [eq_iff_iff]; omega
      simp only [this]
      rw [← ih]
      funext x
      exact View.read_writes_cons_miss v v.junk _ _ ((row3 h).idx x) (row3_disj h ⟨n, hn'⟩ hh x)

/-- What the epilogue writes, of the heads' accumulators `a` and denominators `d`. -/
structure Epi (a : Fin 20 → Vec F S1x128x256 .f32) (d : Fin 20 → Vec F S1x256 .f32) (y7 : Vec F S20x256x128 .f32)
    (y8 : Vec F S20x256x128 .fp8e4m3) (y9 : Vec F S1x1x256 .f32) : Prop where
  attn : ∀ h, View.ld y7 (row7 h) = attnOut (headOut (a h) (d h))
  codes : ∀ h, View.ld y8 (row7 h) = codesOut (invScale fun h => headOut (a h) (d h)) (headOut (a h) (d h))
  scale : y9 = scaleOut fun h => headOut (a h) (d h)

theorem epi_of (v12 : View sig .tc .vmem S20x128x256 .f32) (v7 : View sig .tc .vmem S20x256x128 .f32)
    (v8 : View sig .tc .vmem S20x256x128 .fp8e4m3) (v9 : View sig .tc .vmem S1x1x256 .f32)
    (B : List (View.Piece (Elt F) S20x128x256 .f32)) (f7 : v7.ty.Contents (Elt F)) (f8 : v8.ty.Contents (Elt F))
    (f9 : v9.ty.Contents (Elt F)) (a : Fin 20 → Vec F S1x128x256 .f32) (d : Fin 20 → Vec F S1x256 .f32)
    (ha : ∀ h, v12.readCov B (row3 h).toLoadRect = a h) (inb) :
    Epi a d
      (v7.read (Elt F) (v7.writes (Elt F) f7 (rows7 fun h => k0_pay447 (v12.readCov (outPieces v12 B d 20) (row3 h).toLoadRect))))
      (v8.read (Elt F) (v8.writes (Elt F) f8 (rows7 fun h =>
        k0_pay448 (invScale fun h : Fin 20 => headOut (v12.readCov (outPieces v12 B d h.val) (row3 h).toLoadRect) (d h))
          (v12.readCov (outPieces v12 B d 20) (row3 h).toLoadRect))))
      (v9.read (Elt F) (v9.writes (Elt F) f9 [⟨Rect.unit (s := S1x1x256) ![0, 0, 0] S1x1x256.size inb,
        scaleOut fun h : Fin 20 => headOut (v12.readCov (outPieces v12 B d h.val) (row3 h).toLoadRect) (d h)⟩])) := by
  have e1 : ∀ h : Fin 20, v12.readCov (outPieces v12 B d h.val) (row3 h).toLoadRect = a h := fun h => by
    rw [readCov_outPieces v12 B d h h.val (by omega), if_neg (lt_irrefl _), ha]
  have e2 : ∀ h : Fin 20, v12.readCov (outPieces v12 B d 20) (row3 h).toLoadRect = stOut (headOut (a h) (d h)) := fun h => by
    rw [readCov_outPieces v12 B d h 20 le_rfl, if_pos h.isLt, ha]
  have e3 : (fun h : Fin 20 => headOut (v12.readCov (outPieces v12 B d h.val) (row3 h).toLoadRect) (d h))
      = fun h => headOut (a h) (d h) := funext fun h => by rw [e1]
  refine ⟨fun h => ?_, fun h => ?_, ?_⟩
  · rw [ld_rows7, e2]; rfl
  · rw [ld_rows7, e2, e3]; rfl
  · rw [View.read_writes_full, e3]

theorem epi_of_pieces (v12 : View sig .tc .vmem S20x128x256 .f32) (v14 : View sig .tc .vmem S24x256 .f32)
    (v7 : View sig .tc .vmem S20x256x128 .f32) (v8 : View sig .tc .vmem S20x256x128 .fp8e4m3) (v9 : View sig .tc .vmem S1x1x256 .f32)
    (B : List (View.Piece (Elt F) S20x128x256 .f32)) (B14 : List (View.Piece (Elt F) S24x256 .f32)) (f7 : v7.ty.Contents (Elt F))
    (f8 : v8.ty.Contents (Elt F)) (f9 : v9.ty.Contents (Elt F)) (a : Fin 20 → Vec F S1x128x256 .f32) (d : Fin 20 → Vec F S1x256 .f32)
    (ha : ∀ h, v12.readCov B (row3 h).toLoadRect = a h) (hd : ∀ h, v14.readCov B14 (row2 h).toLoadRect = d h) (inb) :
    Epi a d
      (v7.read (Elt F) (v7.writes (Elt F) f7 (rows7 fun h =>
        k0_pay447 (v12.readCov (outPieces v12 B (fun h => v14.readCov B14 (row2 h).toLoadRect) 20) (row3 h).toLoadRect))))
      (v8.read (Elt F) (v8.writes (Elt F) f8 (rows7 fun h =>
        k0_pay448 (invScale fun h : Fin 20 =>
            headOut (v12.readCov (outPieces v12 B (fun h => v14.readCov B14 (row2 h).toLoadRect) h.val) (row3 h).toLoadRect)
              (v14.readCov B14 (row2 h).toLoadRect))
          (v12.readCov (outPieces v12 B (fun h => v14.readCov B14 (row2 h).toLoadRect) 20) (row3 h).toLoadRect))))
      (v9.read (Elt F) (v9.writes (Elt F) f9 [⟨Rect.unit (s := S1x1x256) ![0, 0, 0] S1x1x256.size inb,
        scaleOut fun h : Fin 20 =>
          headOut (v12.readCov (outPieces v12 B (fun h => v14.readCov B14 (row2 h).toLoadRect) h.val) (row3 h).toLoadRect)
            (v14.readCov B14 (row2 h).toLoadRect)⟩])) := by
  obtain rfl : (fun h => v14.readCov B14 (row2 h).toLoadRect) = d := funext hd
  exact epi_of v12 v7 v8 v9 B f7 f8 f9 a _ ha inb

/-- Before the first trip. -/
def hst0 : HSt F :=
  (View.ld (k0_pay327 (F := F)) (row2 0), View.ld (k0_pay326 (F := F)) (row2 0), View.ld (k0_pay325 (F := F)) (row3 0))

set_option maxHeartbeats 0 in
/-- The pieces of both loops and of the initialisation, read head by head. -/
theorem base_rows (𝒱 : Variants) (c : Dev nD) (bd : Option 𝒱.V) (i : grid0.Coords)
    (arg1 : Memref sig .tc .smem S7 .i32) (harg1 : arg1.IsWhole)
    (arg2 : Memref sig .tc .smem S1 .f32) (harg2 : arg2.IsWhole)
    (arg3 : Memref sig .tc .smem S1 .f32) (harg3 : arg3.IsWhole)
    (arg4 : Memref sig .tc .vmem S256x2560 .bf16) (harg4 : arg4.IsWhole)
    (arg5 : Memref sig .tc .vmem S6144x512 .fp8e4m3) (harg5 : arg5.IsWhole)
    (arg6 : Memref sig .tc .vmem S6144x512 .fp8e4m3) (harg6 : arg6.IsWhole)
    (arg7 : Memref sig .tc .vmem S20x256x128 .f32) (harg7 : arg7.IsWhole)
    (arg8 : Memref sig .tc .vmem S20x256x128 .fp8e4m3) (harg8 : arg8.IsWhole)
    (arg9 : Memref sig .tc .vmem S1x1x256 .f32) (harg9 : arg9.IsWhole)
    (arg10 : Memref sig .tc .vmem S6144x512 .bf16) (harg10 : arg10.IsWhole)
    (arg11 : Memref sig .tc .vmem S512x6144 .bf16) (harg11 : arg11.IsWhole)
    (arg12 : Memref sig .tc .vmem S20x128x256 .f32) (harg12 : arg12.IsWhole)
    (arg13 : Memref sig .tc .vmem S24x256 .f32) (harg13 : arg13.IsWhole)
    (arg14 : Memref sig .tc .vmem S24x256 .f32) (harg14 : arg14.IsWhole)
    (arg0 : BitVec 32) (v48 : IVec S1x256 32) (v50 v58 v66 v74 : BitVec 32) (v81 : BitVec 32) (v82 : BitVec 32)
    (hw : k0_chk1 i v50 v58 v66 v74 v82) (v86 : IVec S1x256 32) (v88 : BitVec 1) (v91 v94 : F .f32)
    (X4 : BufTy.Contents (Elt F) arg4.view.ty) (X10 : BufTy.Contents (Elt F) arg10.view.ty)
    (X11 : BufTy.Contents (Elt F) arg11.view.ty)

    (v112 : BitVec 32) (G12 H12 : BufTy.Contents (Elt F) arg12.view.ty) (G13 H13 : BufTy.Contents (Elt F) arg13.view.ty)
    (G14 H14 : BufTy.Contents (Elt F) arg14.view.ty) (init init2 : BitVec 32) (in12 in13 in14)
    (init12 : List (View.Piece (Elt F) S20x128x256 .f32)) (e12 : init12 = [⟨Rect.unit (s := S20x128x256) ![0, 0, 0] S20x128x256.size in12, k0_pay325⟩])
    (init13 : List (View.Piece (Elt F) S24x256 .f32)) (e13 : init13 = [⟨Rect.unit (s := S24x256) ![0, 0] S24x256.size in13, k0_pay327⟩])
    (init14 : List (View.Piece (Elt F) S24x256 .f32)) (e14 : init14 = [⟨Rect.unit (s := S24x256) ![0, 0] S24x256.size in14, k0_pay326⟩])
    (hG12 : G12 = arg12.view.junk) (hG14 : G14 = arg14.view.junk) (h : Fin 20) :
    arg12.view.readCov ((st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v48 v50 v58 v66 v74 v81 v82 hw v86 v88 v91 v94 v112 X4 X10 X11 H12 H13 H14 init2 (k0_t2_loop i v50 v58 v66 v74 v82).trips).2.1 ++ ((st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v48 v50 v58 v66 v74 v81 v82 hw v86 v88 (firstWord i v50 v58 v66 v74 v82) v91 v94 X4 X10 X11 (arg12.view.writes (Elt F) G12 init12) (arg13.view.writes (Elt F) G13 init13) (arg14.view.writes (Elt F) G14 init14) init (k0_t1_loop i v50 v58 v66 v74 v82).trips).2.1 ++ init12)) (row3 h).toLoadRect
      = (hrun (k0_pay324 v91) v94 v48 v86 (arg4.view.read (Elt F) X4) (arg10.view.read (Elt F) X10) (arg11.view.read (Elt F) X11) h
          (firstWord i v50 v58 v66 v74 v82).toNat hst0 (k0_t1_loop i v50 v58 v66 v74 v82).trips).2.2
    ∧ arg14.view.readCov ((st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v48 v50 v58 v66 v74 v81 v82 hw v86 v88 v91 v94 v112 X4 X10 X11 H12 H13 H14 init2 (k0_t2_loop i v50 v58 v66 v74 v82).trips).2.2.2 ++ ((st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v48 v50 v58 v66 v74 v81 v82 hw v86 v88 (firstWord i v50 v58 v66 v74 v82) v91 v94 X4 X10 X11 (arg12.view.writes (Elt F) G12 init12) (arg13.view.writes (Elt F) G13 init13) (arg14.view.writes (Elt F) G14 init14) init (k0_t1_loop i v50 v58 v66 v74 v82).trips).2.2.2 ++ init14)) (row2 h).toLoadRect
      = (hrun (k0_pay324 v91) v94 v48 v86 (arg4.view.read (Elt F) X4) (arg10.view.read (Elt F) X10) (arg11.view.read (Elt F) X11) h
          (firstWord i v50 v58 v66 v74 v82).toNat hst0 (k0_t1_loop i v50 v58 v66 v74 v82).trips).2.1 := by
  rw [t2_trips]
  have hs := st_rows 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v48 v50 v58 v66 v74 v81 v82 hw v86 v88 v91 v94 X4 X10 X11 (arg12.view.writes (Elt F) G12 init12) (arg13.view.writes (Elt F) G13 init13) (arg14.view.writes (Elt F) G14 init14) init (fun _ => hst0)
    (by
      intro h
      subst e12 e13 e14
      rw [View.read_writes_full, View.read_writes_full, View.read_writes_full]
      rfl) _ le_rfl h
  subst hG12 hG14
  rw [← hs]
  constructor
  · show View.ld (arg12.view.read (Elt F) (arg12.view.writes (Elt F) arg12.view.junk ([] ++ _))) (row3 h) = _
    rw [List.nil_append, View.writes_append]; rfl
  · show View.ld (arg14.view.read (Elt F) (arg14.view.writes (Elt F) arg14.view.junk ([] ++ _))) (row2 h) = _
    rw [List.nil_append, View.writes_append]; rfl

end Cert.AttnIdeal.Hand
-- ==== Proof.AttnIdealBody.lean ====
/- What the attention kernel's body leaves at one grid point: its own rows in the two scratch arrays of keys and values, and
   the three result blocks. -/
module

public import proofs.«01_k».proof.Proof.AttnIdealEpi
public import Idealize.ShloMosaic.Lib.Pipeline.Frame
public import Idealize.ShloMosaic.Lib.Pipeline.Value
public import Idealize.ShloMosaic.Lib.Tactic

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)

variable {F : FTy → Type} [FloatOps F]

local notation "𝕄" => MT nD τ sig Unit (Elt F) ℕ (UR sig nD τ) ℕ

theorem kv_in (i : grid0.Coords) : ∀ a, (![256 * (i 0).val, 0] : Fin 2 → ℕ) a + S256x512.size a ≤ S6144x512.size a := by
  have := coord_lt i
  intro a; fin_cases a <;> simp [Shape.size] <;> omega

theorem vg_in (i : grid0.Coords) (g : Fin 4) :
    ∀ a, (![256 * (i 0).val, 128 * g.val] : Fin 2 → ℕ) a + S256x128.size a ≤ S6144x512.size a := by
  have := coord_lt i
  have := g.isLt
  intro a; fin_cases a <;> simp [Shape.size] <;> omega

theorem vt_in (i : grid0.Coords) (g : Fin 4) :
    ∀ a, (![128 * g.val, 256 * (i 0).val] : Fin 2 → ℕ) a + S128x256.size a ≤ S512x6144.size a := by
  have := coord_lt i
  have := g.isLt
  intro a; fin_cases a <;> simp [Shape.size] <;> omega

theorem word_row (i : grid0.Coords) : (Scalar.muli (BitVec.ofNat 32 (i 0).val) 256#32).toNat = 256 * (i 0).val := by
  have := coord_lt i
  show (BitVec.ofNat 32 (i 0).val * 256#32).toNat = _
  rw [BitVec.toNat_mul, BitVec.toNat_ofNat, BitVec.toNat_ofNat, Nat.mod_eq_of_lt (a := (i 0).val) (by omega),
    Nat.mod_eq_of_lt (a := 256) (by omega), Nat.mod_eq_of_lt (by omega), Nat.mul_comm]

/-- The rectangle of the point's own keys. -/
abbrev kRect (i : grid0.Coords) : Rect S6144x512 := Rect.unit (s := S6144x512) ![256 * (i 0).val, 0] S256x512.size (kv_in i)

/-- The scratch array of keys after the point's own rows are stored. -/
def keysNew (i : grid0.Coords) (x5 : Vec F S6144x512 .fp8e4m3) (x10 : Vec F S6144x512 .bf16) : Vec F S6144x512 .bf16 :=
  VecWindow.put x10 ![256 * (i 0).val, 0] S256x512.size (k0_pay316 (View.ld x5 (kRect i)))

/-- One group's values, transposed. -/
def valsPut (i : grid0.Coords) (x6 : Vec F S6144x512 .fp8e4m3) (g : Fin 4) (X : Vec F S512x6144 .bf16) : Vec F S512x6144 .bf16 :=
  VecWindow.put X ![128 * g.val, 256 * (i 0).val] S128x256.size
    (k0_pay317 (View.ld x6 (Rect.unit (s := S6144x512) ![256 * (i 0).val, 128 * g.val] S256x128.size (vg_in i g))))

/-- The scratch array of values after the point's own columns are stored. -/
def valsNew (i : grid0.Coords) (x6 : Vec F S6144x512 .fp8e4m3) (x11 : Vec F S512x6144 .bf16) : Vec F S512x6144 .bf16 :=
  valsPut i x6 3 (valsPut i x6 2 (valsPut i x6 1 (valsPut i x6 0 x11)))

theorem off_eq (i : grid0.Coords) (a b : ℕ) : (![(Scalar.muli (BitVec.ofNat 32 (i 0).val) 256#32).toNat, a] : Fin 2 → ℕ) = ![256 * (i 0).val, a]
    ∧ (![b, (Scalar.muli (BitVec.ofNat 32 (i 0).val) 256#32).toNat] : Fin 2 → ℕ) = ![b, 256 * (i 0).val] := by
  rw [word_row]; exact ⟨rfl, rfl⟩

/-- A load at equal offsets. -/
theorem ld_off {e : EltTy} (X : Vec F S6144x512 e) (o o' : Fin 2 → ℕ) (sz : Fin 2 → ℕ) (h : o = o') (p) (p') :
    (View.ld X (Rect.unit (s := S6144x512) o sz p) : (⟨2, sz⟩ : Shape).Idx → Elt F e)
      = View.ld X (Rect.unit (s := S6144x512) o' sz p') := by
  subst h; rfl

theorem keys_eq (i : grid0.Coords) (v5 : View sig .tc .vmem S6144x512 .fp8e4m3) (v10 : View sig .tc .vmem S6144x512 .bf16)
    (f5 : v5.ty.Contents (Elt F)) (f10 : v10.ty.Contents (Elt F)) (p) (p') :
    v10.read (Elt F) (v10.writes (Elt F) f10 [⟨Rect.unit (s := S6144x512) (k0_off1 i) S256x512.size p,
        k0_pay316 (v5.readAt (Elt F) (Rect.unit (s := S6144x512) (k0_off1 i) S256x512.size p').toLoadRect f5)⟩])
      = keysNew i (v5.read (Elt F) f5) (v10.read (Elt F) f10) := by
  have e : (k0_off1 i : Fin 2 → ℕ) = ![256 * (i 0).val, 0] := (off_eq i 0 0).1
  rw [View.read_writes_cons_put v10 f10 _ _ _ e, View.writes_nil]
  unfold keysNew
  congr 2
  exact ld_off _ _ _ _ e _ _

theorem vals_eq (i : grid0.Coords) (v6 : View sig .tc .vmem S6144x512 .fp8e4m3) (v11 : View sig .tc .vmem S512x6144 .bf16)
    (f6 : v6.ty.Contents (Elt F)) (f11 : v11.ty.Contents (Elt F)) (p2) (p3) (p4) (p5) (p6) (p7) (p8) (p9) :
    v11.read (Elt F) (v11.writes (Elt F) f11 [
        ⟨Rect.unit (s := S512x6144) (k0_off9 i) S128x256.size p9,
          k0_pay317 (v6.readAt (Elt F) (Rect.unit (s := S6144x512) (k0_off8 i) S256x128.size p8).toLoadRect f6)⟩,
        ⟨Rect.unit (s := S512x6144) (k0_off7 i) S128x256.size p7,
          k0_pay317 (v6.readAt (Elt F) (Rect.unit (s := S6144x512) (k0_off6 i) S256x128.size p6).toLoadRect f6)⟩,
        ⟨Rect.unit (s := S512x6144) (k0_off5 i) S128x256.size p5,
          k0_pay317 (v6.readAt (Elt F) (Rect.unit (s := S6144x512) (k0_off4 i) S256x128.size p4).toLoadRect f6)⟩,
        ⟨Rect.unit (s := S512x6144) (k0_off3 i) S128x256.size p3,
          k0_pay317 (v6.readAt (Elt F) (Rect.unit (s := S6144x512) (k0_off2 i) S256x128.size p2).toLoadRect f6)⟩])
      = valsNew i (v6.read (Elt F) f6) (v11.read (Elt F) f11) := by
  have e9 : (k0_off9 i : Fin 2 → ℕ) = ![384, 256 * (i 0).val] := (off_eq i 0 384).2
  have e7 : (k0_off7 i : Fin 2 → ℕ) = ![256, 256 * (i 0).val] := (off_eq i 0 256).2
  have e5 : (k0_off5 i : Fin 2 → ℕ) = ![128, 256 * (i 0).val] := (off_eq i 0 128).2
  have e3 : (k0_off3 i : Fin 2 → ℕ) = ![0, 256 * (i 0).val] := (off_eq i 0 0).2
  rw [View.read_writes_cons_put v11 f11 _ _ _ e9, View.read_writes_cons_put v11 f11 _ _ _ e7,
    View.read_writes_cons_put v11 f11 _ _ _ e5, View.read_writes_cons_put v11 f11 _ _ _ e3, View.writes_nil]
  have l0 : v6.readAt (Elt F) (Rect.unit (s := S6144x512) (k0_off2 i) S256x128.size p2).toLoadRect f6
      = View.ld (v6.read (Elt F) f6) (Rect.unit (s := S6144x512) ![256 * (i 0).val, 128 * (0 : Fin 4).val] S256x128.size (vg_in i 0)) :=
    ld_off _ _ _ _ (off_eq i 0 0).1 _ _
  have l1 : v6.readAt (Elt F) (Rect.unit (s := S6144x512) (k0_off4 i) S256x128.size p4).toLoadRect f6
      = View.ld (v6.read (Elt F) f6) (Rect.unit (s := S6144x512) ![256 * (i 0).val, 128 * (1 : Fin 4).val] S256x128.size (vg_in i 1)) :=
    ld_off _ _ _ _ (off_eq i 128 0).1 _ _
  have l2 : v6.readAt (Elt F) (Rect.unit (s := S6144x512) (k0_off6 i) S256x128.size p6).toLoadRect f6
      = View.ld (v6.read (Elt F) f6) (Rect.unit (s := S6144x512) ![256 * (i 0).val, 128 * (2 : Fin 4).val] S256x128.size (vg_in i 2)) :=
    ld_off _ _ _ _ (off_eq i 256 0).1 _ _
  have l3 : v6.readAt (Elt F) (Rect.unit (s := S6144x512) (k0_off8 i) S256x128.size p8).toLoadRect f6
      = View.ld (v6.read (Elt F) f6) (Rect.unit (s := S6144x512) ![256 * (i 0).val, 128 * (3 : Fin 4).val] S256x128.size (vg_in i 3)) :=
    ld_off _ _ _ _ (off_eq i 384 0).1 _ _
  rw [l0, l1, l2, l3]
  rfl

/-- Word `n` of the segment bounds. -/
def segWord (x1 : Vec F S7 .i32) (n : ℕ) (p : ∀ a, (![n] : Fin 1 → ℕ) a + S1.size a ≤ S7.size a) : BitVec 32 :=
  View.ld x1 (Rect.unit (s := S7) ![n] S1.size p) (Shape.Idx.first (show 0 < S1.numel by decide))

/-- The only word of an array of one. -/
def oneWord (x : Vec F S1 .f32) : F .f32 := View.ld x (Rect.unit (s := S1) ![0] S1.size inb_S1_S1_0) (Shape.Idx.first (show 0 < S1.numel by decide))

/-- One head after the loop at a grid point. -/
def headEnd (i : grid0.Coords) (x1 : Vec F S7 .i32) (x2 x3 : Vec F S1 .f32) (x4 : Vec F S256x2560 .bf16) (kb : Vec F S6144x512 .bf16)
    (vt : Vec F S512x6144 .bf16) (h : Fin 20) : HSt F :=
  hrun (k0_pay324 (oneWord x2)) (oneWord x3) (k0_pay322 (BitVec.ofNat 32 (i 0).val))
    (k0_pay323 (F := F) (BitVec.ofNat 32 (i 0).val) (segWord x1 1 (by decide)) (segWord x1 2 (by decide)) (segWord x1 3 (by decide)) (segWord x1 4 (by decide))
      (segWord x1 5 (by decide)))
    x4 kb vt h
    (firstWord i (segWord x1 1 (by decide)) (segWord x1 2 (by decide)) (segWord x1 3 (by decide)) (segWord x1 4 (by decide)) (segWord x1 5 (by decide))).toNat hst0
    (k0_t1_loop i (segWord x1 1 (by decide)) (segWord x1 2 (by decide)) (segWord x1 3 (by decide)) (segWord x1 4 (by decide)) (segWord x1 5 (by decide))).trips

/-- What one grid point writes, of its inputs and the scratch arrays after its own rows are stored. -/
def PointOut (i : grid0.Coords) (x1 : Vec F S7 .i32) (x2 x3 : Vec F S1 .f32) (x4 : Vec F S256x2560 .bf16) (kb : Vec F S6144x512 .bf16)
    (vt : Vec F S512x6144 .bf16) (y7 : Vec F S20x256x128 .f32) (y8 : Vec F S20x256x128 .fp8e4m3) (y9 : Vec F S1x1x256 .f32) : Prop :=
  Epi (fun h => (headEnd i x1 x2 x3 x4 kb vt h).2.2) (fun h => (headEnd i x1 x2 x3 x4 kb vt h).2.1) y7 y8 y9

set_option maxHeartbeats 0 in
theorem run_body (c : Dev nD) (E : Set ℕ) (i : grid0.Coords)
    (arg1 : Memref sig .tc .smem S7 .i32) (harg1 : arg1.IsWhole)
    (arg2 : Memref sig .tc .smem S1 .f32) (harg2 : arg2.IsWhole)
    (arg3 : Memref sig .tc .smem S1 .f32) (harg3 : arg3.IsWhole)
    (arg4 : Memref sig .tc .vmem S256x2560 .bf16) (harg4 : arg4.IsWhole)
    (arg5 : Memref sig .tc .vmem S6144x512 .fp8e4m3) (harg5 : arg5.IsWhole)
    (arg6 : Memref sig .tc .vmem S6144x512 .fp8e4m3) (harg6 : arg6.IsWhole)
    (arg7 : Memref sig .tc .vmem S20x256x128 .f32) (harg7 : arg7.IsWhole)
    (arg8 : Memref sig .tc .vmem S20x256x128 .fp8e4m3) (harg8 : arg8.IsWhole)
    (arg9 : Memref sig .tc .vmem S1x1x256 .f32) (harg9 : arg9.IsWhole)
    (arg10 : Memref sig .tc .vmem S6144x512 .bf16) (harg10 : arg10.IsWhole)
    (arg11 : Memref sig .tc .vmem S512x6144 .bf16) (harg11 : arg11.IsWhole)
    (arg12 : Memref sig .tc .vmem S20x128x256 .f32) (harg12 : arg12.IsWhole)
    (arg13 : Memref sig .tc .vmem S24x256 .f32) (harg13 : arg13.IsWhole)
    (arg14 : Memref sig .tc .vmem S24x256 .f32) (harg14 : arg14.IsWhole)
    (x1 : Vec F S7 .i32)    (x2 : Vec F S1 .f32)    (x3 : Vec F S1 .f32)    (x4 : Vec F S256x2560 .bf16)    (x5 : Vec F S6144x512 .fp8e4m3)    (x6 : Vec F S6144x512 .fp8e4m3)    (x7 : Vec F S20x256x128 .f32)    (x8 : Vec F S20x256x128 .fp8e4m3)    (x9 : Vec F S1x1x256 .f32)    (x10 : Vec F S6144x512 .bf16)    (x11 : Vec F S512x6144 .bf16)    (x12 : Vec F S20x128x256 .f32)    (x13 : Vec F S24x256 .f32)    (x14 : Vec F S24x256 .f32)
    (K : PUnit → sProp 𝕄) :
    iprop(owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ owns (c : Thread nD τ) arg10 fullShare x10
      ∗ owns (c : Thread nD τ) arg11 fullShare x11
      ∗ owns (c : Thread nD τ) arg12 fullShare x12
      ∗ owns (c : Thread nD τ) arg13 fullShare x13
      ∗ owns (c : Thread nD τ) arg14 fullShare x14
      ∗ (iprop(owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ (∃ y7 y8 y9, ⌜PointOut i x1 x2 x3 x4 (keysNew i x5 x10) (valsNew i x6 x11) y7 y8 y9⌝ ∗ owns (c : Thread nD τ) arg7 fullShare y7 ∗ owns (c : Thread nD τ) arg8 fullShare y8 ∗ owns (c : Thread nD τ) arg9 fullShare y9)
      ∗ owns (c : Thread nD τ) arg10 fullShare (keysNew i x5 x10)
      ∗ owns (c : Thread nD τ) arg11 fullShare (valsNew i x6 x11)
      ∗ (∃ y, owns (c : Thread nD τ) arg12 fullShare y)
      ∗ (∃ y, owns (c : Thread nD τ) arg13 fullShare y)
      ∗ (∃ y, owns (c : Thread nD τ) arg14 fullShare y)) -∗ K ⟨⟩))
    ⊢ wp frame (wpE (defs₀ (F := F)) Variants.none c none) E (cc0_attn i arg1 harg1 arg2 harg2 arg3 harg3 arg4 harg4 arg5 harg5 arg6 harg6 arg7 harg7 arg8 harg8 arg9 harg9 arg10 harg10 arg11 harg11 arg12 harg12 arg13 harg13 arg14 harg14) K := by
  have hchk := chk_all i
  unfold cc0_attn owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  subst hf1 hf2 hf3 hf4 hf5 hf6 hf7 hf8 hf9 hf10 hf11 hf12 hf13 hf14
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7 H8 H9]
  · iexists _, _, _
    isplitr
    swap
    · isplitl [H7]
      · iexists _; isplitr
        swap; · iexact H7
        ipureintro; rfl
      isplitl [H8]
      · iexists _; isplitr
        swap; · iexact H8
        ipureintro; rfl
      iexists _; isplitr
      swap; · iexact H9
      ipureintro; rfl
    ipureintro
    unfold PointOut
    have hk := keys_eq i arg5.view arg10.view f5 f10
    have hv := vals_eq i arg6.view arg11.view f6 f11
    refine epi_of_pieces arg12.view arg14.view arg7.view arg8.view arg9.view _ _ f7 f8 f9 _ _ (fun h => ?_) (fun h => ?_) inb_S1x1x256_S1x1x256_0_0_0
    · refine (base_rows _ _ _ _ _ _ _ _ _ _ _ _ _ _ _ _ _ _ _ _ _ _ _ _ _ _ _ _ _ _ _ _ _ _ _ _ _ _ _ _ _ _ _ _ _ _ _ _ _ _ _ _ _ _ _ _ _ _ _ _ _ rfl _ rfl _ rfl rfl rfl h).1.trans ?_
      exact congrArg₂ (fun kb vt => (headEnd i (arg1.view.read (Elt F) f1) (arg2.view.read (Elt F) f2) (arg3.view.read (Elt F) f3)
        (arg4.view.read (Elt F) f4) kb vt h).2.2) (hk _ _) (hv _ _ _ _ _ _ _ _)
    · refine (base_rows _ _ _ _ _ _ _ _ _ _ _ _ _ _ _ _ _ _ _ _ _ _ _ _ _ _ _ _ _ _ _ _ _ _ _ _ _ _ _ _ _ _ _ _ _ _ _ _ _ _ _ _ _ _ _ _ _ _ _ _ _ rfl _ rfl _ rfl rfl rfl h).2.trans ?_
      exact congrArg₂ (fun kb vt => (headEnd i (arg1.view.read (Elt F) f1) (arg2.view.read (Elt F) f2) (arg3.view.read (Elt F) f3)
        (arg4.view.read (Elt F) f4) kb vt h).2.1) (hk _ _) (hv _ _ _ _ _ _ _ _)
  isplitl [H10]
  · iexists _; isplitr
    swap; · iexact H10
    ipureintro; exact keys_eq i arg5.view arg10.view f5 f10 _ _
  isplitl [H11]
  · iexists _; isplitr
    swap; · iexact H11
    ipureintro; exact vals_eq i arg6.view arg11.view f6 f11 _ _ _ _ _ _ _ _
  isplitl [H12]
  · iexists _; iexists _; isplitr
    swap; · iexact H12
    ipureintro; rfl
  isplitl [H13]
  · iexists _; iexists _; isplitr
    swap; · iexact H13
    ipureintro; rfl
  iexists _; iexists _; isplitr
  swap; · iexact H14
  ipureintro; rfl

end Cert.AttnIdeal.Hand
-- ==== Proof.AttnMath.lean ====
/- The softmax average taken block by block with a running maximum, over extended reals: it is the plain softmax average,
   whatever the shift. -/
module

public import Idealize.ShloMosaic.PureOps.Ideal
public import Idealize.ShloMosaic.Lib.IdealHost

@[expose] public section

set_option maxRecDepth 16384

noncomputable section

namespace Cert.Softmax

open Idealize.ShloMosaic

/-- The weight of a score against a shift. -/
def wt (s m : EReal) : EReal := Ideal.exp2 (s - m)

theorem wt_coe (s m : ℝ) : wt (s : EReal) (m : EReal) = ((2 : ℝ) ^ (s - m) : ℝ) := by
  unfold wt; rw [← EReal.coe_sub]; rfl

theorem wt_bot (m : EReal) : wt ⊥ m = 0 := by
  unfold wt; rw [EReal.bot_sub]; rfl

theorem wt_top (s : EReal) : wt s ⊤ = 0 := by
  unfold wt; rw [EReal.sub_top]; rfl

/-- A weight of a score not above its shift is a real number that is not negative. -/
theorem wt_real {s m : EReal} (h : s ≤ m) : ∃ y : ℝ, 0 ≤ y ∧ wt s m = y := by
  induction s with
  | bot => exact ⟨0, le_rfl, wt_bot m⟩
  | top => rw [top_le_iff] at h; subst h; exact ⟨0, le_rfl, wt_top _⟩
  | coe s =>
    induction m with
    | bot => exact absurd h (by simp)
    | top => exact ⟨0, le_rfl, wt_top _⟩
    | coe m => exact ⟨_, by positivity, wt_coe s m⟩

theorem wt_nonneg {s m : EReal} (h : s ≤ m) : 0 ≤ wt s m := by
  obtain ⟨y, h0, e⟩ := wt_real h; rw [e]; exact_mod_cast h0

theorem wt_ne_top {s m : EReal} (h : s ≤ m) : wt s m ≠ ⊤ := by
  obtain ⟨y, -, e⟩ := wt_real h; rw [e]; exact EReal.coe_ne_top y

/-- Weights multiply as the shifts add up. -/
theorem wt_mul {s m m' : EReal} (h1 : s ≤ m) (h2 : m ≤ m') (hm : m ≠ ⊥) : wt s m * wt m m' = wt s m' := by
  induction m' with
  | bot => exact absurd (le_bot_iff.mp h2) hm
  | top => rw [wt_top, wt_top, mul_zero]
  | coe m' =>
    induction m with
    | bot => exact absurd rfl hm
    | top => exact absurd h2 (by simp)
    | coe m =>
      induction s with
      | bot => rw [wt_bot, wt_bot, zero_mul]
      | top => exact absurd h1 (by simp)
      | coe s =>
        rw [wt_coe, wt_coe, wt_coe, ← EReal.coe_mul, ← Real.rpow_add (by norm_num)]
        congr 2; ring

theorem sum_mul' {ι : Type*} (S : Finset ι) (f : ι → EReal) {r : EReal} (h0 : 0 ≤ r) (ht : r ≠ ⊤) :
    (∑ k ∈ S, f k) * r = ∑ k ∈ S, f k * r := by
  classical
  induction S using Finset.induction_on with
  | empty => simp
  | insert a S ha ih => rw [Finset.sum_insert ha, Finset.sum_insert ha, EReal.right_distrib_of_nonneg_of_ne_top h0 ht, ih]

/-- What the running maximum, denominator and accumulator are of the keys `T` seen so far. -/
structure Inv (s x : ℕ → EReal) (vs : EReal) (T : Finset ℕ) (m d a : EReal) : Prop where
  ne_bot : m ≠ ⊥
  le : ∀ k ∈ T, s k ≤ m
  top : m = ⊤ → ∃ k ∈ T, s k = ⊤
  den : d = ∑ k ∈ T, wt (s k) m
  acc : a = ∑ k ∈ T, x k * (wt (s k) m * vs)

theorem Inv.empty (s x : ℕ → EReal) (vs : EReal) {m : EReal} (hb : m ≠ ⊥) (ht : m ≠ ⊤) : Inv s x vs ∅ m 0 0 :=
  ⟨hb, by simp, fun h => absurd h ht, by simp, by simp⟩

/-- A sum rescaled to a later shift. -/
theorem den_rescale {ι : Type*} (S : Finset ι) (s : ι → EReal) {m m' : EReal} (hle : ∀ k ∈ S, s k ≤ m) (h : m ≤ m') (hm : m ≠ ⊥) :
    (∑ k ∈ S, wt (s k) m) * wt m m' = ∑ k ∈ S, wt (s k) m' := by
  rw [sum_mul' _ _ (wt_nonneg h) (wt_ne_top h)]
  exact Finset.sum_congr rfl fun k hk => wt_mul (hle k hk) h hm

theorem acc_rescale {ι : Type*} (S : Finset ι) (s x : ι → EReal) (vs : EReal) {m m' : EReal} (hle : ∀ k ∈ S, s k ≤ m) (h : m ≤ m') (hm : m ≠ ⊥) :
    (∑ k ∈ S, x k * (wt (s k) m * vs)) * wt m m' = ∑ k ∈ S, x k * (wt (s k) m' * vs) := by
  rw [sum_mul' _ _ (wt_nonneg h) (wt_ne_top h)]
  refine Finset.sum_congr rfl fun k hk => ?_
  rw [← wt_mul (hle k hk) h hm, mul_assoc, mul_right_comm]

/-- One block of keys more. -/
theorem Inv.step {s x : ℕ → EReal} {vs : EReal} {T B : Finset ℕ} {m d a c : EReal} (hi : Inv s x vs T m d a) (hd : Disjoint T B)
    (hc : ∀ k ∈ B, s k ≤ c) (ht : c = ⊤ → ∃ k ∈ B, s k = ⊤) :
    Inv s x vs (T ∪ B) (max m c) (d * wt m (max m c) + ∑ k ∈ B, wt (s k) (max m c))
      (a * wt m (max m c) + ∑ k ∈ B, x k * (wt (s k) (max m c) * vs)) := by
  refine ⟨fun h => hi.ne_bot (le_bot_iff.mp ((le_max_left m c).trans_eq h)), fun k hk => ?_, fun h => ?_, ?_, ?_⟩
  · rcases Finset.mem_union.mp hk with hk | hk
    · exact (hi.le k hk).trans (le_max_left _ _)
    · exact (hc k hk).trans (le_max_right _ _)
  · rcases max_choice m c with e | e
    · obtain ⟨k, hk, e'⟩ := hi.top (e ▸ h); exact ⟨k, Finset.mem_union_left _ hk, e'⟩
    · obtain ⟨k, hk, e'⟩ := ht (e ▸ h); exact ⟨k, Finset.mem_union_right _ hk, e'⟩
  · rw [Finset.sum_union hd, hi.den, den_rescale T s hi.le (le_max_left _ _) hi.ne_bot]
  · rw [Finset.sum_union hd, hi.acc, acc_rescale T s x vs hi.le (le_max_left _ _) hi.ne_bot]

/-- The plain softmax average of values `x` at scores `s`. -/
def avg {n : ℕ} (s x : Fin n → EReal) (vs : EReal) : EReal :=
  let M := Finset.univ.fold max ⊥ s
  let D := ∑ k, wt (s k) M
  Ideal.div (∑ k, (wt (s k) M * vs) * x k) (if D = 0 then 1 else D)

theorem zero_div_one : Ideal.div 0 1 = 0 := by unfold Ideal.div; simp

/-- The rescaled sums give the same quotient. -/
theorem avg_eq {n : ℕ} (s x : Fin n → EReal) (vs : EReal) {m d a : EReal} (hb : m ≠ ⊥) (hle : ∀ k, s k ≤ m) (htop : m = ⊤ → ∃ k, s k = ⊤)
    (hd : d = ∑ k, wt (s k) m) (ha : a = ∑ k, x k * (wt (s k) m * vs)) : a * Ideal.div 1 d = avg s x vs := by
  have hM : ∀ k, s k ≤ Finset.univ.fold max ⊥ s := fun k => (Finset.le_fold_max _).mpr (.inr ⟨k, Finset.mem_univ k, le_rfl⟩)
  have hMm : Finset.univ.fold max ⊥ s ≤ m := (Finset.fold_max_le _).mpr ⟨bot_le, fun k _ => hle k⟩
  unfold avg
  have hatt := (Finset.le_fold_max (s := Finset.univ) (f := s) (b := ⊥) (Finset.univ.fold max ⊥ s)).mp le_rfl
  generalize Finset.univ.fold max ⊥ s = M at *
  simp only [fun k => mul_comm (wt (s k) M * vs) (x k)]
  by_cases hz : (∀ k, wt (s k) M = 0) ∧ (∀ k, wt (s k) m = 0)
  · simp only [hz.1, hz.2, zero_mul, mul_zero, Finset.sum_const_zero] at *
    subst ha; rw [zero_mul, if_pos trivial, zero_div_one]
  by_cases hMb : M = ⊥
  · refine absurd ⟨fun k => ?_, fun k => ?_⟩ hz <;>
    · have e : s k = ⊥ := le_bot_iff.mp (hMb ▸ hM k)
      rw [e, wt_bot]
  by_cases hmt : m = ⊤
  · obtain ⟨k, hk⟩ := htop hmt
    have hMt : M = ⊤ := top_le_iff.mp (hk ▸ hM k)
    exact absurd ⟨fun k => by rw [hMt, wt_top], fun k => by rw [hmt, wt_top]⟩ hz
  have hMt : M ≠ ⊤ := fun h => hmt (top_le_iff.mp (h ▸ hMm))
  have hdr := den_rescale Finset.univ s (fun k _ => hM k) hMm hMb
  have har := acc_rescale Finset.univ s x vs (fun k _ => hM k) hMm hMb
  rw [← hd] at hdr; rw [← ha] at har
  obtain ⟨D, hD⟩ : ∃ D : ℝ, ∑ k, wt (s k) M = D := by
    refine Finset.sum_induction (fun k => wt (s k) M) (fun y : EReal => ∃ z : ℝ, y = z) ?_ ⟨0, rfl⟩ fun k _ => ?_
    · rintro _ _ ⟨u, rfl⟩ ⟨v, rfl⟩; exact ⟨u + v, (EReal.coe_add u v).symm⟩
    · obtain ⟨y, -, e⟩ := wt_real (hM k); exact ⟨y, e⟩
  have hD0 : (0 : EReal) < D := by
    rcases hatt with h | ⟨k, -, h⟩
    · exact absurd (le_bot_iff.mp h) hMb
    have e : s k = M := le_antisymm (hM k) h
    have h1 : wt (s k) M = 1 := by
      rw [e]; lift M to ℝ using ⟨hMt, hMb⟩; rw [wt_coe]; simp
    rw [← hD]
    refine lt_of_lt_of_le (zero_lt_one.trans_eq h1.symm) ?_
    exact Finset.single_le_sum (f := fun k => wt (s k) M) (fun k _ => wt_nonneg (hM k)) (Finset.mem_univ k)
  obtain ⟨r, hr, hr0⟩ : ∃ r : ℝ, wt M m = r ∧ 0 < r := by
    lift M to ℝ using ⟨hMt, hMb⟩; lift m to ℝ using ⟨hmt, hb⟩
    exact ⟨_, wt_coe M m, by positivity⟩
  rw [hD, hr] at hdr; rw [hr] at har
  have hDr : (0 : ℝ) < D := by exact_mod_cast hD0
  rw [hD, if_neg hD0.ne', ← hdr, ← har, ← EReal.coe_mul]
  have hne : ((D * r : ℝ) : EReal) ≠ 0 := by exact_mod_cast (mul_pos hDr hr0).ne'
  rw [Ideal.mul_one_div hne]
  unfold Ideal.div
  rw [if_neg hne, if_neg hD0.ne', mul_assoc, ← EReal.coe_inv, ← EReal.coe_inv, ← EReal.coe_mul]
  congr 2
  field_simp

/-- The loop's result over the keys `T` is the plain average when every other key is masked. -/
theorem Inv.avg_eq {n : ℕ} {s x : ℕ → EReal} {vs : EReal} {T : Finset ℕ} {m d a : EReal} (hi : Inv s x vs T m d a)
    (hT : ∀ k ∈ T, k < n) (hs : ∀ k, k ∉ T → s k = ⊥) : a * Ideal.div 1 d = avg (fun k : Fin n => s k) (fun k => x k) vs := by
  have hsub : T ⊆ Finset.range n := fun k hk => Finset.mem_range.mpr (hT k hk)
  refine Cert.Softmax.avg_eq _ _ _ hi.ne_bot (fun k => ?_) (fun h => ?_) ?_ ?_
  · by_cases hk : k.val ∈ T
    · exact hi.le _ hk
    · rw [hs _ hk]; exact bot_le
  · obtain ⟨k, hk, e⟩ := hi.top h; exact ⟨⟨k, hT k hk⟩, e⟩
  · rw [Fin.sum_univ_eq_sum_range (fun k => wt (s k) m) n, hi.den]
    exact Finset.sum_subset hsub fun k _ hk => by rw [hs k hk, wt_bot]
  · rw [Fin.sum_univ_eq_sum_range (fun k => x k * (wt (s k) m * vs)) n, hi.acc]
    exact Finset.sum_subset hsub fun k _ hk => by rw [hs k hk, wt_bot, zero_mul, mul_zero]

end Cert.Softmax

end
-- ==== Proof.AttnSpec.lean ====
/- The attention with its per-token quantisation, one element at a time over whole arrays, and the proof that the reference
   computes it. -/
module

public import proofs.«01_k».proof.Proof.Gen.AttnRefIdeal.Value
public import proofs.«01_k».proof.Proof.Gen.AttnRefIdeal.Skeleton
public import proofs.«01_k».proof.Proof.GateUpSpec
public import proofs.«01_k».proof.Proof.AttnMath
public import Idealize.ShloMosaic.Lib.Pointwise
public import Idealize.ShloMosaic.Lib.IdealHost

@[expose] public section

set_option maxRecDepth 16384

noncomputable section

namespace Cert.AttnValue

open Idealize.ShloMosaic Idealize.ShloMosaic.TcCoe Idealize.SL.Sem
open Cert.Quant Cert.Softmax

/-- One more when position `r` has reached the cut `w`. -/
def past (r w : BitVec 32) : BitVec 32 := if w.toInt ≤ r.toInt then 1#32 else 0#32

/-- The segment of position `r`: how many of the five cuts it has reached. -/
def segOf (w1 w2 w3 w4 w5 r : BitVec 32) : BitVec 32 := 0#32 + past r w1 + past r w2 + past r w3 + past r w4 + past r w5

/-- Whether the key at position `k` is of the segment of the query at position `r`, and not after it. -/
def Vis (cu : IVec ⟨1, ![7]⟩ 32) (r k : ℕ) : Prop :=
  segOf (cu (ix1 1)) (cu (ix1 2)) (cu (ix1 3)) (cu (ix1 4)) (cu (ix1 5)) (BitVec.ofNat 32 r)
      = segOf (cu (ix1 1)) (cu (ix1 2)) (cu (ix1 3)) (cu (ix1 4)) (cu (ix1 5)) (BitVec.ofNat 32 k) ∧ k ≤ r

instance (cu : IVec ⟨1, ![7]⟩ 32) (r k : ℕ) : Decidable (Vis cu r k) := by unfold Vis; infer_instance

/-- Feature `e` of head `h` among the queries' columns. -/
def qCol (h : Fin 20) (e : Fin 128) : Fin 2560 := ⟨128 * h.val + e.val, by omega⟩

/-- Feature `e` of head `h`'s group among the keys' and values' columns. -/
def kCol (h : Fin 20) (e : Fin 128) : Fin 512 := ⟨128 * (h.val / 5) + e.val, by omega⟩

/-- The product of a query with a key. -/
def raw (q : FVec Ideal ⟨2, ![6144, 2560]⟩ .bf16) (k : FVec Ideal ⟨2, ![6144, 512]⟩ .fp8e4m3) (h : Fin 20) (R K : Fin 6144) : EReal :=
  ∑ e : Fin 128, q (ix2 R (qCol h e)) * k (ix2 K (kCol h e))

/-- The masked score, in powers of two. -/
def Score (cu : IVec ⟨1, ![7]⟩ 32) (ks : EReal) (q : FVec Ideal ⟨2, ![6144, 2560]⟩ .bf16) (k : FVec Ideal ⟨2, ![6144, 512]⟩ .fp8e4m3)
    (h : Fin 20) (R K : Fin 6144) : EReal :=
  if Vis cu R.val K.val then raw q k h R K * (ks * Ideal.ofBits .f32 0x3DB504F3#32) * Ideal.ofBits .f32 0x3FB8AA3B#32 else ⊥

/-- The attention of head `h`, token `R`, feature `d`. -/
def Out (cu : IVec ⟨1, ![7]⟩ 32) (ks vs : EReal) (q : FVec Ideal ⟨2, ![6144, 2560]⟩ .bf16) (k v : FVec Ideal ⟨2, ![6144, 512]⟩ .fp8e4m3)
    (h : Fin 20) (R : Fin 6144) (d : Fin 128) : EReal :=
  avg (Score cu ks q k h R) (fun K => v (ix2 K (kCol h d))) vs

/-- A token's largest magnitude over its heads. -/
def rowMax (A : Fin 20 → Fin 6144 → Fin 128 → EReal) (R : Fin 6144) : EReal :=
  Finset.univ.fold max ⊥ fun h : Fin 20 => Finset.univ.fold max ⊥ fun d : Fin 128 => max (A h R d) (-(A h R d))

/-- The attention as an array. -/
def Attn (A : Fin 20 → Fin 6144 → Fin 128 → EReal) : FVec Ideal ⟨3, ![20, 6144, 128]⟩ .f32 := fun j => A (j 0) (j 1) (j 2)

/-- The codes of the attention. -/
def Codes (A : Fin 20 → Fin 6144 → Fin 128 → EReal) : FVec Ideal ⟨3, ![20, 6144, 128]⟩ .fp8e4m3 :=
  fun j => codeOf (A (j 0) (j 1) (j 2)) (scaleOf (rowMax A (j 1)))

/-- The token that entry `r` of block `p` of the scales belongs to. -/
def scaleRow (p : Fin 24) (r : Fin 256) : Fin 6144 := ⟨p.val * 256 + r.val, by omega⟩

/-- The scales, 256 tokens to a block. -/
def Scales (A : Fin 20 → Fin 6144 → Fin 128 → EReal) : FVec Ideal ⟨3, ![24, 1, 256]⟩ .f32 :=
  fun j => scaleOf (rowMax A (scaleRow (j 0) (j 2)))

/-- Small positions, read as signed words, are themselves. -/
theorem toInt_pos {n : ℕ} (h : n < 6144) : (BitVec.ofNat 32 n).toInt = n := by
  rw [BitVec.toInt_eq_toNat_of_lt] <;> simp <;> omega

theorem past_eq (r w : BitVec 32) : BitVec.setWidth 32 (IntOp.cmpi .sge r w) = past r w := by
  unfold past
  by_cases h : w.toInt ≤ r.toInt
  · rw [if_pos h, IntOp.cmpi_sge.2 h]; rfl
  · rw [if_neg h]
    have : IntOp.cmpi .sge r w = 0#1 := by
      rcases (by decide : ∀ b : BitVec 1, b = 0#1 ∨ b = 1#1) (IntOp.cmpi .sge r w) with e | e
      · exact e
      · exact absurd (IntOp.cmpi_sge.1 e) h
    rw [this]; rfl

namespace Ref

open Cert.AttnRefIdeal Cert.AttnRefIdeal.Gen

/-- The reference's mask. -/
def maskVec (w1 w2 w3 w4 w5 : BitVec 32) : IVec S6144x6144 1 :=
  andi (cmpi .eq (k0_pay5 (F := Ideal) w1 w2 w3 w4 w5)
      (addi (k0_pay6 (F := Ideal) w1 w2 w3 w4) (extui 32 (cmpi .sge (iota .tc S6144x6144 32 [1] iota_S6144x6144_d1_w32) (broadcast S6144x6144 w5)) natLt_1_32)))
    (cmpi .sle (iota .tc S6144x6144 32 [1] iota_S6144x6144_d1_w32) (iota .tc S6144x6144 32 [0] iota_S6144x6144_d0_w32))

theorem maskVec_word (w1 w2 w3 w4 w5 : BitVec 32) (R K : Fin 6144) : maskVec w1 w2 w3 w4 w5 (ix2 R K)
    = IntOp.andi (IntOp.cmpi .eq (segOf w1 w2 w3 w4 w5 (BitVec.ofNat 32 R.val)) (segOf w1 w2 w3 w4 w5 (BitVec.ofNat 32 K.val)))
        (IntOp.cmpi .sle (BitVec.ofNat 32 K.val) (BitVec.ofNat 32 R.val)) := by
  unfold segOf
  simp only [← past_eq]
  pointwise [maskVec, k0_pay5, k0_pay6]
  rfl

/-- The masked scores of any mask. -/
def sVec (b : IVec S6144x6144 1) (q : FVec Ideal S20x6144x128 .bf16) (k : FVec Ideal S20x6144x128 .fp8e4m3) (ks : EReal) : FVec Ideal S20x6144x6144 .f32 :=
  select (broadcastTo S20x6144x6144 (shapeCast S1x6144x6144 (shapeCast S1x6144x6144 b shapeCasts_S6144x6144_S1x6144x6144) shapeCasts_S1x6144x6144_S1x6144x6144)
      broadcasts_S1x6144x6144_S20x6144x6144)
    (mulf (mulf (matmul dot_S20x6144x128_S20x6144x128_S20x6144x6144_2_2_1_1_0_0 none (shapeCast S20x6144x128 q shapeCasts_S20x6144x128_S20x6144x128)
        (extf .bf16 (shapeCast S20x6144x128 k shapeCasts_S20x6144x128_S20x6144x128) bitsLt_fp8e4m3_bf16) (constant S20x6144x6144 .f32 0x00000000#32))
      (broadcast S20x6144x6144 (Scalar.mulf (F := Ideal) (φ := .f32) ks (Scalar.ofBits .f32 0x3DB504F3#32)))) (broadcast S20x6144x6144 (Scalar.ofBits .f32 0x3FB8AA3B#32)))
    (broadcast S20x6144x6144 (Scalar.ofBits .f32 0xFF800000#32))

theorem sVec_apply (b q k ks) (h : Fin 20) (R K : Fin 6144) : sVec b q k ks (ix3 h R K)
    = if b (ix2 R K) = 1#1 then (∑ e : Fin 128, q (ix3 h R e) * k (ix3 h K e)) * (ks * Ideal.ofBits .f32 0x3DB504F3#32) * Ideal.ofBits .f32 0x3FB8AA3B#32 else ⊥ := by
  rw [← ofBits_neg_inf]
  pointwise [sVec]
  rfl

/-- The row maxima of any scores. -/
def mVec (s : FVec Ideal S20x6144x6144 .f32) : FVec Ideal S20x6144 .f32 :=
  multiReduction .maximumf [2] S20x6144 s 0xFF800000#32 reduces_S20x6144x6144_S20x6144 (.inl rfl) rfl

theorem mVec_apply (s : FVec Ideal S20x6144x6144 .f32) (h : Fin 20) (R : Fin 6144) :
    mVec s (ix2 h R) = Finset.univ.fold max ⊥ fun K : Fin 6144 => s (ix3 h R K) := by
  rw [← ofBits_neg_inf]
  pointwise [mVec]

/-- The weights of any scores at any shifts. -/
def pVec (s : FVec Ideal S20x6144x6144 .f32) (M : FVec Ideal S20x6144 .f32) : FVec Ideal S20x6144x6144 .f32 :=
  exp2 (subf s (broadcastTo S20x6144x6144 (shapeCast S20x6144x1 M shapeCasts_S20x6144_S20x6144x1) broadcasts_S20x6144x1_S20x6144x6144))

theorem pVec_apply (s : FVec Ideal S20x6144x6144 .f32) (M : FVec Ideal S20x6144 .f32) (h : Fin 20) (R K : Fin 6144) :
    pVec s M (ix3 h R K) = wt (s (ix3 h R K)) (M (ix2 h R)) := by
  unfold wt
  pointwise [pVec]
  rfl

/-- The weighted values of any weights. -/
def aVec (p : FVec Ideal S20x6144x6144 .f32) (vs : EReal) (v : FVec Ideal S20x6144x128 .fp8e4m3) : FVec Ideal S20x6144x128 .f32 :=
  matmul dot_S20x6144x6144_S20x6144x128_S20x6144x128_2_1_1_2_0_0 none (truncf .bf16 (mulf p (broadcast S20x6144x6144 (vs : Ideal .f32))) bitsLt_bf16_f32)
    (extf .bf16 (shapeCast S20x6144x128 v shapeCasts_S20x6144x128_S20x6144x128) bitsLt_fp8e4m3_bf16) (constant S20x6144x128 .f32 0x00000000#32)

theorem aVec_apply (p vs v) (h : Fin 20) (R : Fin 6144) (d : Fin 128) :
    aVec p vs v (ix3 h R d) = ∑ K : Fin 6144, (p (ix3 h R K) * vs) * v (ix3 h K d) := by
  pointwise [aVec]

/-- The denominators of any weights. -/
def dVec (p : FVec Ideal S20x6144x6144 .f32) : FVec Ideal S20x6144x1 .f32 :=
  shapeCast S20x6144x1 (multiReduction .add [2] S20x6144 p 0x00000000#32 reduces_S20x6144x6144_S20x6144 (.inl rfl) rfl) shapeCasts_S20x6144_S20x6144x1

theorem dVec_apply (p : FVec Ideal S20x6144x6144 .f32) (h : Fin 20) (R : Fin 6144) : dVec p (ix3 h R 0) = ∑ K : Fin 6144, p (ix3 h R K) := by
  pointwise [dVec]

theorem quot_apply (a : FVec Ideal S20x6144x128 .f32) (d : FVec Ideal S20x6144x1 .f32) (h : Fin 20) (R : Fin 6144) (e : Fin 128) :
    k0_pay1 (F := Ideal) a d (Scalar.ofBits .f32 0x00000000#32) (ix3 h R e)
      = Ideal.div (a (ix3 h R e)) (if d (ix3 h R 0) = 0 then 1 else d (ix3 h R 0)) := by
  pointwise [k0_pay1]

/-- The tokens' largest magnitudes of any array. -/
def maxVec (A : FVec Ideal S20x6144x128 .f32) : FVec Ideal S6144 .f32 :=
  multiReduction .maximumf [0] S6144 (multiReduction .maximumf [2] S20x6144 (absf A) 0xFF800000#32 reduces_S20x6144x128_S20x6144 (.inl rfl) rfl)
    0xFF800000#32 reduces_S20x6144_S6144 (.inl rfl) rfl

theorem maxVec_apply (A : FVec Ideal S20x6144x128 .f32) (R : Fin 6144) : maxVec A (ix1 R)
    = Finset.univ.fold max ⊥ fun h : Fin 20 => Finset.univ.fold max ⊥ fun d : Fin 128 => max (A (ix3 h R d)) (-(A (ix3 h R d))) := by
  rw [← ofBits_neg_inf]
  pointwise [maxVec]
  rfl

/-- The scales of any largest magnitudes. -/
def scaleVec (M : FVec Ideal S6144 .f32) : FVec Ideal S6144 .f32 :=
  select (cmpf .oeq M (broadcast S6144 (Scalar.ofBits .f32 0x00000000#32))) (broadcast S6144 (Scalar.ofBits .f32 0x3F800000#32))
    (divf M (broadcast S6144 (Scalar.ofBits .f32 0x43E00000#32)))

theorem scaleVec_apply (M : FVec Ideal S6144 .f32) (R : Fin 6144) : scaleVec M (ix1 R) = scaleOf (M (ix1 R)) := by
  unfold scaleOf
  pointwise [scaleVec]

/-- The codes of any array and scales. -/
def codeVec (A : FVec Ideal S20x6144x128 .f32) (S : FVec Ideal S6144 .f32) : FVec Ideal S20x6144x128 .fp8e4m3 :=
  truncf .fp8e4m3 (minimumf (broadcast S20x6144x128 (Scalar.ofBits .f32 0x43E00000#32)) (maximumf (broadcast S20x6144x128 (Scalar.ofBits .f32 0xC3E00000#32))
    (divf A (broadcastTo S20x6144x128 (shapeCast S1x6144x1 S shapeCasts_S6144_S1x6144x1) broadcasts_S1x6144x1_S20x6144x128)))) bitsLt_fp8e4m3_f32

theorem codeVec_apply (A : FVec Ideal S20x6144x128 .f32) (S : FVec Ideal S6144 .f32) (h : Fin 20) (R : Fin 6144) (d : Fin 128) :
    codeVec A S (ix3 h R d) = codeOf (A (ix3 h R d)) (S (ix1 R)) := by
  unfold codeOf
  pointwise [codeVec]

theorem reshape_apply (S : FVec Ideal S6144 .f32) (p : Fin 24) (r : Fin 256) :
    shapeCast S24x1x256 S shapeCasts_S6144_S24x1x256 (ix3 p 0 r) = S (ix1 (scaleRow p r)) := by
  unfold scaleRow
  pointwise []

/-- The host's operands are the arguments' heads. -/
structure HeadsOf (qh : FVec Ideal S20x6144x128 .bf16) (kh vh : FVec Ideal S20x6144x128 .fp8e4m3) (q : FVec Ideal ⟨2, ![6144, 2560]⟩ .bf16)
    (k v : FVec Ideal ⟨2, ![6144, 512]⟩ .fp8e4m3) : Prop where
  q : ∀ (h : Fin 20) (R : Fin 6144) (e : Fin 128), qh (ix3 h R e) = q (ix2 R (qCol h e))
  k : ∀ (h : Fin 20) (K : Fin 6144) (e : Fin 128), kh (ix3 h K e) = k (ix2 K (kCol h e))
  v : ∀ (h : Fin 20) (K : Fin 6144) (e : Fin 128), vh (ix3 h K e) = v (ix2 K (kCol h e))

/-- The reference's attention of its operands. -/
def outVec (w1 w2 w3 w4 w5 : BitVec 32) (ks vs : EReal) (qh : FVec Ideal S20x6144x128 .bf16) (kh vh : FVec Ideal S20x6144x128 .fp8e4m3) : FVec Ideal S20x6144x128 .f32 :=
  let s := sVec (maskVec w1 w2 w3 w4 w5) qh kh ks
  let p := pVec s (mVec s)
  k0_pay1 (F := Ideal) (aVec p vs vh) (dVec p) (Scalar.ofBits .f32 0x00000000#32)

theorem mask_iff (cu : IVec ⟨1, ![7]⟩ 32) (R K : Fin 6144) :
    maskVec (cu (ix1 1)) (cu (ix1 2)) (cu (ix1 3)) (cu (ix1 4)) (cu (ix1 5)) (ix2 R K) = 1#1 ↔ Vis cu R.val K.val := by
  rw [maskVec_word]
  unfold Vis
  rw [IntOp.andi_eq_one, IntOp.cmpi_eq, IntOp.cmpi_sle, toInt_pos R.isLt, toInt_pos K.isLt]
  norm_cast

theorem out_apply {qh kh vh q k v} (hh : HeadsOf qh kh vh q k v) (cu : IVec ⟨1, ![7]⟩ 32) (ks vs : EReal) (h : Fin 20) (R : Fin 6144) (d : Fin 128) :
    outVec (cu (ix1 1)) (cu (ix1 2)) (cu (ix1 3)) (cu (ix1 4)) (cu (ix1 5)) ks vs qh kh vh (ix3 h R d) = Out cu ks vs q k v h R d := by
  unfold outVec
  rw [quot_apply, aVec_apply, dVec_apply]
  simp only [pVec_apply, mVec_apply, sVec_apply, mask_iff, hh.q, hh.k, hh.v]
  rfl

/-- The reference's attention. -/
theorem ref_attn {qh kh vh q k v} (hh : HeadsOf qh kh vh q k v) (cu : IVec ⟨1, ![7]⟩ 32) (ks vs : EReal) :
    outVec (cu (ix1 1)) (cu (ix1 2)) (cu (ix1 3)) (cu (ix1 4)) (cu (ix1 5)) ks vs qh kh vh = Attn (Out cu ks vs q k v) := by
  funext j
  obtain ⟨h, R, d, rfl⟩ : ∃ (h : Fin 20) (R : Fin 6144) (d : Fin 128), j = ix3 h R d := ⟨j 0, j 1, j 2, eq_ix3 j⟩
  exact out_apply hh cu ks vs h R d

theorem ref_codes (A : Fin 20 → Fin 6144 → Fin 128 → EReal) : codeVec (Attn A) (scaleVec (maxVec (Attn A))) = Codes A := by
  funext j
  obtain ⟨h, R, d, rfl⟩ : ∃ (h : Fin 20) (R : Fin 6144) (d : Fin 128), j = ix3 h R d := ⟨j 0, j 1, j 2, eq_ix3 j⟩
  rw [codeVec_apply, scaleVec_apply, maxVec_apply]
  rfl

theorem ref_scales (A : Fin 20 → Fin 6144 → Fin 128 → EReal) :
    shapeCast S24x1x256 (scaleVec (maxVec (Attn A))) shapeCasts_S6144_S24x1x256 = Scales A := by
  funext j
  obtain ⟨p, r, rfl⟩ : ∃ (p : Fin 24) (r : Fin 256), j = ix3 p 0 r :=
    ⟨j 0, j 2, by rw [eq_ix3 j]; congr 1; exact Subsingleton.elim (α := Fin 1) _ _⟩
  rw [reshape_apply, scaleVec_apply, maxVec_apply]
  rfl

end Ref

end Cert.AttnValue

end
-- ==== Proof.AttnBlock.lean ====
/- The attention kernel's block operations, element by element. -/
module

public import proofs.«01_k».proof.Proof.AttnIdealBody
public import proofs.«01_k».proof.Proof.AttnSpec

@[expose] public section

set_option maxRecDepth 16384

noncomputable section

namespace Cert.AttnValue.Kernel

open Cert.AttnIdeal Cert.AttnIdeal.Gen Cert.AttnIdeal.Hand
open Idealize.ShloMosaic Idealize.ShloMosaic.TcCoe Idealize.ShloMosaic.Tactic
open Cert.Quant Cert.Softmax

/-- A value rounded up to an integer. -/
def up (x : EReal) : EReal := Ideal.liftRound Int.ceil x

theorem score_apply (c : EReal) (bias : FVec Ideal S256x256 .f32) (k q : Vec Ideal S256x128 .bf16) (a y : Fin 256) :
    score (F := Ideal) c bias k q (ix2 a y) = (∑ e : Fin 128, k (ix2 a e) * q (ix2 y e)) * c + bias (ix2 a y) := by
  pointwise [score, k0_pay12]

theorem newMax_apply (s : FVec Ideal S256x256 .f32) (m : Vec Ideal S1x256 .f32) (y : Fin 256) :
    newMax (F := Ideal) s m (ix2 0 y) = max (m (ix2 0 y)) (up (Finset.univ.fold max ⊥ fun k : Fin 256 => s (ix2 k y))) := by
  unfold up
  rw [← ofBits_neg_inf]
  pointwise [newMax]

theorem stMax_apply (m : FVec Ideal S1x256 .f32) (y : Fin 256) : stMax (F := Ideal) m (ix2 0 y) = m (ix2 0 y) := by
  pointwise [stMax, k0_pay10]

theorem shrink_apply (m m' : FVec Ideal S1x256 .f32) (y : Fin 256) : shrink (F := Ideal) m m' (ix2 0 y) = wt (m (ix2 0 y)) (m' (ix2 0 y)) := by
  unfold wt
  pointwise [shrink]
  rfl

theorem terms_apply (s : FVec Ideal S256x256 .f32) (m' : FVec Ideal S1x256 .f32) (k y : Fin 256) :
    terms (F := Ideal) s m' (ix2 k y) = wt (s (ix2 k y)) (m' (ix2 0 y)) := by
  unfold wt
  pointwise [terms]
  rfl

theorem newDen_apply (r : FVec Ideal S1x256 .f32) (p : FVec Ideal S256x256 .f32) (d : Vec Ideal S1x256 .f32) (y : Fin 256) :
    newDen (F := Ideal) r p d (ix2 0 y) = d (ix2 0 y) * r (ix2 0 y) + ∑ k : Fin 256, p (ix2 k y) := by
  pointwise [newDen, k0_pay24]

theorem newAcc_apply (vs : EReal) (r : FVec Ideal S1x256 .f32) (p : FVec Ideal S256x256 .f32) (v : Vec Ideal S128x256 .bf16) (a : Vec Ideal S1x128x256 .f32)
    (e : Fin 128) (y : Fin 256) : newAcc (F := Ideal) vs r p v a (ix3 0 e y)
      = a (ix3 0 e y) * r (ix2 0 y) + ∑ k : Fin 256, v (ix2 e k) * (p (ix2 k y) * vs) := by
  pointwise [newAcc, k0_pay11]

theorem headOut_apply (a : Vec Ideal S1x128x256 .f32) (d : Vec Ideal S1x256 .f32) (e : Fin 128) (y : Fin 256) :
    headOut (F := Ideal) a d (ix2 e y) = a (ix3 0 e y) * Ideal.div 1 (d (ix2 0 y)) := by
  pointwise [headOut, k0_pay332]

theorem attnOut_apply (o : FVec Ideal S128x256 .f32) (y : Fin 256) (e : Fin 128) : attnOut (F := Ideal) o (ix3 0 y e) = o (ix2 e y) := by
  pointwise [attnOut, k0_pay447, k0_pay446, stOut]

theorem accMax_apply (m : FVec Ideal S1x256 .f32) (o : FVec Ideal S128x256 .f32) (y : Fin 256) :
    accMax (F := Ideal) m o (ix2 0 y) = max (m (ix2 0 y)) (Finset.univ.fold max ⊥ fun e : Fin 128 => max (o (ix2 e y)) (-(o (ix2 e y)))) := by
  rw [← ofBits_neg_inf]
  pointwise [accMax]
  rfl

theorem zeroMax_apply (y : Fin 256) : k0_pay328 (F := Ideal) (ix2 0 y) = 0 := by
  pointwise [k0_pay328]

theorem lastMax_eq (m : FVec Ideal S1x256 .f32) (o : FVec Ideal S128x256 .f32) (y : Fin 256) :
    k0_pay380 (F := Ideal) m o (ix2 0 y) = scaleOf (accMax m o (ix2 0 y)) := by
  unfold scaleOf
  pointwise [k0_pay380, accMax]

theorem scaleOut_apply (o : Fin 20 → FVec Ideal S128x256 .f32) (y : Fin 256) :
    scaleOut (F := Ideal) o (ix3 0 0 y) = scaleOf (accMax (headsMax o) (o 19) (ix2 0 y)) := by
  rw [← lastMax_eq]
  pointwise [scaleOut, k0_pay381]

theorem invScale_apply (o : Fin 20 → FVec Ideal S128x256 .f32) (y : Fin 256) :
    invScale (F := Ideal) o (ix2 0 y) = Ideal.div 1 (scaleOf (accMax (headsMax o) (o 19) (ix2 0 y))) := by
  rw [← lastMax_eq]
  pointwise [invScale, k0_pay382]

theorem codesOut_apply (inv : FVec Ideal S1x256 .f32) (o : FVec Ideal S128x256 .f32) (y : Fin 256) (e : Fin 128) :
    codesOut (F := Ideal) inv o (ix3 0 y e)
      = min (Ideal.ofBits .f32 0x43E00000#32) (max (Ideal.ofBits .f32 0xC3E00000#32) (o (ix2 e y) * inv (ix2 0 y))) := by
  pointwise [codesOut, k0_pay448, k0_pay446, stOut]

/-- The mask of a key and a query. -/
theorem maskAt_apply (v48 v86 : IVec S1x256 32) (b : BitVec 32) (k y : Fin 256) :
    maskAt (F := Ideal) v48 v86 b (ix2 k y)
      = if (v86 (ix2 0 y)).toInt ≤ (b + BitVec.ofNat 32 k.val).toInt ∧ (b + BitVec.ofNat 32 k.val).toInt ≤ (v48 (ix2 0 y)).toInt then 0 else ⊥ := by
  have e : maskAt (F := Ideal) v48 v86 b (ix2 k y)
      = if IntOp.andi (IntOp.cmpi .sge (b + BitVec.ofNat 32 k.val) (v86 (ix2 0 y))) (IntOp.cmpi .sle (b + BitVec.ofNat 32 k.val) (v48 (ix2 0 y))) = 1#1 then 0 else ⊥ := by
    rw [← ofBits_neg_inf]
    pointwise [maskAt]
    rfl
  rw [e]
  simp only [IntOp.andi_eq_one, IntOp.cmpi_sge, IntOp.cmpi_sle]

theorem qpos_apply (i : BitVec 32) (y : Fin 256) : k0_pay322 i (ix2 0 y) = i * 256#32 + BitVec.ofNat 32 y.val := by
  pointwise [k0_pay322]
  rfl

/-- The greatest of the cuts that position `r` has reached, in their order. -/
def startOf (w1 w2 w3 w4 w5 r : BitVec 32) : BitVec 32 :=
  if w5.toInt ≤ r.toInt then w5 else if w4.toInt ≤ r.toInt then w4 else if w3.toInt ≤ r.toInt then w3 else if w2.toInt ≤ r.toInt then w2
    else if w1.toInt ≤ r.toInt then w1 else 0#32

theorem sel_sge (r w x : BitVec 32) : (Scalar.select (IntOp.cmpi .sge r w) w x : BitVec 32) = if w.toInt ≤ r.toInt then w else x := by
  show (if IntOp.cmpi .sge r w = 1#1 then w else x) = _
  simp only [IntOp.cmpi_sge]

theorem start_apply (i w1 w2 w3 w4 w5 : BitVec 32) (y : Fin 256) :
    k0_pay323 (F := Ideal) i w1 w2 w3 w4 w5 (ix2 0 y) = startOf w1 w2 w3 w4 w5 (k0_pay322 i (ix2 0 y)) := by
  unfold startOf
  simp only [← sel_sge]
  pointwise [k0_pay323]

end Cert.AttnValue.Kernel
-- ==== Proof.AttnCuts.lean ====
/- Segments from sorted cuts: a key is of a query's segment exactly when it is not before the segment's first position. -/
module

public import proofs.«01_k».proof.Proof.AttnBlock

@[expose] public section

set_option maxRecDepth 16384

noncomputable section

namespace Cert.AttnValue.Kernel

open Cert.AttnIdeal Cert.AttnIdeal.Gen Cert.AttnIdeal.Hand
open Idealize.ShloMosaic Idealize.ShloMosaic.TcCoe Idealize.ShloMosaic.Tactic
open Cert.Quant Cert.Softmax

/-- Five cuts in order, from zero on. -/
def Sorted (w1 w2 w3 w4 w5 : BitVec 32) : Prop :=
  0 ≤ w1.toInt ∧ w1.toInt ≤ w2.toInt ∧ w2.toInt ≤ w3.toInt ∧ w3.toInt ≤ w4.toInt ∧ w4.toInt ≤ w5.toInt

/-- How many cuts a position has reached, and which was the last. -/
theorem level {w1 w2 w3 w4 w5 : BitVec 32} (hs : Sorted w1 w2 w3 w4 w5) (r : BitVec 32) :
    (w5.toInt ≤ r.toInt ∧ segOf w1 w2 w3 w4 w5 r = 5#32 ∧ startOf w1 w2 w3 w4 w5 r = w5)
    ∨ (w4.toInt ≤ r.toInt ∧ r.toInt < w5.toInt ∧ segOf w1 w2 w3 w4 w5 r = 4#32 ∧ startOf w1 w2 w3 w4 w5 r = w4)
    ∨ (w3.toInt ≤ r.toInt ∧ r.toInt < w4.toInt ∧ segOf w1 w2 w3 w4 w5 r = 3#32 ∧ startOf w1 w2 w3 w4 w5 r = w3)
    ∨ (w2.toInt ≤ r.toInt ∧ r.toInt < w3.toInt ∧ segOf w1 w2 w3 w4 w5 r = 2#32 ∧ startOf w1 w2 w3 w4 w5 r = w2)
    ∨ (w1.toInt ≤ r.toInt ∧ r.toInt < w2.toInt ∧ segOf w1 w2 w3 w4 w5 r = 1#32 ∧ startOf w1 w2 w3 w4 w5 r = w1)
    ∨ (r.toInt < w1.toInt ∧ segOf w1 w2 w3 w4 w5 r = 0#32 ∧ startOf w1 w2 w3 w4 w5 r = 0#32) := by
  obtain ⟨h0, h1, h2, h3, h4⟩ := hs
  unfold segOf startOf past
  by_cases c5 : w5.toInt ≤ r.toInt
  · refine .inl ⟨c5, ?_, if_pos c5⟩
    rw [if_pos c5, if_pos (h4.trans c5), if_pos (h3.trans (h4.trans c5)), if_pos (h2.trans (h3.trans (h4.trans c5))),
      if_pos (h1.trans (h2.trans (h3.trans (h4.trans c5))))]
    decide
  by_cases c4 : w4.toInt ≤ r.toInt
  · refine .inr (.inl ⟨c4, not_le.1 c5, ?_, by rw [if_neg c5, if_pos c4]⟩)
    rw [if_neg c5, if_pos c4, if_pos (h3.trans c4), if_pos (h2.trans (h3.trans c4)), if_pos (h1.trans (h2.trans (h3.trans c4)))]
    decide
  by_cases c3 : w3.toInt ≤ r.toInt
  · refine .inr (.inr (.inl ⟨c3, not_le.1 c4, ?_, by rw [if_neg c5, if_neg c4, if_pos c3]⟩))
    rw [if_neg c5, if_neg c4, if_pos c3, if_pos (h2.trans c3), if_pos (h1.trans (h2.trans c3))]
    decide
  by_cases c2 : w2.toInt ≤ r.toInt
  · refine .inr (.inr (.inr (.inl ⟨c2, not_le.1 c3, ?_, by rw [if_neg c5, if_neg c4, if_neg c3, if_pos c2]⟩)))
    rw [if_neg c5, if_neg c4, if_neg c3, if_pos c2, if_pos (h1.trans c2)]
    decide
  by_cases c1 : w1.toInt ≤ r.toInt
  · refine .inr (.inr (.inr (.inr (.inl ⟨c1, not_le.1 c2, ?_, by rw [if_neg c5, if_neg c4, if_neg c3, if_neg c2, if_pos c1]⟩))))
    rw [if_neg c5, if_neg c4, if_neg c3, if_neg c2, if_pos c1]
    decide
  · refine .inr (.inr (.inr (.inr (.inr ⟨not_le.1 c1, ?_, by rw [if_neg c5, if_neg c4, if_neg c3, if_neg c2, if_neg c1]⟩))))
    rw [if_neg c5, if_neg c4, if_neg c3, if_neg c2, if_neg c1]
    decide

theorem zero_int : (0#32 : BitVec 32).toInt = 0 := by decide

/-- Of two positions, the later one not before zero: the same segment is its first position not after the earlier. -/
theorem seg_iff {w1 w2 w3 w4 w5 : BitVec 32} (hs : Sorted w1 w2 w3 w4 w5) (r k : BitVec 32) (h0 : 0 ≤ k.toInt) (hk : k.toInt ≤ r.toInt) :
    segOf w1 w2 w3 w4 w5 r = segOf w1 w2 w3 w4 w5 k ↔ (startOf w1 w2 w3 w4 w5 r).toInt ≤ k.toInt := by
  have hz := zero_int
  have hl := level hs r
  have hl' := level hs k
  obtain ⟨g0, g1, g2, g3, g4⟩ := hs
  rcases hl with ⟨a, e, f⟩ | ⟨a, a', e, f⟩ | ⟨a, a', e, f⟩ | ⟨a, a', e, f⟩ | ⟨a, a', e, f⟩ | ⟨a, e, f⟩ <;>
    rcases hl' with ⟨b, e', -⟩ | ⟨b, b', e', -⟩ | ⟨b, b', e', -⟩ | ⟨b, b', e', -⟩ | ⟨b, b', e', -⟩ | ⟨b, e', -⟩ <;>
    rw [e, e', f] <;>
    first
    | exact ⟨fun _ => by omega, fun _ => rfl⟩
    | exact ⟨fun h => absurd h (by decide), fun _ => by omega⟩

theorem start_mono {w1 w2 w3 w4 w5 : BitVec 32} (hs : Sorted w1 w2 w3 w4 w5) (r r' : BitVec 32) (h0 : 0 ≤ r.toInt) (h : r.toInt ≤ r'.toInt) :
    (startOf w1 w2 w3 w4 w5 r).toInt ≤ (startOf w1 w2 w3 w4 w5 r').toInt := by
  have hz := zero_int
  have hl := level hs r
  have hl' := level hs r'
  obtain ⟨g0, g1, g2, g3, g4⟩ := hs
  rcases hl with ⟨a, -, f⟩ | ⟨a, a', -, f⟩ | ⟨a, a', -, f⟩ | ⟨a, a', -, f⟩ | ⟨a, a', -, f⟩ | ⟨a, -, f⟩ <;>
    rcases hl' with ⟨b, -, f'⟩ | ⟨b, b', -, f'⟩ | ⟨b, b', -, f'⟩ | ⟨b, b', -, f'⟩ | ⟨b, b', -, f'⟩ | ⟨b, -, f'⟩ <;>
    rw [f, f'] <;> omega

theorem start_bounds {w1 w2 w3 w4 w5 : BitVec 32} (hs : Sorted w1 w2 w3 w4 w5) (r : BitVec 32) (h0 : 0 ≤ r.toInt) :
    0 ≤ (startOf w1 w2 w3 w4 w5 r).toInt ∧ (startOf w1 w2 w3 w4 w5 r).toInt ≤ r.toInt := by
  have hz := zero_int
  have hl := level hs r
  obtain ⟨g0, g1, g2, g3, g4⟩ := hs
  rcases hl with ⟨a, -, f⟩ | ⟨a, a', -, f⟩ | ⟨a, a', -, f⟩ | ⟨a, a', -, f⟩ | ⟨a, a', -, f⟩ | ⟨a, -, f⟩ <;> rw [f] <;> omega

theorem pos_word (i : grid0.Coords) (n : ℕ) (hn : (i 0).val = n) (y : ℕ) (hy : y < 256) :
    BitVec.ofNat 32 (i 0).val * 256#32 + BitVec.ofNat 32 y = BitVec.ofNat 32 (256 * n + y) := by
  have := coord_lt i
  apply BitVec.eq_of_toNat_eq
  simp only [BitVec.toNat_add, BitVec.toNat_mul, BitVec.toNat_ofNat]
  omega

/-- The first key block, from the first position of the segment of the query block's first row. -/
theorem firstWord_eq (i : grid0.Coords) (w1 w2 w3 w4 w5 : BitVec 32) :
    firstWord i w1 w2 w3 w4 w5 = Scalar.shrui (startOf w1 w2 w3 w4 w5 (BitVec.ofNat 32 (i 0).val * 256#32)) 8#32 := by
  unfold startOf
  simp only [← sel_sge]
  rfl

theorem firstWord_div {w1 w2 w3 w4 w5 : BitVec 32} (hs : Sorted w1 w2 w3 w4 w5) (i : grid0.Coords) :
    (firstWord i w1 w2 w3 w4 w5).toNat = (startOf w1 w2 w3 w4 w5 (BitVec.ofNat 32 (256 * (i 0).val))).toInt.toNat / 256
      ∧ (firstWord i w1 w2 w3 w4 w5).toNat ≤ (i 0).val := by
  have hi := coord_lt i
  have hp : BitVec.ofNat 32 (i 0).val * 256#32 = BitVec.ofNat 32 (256 * (i 0).val) := by
    have := pos_word i _ rfl 0 (by omega)
    simpa using this
  have hr : (BitVec.ofNat 32 (256 * (i 0).val)).toInt = ((256 * (i 0).val : ℕ) : ℤ) := toInt_pos (by omega)
  obtain ⟨b0, b1⟩ := start_bounds hs (BitVec.ofNat 32 (256 * (i 0).val)) (by rw [hr]; omega)
  rw [firstWord_eq, hp]
  generalize startOf w1 w2 w3 w4 w5 (BitVec.ofNat 32 (256 * (i 0).val)) = s at b0 b1 ⊢
  have e : s.toInt = (s.toNat : ℤ) := by
    rw [BitVec.toInt_eq_toNat_cond] at b0 ⊢
    have := s.isLt
    split at b0 <;> simp_all <;> omega
  have es : (Scalar.shrui s 8#32).toNat = s.toNat / 256 := by
    unfold Scalar.shrui IntOp.shrui
    simp only [BitVec.toNat_ofNat, BitVec.ushiftRight_eq', BitVec.toNat_ushiftRight, Nat.shiftRight_eq_div_pow]
    norm_num
    exact Nat.shiftRight_eq_div_pow s.toNat 8
  rw [es, e]
  rw [hr] at b1
  rw [e] at b1
  constructor
  · simp
  · omega

theorem trips_eq {w1 w2 w3 w4 w5 : BitVec 32} (hs : Sorted w1 w2 w3 w4 w5) (i : grid0.Coords) :
    (firstWord i w1 w2 w3 w4 w5).toNat + (k0_t1_loop i w1 w2 w3 w4 w5).trips = (i 0).val + 1 := by
  have hi := coord_lt i
  have hf := (firstWord_div hs i).2
  rw [t1_loop_eq]
  show _ + Scf.trips (firstWord i w1 w2 w3 w4 w5) (BitVec.ofNat 32 (i 0).val + 1#32) 1#32 = _
  unfold Scf.trips
  have h1 : (firstWord i w1 w2 w3 w4 w5).toInt = (firstWord i w1 w2 w3 w4 w5).toNat := BitVec.toInt_eq_toNat_of_lt (by omega)
  have h2 : (BitVec.ofNat 32 (i 0).val + 1#32).toInt = (i 0).val + 1 := by
    rw [BitVec.toInt_eq_toNat_of_lt] <;> simp <;> omega
  have h3 : (1#32 : BitVec 32).toInt = 1 := by decide
  rw [h1, h2, h3]
  omega

/-- Which keys a query sees, from the first position of its segment. -/
theorem vis_iff {cu : IVec ⟨1, ![7]⟩ 32} (hs : Sorted (cu (ix1 1)) (cu (ix1 2)) (cu (ix1 3)) (cu (ix1 4)) (cu (ix1 5))) {r k : ℕ} (hr : r < 6144) (hk : k < 6144) :
    Vis cu r k ↔ (startOf (cu (ix1 1)) (cu (ix1 2)) (cu (ix1 3)) (cu (ix1 4)) (cu (ix1 5)) (BitVec.ofNat 32 r)).toInt ≤ (k : ℤ) ∧ k ≤ r := by
  have er := toInt_pos hr
  have ek := toInt_pos hk
  unfold Vis
  refine and_congr_left fun h => ?_
  rw [seg_iff hs _ _ (by rw [ek]; omega) (by rw [ek, er]; omega), ek]

/-- Keys before the first block are not seen. -/
theorem not_vis_before {cu : IVec ⟨1, ![7]⟩ 32} (hs : Sorted (cu (ix1 1)) (cu (ix1 2)) (cu (ix1 3)) (cu (ix1 4)) (cu (ix1 5))) (i : grid0.Coords) {y k : ℕ} (hy : y < 256)
    (hk : k < 256 * (firstWord i (cu (ix1 1)) (cu (ix1 2)) (cu (ix1 3)) (cu (ix1 4)) (cu (ix1 5))).toNat) : ¬ Vis cu (256 * (i 0).val + y) k := by
  have hi := coord_lt i
  obtain ⟨e1, e2⟩ := firstWord_div hs i
  have er : (BitVec.ofNat 32 (256 * (i 0).val)).toInt = ((256 * (i 0).val : ℕ) : ℤ) := toInt_pos (by omega)
  have er' : (BitVec.ofNat 32 (256 * (i 0).val + y)).toInt = ((256 * (i 0).val + y : ℕ) : ℤ) := toInt_pos (by omega)
  have hm := start_mono hs (BitVec.ofNat 32 (256 * (i 0).val)) (BitVec.ofNat 32 (256 * (i 0).val + y)) (by rw [er]; omega) (by rw [er, er']; push_cast; omega)
  rw [vis_iff hs (by omega) (by omega)]
  rintro ⟨h, -⟩
  omega

/-- Keys after the last block are not seen. -/
theorem not_vis_after {cu : IVec ⟨1, ![7]⟩ 32} (i : grid0.Coords) {y k : ℕ} (hy : y < 256) (hk : 256 * ((i 0).val + 1) ≤ k) : ¬ Vis cu (256 * (i 0).val + y) k := by
  rintro ⟨-, h⟩
  omega

end Cert.AttnValue.Kernel
-- ==== Proof.AttnSweep.lean ====
/- One head's loop over the key blocks is the plain softmax average. -/
module

public import proofs.«01_k».proof.Proof.AttnCuts
public import proofs.«01_k».proof.Proof.AttnIdealEpi

@[expose] public section

set_option maxRecDepth 16384

noncomputable section

namespace Cert.AttnValue.Kernel

open Cert.AttnIdeal Cert.AttnIdeal.Gen Cert.AttnIdeal.Hand
open Idealize.ShloMosaic Idealize.ShloMosaic.TcCoe Idealize.ShloMosaic.Tactic
open Cert.Quant Cert.Softmax

theorem le_up (x : EReal) : x ≤ up x := by
  induction x with
  | bot => exact bot_le
  | top => exact le_rfl
  | coe r => exact EReal.coe_le_coe_iff.2 (Int.le_ceil r)

theorem up_top {x : EReal} (h : up x = ⊤) : x = ⊤ := by
  induction x with
  | bot => exact absurd h (by show (⊥ : EReal) ≠ ⊤; exact bot_ne_top)
  | top => rfl
  | coe r => exact absurd h (EReal.coe_ne_top _)

theorem le_fold {n : ℕ} (f : Fin n → EReal) (k : Fin n) : f k ≤ Finset.univ.fold max ⊥ f :=
  (Finset.le_fold_max _).2 (.inr ⟨k, Finset.mem_univ _, le_rfl⟩)

theorem fold_top {n : ℕ} {f : Fin n → EReal} (h : Finset.univ.fold max ⊥ f = ⊤) : ∃ k, f k = ⊤ := by
  have : (⊤ : EReal) ≤ Finset.univ.fold max ⊥ f := h.ge
  rcases (Finset.le_fold_max _).1 this with h | ⟨k, -, h⟩
  · exact absurd h (by simp)
  · exact ⟨k, top_le_iff.1 h⟩

theorem sum_block (f : ℕ → EReal) (r : ℕ) : ∑ k ∈ Finset.Ico r (r + 256), f k = ∑ a : Fin 256, f (r + a.val) := by
  rw [Finset.sum_Ico_eq_sum_range, Nat.add_sub_cancel_left, Finset.sum_range]

/-- The lowest finite value, with which the maxima start. -/
theorem low_ne : Ideal.ofBits .f32 0xFF7FFFFF#32 ≠ ⊥ ∧ Ideal.ofBits .f32 0xFF7FFFFF#32 ≠ ⊤ := by
  constructor <;> simp [Ideal.ofBits, Ideal.ieee, -EReal.coe_mul]

section Head

variable (cu : IVec ⟨1, ![7]⟩ 32) (ks vs : EReal) (q : FVec Ideal ⟨2, ![6144, 2560]⟩ .bf16) (k v : FVec Ideal ⟨2, ![6144, 512]⟩ .fp8e4m3)

/-- The masked score of any key position. -/
def sAt (h : Fin 20) (R : Fin 6144) (K : ℕ) : EReal := if hK : K < 6144 then Score cu ks q k h R ⟨K, hK⟩ else ⊥

/-- A value's feature at any key position. -/
def xAt (h : Fin 20) (e : Fin 128) (K : ℕ) : EReal := if hK : K < 6144 then v (ix2 ⟨K, hK⟩ (kCol h e)) else 0

/-- The row of entry `y` of query block `i`. -/
def rowOf (i : grid0.Coords) (y : Fin 256) : Fin 6144 := ⟨256 * (i 0).val + y.val, by have := coord_lt i; omega⟩

/-- What a grid point reads: its block of the queries, and all keys and values up to its own. -/
structure Reads (i : grid0.Coords) (x4 : Vec Ideal S256x2560 .bf16) (kb : Vec Ideal S6144x512 .bf16) (vt : Vec Ideal S512x6144 .bf16) : Prop where
  q : ∀ (y : Fin 256) (C : Fin 2560), x4 (ix2 y C) = q (ix2 (rowOf i y) C)
  k : ∀ (K : Fin 6144) (C : Fin 512), K.val < 256 * ((i 0).val + 1) → kb (ix2 K C) = k (ix2 K C)
  v : ∀ (K : Fin 6144) (C : Fin 512), K.val < 256 * ((i 0).val + 1) → vt (ix2 C K) = v (ix2 K C)

variable {cu ks vs q k v} {i : grid0.Coords} {x4 : Vec Ideal S256x2560 .bf16} {kb : Vec Ideal S6144x512 .bf16} {vt : Vec Ideal S512x6144 .bf16}

theorem qHead_apply (q' : Vec Ideal S256x2560 .bf16) (h : Fin 20) (y : Fin 256) (e : Fin 128) : qHead (F := Ideal) q' h (ix2 y e) = q' (ix2 y (qCol h e)) := by
  refine congrArg q' (funext fun a => Fin.ext ?_)
  match a with
  | ⟨0, _⟩ => show 0 + 1 * y.val = y.val; omega
  | ⟨1, _⟩ => show 128 * h.val + 1 * e.val = 128 * h.val + e.val; omega

theorem kBlk_apply (kb : Vec Ideal S6144x512 .bf16) (r : ℕ) (hr : r + 256 ≤ 6144) (h : Fin 20) (a : Fin 256) (e : Fin 128) :
    kBlk (F := Ideal) kb r hr h (ix2 a e) = kb (ix2 ⟨r + a.val, by omega⟩ (kCol h e)) := by
  refine congrArg kb (funext fun b => Fin.ext ?_)
  match b with
  | ⟨0, _⟩ => show r + 1 * a.val = r + a.val; omega
  | ⟨1, _⟩ => show 128 * (h.val / 5) + 1 * e.val = 128 * (h.val / 5) + e.val; omega

theorem vBlk_apply (vt : Vec Ideal S512x6144 .bf16) (r : ℕ) (hr : r + 256 ≤ 6144) (h : Fin 20) (a : Fin 256) (e : Fin 128) :
    vBlk (F := Ideal) vt r hr h (ix2 e a) = vt (ix2 (kCol h e) ⟨r + a.val, by omega⟩) := by
  refine congrArg vt (funext fun b => Fin.ext ?_)
  match b with
  | ⟨0, _⟩ => show 128 * (h.val / 5) + 1 * e.val = 128 * (h.val / 5) + e.val; omega
  | ⟨1, _⟩ => show r + 1 * a.val = r + a.val; omega

/-- The five cuts' words. -/
abbrev Cuts (cu : IVec ⟨1, ![7]⟩ 32) : Prop := Sorted (cu (ix1 1)) (cu (ix1 2)) (cu (ix1 3)) (cu (ix1 4)) (cu (ix1 5))

/-- The mask's query positions at a grid point. -/
abbrev qPos (i : grid0.Coords) : IVec S1x256 32 := k0_pay322 (BitVec.ofNat 32 (i 0).val)

/-- The mask's segment starts at a grid point. -/
abbrev qStart (cu : IVec ⟨1, ![7]⟩ 32) (i : grid0.Coords) : IVec S1x256 32 :=
  k0_pay323 (F := Ideal) (BitVec.ofNat 32 (i 0).val) (cu (ix1 1)) (cu (ix1 2)) (cu (ix1 3)) (cu (ix1 4)) (cu (ix1 5))

theorem mask_vis (hs : Cuts cu) (i : grid0.Coords) (r : ℕ) (hr : r + 256 ≤ 6144) (a y : Fin 256) :
    maskAt (F := Ideal) (qPos i) (qStart cu i) (BitVec.ofNat 32 r) (ix2 a y)
      = if Vis cu (rowOf i y).val (r + a.val) then 0 else ⊥ := by
  have hi := coord_lt i
  have ek : BitVec.ofNat 32 r + BitVec.ofNat 32 a.val = BitVec.ofNat 32 (r + a.val) := by
    apply BitVec.eq_of_toNat_eq
    simp only [BitVec.toNat_add, BitVec.toNat_ofNat]
    omega
  rw [maskAt_apply]
  unfold qStart qPos
  rw [start_apply, qpos_apply, pos_word i _ rfl y.val y.isLt, ek, toInt_pos (n := r + a.val) (by omega),
    toInt_pos (n := 256 * (i 0).val + y.val) (by omega)]
  refine if_congr ?_ rfl rfl
  rw [vis_iff hs (rowOf i y).isLt (by omega)]
  exact and_congr_right fun _ => by norm_cast

theorem scale_word (ks : EReal) : k0_pay324 (F := Ideal) ks = ks * Ideal.ofBits .f32 0x3DB504F3#32 * Ideal.ofBits .f32 0x3FB8AA3B#32 := rfl

theorem score_eq (hs : Cuts cu) (hR : Reads q k v i x4 kb vt) (h : Fin 20) (r : ℕ) (hr : r + 256 ≤ 6144) (hb : r + 256 ≤ 256 * ((i 0).val + 1)) (a y : Fin 256) :
    score (F := Ideal) (k0_pay324 ks) (maskAt (qPos i) (qStart cu i) (BitVec.ofNat 32 r)) (kBlk kb r hr h) (qHead x4 h) (ix2 a y)
      = sAt cu ks q k h (rowOf i y) (r + a.val) := by
  have hK : r + a.val < 6144 := by omega
  have e : (∑ e : Fin 128, kBlk (F := Ideal) kb r hr h (ix2 a e) * qHead (F := Ideal) x4 h (ix2 y e)) = raw q k h (rowOf i y) ⟨r + a.val, hK⟩ := by
    unfold raw
    refine Finset.sum_congr rfl fun e _ => ?_
    rw [kBlk_apply, qHead_apply, hR.q, hR.k _ _ (by show r + a.val < _; omega), mul_comm]
  rw [score_apply, e, mask_vis hs i r hr, scale_word]
  unfold sAt Score
  rw [dif_pos hK]
  by_cases hv : Vis cu (rowOf i y).val (r + a.val)
  · rw [if_pos hv, if_pos hv, add_zero]
    simp only [mul_assoc]
  · rw [if_neg hv, if_neg hv, EReal.add_bot]

/-- A head's state after the keys `T`. -/
def At (cu : IVec ⟨1, ![7]⟩ 32) (ks vs : EReal) (q : FVec Ideal ⟨2, ![6144, 2560]⟩ .bf16) (k v : FVec Ideal ⟨2, ![6144, 512]⟩ .fp8e4m3) (i : grid0.Coords)
    (h : Fin 20) (T : Finset ℕ) (st : HSt Ideal) : Prop :=
  ∀ (y : Fin 256) (e : Fin 128), Inv (sAt cu ks q k h (rowOf i y)) (xAt v h e) vs T (st.1 (ix2 0 y)) (st.2.1 (ix2 0 y)) (st.2.2 (ix3 0 e y))

theorem at_step (hs : Cuts cu) (hR : Reads q k v i x4 kb vt) (h : Fin 20) (r : ℕ) (hr : r + 256 ≤ 6144) (hb : r + 256 ≤ 256 * ((i 0).val + 1)) {T : Finset ℕ}
    (hT : ∀ K ∈ T, K < r) {st : HSt Ideal} (hi : At cu ks vs q k v i h T st) :
    At cu ks vs q k v i h (T ∪ Finset.Ico r (r + 256)) (hstep (F := Ideal) (k0_pay324 ks) vs (qPos i) (qStart cu i) x4 kb vt h r hr st) := by
  intro y e
  have hd : Disjoint T (Finset.Ico r (r + 256)) := by
    rw [Finset.disjoint_left]
    intro K h1 h2
    have := hT K h1
    have := (Finset.mem_Ico.1 h2).1
    omega
  unfold hstep
  dsimp only
  rw [stMax_apply, newDen_apply, newAcc_apply]
  simp only [shrink_apply, terms_apply, newMax_apply, score_eq hs hR h r hr hb, vBlk_apply]
  have hx : ∀ a : Fin 256, vt (ix2 (kCol h e) ⟨r + a.val, by omega⟩) = xAt v h e (r + a.val) := fun a => by
    unfold xAt
    rw [dif_pos (show r + a.val < 6144 by omega), hR.v _ _ (by show r + a.val < _; omega)]
  simp only [hx]
  have key := (hi y e).step (B := Finset.Ico r (r + 256))
    (c := up (Finset.univ.fold max ⊥ fun a : Fin 256 => sAt cu ks q k h (rowOf i y) (r + a.val))) hd
    (fun K hK => by
      obtain ⟨h1, h2⟩ := Finset.mem_Ico.1 hK
      have := le_fold (fun a : Fin 256 => sAt cu ks q k h (rowOf i y) (r + a.val)) ⟨K - r, by omega⟩
      rw [show r + (⟨K - r, by omega⟩ : Fin 256).val = K by show r + (K - r) = K; omega] at this
      exact this.trans (le_up _))
    (fun ht => by
      obtain ⟨a, ha⟩ := fold_top (up_top ht)
      exact ⟨r + a.val, Finset.mem_Ico.2 ⟨by omega, by omega⟩, ha⟩)
  rw [sum_block, sum_block] at key
  exact key

theorem at_run (hs : Cuts cu) (hR : Reads q k v i x4 kb vt) (h : Fin 20) (j : ℕ) {st : HSt Ideal} (h0 : At cu ks vs q k v i h ∅ st) :
    ∀ n : ℕ, j + n ≤ (i 0).val + 1 →
      At cu ks vs q k v i h (Finset.Ico (256 * j) (256 * (j + n))) (hrun (F := Ideal) (k0_pay324 ks) vs (qPos i) (qStart cu i) x4 kb vt h j st n)
  | 0, _ => by
    rw [Nat.add_zero, Finset.Ico_self]
    exact h0
  | n + 1, hn => by
    have hi := coord_lt i
    have hr : 256 * (j + n) + 256 ≤ 6144 := by omega
    have ih := at_run hs hR h j h0 n (by omega)
    rw [hrun, dif_pos hr]
    have := at_step hs hR h (256 * (j + n)) hr (by omega) (fun K hK => (Finset.mem_Ico.1 hK).2) ih
    rwa [Finset.Ico_union_Ico_eq_Ico (by omega) (by omega), show 256 * (j + n) + 256 = 256 * (j + (n + 1)) by omega] at this

theorem at_zero (h : Fin 20) : At cu ks vs q k v i h ∅ (hst0 (F := Ideal)) := by
  intro y e
  have e1 : (hst0 (F := Ideal)).1 (ix2 0 y) = Ideal.ofBits .f32 0xFF7FFFFF#32 := rfl
  have e2 : (hst0 (F := Ideal)).2.1 (ix2 0 y) = 0 := Ideal.ofBits_zero .f32
  have e3 : (hst0 (F := Ideal)).2.2 (ix3 0 e y) = 0 := Ideal.ofBits_zero .f32
  rw [e1, e2, e3]
  exact Inv.empty _ _ _ low_ne.1 low_ne.2

/-- A head's loop result over its denominator is the plain average. -/
theorem head_avg (hs : Cuts cu) (hR : Reads q k v i x4 kb vt) (h : Fin 20) (y : Fin 256) (e : Fin 128) :
    headOut (F := Ideal)
        (hrun (F := Ideal) (k0_pay324 ks) vs (qPos i) (qStart cu i) x4 kb vt h (firstWord i (cu (ix1 1)) (cu (ix1 2)) (cu (ix1 3)) (cu (ix1 4)) (cu (ix1 5))).toNat hst0
          (k0_t1_loop i (cu (ix1 1)) (cu (ix1 2)) (cu (ix1 3)) (cu (ix1 4)) (cu (ix1 5))).trips).2.2
        (hrun (F := Ideal) (k0_pay324 ks) vs (qPos i) (qStart cu i) x4 kb vt h (firstWord i (cu (ix1 1)) (cu (ix1 2)) (cu (ix1 3)) (cu (ix1 4)) (cu (ix1 5))).toNat hst0
          (k0_t1_loop i (cu (ix1 1)) (cu (ix1 2)) (cu (ix1 3)) (cu (ix1 4)) (cu (ix1 5))).trips).2.1 (ix2 e y)
      = Out cu ks vs q k v h (rowOf i y) e := by
  have hi := coord_lt i
  have ht := trips_eq hs i
  have hA := at_run (vs := vs) (ks := ks) hs hR h _ (at_zero h) _ ht.le y e
  rw [ht] at hA
  rw [headOut_apply, hA.avg_eq (n := 6144) (fun K hK => by have := (Finset.mem_Ico.1 hK).2; omega) (fun K hK => ?_)]
  · unfold Out
    congr 1
    · funext K
      exact dif_pos K.isLt
    · funext K
      exact dif_pos K.isLt
  · unfold sAt
    split
    · next hK' =>
      unfold Score
      refine if_neg ?_
      by_cases h1 : K < 256 * (firstWord i (cu (ix1 1)) (cu (ix1 2)) (cu (ix1 3)) (cu (ix1 4)) (cu (ix1 5))).toNat
      · exact not_vis_before hs i y.isLt h1
      · refine not_vis_after i y.isLt ?_
        by_contra h2
        exact hK (Finset.mem_Ico.2 ⟨not_lt.1 h1, not_le.1 h2⟩)
    · rfl

end Head

end Cert.AttnValue.Kernel
-- ==== Proof.AttnIdealFrame.lean ====
/- The attention kernel's run: the two scratch arrays of keys and values hold the blocks of the points before, every point leaves
   what `PointOut` says in the result blocks, and the launch terminates with the arguments unchanged. -/
module

public import proofs.«01_k».proof.Proof.Gen.AttnIdeal.Frame
public import Idealize.ShloMosaic.Lib.Pipeline.Frame
public import Idealize.ShloMosaic.Lib.Pipeline.Value
public import Idealize.ShloMosaic.Lib.Tactic
public import proofs.«01_k».proof.Proof.AttnIdealBody

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The scratch array of keys after the first `p` points, from contents `a`. -/
def keysAt (c : Dev nD) (a : Vec F S6144x512 .bf16) : ℕ → Vec F S6144x512 .bf16
  | 0 => a
  | p + 1 => if hp : p < cfg0.N then keysNew (grid0.coords ⟨p, hp⟩) (iblk m c 4 ⟨p, hp⟩) (keysAt c a p) else keysAt c a p

/-- The scratch array of values after the first `p` points, from contents `b`. -/
def valsAt (c : Dev nD) (b : Vec F S512x6144 .bf16) : ℕ → Vec F S512x6144 .bf16
  | 0 => b
  | p + 1 => if hp : p < cfg0.N then valsNew (grid0.coords ⟨p, hp⟩) (iblk m c 5 ⟨p, hp⟩) (valsAt c b p) else valsAt c b p

/-- What point `t` leaves in the three result blocks. -/
def Left (c : Dev nD) (t : Fin cfg0.N) (y7 : Vec F S20x256x128 .f32) (y8 : Vec F S20x256x128 .fp8e4m3) (y9 : Vec F S1x1x256 .f32) : Prop :=
  ∃ a b, PointOut (grid0.coords t) (iblk m c 0 t) (iblk m c 1 t) (iblk m c 2 t) (iblk m c 3 t) (keysAt m c a (t.val + 1)) (valsAt m c b (t.val + 1)) y7 y8 y9

/-- The body's invariant before point `p`: the five scratch buffers and the generator register. -/
def inv (c : Dev nD) (p : ℕ) : sProp 𝕄 :=
  iprop(∃ (x10 : Vec F S6144x512 .bf16) (x11 : Vec F S512x6144 .bf16) (x12 : Vec F S20x128x256 .f32) (x13 : Vec F S24x256 .f32) (x14 : Vec F S24x256 .f32), ⌜∃ a b, x10 = keysAt m c a p ∧ x11 = valsAt m c b p⌝
    ∗ owns (c : Thread nD τ) (Memref.whole cc0_scratch0) fullShare x10
    ∗ owns (c : Thread nD τ) (Memref.whole cc0_scratch1) fullShare x11
    ∗ owns (c : Thread nD τ) (Memref.whole cc0_scratch2) fullShare x12
    ∗ owns (c : Thread nD τ) (Memref.whole cc0_scratch3) fullShare x13
    ∗ owns (c : Thread nD τ) (Memref.whole cc0_scratch4) fullShare x14
    ∗ (∃ r, prngReg c r))

/-- The proof data: inputs stay as found. -/
def rdat (c : Dev nD) : RDat τ (Elt F) Unit ℕ (UR sig nD τ) ℕ cfg0 c where
  A w := V m c (Pipeline.arrRef spec0 w)
  after w := match w with
    | ⟨0, _⟩ => fun _ Y X => X = Y
    | ⟨1, _⟩ => fun _ Y X => X = Y
    | ⟨2, _⟩ => fun _ Y X => X = Y
    | ⟨3, _⟩ => fun _ Y X => X = Y
    | ⟨4, _⟩ => fun _ Y X => X = Y
    | ⟨5, _⟩ => fun _ Y X => X = Y
    | ⟨6, _⟩ => fun t _ X => ∃ y8 y9, Left m c t X y8 y9
    | ⟨7, _⟩ => fun t _ X => ∃ y7 y9, Left m c t y7 X y9
    | ⟨8, _⟩ => fun t _ X => ∃ y7 y8, Left m c t y7 y8 X
  Φ p := inv m c p.val
  q _ := fullShare
  owed _ := 0

theorem A_eq (c : Dev nD) (w : Fin cfg0.W) : (rdat m c).A w = V m c (Pipeline.arrRef spec0 w) := by dsimp only [rdat]

theorem finds0_0 (c : Dev nD) (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  exact hd.trans (by unfold RDat.fetched RDat.blockOf iblk; rw [A_eq]; try rfl)
theorem finds0_1 (c : Dev nD) (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  exact hd.trans (by unfold RDat.fetched RDat.blockOf iblk; rw [A_eq]; try rfl)
theorem finds0_2 (c : Dev nD) (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  exact hd.trans (by unfold RDat.fetched RDat.blockOf iblk; rw [A_eq]; try rfl)
theorem finds0_3 (c : Dev nD) (t : Fin cfg0.N) (Y) (h : (rdat m c).Finds 3 t Y) : Y = iblk m c 3 t := by
  obtain ⟨d, hd⟩ := (rdat m c).finds_in_eq_fetched 3 rfl (fun _ _ _ => rfl) (fun _ _ _ h => h) t Y h
  exact hd.trans (by unfold RDat.fetched RDat.blockOf iblk; rw [A_eq]; try rfl)
theorem finds0_4 (c : Dev nD) (t : Fin cfg0.N) (Y) (h : (rdat m c).Finds 4 t Y) : Y = iblk m c 4 t := by
  obtain ⟨d, hd⟩ := (rdat m c).finds_in_eq_fetched 4 rfl (fun _ _ _ => rfl) (fun _ _ _ h => h) t Y h
  exact hd.trans (by unfold RDat.fetched RDat.blockOf iblk; rw [A_eq]; try rfl)
theorem finds0_5 (c : Dev nD) (t : Fin cfg0.N) (Y) (h : (rdat m c).Finds 5 t Y) : Y = iblk m c 5 t := by
  obtain ⟨d, hd⟩ := (rdat m c).finds_in_eq_fetched 5 rfl (fun _ _ _ => rfl) (fun _ _ _ h => h) t Y h
  exact hd.trans (by unfold RDat.fetched RDat.blockOf iblk; rw [A_eq]; try rfl)

/-! ## The body at a point -/

/-- What the body is called with at point `t`, the windows one by one, -/
def bodyPre (c : Dev nD) (t : Fin cfg0.N) (Y6 : Vec F S20x256x128 .f32) (Y7 : Vec F S20x256x128 .fp8e4m3) (Y8 : Vec F S1x1x256 .f32) : sProp 𝕄 :=
  iprop(inv m c t.val ∗ (rdat m c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare Y6 ∗ owns (c : Thread nD τ) (st0_7 t) fullShare Y7 ∗ owns (c : Thread nD τ) (st0_8 t) fullShare Y8)

/-- and what it returns. -/
def bodyPost (c : Dev nD) (t : Fin cfg0.N) : sProp 𝕄 :=
  iprop(inv m c (t.val + 1) ∗ (rdat m c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ (∃ X, ⌜∃ y8 y9, Left m c t X y8 y9⌝ ∗ owns (c : Thread nD τ) (st0_6 t) fullShare X)
    ∗ (∃ X, ⌜∃ y7 y9, Left m c t y7 X y9⌝ ∗ owns (c : Thread nD τ) (st0_7 t) fullShare X)
    ∗ (∃ X, ⌜∃ y7 y8, Left m c t y7 y8 X⌝ ∗ owns (c : Thread nD τ) (st0_8 t) fullShare X))

set_option maxHeartbeats 800000 in
/-- The body at any point. -/
theorem sound_body (c : Dev nD) (t : Fin cfg0.N) (Y6 : Vec F S20x256x128 .f32) (Y7 : Vec F S20x256x128 .fp8e4m3) (Y8 : Vec F S1x1x256 .f32) :
    bodyPre m c t Y6 Y7 Y8 ⊢ wp frame (wpE (defs₀ (F := F)) Variants.none c none) Set.univ (bodyAt0 t) (fun _ => bodyPost m c t) := by
  unfold bodyPre bodyPost bodyAt0 inv
  rw [show (rdat m c).owesAt () t.succ = (rdat m c).owesAt () t.castSucc from rfl]
  iintro ⟨⟨%x10, %x11, %x12, %x13, %x14, %hh, H10, H11, H12, H13, H14, Hg⟩, Ho, H0, H1, H2, H3, H4, H5, H6, H7, H8⟩
  iapply (run_body c Set.univ (grid0.coords t) _ _ _ _ _ _ _ _ _ _ _ _ _ _ _ _ _ _ _ _ _ _ _ _ _ _ _ _
    (iblk m c 0 t) (iblk m c 1 t) (iblk m c 2 t) (iblk m c 3 t) (iblk m c 4 t) (iblk m c 5 t) Y6 Y7 Y8 x10 x11 x12 x13 x14 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexact H10
  isplitl [H11]; · iexact H11
  isplitl [H12]; · iexact H12
  isplitl [H13]; · iexact H13
  isplitl [H14]; · iexact H14
  iintro ⟨H0, H1, H2, H3, H4, H5, ⟨%y7, %y8, %y9, %hp, H6, H7, H8⟩, H10, H11, ⟨%z12, H12⟩, ⟨%z13, H13⟩, ⟨%z14, H14⟩⟩
  obtain ⟨a, b, ha, hb⟩ := hh
  subst ha hb
  have ek : keysNew (grid0.coords t) (iblk m c 4 t) (keysAt m c a t.val) = keysAt m c a (t.val + 1) := by
    rw [keysAt, dif_pos t.isLt]
  have ev : valsNew (grid0.coords t) (iblk m c 5 t) (valsAt m c b t.val) = valsAt m c b (t.val + 1) := by
    rw [valsAt, dif_pos t.isLt]
  rw [ek, ev] at hp
  rw [ek, ev]
  isplitl [H10 H11 H12 H13 H14 Hg]
  · iexists _; iexists _; iexists _; iexists _; iexists _; isplitr
    swap
    · isplitl [H10]; · iexact H10
      isplitl [H11]; · iexact H11
      isplitl [H12]; · iexact H12
      isplitl [H13]; · iexact H13
      isplitl [H14]; · iexact H14
      iexact Hg
    ipureintro
    exact ⟨a, b, rfl, rfl⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr
    swap; · iexact H6
    ipureintro; exact ⟨_, _, _, _, hp⟩
  isplitl [H7]
  · iexists _; isplitr
    swap; · iexact H7
    ipureintro; exact ⟨_, _, _, _, hp⟩
  iexists _; isplitr
  swap; · iexact H8
  ipureintro; exact ⟨_, _, _, _, hp⟩

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y hY => by
  rw [bigSep_W0, bigSep_W0, defs₀_row,
    finds0_0 m c t _ (hY 0), finds0_1 m c t _ (hY 1), finds0_2 m c t _ (hY 2), finds0_3 m c t _ (hY 3), finds0_4 m c t _ (hY 4),
    finds0_5 m c t _ (hY 5)]
  refine triple_restated (sound_body m c t (Y 6) (Y 7) (Y 8)) rfl .rfl fun _ => ?_
  unfold bodyPost
  rw [show (rdat m c).Φ t.succ = inv m c (t.val + 1) from rfl]
  iintro ⟨Hi, Ho, H0, H1, H2, H3, H4, H5, H6, H7, H8⟩
  isplitl [Hi]; · iexact Hi
  isplitl [Ho]; · iexact Ho
  isplitl [H0]
  · iexists _; isplitr
    swap; · iexact H0
    ipureintro; exact rfl
  isplitl [H1]
  · iexists _; isplitr
    swap; · iexact H1
    ipureintro; exact rfl
  isplitl [H2]
  · iexists _; isplitr
    swap; · iexact H2
    ipureintro; exact rfl
  isplitl [H3]
  · iexists _; isplitr
    swap; · iexact H3
    ipureintro; exact rfl
  isplitl [H4]
  · iexists _; isplitr
    swap; · iexact H4
    ipureintro; exact rfl
  isplitl [H5]
  · iexists _; isplitr
    swap; · iexact H5
    ipureintro; exact rfl
  isplitl [H6]; · iexact H6
  isplitl [H7]; · iexact H7
  iexact H8

/-! ## The launch -/

theorem inv_in (c : Dev nD) : Pipeline.ΦA spec0 c ⊢ inv m c 0 := by
  unfold Pipeline.ΦA inv
  rw [scopedRest0_eq]
  simp only [owns_whole]
  iintro ⟨⟨⟨%x10, H10⟩, ⟨%x11, H11⟩, ⟨%x12, H12⟩, ⟨%x13, H13⟩, ⟨%x14, H14⟩⟩, Hg⟩
  iexists x10; iexists x11; iexists x12; iexists x13; iexists x14
  isplitr; · ipureintro; exact ⟨x10, x11, rfl, rfl⟩
  isplitl [H10]; · iexact H10
  isplitl [H11]; · iexact H11
  isplitl [H12]; · iexact H12
  isplitl [H13]; · iexact H13
  isplitl [H14]; · iexact H14
  iexact Hg

theorem inv_out (c : Dev nD) (p : ℕ) : inv m c p ⊢ Pipeline.ΦA spec0 c := by
  unfold Pipeline.ΦA inv
  rw [scopedRest0_eq]
  simp only [owns_whole]
  iintro ⟨%x10, %x11, %x12, %x13, %x14, -, H10, H11, H12, H13, H14, Hg⟩
  isplitl [H10 H11 H12 H13 H14]
  · isplitl [H10]; · iexists _; iexact H10
    isplitl [H11]; · iexists _; iexact H11
    isplitl [H12]; · iexists _; iexact H12
    isplitl [H13]; · iexists _; iexact H13
    iexists _; iexact H14
  iexact Hg

set_option backward.isDefEq.respectTransparency.types false in
set_option maxHeartbeats 800000 in
/-- The launch: from any memory every run ends with the arrays as the proof data says and the semaphores at zero. -/
theorem run_main : θ_run defs (onTc (τ := τ) (main (F := F))) (s₀ m ρ)
    (fun r => Pipeline.RDat.FramePost (cfgs 0) (fun c => rdat m c) (V m) r ∧ r.2.sem = fun _ => 0) :=
  Pipeline.RDat.θ_run_frame_track (Q' := _) cfgs (0 : Fin 1) launch0 defs₀ Variants.none (fun c => rdat m c) m ρ main
    (hbody := fun c => body_obligation m c) (hshare := fun _ _ => by unfold RDat.share; split <;> rfl) (howed := fun _ _ => rfl) (V := V m)
    (hmain := hmain m Variants.none) (hA := A_eq m) (hin := fun c => inv_in m c) (hout := fun c => inv_out m c _)

/-- After the run the six arguments hold what they held at launch. -/
theorem args_unchanged {r : PUnit × MemSt nD τ sig (Elt F)} (h : Pipeline.RDat.FramePost (cfgs 0) (fun c => rdat m c) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨(Pipeline.RDat.FramePost.arr_in h c 0 rfl).trans ((A_eq m c 0).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    (Pipeline.RDat.FramePost.arr_in h c 3 rfl).trans ((A_eq m c 3).trans (V_main_arg3 m c)),
    (Pipeline.RDat.FramePost.arr_in h c 4 rfl).trans ((A_eq m c 4).trans (V_main_arg4 m c)),
    (Pipeline.RDat.FramePost.arr_in h c 5 rfl).trans ((A_eq m c 5).trans (V_main_arg5 m c))⟩

/-- The frame: every run ends with the six arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => args_unchanged m h.1 c, h.2⟩) (run_main m ρ)

end Cert.AttnIdeal.Hand

end
-- ==== Proof.AttnPoint.lean ====
/- What a grid point of the attention kernel computes, in terms of the whole argument arrays. -/
module

public import proofs.«01_k».proof.Proof.AttnSweep
public import proofs.«01_k».proof.Proof.AttnIdealFrame
public import Idealize.ShloMosaic.Lib.StableHlo.ReadAt

@[expose] public section

set_option maxRecDepth 16384

noncomputable section

namespace Cert.AttnValue.Kernel

open Cert.AttnIdeal Cert.AttnIdeal.Gen Cert.AttnIdeal.Hand
open Idealize.ShloMosaic Idealize.ShloMosaic.TcCoe Idealize.ShloMosaic.Tactic
open Cert.Quant Cert.Softmax

variable (m : (ℓ : Loc nD τ sig) → Buf (Elt Ideal) ℓ)

/-! ## The blocks of the arguments -/

theorem in_facts : ∀ t : Fin cfg0.N,
    (grid0.coords t 0).val = t.val ∧ win0_0.index t (0 : Fin 1) = 0 ∧ win0_1.index t (0 : Fin 1) = 0 ∧ win0_2.index t (0 : Fin 1) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem lt_N (t : Fin cfg0.N) : t.val < 24 := N_0 ▸ t.isLt

theorem V_ks (c : Dev nD) : (V m c main_v0 : FVec Ideal S1 .f32) (ix1 0) = (m ((c : Thread nD τ).loc main_arg1) : FVec Ideal S_ .f32) ix0 := by
  unfold V hostOps0
  after_reads_at

theorem V_vs (c : Dev nD) : (V m c main_v1 : FVec Ideal S1 .f32) (ix1 0) = (m ((c : Thread nD τ).loc main_arg2) : FVec Ideal S_ .f32) ix0 := by
  unfold V hostOps0
  after_reads_at

theorem seg_word (c : Dev nD) (t : Fin cfg0.N) (n : Fin 7) (p) :
    segWord (F := Ideal) (iblk m c 0 t) n.val p = (m ((c : Thread nD τ).loc main_arg0) : IVec S7 32) (ix1 n) := by
  obtain ⟨-, e, -⟩ := in_facts t
  show V m c main_arg0 _ = _
  rw [V_main_arg0]
  refine congrArg _ (funext fun a => Fin.ext ?_)
  match a with
  | ⟨0, _⟩ => show win0_0.index t (0 : Fin 1) * 7 + 1 * (n.val + 1 * 0) = n.val; omega

theorem one_k (c : Dev nD) (t : Fin cfg0.N) :
    oneWord (F := Ideal) (iblk m c 1 t) = (m ((c : Thread nD τ).loc main_arg1) : FVec Ideal S_ .f32) ix0 := by
  obtain ⟨-, -, e, -⟩ := in_facts t
  refine Eq.trans ?_ (V_ks m c)
  show V m c main_v0 _ = _
  refine congrArg _ (funext fun a => Fin.ext ?_)
  match a with
  | ⟨0, _⟩ => show win0_1.index t (0 : Fin 1) * 1 + 1 * (0 + 1 * 0) = 0; omega

theorem one_v (c : Dev nD) (t : Fin cfg0.N) :
    oneWord (F := Ideal) (iblk m c 2 t) = (m ((c : Thread nD τ).loc main_arg2) : FVec Ideal S_ .f32) ix0 := by
  obtain ⟨-, -, -, e, -⟩ := in_facts t
  refine Eq.trans ?_ (V_vs m c)
  show V m c main_v1 _ = _
  refine congrArg _ (funext fun a => Fin.ext ?_)
  match a with
  | ⟨0, _⟩ => show win0_2.index t (0 : Fin 1) * 1 + 1 * (0 + 1 * 0) = 0; omega

theorem blk3 (c : Dev nD) (t : Fin cfg0.N) (y : Fin 256) (C : Fin 2560) :
    (iblk m c 3 t : FVec Ideal S256x2560 .bf16) (ix2 y C)
      = (m ((c : Thread nD τ).loc main_arg3) : FVec Ideal S6144x2560 .bf16) (ix2 (rowOf (grid0.coords t) y) C) := by
  obtain ⟨e, -, -, -, e0, e1, -⟩ := in_facts t
  show V m c main_arg3 (((cfg0.win 3).blk t).view.emb (ix2 y C)) = _
  rw [V_main_arg3]
  refine congrArg _ (funext fun a => Fin.ext ?_)
  match a with
  | ⟨0, _⟩ => show win0_3.index t (0 : Fin 2) * 256 + 1 * y.val = 256 * (grid0.coords t 0).val + y.val; omega
  | ⟨1, _⟩ => show win0_3.index t (1 : Fin 2) * 2560 + 1 * C.val = C.val; omega

theorem blk4 (c : Dev nD) (t : Fin cfg0.N) (K : Fin 6144) (C : Fin 512) :
    (iblk m c 4 t : FVec Ideal S6144x512 .fp8e4m3) (ix2 K C) = (m ((c : Thread nD τ).loc main_arg4) : FVec Ideal S6144x512 .fp8e4m3) (ix2 K C) := by
  obtain ⟨-, -, -, -, -, -, e0, e1, -⟩ := in_facts t
  show V m c main_arg4 (((cfg0.win 4).blk t).view.emb (ix2 K C)) = _
  rw [V_main_arg4]
  refine congrArg _ (funext fun a => Fin.ext ?_)
  match a with
  | ⟨0, _⟩ => show win0_4.index t (0 : Fin 2) * 6144 + 1 * K.val = K.val; omega
  | ⟨1, _⟩ => show win0_4.index t (1 : Fin 2) * 512 + 1 * C.val = C.val; omega

theorem blk5 (c : Dev nD) (t : Fin cfg0.N) (K : Fin 6144) (C : Fin 512) :
    (iblk m c 5 t : FVec Ideal S6144x512 .fp8e4m3) (ix2 K C) = (m ((c : Thread nD τ).loc main_arg5) : FVec Ideal S6144x512 .fp8e4m3) (ix2 K C) := by
  obtain ⟨-, -, -, -, -, -, -, -, e0, e1⟩ := in_facts t
  show V m c main_arg5 (((cfg0.win 5).blk t).view.emb (ix2 K C)) = _
  rw [V_main_arg5]
  refine congrArg _ (funext fun a => Fin.ext ?_)
  match a with
  | ⟨0, _⟩ => show win0_5.index t (0 : Fin 2) * 6144 + 1 * K.val = K.val; omega
  | ⟨1, _⟩ => show win0_5.index t (1 : Fin 2) * 512 + 1 * C.val = C.val; omega

/-! ## The scratch arrays of keys and values -/

theorem pay316_apply (x : Vec Ideal S256x512 .fp8e4m3) (j) : k0_pay316 (F := Ideal) x j = x j := by
  obtain ⟨a, b, rfl⟩ : ∃ (a : Fin 256) (b : Fin 512), j = ix2 a b := ⟨j 0, j 1, eq_ix2 j⟩
  pointwise [k0_pay316]

theorem pay317_apply (x : Vec Ideal S256x128 .fp8e4m3) (a : Fin 128) (b : Fin 256) : k0_pay317 (F := Ideal) x (ix2 a b) = x (ix2 b a) := by
  pointwise [k0_pay317]

theorem keysNew_apply (i : grid0.Coords) (x5 : Vec Ideal S6144x512 .fp8e4m3) (x10 : Vec Ideal S6144x512 .bf16) (K : Fin 6144) (C : Fin 512) :
    keysNew (F := Ideal) i x5 x10 (ix2 K C) = if 256 * (i 0).val ≤ K.val ∧ K.val < 256 * (i 0).val + 256 then x5 (ix2 K C) else x10 (ix2 K C) := by
  unfold keysNew VecWindow.put
  split
  · next h =>
    have h0 : 256 * (i 0).val ≤ K.val ∧ K.val < 256 * (i 0).val + 256 := h 0
    rw [if_pos h0, pay316_apply]
    refine congrArg x5 (funext fun a => Fin.ext ?_)
    match a with
    | ⟨0, _⟩ => show 256 * (i 0).val + 1 * (K.val - 256 * (i 0).val) = K.val; omega
    | ⟨1, _⟩ => show 0 + 1 * (C.val - 0) = C.val; omega
  · next h =>
    rw [if_neg]
    intro h0
    refine h fun a => ?_
    match a with
    | ⟨0, _⟩ => exact h0
    | ⟨1, _⟩ => exact ⟨Nat.zero_le _, by show C.val < 0 + 512; omega⟩

theorem valsPut_apply (i : grid0.Coords) (x6 : Vec Ideal S6144x512 .fp8e4m3) (g : Fin 4) (X : Vec Ideal S512x6144 .bf16) (K : Fin 6144) (C : Fin 512) :
    valsPut (F := Ideal) i x6 g X (ix2 C K)
      = if (128 * g.val ≤ C.val ∧ C.val < 128 * g.val + 128) ∧ 256 * (i 0).val ≤ K.val ∧ K.val < 256 * (i 0).val + 256 then x6 (ix2 K C) else X (ix2 C K) := by
  unfold valsPut VecWindow.put
  split
  · next h =>
    have h0 : 128 * g.val ≤ C.val ∧ C.val < 128 * g.val + 128 := h 0
    have h1 : 256 * (i 0).val ≤ K.val ∧ K.val < 256 * (i 0).val + 256 := h 1
    rw [if_pos ⟨h0, h1⟩]
    rw [show Rect.unitLocal (s := S512x6144) (off := ![128 * g.val, 256 * (i 0).val]) (size := S128x256.size) (ix2 C K) h
      = (ix2 ⟨C.val - 128 * g.val, by omega⟩ ⟨K.val - 256 * (i 0).val, by omega⟩ : S128x256.Idx) from by
        funext a; match a with
        | ⟨0, _⟩ => rfl
        | ⟨1, _⟩ => rfl]
    rw [pay317_apply]
    refine congrArg x6 (funext fun a => Fin.ext ?_)
    match a with
    | ⟨0, _⟩ => show 256 * (i 0).val + 1 * (K.val - 256 * (i 0).val) = K.val; omega
    | ⟨1, _⟩ => show 128 * g.val + 1 * (C.val - 128 * g.val) = C.val; omega
  · next h =>
    rw [if_neg]
    intro h0
    refine h fun a => ?_
    match a with
    | ⟨0, _⟩ => exact h0.1
    | ⟨1, _⟩ => exact h0.2

theorem valsNew_apply (i : grid0.Coords) (x6 : Vec Ideal S6144x512 .fp8e4m3) (X : Vec Ideal S512x6144 .bf16) (K : Fin 6144) (C : Fin 512) :
    valsNew (F := Ideal) i x6 X (ix2 C K) = if 256 * (i 0).val ≤ K.val ∧ K.val < 256 * (i 0).val + 256 then x6 (ix2 K C) else X (ix2 C K) := by
  have hC := C.isLt
  unfold valsNew
  simp only [valsPut_apply]
  by_cases hk : 256 * (i 0).val ≤ K.val ∧ K.val < 256 * (i 0).val + 256
  · simp only [hk, and_true, and_self, if_true]
    have e0 : ((0 : Fin 4) : ℕ) = 0 := rfl
    have e1 : ((1 : Fin 4) : ℕ) = 1 := rfl
    have e2 : ((2 : Fin 4) : ℕ) = 2 := rfl
    have e3 : ((3 : Fin 4) : ℕ) = 3 := rfl
    rw [e0, e1, e2, e3]
    split
    · rfl
    split
    · rfl
    split
    · rfl
    split
    · rfl
    · omega
  · simp only [hk, and_false, if_false]

theorem keysAt_apply (c : Dev nD) (a : Vec Ideal S6144x512 .bf16) : ∀ (p : ℕ), p ≤ 24 → ∀ (K : Fin 6144) (C : Fin 512), K.val < 256 * p →
    keysAt (F := Ideal) m c a p (ix2 K C) = (m ((c : Thread nD τ).loc main_arg4) : FVec Ideal S6144x512 .fp8e4m3) (ix2 K C)
  | 0, _, K, C, h => by omega
  | p + 1, hp, K, C, h => by
    have hN : p < cfg0.N := by rw [show cfg0.N = grid0.N from rfl, N_0]; omega
    have e : (grid0.coords (⟨p, hN⟩ : Fin cfg0.N) 0).val = p := (in_facts ⟨p, hN⟩).1
    rw [keysAt, dif_pos hN, keysNew_apply]
    split
    · exact blk4 m c _ K C
    · next hn => exact keysAt_apply c a p (by omega) K C (by rw [e] at hn; omega)

theorem valsAt_apply (c : Dev nD) (b : Vec Ideal S512x6144 .bf16) : ∀ (p : ℕ), p ≤ 24 → ∀ (K : Fin 6144) (C : Fin 512), K.val < 256 * p →
    valsAt (F := Ideal) m c b p (ix2 C K) = (m ((c : Thread nD τ).loc main_arg5) : FVec Ideal S6144x512 .fp8e4m3) (ix2 K C)
  | 0, _, K, C, h => by omega
  | p + 1, hp, K, C, h => by
    have hN : p < cfg0.N := by rw [show cfg0.N = grid0.N from rfl, N_0]; omega
    have e : (grid0.coords (⟨p, hN⟩ : Fin cfg0.N) 0).val = p := (in_facts ⟨p, hN⟩).1
    rw [valsAt, dif_pos hN, valsNew_apply]
    split
    · exact blk5 m c _ K C
    · next hn => exact valsAt_apply c b p (by omega) K C (by rw [e] at hn; omega)

theorem reads (c : Dev nD) (t : Fin cfg0.N) (a b) :
    Reads (m ((c : Thread nD τ).loc main_arg3)) (m ((c : Thread nD τ).loc main_arg4)) (m ((c : Thread nD τ).loc main_arg5)) (grid0.coords t)
      (iblk m c 3 t) (keysAt (F := Ideal) m c a (t.val + 1)) (valsAt (F := Ideal) m c b (t.val + 1)) where
  q y C := blk3 m c t y C
  k K C h := keysAt_apply m c a _ (by have := lt_N t; omega) K C (by rw [(in_facts t).1] at h; exact h)
  v K C h := valsAt_apply m c b _ (by have := lt_N t; omega) K C (by rw [(in_facts t).1] at h; exact h)

/-! ## The result blocks -/

theorem nest (f : Fin 20 → EReal) (hf : ∀ h, 0 ≤ f h) :
    max (max (max (max (max (max (max (max (max (max (max (max (max (max (max (max (max (max (max (max 0 (f 0)) (f 1)) (f 2)) (f 3)) (f 4)) (f 5)) (f 6)) (f 7)) (f 8)) (f 9))
      (f 10)) (f 11)) (f 12)) (f 13)) (f 14)) (f 15)) (f 16)) (f 17)) (f 18)) (f 19) = Finset.univ.fold max ⊥ f := by
  apply le_antisymm
  · iterate 20 refine max_le ?_ (le_fold f _)
    exact (hf 0).trans (le_fold f 0)
  · refine (Finset.fold_max_le _).2 ⟨bot_le, fun h _ => ?_⟩
    obtain ⟨n, hn⟩ := h
    interval_cases n <;> repeat first | exact le_max_right _ _ | refine le_max_of_le_left ?_

theorem row_max (o : Fin 20 → FVec Ideal S128x256 .f32) (A : Fin 20 → Fin 6144 → Fin 128 → EReal) (R : Fin 6144) (y : Fin 256)
    (ho : ∀ h e, o h (ix2 e y) = A h R e) : accMax (F := Ideal) (headsMax o) (o 19) (ix2 0 y) = rowMax A R := by
  unfold headsMax rowMax
  simp only [accMax_apply, zeroMax_apply, ho]
  exact nest (fun h => Finset.univ.fold max ⊥ fun d : Fin 128 => max (A h R d) (-(A h R d))) fun h =>
    (Cert.Quant.abs_nonneg (A h R 0)).trans (le_fold (fun d : Fin 128 => max (A h R d) (-(A h R d))) 0)

section Blocks

variable {a : Fin 20 → Vec Ideal S1x128x256 .f32} {d : Fin 20 → Vec Ideal S1x256 .f32} {y7 : Vec Ideal S20x256x128 .f32}
  {y8 : Vec Ideal S20x256x128 .fp8e4m3} {y9 : Vec Ideal S1x1x256 .f32} (A : Fin 20 → Fin 6144 → Fin 128 → EReal) (i : grid0.Coords)

theorem row7_idx (h : Fin 20) (y : Fin 256) (e : Fin 128) : (row7 h).idx (ix3 0 y e : S1x256x128.Idx) = (ix3 h y e : S20x256x128.Idx) := by
  funext a; apply Fin.ext
  match a with
  | ⟨0, _⟩ => show h.val + 1 * 0 = h.val; omega
  | ⟨1, _⟩ => show 0 + 1 * y.val = y.val; omega
  | ⟨2, _⟩ => show 0 + 1 * e.val = e.val; omega

theorem attn_block (E : Epi (F := Ideal) a d y7 y8 y9) (ho : ∀ h y e, headOut (F := Ideal) (a h) (d h) (ix2 e y) = A h (rowOf i y) e)
    (h : Fin 20) (y : Fin 256) (e : Fin 128) : y7 (ix3 h y e) = A h (rowOf i y) e := by
  have := congrFun (E.attn h) (ix3 0 y e)
  rw [attnOut_apply, ho] at this
  rw [← this, ← row7_idx]

theorem codes_block (E : Epi (F := Ideal) a d y7 y8 y9) (ho : ∀ h y e, headOut (F := Ideal) (a h) (d h) (ix2 e y) = A h (rowOf i y) e)
    (h : Fin 20) (y : Fin 256) (e : Fin 128) : y8 (ix3 h y e) = codeOf (A h (rowOf i y) e) (scaleOf (rowMax A (rowOf i y))) := by
  have := congrFun (E.codes h) (ix3 0 y e)
  rw [codesOut_apply, invScale_apply, row_max _ A (rowOf i y) y (fun h e => ho h y e), ho, codeOf_mul] at this
  rw [← this, ← row7_idx]

theorem scale_block (E : Epi (F := Ideal) a d y7 y8 y9) (ho : ∀ h y e, headOut (F := Ideal) (a h) (d h) (ix2 e y) = A h (rowOf i y) e)
    (y : Fin 256) : y9 (ix3 0 0 y) = scaleOf (rowMax A (rowOf i y)) := by
  rw [E.scale, scaleOut_apply, row_max _ A (rowOf i y) y (fun h e => ho h y e)]

end Blocks

/-- The attention of the arguments. -/
def OV (c : Dev nD) : Fin 20 → Fin 6144 → Fin 128 → EReal :=
  Out (m ((c : Thread nD τ).loc main_arg0)) ((m ((c : Thread nD τ).loc main_arg1) : FVec Ideal S_ .f32) ix0)
    ((m ((c : Thread nD τ).loc main_arg2) : FVec Ideal S_ .f32) ix0) (m ((c : Thread nD τ).loc main_arg3)) (m ((c : Thread nD τ).loc main_arg4))
    (m ((c : Thread nD τ).loc main_arg5))

theorem head_eq (c : Dev nD) (hs : Cuts (m ((c : Thread nD τ).loc main_arg0))) (t : Fin cfg0.N) (a b) (h : Fin 20) (y : Fin 256) (e : Fin 128) :
    headOut (F := Ideal)
      (headEnd (F := Ideal) (grid0.coords t) (iblk m c 0 t) (iblk m c 1 t) (iblk m c 2 t) (iblk m c 3 t) (keysAt (F := Ideal) m c a (t.val + 1)) (valsAt (F := Ideal) m c b (t.val + 1)) h).2.2
      (headEnd (F := Ideal) (grid0.coords t) (iblk m c 0 t) (iblk m c 1 t) (iblk m c 2 t) (iblk m c 3 t) (keysAt (F := Ideal) m c a (t.val + 1)) (valsAt (F := Ideal) m c b (t.val + 1)) h).2.1
      (ix2 e y) = OV m c h (rowOf (grid0.coords t) y) e := by
  refine Eq.trans ?_ (head_avg hs (reads m c t a b) h y e)
  unfold headEnd
  rw [show segWord (F := Ideal) (iblk m c 0 t) 1 _ = _ from seg_word m c t 1 _, show segWord (F := Ideal) (iblk m c 0 t) 2 _ = _ from seg_word m c t 2 _,
    show segWord (F := Ideal) (iblk m c 0 t) 3 _ = _ from seg_word m c t 3 _, show segWord (F := Ideal) (iblk m c 0 t) 4 _ = _ from seg_word m c t 4 _,
    show segWord (F := Ideal) (iblk m c 0 t) 5 _ = _ from seg_word m c t 5 _, one_k, one_v]

end Cert.AttnValue.Kernel

end
-- ==== Proof.AttnRefArray.lean ====
/- The attention's reference: it runs at one point whose blocks are the whole arrays, so its arrays are its expressions of
   the arguments. -/
module

public import proofs.«01_k».proof.Proof.AttnSpec
public import proofs.«01_k».proof.Proof.Gen.AttnRefIdeal.Frame
public import Idealize.ShloMosaic.Lib.StableHlo.ReadAt
public import Idealize.ShloMosaic.Lib.VecWindow
public import Idealize.ShloMosaic.Lib.UnfoldOut
public import Idealize.ShloMosaic.Lib.WholeRead

@[expose] public section

set_option maxRecDepth 16384

noncomputable section

namespace Cert.AttnValue.Ref

open Idealize.ShloMosaic Idealize.ShloMosaic.TcCoe Idealize.SL.Sem
open Cert.AttnRefIdeal Cert.AttnRefIdeal.Gen
open Cert.Quant Cert.Softmax

variable (m : (ℓ : Loc nD τ sig) → Buf (Elt Ideal) ℓ)

theorem hz3 : (![0, 0, 0] : Fin 3 → Nat) = fun _ => 0 := funext fun a => by fin_cases a <;> rfl

theorem idx_zero0 : ∀ t : Fin cfg0.N, win0_0.index t (0 : Fin 1) = 0 :=
  (by decide +kernel : ∀ t : Fin grid0.N, _)

theorem emb0 (t : Fin cfg0.N) (j : S7.Idx) : ((cfg0.win 0).blk t).view.emb j = j := by
  have e0 := idx_zero0 t
  funext a; apply Fin.ext
  match a with
  | ⟨0, _⟩ => show win0_0.index t (0 : Fin 1) * 7 + 1 * (j 0).val = (j 0).val; omega

theorem iblk0 (c : Dev nD) (t : Fin cfg0.N) : iblk m c 0 t = V m c main_arg0 := by
  funext j; show V m c main_arg0 (((cfg0.win 0).blk t).view.emb j) = V m c main_arg0 j; rw [emb0]

theorem idx_zero1 : ∀ t : Fin cfg0.N, win0_1.index t (0 : Fin 1) = 0 :=
  (by decide +kernel : ∀ t : Fin grid0.N, _)

theorem emb1 (t : Fin cfg0.N) (j : S1.Idx) : ((cfg0.win 1).blk t).view.emb j = j := by
  have e0 := idx_zero1 t
  funext a; apply Fin.ext
  match a with
  | ⟨0, _⟩ => show win0_1.index t (0 : Fin 1) * 1 + 1 * (j 0).val = (j 0).val; omega

theorem iblk1 (c : Dev nD) (t : Fin cfg0.N) : iblk m c 1 t = V m c main_v0 := by
  funext j; show V m c main_v0 (((cfg0.win 1).blk t).view.emb j) = V m c main_v0 j; rw [emb1]

theorem idx_zero2 : ∀ t : Fin cfg0.N, win0_2.index t (0 : Fin 1) = 0 :=
  (by decide +kernel : ∀ t : Fin grid0.N, _)

theorem emb2 (t : Fin cfg0.N) (j : S1.Idx) : ((cfg0.win 2).blk t).view.emb j = j := by
  have e0 := idx_zero2 t
  funext a; apply Fin.ext
  match a with
  | ⟨0, _⟩ => show win0_2.index t (0 : Fin 1) * 1 + 1 * (j 0).val = (j 0).val; omega

theorem iblk2 (c : Dev nD) (t : Fin cfg0.N) : iblk m c 2 t = V m c main_v1 := by
  funext j; show V m c main_v1 (((cfg0.win 2).blk t).view.emb j) = V m c main_v1 j; rw [emb2]

theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

theorem emb3 (t : Fin cfg0.N) (j : S20x6144x128.Idx) : ((cfg0.win 3).blk t).view.emb j = j := by
  obtain ⟨e0, e1, e2⟩ := idx_zero3 t
  funext a; apply Fin.ext
  match a with
  | ⟨0, _⟩ => show win0_3.index t (0 : Fin 3) * 20 + 1 * (j 0).val = (j 0).val; omega
  | ⟨1, _⟩ => show win0_3.index t (1 : Fin 3) * 6144 + 1 * (j 1).val = (j 1).val; omega
  | ⟨2, _⟩ => show win0_3.index t (2 : Fin 3) * 128 + 1 * (j 2).val = (j 2).val; omega

theorem iblk3 (c : Dev nD) (t : Fin cfg0.N) : iblk m c 3 t = V m c main_v3 := by
  funext j; show V m c main_v3 (((cfg0.win 3).blk t).view.emb j) = V m c main_v3 j; rw [emb3]

theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

theorem emb4 (t : Fin cfg0.N) (j : S20x6144x128.Idx) : ((cfg0.win 4).blk t).view.emb j = j := by
  obtain ⟨e0, e1, e2⟩ := idx_zero4 t
  funext a; apply Fin.ext
  match a with
  | ⟨0, _⟩ => show win0_4.index t (0 : Fin 3) * 20 + 1 * (j 0).val = (j 0).val; omega
  | ⟨1, _⟩ => show win0_4.index t (1 : Fin 3) * 6144 + 1 * (j 1).val = (j 1).val; omega
  | ⟨2, _⟩ => show win0_4.index t (2 : Fin 3) * 128 + 1 * (j 2).val = (j 2).val; omega

theorem iblk4 (c : Dev nD) (t : Fin cfg0.N) : iblk m c 4 t = V m c main_v7 := by
  funext j; show V m c main_v7 (((cfg0.win 4).blk t).view.emb j) = V m c main_v7 j; rw [emb4]

theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

theorem emb5 (t : Fin cfg0.N) (j : S20x6144x128.Idx) : ((cfg0.win 5).blk t).view.emb j = j := by
  obtain ⟨e0, e1, e2⟩ := idx_zero5 t
  funext a; apply Fin.ext
  match a with
  | ⟨0, _⟩ => show win0_5.index t (0 : Fin 3) * 20 + 1 * (j 0).val = (j 0).val; omega
  | ⟨1, _⟩ => show win0_5.index t (1 : Fin 3) * 6144 + 1 * (j 1).val = (j 1).val; omega
  | ⟨2, _⟩ => show win0_5.index t (2 : Fin 3) * 128 + 1 * (j 2).val = (j 2).val; omega

theorem iblk5 (c : Dev nD) (t : Fin cfg0.N) : iblk m c 5 t = V m c main_v11 := by
  funext j; show V m c main_v11 (((cfg0.win 5).blk t).view.emb j) = V m c main_v11 j; rw [emb5]

theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

theorem emb6 (t : Fin cfg0.N) (j : S20x6144x128.Idx) : ((cfg0.win 6).blk t).view.emb j = j := by
  obtain ⟨e0, e1, e2⟩ := idx_zero6 t
  funext a; apply Fin.ext
  match a with
  | ⟨0, _⟩ => show win0_6.index t (0 : Fin 3) * 20 + 1 * (j 0).val = (j 0).val; omega
  | ⟨1, _⟩ => show win0_6.index t (1 : Fin 3) * 6144 + 1 * (j 1).val = (j 1).val; omega
  | ⟨2, _⟩ => show win0_6.index t (2 : Fin 3) * 128 + 1 * (j 2).val = (j 2).val; omega

theorem covered6 (i : S20x6144x128.Idx) : ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

theorem idx_zero7 : ∀ t : Fin cfg0.N, win0_7.index t (0 : Fin 3) = 0 ∧ win0_7.index t (1 : Fin 3) = 0 ∧ win0_7.index t (2 : Fin 3) = 0 :=
  (by decide +kernel : ∀ t : Fin grid0.N, _)

theorem emb7 (t : Fin cfg0.N) (j : S20x6144x128.Idx) : ((cfg0.win 7).blk t).view.emb j = j := by
  obtain ⟨e0, e1, e2⟩ := idx_zero7 t
  funext a; apply Fin.ext
  match a with
  | ⟨0, _⟩ => show win0_7.index t (0 : Fin 3) * 20 + 1 * (j 0).val = (j 0).val; omega
  | ⟨1, _⟩ => show win0_7.index t (1 : Fin 3) * 6144 + 1 * (j 1).val = (j 1).val; omega
  | ⟨2, _⟩ => show win0_7.index t (2 : Fin 3) * 128 + 1 * (j 2).val = (j 2).val; omega

theorem covered7 (i : S20x6144x128.Idx) : ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

theorem idx_zero8 : ∀ t : Fin cfg0.N, win0_8.index t (0 : Fin 3) = 0 ∧ win0_8.index t (1 : Fin 3) = 0 ∧ win0_8.index t (2 : Fin 3) = 0 :=
  (by decide +kernel : ∀ t : Fin grid0.N, _)

theorem emb8 (t : Fin cfg0.N) (j : S24x1x256.Idx) : ((cfg0.win 8).blk t).view.emb j = j := by
  obtain ⟨e0, e1, e2⟩ := idx_zero8 t
  funext a; apply Fin.ext
  match a with
  | ⟨0, _⟩ => show win0_8.index t (0 : Fin 3) * 24 + 1 * (j 0).val = (j 0).val; omega
  | ⟨1, _⟩ => show win0_8.index t (1 : Fin 3) * 1 + 1 * (j 1).val = (j 1).val; omega
  | ⟨2, _⟩ => show win0_8.index t (2 : Fin 3) * 256 + 1 * (j 2).val = (j 2).val; omega

theorem covered8 (i : S24x1x256.Idx) : ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

section Outs

variable {e : EltTy} (c : Dev nD) (arg0 : Memref sig .tc .smem S7 .i32) (harg0 : arg0.IsWhole) (arg1 : Memref sig .tc .smem S1 .f32) (harg1 : arg1.IsWhole)
  (arg2 : Memref sig .tc .smem S1 .f32) (harg2 : arg2.IsWhole) (arg3 : Memref sig .tc .vmem S20x6144x128 .bf16) (harg3 : arg3.IsWhole)
  (arg4 : Memref sig .tc .vmem S20x6144x128 .fp8e4m3) (harg4 : arg4.IsWhole) (arg5 : Memref sig .tc .vmem S20x6144x128 .fp8e4m3) (harg5 : arg5.IsWhole)
  (arg6 : Memref sig .tc .vmem S20x6144x128 .f32) (harg6 : arg6.IsWhole) (arg7 : Memref sig .tc .vmem S20x6144x128 .fp8e4m3) (harg7 : arg7.IsWhole)
  (arg8 : Memref sig .tc .vmem S24x1x256 .f32) (harg8 : arg8.IsWhole)
  (x0 : Vec Ideal S7 .i32) (x1 x2 : Vec Ideal S1 .f32) (x3 : Vec Ideal S20x6144x128 .bf16) (x4 x5 : Vec Ideal S20x6144x128 .fp8e4m3)

/-- The reference's attention of its staged operands. -/
def outX : FVec Ideal S20x6144x128 .f32 :=
  outVec (x0 (ix1 1)) (x0 (ix1 2)) (x0 (ix1 3)) (x0 (ix1 4)) (x0 (ix1 5)) (x1 (ix1 0)) (x2 (ix1 0)) x3 x4 x5

theorem ld_whole (a : Memref sig .tc .vmem S20x6144x128 e) (h : a.IsWhole) (x : Vec Ideal S20x6144x128 e) :
    View.readAt (Elt Ideal) a.view (Rect.unit ![0, 0, 0] S20x6144x128.size inb_S20x6144x128_S20x6144x128_0_0_0).toLoadRect (h.unread x) = x :=
  funext fun i => (h.readAt_unread x _ i).trans (congrFun (View.ld_unit_zero (S := S20x6144x128) (by decide) _ x) i)

/-- A word loaded by itself. -/
theorem ld_word7 (a : Memref sig .tc .smem S7 .i32) (h : a.IsWhole) (x : Vec Ideal S7 .i32) (n : Fin 7) (hb : ∀ k, (![n.val] : Fin 1 → ℕ) k + S1.size k ≤ S7.size k) (j : S1.Idx) :
    View.readAt (Elt Ideal) a.view (Rect.unit (s := S7) ![n.val] S1.size hb).toLoadRect (h.unread x) j = x (ix1 n) := by
  refine (h.readAt_unread x (Rect.unit (s := S7) ![n.val] S1.size hb).toLoadRect j).trans (congrArg x (funext fun k => Fin.ext ?_))
  match k with
  | ⟨0, _⟩ =>
    have hj : (j 0).val < 1 := (j 0).isLt
    show n.val + 1 * (j 0).val = n.val
    omega

theorem ld_word1 (a : Memref sig .tc .smem S1 .f32) (h : a.IsWhole) (x : Vec Ideal S1 .f32) (hb : ∀ k, (![0] : Fin 1 → ℕ) k + S1.size k ≤ S1.size k) (j : S1.Idx) :
    View.readAt (Elt Ideal) a.view (Rect.unit (s := S1) ![0] S1.size hb).toLoadRect (h.unread x) j = x (ix1 0) := by
  refine (h.readAt_unread x (Rect.unit (s := S1) ![0] S1.size hb).toLoadRect j).trans (congrArg x (funext fun k => Fin.ext ?_))
  match k with
  | ⟨0, _⟩ =>
    have hj : (j 0).val < 1 := (j 0).isLt
    show 0 + 1 * (j 0).val = 0
    omega

/-- The body's quotient, of its words and loads. -/
theorem quot_eq (w1 w2 w3 w4 w5 : BitVec 32) (ks vs : EReal) (q : FVec Ideal S20x6144x128 .bf16) (k v : FVec Ideal S20x6144x128 .fp8e4m3) :
    k0_pay8 (F := Ideal) (iota .tc S6144x6144 32 [0] iota_S6144x6144_d0_w32) (iota .tc S6144x6144 32 [1] iota_S6144x6144_d1_w32) (k0_pay5 (F := Ideal) w1 w2 w3 w4 w5)
        (k0_pay6 (F := Ideal) w1 w2 w3 w4) w5 q k ks vs v
      = aVec (pVec (sVec (maskVec w1 w2 w3 w4 w5) q k ks) (mVec (sVec (maskVec w1 w2 w3 w4 w5) q k ks))) vs v := by
  unfold k0_pay8 k0_pay7 aVec pVec mVec sVec maskVec
  exact rfl

theorem den_eq (w1 w2 w3 w4 w5 : BitVec 32) (ks : EReal) (q : FVec Ideal S20x6144x128 .bf16) (k : FVec Ideal S20x6144x128 .fp8e4m3) :
    k0_pay9 (F := Ideal) (iota .tc S6144x6144 32 [0] iota_S6144x6144_d0_w32) (iota .tc S6144x6144 32 [1] iota_S6144x6144_d1_w32) (k0_pay5 (F := Ideal) w1 w2 w3 w4 w5)
        (k0_pay6 (F := Ideal) w1 w2 w3 w4) w5 q k ks
      = dVec (pVec (sVec (maskVec w1 w2 w3 w4 w5) q k ks) (mVec (sVec (maskVec w1 w2 w3 w4 w5) q k ks))) := by
  unfold k0_pay9 k0_pay7 dVec pVec mVec sVec maskVec
  exact rfl

/-- The body's values are the reference's attention. -/
theorem num_eq : kernelRun0_A.sl.r_9 c arg0 harg0 arg1 harg1 arg2 harg2 arg3 harg3 arg4 harg4 arg5 harg5 x0 x1 x2 x3 x4 x5
    = aVec (pVec (sVec (maskVec (x0 (ix1 1)) (x0 (ix1 2)) (x0 (ix1 3)) (x0 (ix1 4)) (x0 (ix1 5))) x3 x4 (x1 (ix1 0))) (mVec (sVec (maskVec (x0 (ix1 1)) (x0 (ix1 2)) (x0 (ix1 3)) (x0 (ix1 4)) (x0 (ix1 5))) x3 x4 (x1 (ix1 0))))) (x2 (ix1 0)) x5 := by
  rw [← quot_eq]
  unfold kernelRun0_A.sl.r_9 kernelRun0_A.sl.r_5 kernelRun0_A.sl.r_6 kernelRun0_A.sl.r_4 kernelRun0_A.sl.r_7 kernelRun0_A.sl.r_8 kernelRun0_A.sl.v0 kernelRun0_A.sl.v1
    kernelRun0_A.sl.r kernelRun0_A.sl.r_1 kernelRun0_A.sl.r_2 kernelRun0_A.sl.r_3
  rw [ld_whole arg3 harg3, ld_whole arg4 harg4, ld_whole arg5 harg5]
  erw [ld_word7 arg0 harg0 x0 1, ld_word7 arg0 harg0 x0 2, ld_word7 arg0 harg0 x0 3, ld_word7 arg0 harg0 x0 4, ld_word7 arg0 harg0 x0 5, ld_word1 arg1 harg1, ld_word1 arg2 harg2]

theorem den'_eq : kernelRun0_A.sl.r_10 c arg0 harg0 arg1 harg1 arg3 harg3 arg4 harg4 x0 x1 x3 x4
    = dVec (pVec (sVec (maskVec (x0 (ix1 1)) (x0 (ix1 2)) (x0 (ix1 3)) (x0 (ix1 4)) (x0 (ix1 5))) x3 x4 (x1 (ix1 0))) (mVec (sVec (maskVec (x0 (ix1 1)) (x0 (ix1 2)) (x0 (ix1 3)) (x0 (ix1 4)) (x0 (ix1 5))) x3 x4 (x1 (ix1 0))))) := by
  rw [← den_eq]
  unfold kernelRun0_A.sl.r_10 kernelRun0_A.sl.r_5 kernelRun0_A.sl.r_6 kernelRun0_A.sl.r_4 kernelRun0_A.sl.r_7 kernelRun0_A.sl.v0 kernelRun0_A.sl.v1
    kernelRun0_A.sl.r kernelRun0_A.sl.r_1 kernelRun0_A.sl.r_2 kernelRun0_A.sl.r_3
  rw [ld_whole arg3 harg3, ld_whole arg4 harg4]
  erw [ld_word7 arg0 harg0 x0 1, ld_word7 arg0 harg0 x0 2, ld_word7 arg0 harg0 x0 3, ld_word7 arg0 harg0 x0 4, ld_word7 arg0 harg0 x0 5, ld_word1 arg1 harg1]

theorem out6_eq : out0_A_6 (F := Ideal) c arg0 harg0 arg1 harg1 arg2 harg2 arg3 harg3 arg4 harg4 arg5 harg5 arg6 harg6 arg7 harg7 arg8 harg8 x0 x1 x2 x3 x4 x5
    = outX x0 x1 x2 x3 x4 x5 := by
  unfold out0_A_6 kernelRun0_A
  dsimp only
  rw [View.read_writes_full, num_eq, den'_eq]
  exact rfl

theorem out7_eq : out0_A_7 (F := Ideal) c arg0 harg0 arg1 harg1 arg2 harg2 arg3 harg3 arg4 harg4 arg5 harg5 arg6 harg6 arg7 harg7 arg8 harg8 x0 x1 x2 x3 x4 x5
    = codeVec (outX x0 x1 x2 x3 x4 x5) (scaleVec (maxVec (outX x0 x1 x2 x3 x4 x5))) := by
  unfold out0_A_7 kernelRun0_A
  dsimp only
  rw [View.read_writes_full, num_eq, den'_eq]
  unfold k0_pay3 k0_pay2 codeVec scaleVec maxVec outX outVec
  exact rfl

theorem out8_eq : out0_A_8 (F := Ideal) c arg0 harg0 arg1 harg1 arg2 harg2 arg3 harg3 arg4 harg4 arg5 harg5 arg6 harg6 arg7 harg7 arg8 harg8 x0 x1 x2 x3 x4 x5
    = shapeCast S24x1x256 (scaleVec (maxVec (outX x0 x1 x2 x3 x4 x5))) shapeCasts_S6144_S24x1x256 := by
  unfold out0_A_8 kernelRun0_A
  dsimp only
  rw [View.read_writes_full, num_eq, den'_eq]
  unfold k0_pay4 k0_pay2 scaleVec maxVec outX outVec
  exact rfl

end Outs

/-- The host's operands are the arguments' heads. -/
theorem headsOf (c : Dev nD) : HeadsOf (V m c main_v3) (V m c main_v7) (V m c main_v11) (m ((c : Thread nD τ).loc main_arg3)) (m ((c : Thread nD τ).loc main_arg4))
    (m ((c : Thread nD τ).loc main_arg5)) := by
  refine ⟨fun h R e => ?_, fun h K e => ?_, fun h K e => ?_⟩
  · unfold V hostOps0 qCol
    after_reads_at
    exact congrArg (fun C => m ((c : Thread nD τ).loc main_arg3) (ix2 R C)) (Fin.ext (by show h.val * 128 + e.val = 128 * h.val + e.val; omega))
  · unfold V hostOps0 kCol
    after_reads_at
    exact congrArg (fun C => m ((c : Thread nD τ).loc main_arg4) (ix2 K C)) (Fin.ext (by show h.val / 5 * 128 + e.val = 128 * (h.val / 5) + e.val; omega))
  · unfold V hostOps0 kCol
    after_reads_at
    exact congrArg (fun C => m ((c : Thread nD τ).loc main_arg5) (ix2 K C)) (Fin.ext (by show h.val / 5 * 128 + e.val = 128 * (h.val / 5) + e.val; omega))

theorem scaleK (c : Dev nD) : V m c main_v0 (ix1 0) = m ((c : Thread nD τ).loc main_arg1) ix0 := by
  unfold V hostOps0
  after_reads_at

theorem scaleV (c : Dev nD) : V m c main_v1 (ix1 0) = m ((c : Thread nD τ).loc main_arg2) ix0 := by
  unfold V hostOps0
  after_reads_at

/-- The attention of the argument arrays as launched. -/
abbrev OV (c : Dev nD) : Fin 20 → Fin 6144 → Fin 128 → EReal :=
  Out (m ((c : Thread nD τ).loc main_arg0)) (m ((c : Thread nD τ).loc main_arg1) ix0) (m ((c : Thread nD τ).loc main_arg2) ix0) (m ((c : Thread nD τ).loc main_arg3))
    (m ((c : Thread nD τ).loc main_arg4)) (m ((c : Thread nD τ).loc main_arg5))

theorem outX_eq (c : Dev nD) : outX (V m c main_arg0) (V m c main_v0) (V m c main_v1) (V m c main_v3) (V m c main_v7) (V m c main_v11) = Attn (OV m c) := by
  unfold outX
  rw [scaleK, scaleV, V_main_arg0]
  exact ref_attn (headsOf m c) _ _ _

theorem flushed6 (c : Dev nD) (t : Fin cfg0.N) : (dats m 0 c).flushed 6 t = ((cfg0.win 6).blk t).view.read (Elt Ideal) (Attn (OV m c)) := by
  rw [Cert.AttnRefIdeal.Value.flushed6_A, out6_eq, iblk0, iblk1, iblk2, iblk3, iblk4, iblk5, outX_eq]
  funext j
  show Attn (OV m c) j = Attn (OV m c) (((cfg0.win 6).blk t).view.emb j)
  rw [emb6]

theorem final6 (c : Dev nD) : (dats m 0 c).arrAt 6 cfg0.N = Attn (OV m c) :=
  (dats m 0 c).arrAt_eq_of_cover 6 (Attn (OV m c)) (fun t _ => flushed6 m c t) covered6

theorem flushed7 (c : Dev nD) (t : Fin cfg0.N) : (dats m 0 c).flushed 7 t = ((cfg0.win 7).blk t).view.read (Elt Ideal) (Codes (OV m c)) := by
  rw [Cert.AttnRefIdeal.Value.flushed7_A, out7_eq, iblk0, iblk1, iblk2, iblk3, iblk4, iblk5, outX_eq, ref_codes]
  funext j
  show Codes (OV m c) j = Codes (OV m c) (((cfg0.win 7).blk t).view.emb j)
  rw [emb7]

theorem final7 (c : Dev nD) : (dats m 0 c).arrAt 7 cfg0.N = Codes (OV m c) :=
  (dats m 0 c).arrAt_eq_of_cover 7 (Codes (OV m c)) (fun t _ => flushed7 m c t) covered7

theorem flushed8 (c : Dev nD) (t : Fin cfg0.N) : (dats m 0 c).flushed 8 t = ((cfg0.win 8).blk t).view.read (Elt Ideal) (Scales (OV m c)) := by
  rw [Cert.AttnRefIdeal.Value.flushed8_A, out8_eq, iblk0, iblk1, iblk2, iblk3, iblk4, iblk5, outX_eq, ref_scales]
  funext j
  show Scales (OV m c) j = Scales (OV m c) (((cfg0.win 8).blk t).view.emb j)
  rw [emb8]

theorem final8 (c : Dev nD) : (dats m 0 c).arrAt 8 cfg0.N = Scales (OV m c) :=
  (dats m 0 c).arrAt_eq_of_cover 8 (Scales (OV m c)) (fun t _ => flushed8 m c t) covered8

end Cert.AttnValue.Ref

end
-- ==== Proof.AttnArray.lean ====
/- The attention kernel's result arrays: the blocks written back make the whole arrays, and the equation with the
   reference. -/
module

public import proofs.«01_k».proof.Defs
public import proofs.«01_k».proof.Proof.AttnPoint
public import proofs.«01_k».proof.Proof.AttnRefArray
public import Idealize.ShloMosaic.Lib.Pipeline.ArrRel
public import Idealize.ShloMosaic.Lib.ReduceAll

@[expose] public section

set_option maxRecDepth 16384

noncomputable section

namespace Cert.AttnValue.Kernel

open Cert.AttnIdeal Cert.AttnIdeal.Gen Cert.AttnIdeal.Hand
open Idealize.ShloMosaic Idealize.ShloMosaic.TcCoe Idealize.SL.Sem
open Cert.Quant

variable (m : (ℓ : Loc nD τ sig) → Buf (Elt Ideal) ℓ)

/-- The output windows' block indices, and that every point writes back. -/
theorem out_facts : ∀ t : Fin cfg0.N,
    win0_6.index t (0 : Fin 3) = 0 ∧ win0_6.index t (1 : Fin 3) = t.val ∧ win0_6.index t (2 : Fin 3) = 0
    ∧ win0_7.index t (0 : Fin 3) = 0 ∧ win0_7.index t (1 : Fin 3) = t.val ∧ win0_7.index t (2 : Fin 3) = 0
    ∧ win0_8.index t (0 : Fin 3) = t.val ∧ win0_8.index t (1 : Fin 3) = 0 ∧ win0_8.index t (2 : Fin 3) = 0
    ∧ win0_6.flush t = true ∧ win0_7.flush t = true ∧ win0_8.flush t = true :=
  (by decide +kernel : ∀ t : Fin grid0.N, _)

theorem emb6 (t : Fin cfg0.N) (h : Fin 20) (y : Fin 256) (e : Fin 128) :
    (((cfg0.win 6).blk t).view.emb (ix3 h y e) : S20x6144x128.Idx) = ix3 h (rowOf (grid0.coords t) y) e := by
  obtain ⟨e0, e1, e2, -⟩ := out_facts t
  have hc := (in_facts t).1
  funext a; apply Fin.ext
  match a with
  | ⟨0, _⟩ => show win0_6.index t (0 : Fin 3) * 20 + 1 * h.val = h.val; omega
  | ⟨1, _⟩ => show win0_6.index t (1 : Fin 3) * 256 + 1 * y.val = 256 * (grid0.coords t 0).val + y.val; omega
  | ⟨2, _⟩ => show win0_6.index t (2 : Fin 3) * 128 + 1 * e.val = e.val; omega

theorem emb7 (t : Fin cfg0.N) (h : Fin 20) (y : Fin 256) (e : Fin 128) :
    (((cfg0.win 7).blk t).view.emb (ix3 h y e) : S20x6144x128.Idx) = ix3 h (rowOf (grid0.coords t) y) e := by
  obtain ⟨-, -, -, e0, e1, e2, -⟩ := out_facts t
  have hc := (in_facts t).1
  funext a; apply Fin.ext
  match a with
  | ⟨0, _⟩ => show win0_7.index t (0 : Fin 3) * 20 + 1 * h.val = h.val; omega
  | ⟨1, _⟩ => show win0_7.index t (1 : Fin 3) * 256 + 1 * y.val = 256 * (grid0.coords t 0).val + y.val; omega
  | ⟨2, _⟩ => show win0_7.index t (2 : Fin 3) * 128 + 1 * e.val = e.val; omega

theorem emb8 (t : Fin cfg0.N) (y : Fin 256) :
    (((cfg0.win 8).blk t).view.emb (ix3 0 0 y) : S24x1x256.Idx) = ix3 ⟨t.val, lt_N t⟩ 0 y := by
  obtain ⟨-, -, -, -, -, -, e0, e1, e2, -⟩ := out_facts t
  funext a; apply Fin.ext
  match a with
  | ⟨0, _⟩ => show win0_8.index t (0 : Fin 3) * 1 + 1 * 0 = t.val; omega
  | ⟨1, _⟩ => show win0_8.index t (1 : Fin 3) * 1 + 1 * 0 = 0; omega
  | ⟨2, _⟩ => show win0_8.index t (2 : Fin 3) * 256 + 1 * y.val = y.val; omega

/-- The point that has token `n` among its own. -/
theorem point_of (n : ℕ) (hn : n < 6144) : ∃ t : Fin cfg0.N, t.val = n / 256 :=
  ⟨⟨n / 256, by rw [show cfg0.N = grid0.N from rfl, N_0]; omega⟩, rfl⟩

theorem row_of {t : Fin cfg0.N} (R : Fin 6144) (ht : t.val = R.val / 256) :
    R = rowOf (grid0.coords t) ⟨R.val % 256, Nat.mod_lt _ (by decide)⟩ := by
  have hc := (in_facts t).1
  apply Fin.ext
  show R.val = 256 * (grid0.coords t 0).val + R.val % 256
  omega

theorem covered6 (i : S20x6144x128.Idx) : ∃ t : Fin cfg0.N, (cfg0.win 6).flush t = true ∧ i ∈ ((cfg0.win 6).blk t).view.set := by
  obtain ⟨h, R, e, rfl⟩ : ∃ (h : Fin 20) (R : Fin 6144) (e : Fin 128), i = ix3 h R e := ⟨i 0, i 1, i 2, eq_ix3 i⟩
  obtain ⟨t, ht⟩ := point_of R.val R.isLt
  refine ⟨t, (out_facts t).2.2.2.2.2.2.2.2.2.1, ?_⟩
  have hm := ((cfg0.win 6).blk t).view.emb_mem_set (ix3 h ⟨R.val % 256, Nat.mod_lt _ (by decide)⟩ e : S20x256x128.Idx)
  rw [emb6 t, ← row_of R ht] at hm
  exact hm

theorem covered7 (i : S20x6144x128.Idx) : ∃ t : Fin cfg0.N, (cfg0.win 7).flush t = true ∧ i ∈ ((cfg0.win 7).blk t).view.set := by
  obtain ⟨h, R, e, rfl⟩ : ∃ (h : Fin 20) (R : Fin 6144) (e : Fin 128), i = ix3 h R e := ⟨i 0, i 1, i 2, eq_ix3 i⟩
  obtain ⟨t, ht⟩ := point_of R.val R.isLt
  refine ⟨t, (out_facts t).2.2.2.2.2.2.2.2.2.2.1, ?_⟩
  have hm := ((cfg0.win 7).blk t).view.emb_mem_set (ix3 h ⟨R.val % 256, Nat.mod_lt _ (by decide)⟩ e : S20x256x128.Idx)
  rw [emb7 t, ← row_of R ht] at hm
  exact hm

theorem covered8 (i : S24x1x256.Idx) : ∃ t : Fin cfg0.N, (cfg0.win 8).flush t = true ∧ i ∈ ((cfg0.win 8).blk t).view.set := by
  obtain ⟨p, z, y, rfl⟩ : ∃ (p : Fin 24) (z : Fin 1) (y : Fin 256), i = ix3 p z y := ⟨i 0, i 1, i 2, eq_ix3 i⟩
  obtain rfl : z = 0 := Subsingleton.elim _ _
  obtain ⟨t, ht⟩ : ∃ t : Fin cfg0.N, t.val = p.val := ⟨⟨p.val, by rw [show cfg0.N = grid0.N from rfl, N_0]; exact p.isLt⟩, rfl⟩
  refine ⟨t, (out_facts t).2.2.2.2.2.2.2.2.2.2.2, ?_⟩
  have hm := ((cfg0.win 8).blk t).view.emb_mem_set (ix3 0 0 y : S1x1x256.Idx)
  rw [emb8 t, show (⟨t.val, lt_N t⟩ : Fin 24) = p from Fin.ext ht] at hm
  exact hm

/-- The result arrays after the run. -/
theorem final {r : PUnit × MemSt nD τ sig (Elt Ideal)} (h : Pipeline.RDat.FramePost (cfgs 0) (fun c => rdat m c) (V m) r) (c : Dev nD)
    (hs : Cuts (m ((c : Thread nD τ).loc main_arg0))) :
    r.2.mem ((c.tc : Thread nD τ).loc main_v2_0) = Attn (OV m c) ∧ r.2.mem ((c.tc : Thread nD τ).loc main_v2_1) = Codes (OV m c)
      ∧ r.2.mem ((c.tc : Thread nD τ).loc main_v2_2) = Scales (OV m c) := by
  obtain ⟨after, hL, hA⟩ := Pipeline.RDat.FramePost.exists_exact h c
  refine ⟨(hA 6).trans ?_, (hA 7).trans ?_, (hA 8).trans ?_⟩
  · refine ((rdat m c).withAfter after).arrAt_eq_of_cover 6 (Attn (OV m c)) (fun t hf => ?_) covered6
    obtain ⟨Y, -, y8, y9, a, b, hE⟩ := hL 6 t hf
    funext j
    show after 6 t j = Attn (OV m c) (((cfg0.win 6).blk t).view.emb j)
    obtain ⟨h, y, e, rfl⟩ : ∃ (h : Fin 20) (y : Fin 256) (e : Fin 128), j = ix3 h y e := ⟨j 0, j 1, j 2, eq_ix3 j⟩
    rw [emb6 t]
    exact attn_block (OV m c) (grid0.coords t) hE (head_eq m c hs t a b) h y e
  · refine ((rdat m c).withAfter after).arrAt_eq_of_cover 7 (Codes (OV m c)) (fun t hf => ?_) covered7
    obtain ⟨Y, -, y7, y9, a, b, hE⟩ := hL 7 t hf
    funext j
    show after 7 t j = Codes (OV m c) (((cfg0.win 7).blk t).view.emb j)
    obtain ⟨h, y, e, rfl⟩ : ∃ (h : Fin 20) (y : Fin 256) (e : Fin 128), j = ix3 h y e := ⟨j 0, j 1, j 2, eq_ix3 j⟩
    rw [emb7 t]
    exact codes_block (OV m c) (grid0.coords t) hE (head_eq m c hs t a b) h y e
  · refine ((rdat m c).withAfter after).arrAt_eq_of_cover 8 (Scales (OV m c)) (fun t hf => ?_) covered8
    obtain ⟨Y, -, y7, y8, a, b, hE⟩ := hL 8 t hf
    funext j
    show after 8 t j = Scales (OV m c) (((cfg0.win 8).blk t).view.emb j)
    obtain ⟨p, z, y, rfl⟩ : ∃ (p : Fin 1) (z : Fin 1) (y : Fin 256), j = ix3 p z y := ⟨j 0, j 1, j 2, eq_ix3 j⟩
    obtain rfl : z = 0 := Subsingleton.elim _ _
    obtain rfl : p = 0 := Subsingleton.elim _ _
    rw [emb8 t]
    refine (scale_block (OV m c) (grid0.coords t) hE (head_eq m c hs t a b) y).trans ?_
    show _ = scaleOf (rowMax (OV m c) (scaleRow ⟨t.val, lt_N t⟩ y))
    have hc := (in_facts t).1
    rw [show rowOf (grid0.coords t) y = scaleRow ⟨t.val, lt_N t⟩ y from Fin.ext (by
      show 256 * (grid0.coords t 0).val + y.val = t.val * 256 + y.val; omega)]

theorem cut_apply (cu : IVec S7 32) (h) (n : Fin 5) : extractStridedSlice Cert.Pre_sorted_cuts.S5 ![1] cu h (ix1 n) = cu (ix1 ⟨1 + n.val, by omega⟩) :=
  congrArg cu (funext fun a => Fin.ext (by match a with | ⟨0, _⟩ => rfl))

theorem lower_apply (x : IVec Cert.Pre_sorted_cuts.S5 32) (h) (n : Fin 4) :
    extractStridedSlice Cert.Pre_sorted_cuts.S4 ![0] x h (ix1 n) = x (ix1 ⟨n.val, by omega⟩) :=
  congrArg x (funext fun a => Fin.ext (by match a with | ⟨0, _⟩ => exact Nat.zero_add _))

theorem upper_apply (x : IVec Cert.Pre_sorted_cuts.S5 32) (h) (n : Fin 4) :
    extractStridedSlice Cert.Pre_sorted_cuts.S4 ![1] x h (ix1 n) = x (ix1 ⟨1 + n.val, by omega⟩) :=
  congrArg x (funext fun a => Fin.ext (by match a with | ⟨0, _⟩ => rfl))

/-- What the precondition says of the cuts: they do not decrease, and the first is not negative. -/
theorem cuts_of (hPre : Cert.Pre_sorted_cuts.Facts) (h : Cert.Pre_AttnIdeal_sorted_cuts (hPre_sorted_cuts := hPre) m) (c : Dev nD) :
    Cuts (m ((c : Thread nD τ).loc main_arg0)) := by
  have hc := IntOp.andi_eq_one.1 (congrFun (h c) ix0)
  have h0 := IntOp.cmpi_sge.1 (Host.reduce_andi_all _ _ _ _ ix0 hc.1 (ix1 0))
  have h1 := fun n : Fin 4 => IntOp.cmpi_sle.1 (Host.reduce_andi_all _ _ _ _ ix0 hc.2 (ix1 n))
  simp only [lower_apply, upper_apply, cut_apply] at h0 h1
  exact ⟨h0, h1 0, h1 1, h1 2, h1 3⟩

/-- THE EQUATION: on any launch memory whose cuts do not decrease the kernel and the reference end with the same arrays. -/
theorem algebraic (hPre : Cert.Pre_sorted_cuts.Facts) :
    Cert.algebraic_AttnIdeal_AttnRefIdeal_pre_sorted_cuts (hAttnIdeal := Cert.AttnIdeal.Gen.facts) (hAttnRefIdeal := Cert.AttnRefIdeal.Gen.facts)
      (hPre_sorted_cuts := hPre) := by
  intro m ρ m' ρ' hp hag
  refine ⟨fun c => Attn (OV m c), fun c => Codes (OV m c), fun c => Scales (OV m c), ?_, ?_⟩
  · exact (θ_run _ _ _).mono (fun _ h c =>
      ⟨(final m h.1 c (cuts_of m hPre hp c)).1, (final m h.1 c (cuts_of m hPre hp c)).2.1, (final m h.1 c (cuts_of m hPre hp c)).2.2, args_unchanged m h.1 c⟩)
      (run_main m ρ)
  · refine (θ_run _ _ _).mono (fun _ h c => ⟨(h c).1.trans ?_, (h c).2.1.trans ?_, (h c).2.2.1.trans ?_, (h c).2.2.2⟩)
      (Cert.AttnRefIdeal.Value.run_blocks m' ρ')
    all_goals obtain ⟨e0, e1, e2, e3, e4, e5⟩ := hag c
    · refine (Ref.final6 m' c).trans ?_
      unfold Ref.OV OV
      rw [e0, e1, e2, e3, e4, e5]
    · refine (Ref.final7 m' c).trans ?_
      unfold Ref.OV OV
      rw [e0, e1, e2, e3, e4, e5]
    · refine (Ref.final8 m' c).trans ?_
      unfold Ref.OV OV
      rw [e0, e1, e2, e3, e4, e5]

end Cert.AttnValue.Kernel

end
-- ==== Proof.lean ====
/- The certificate: the frames of the attention and of the gate/up projection are proved in Proof/AttnFrame.lean,
   Proof/AttnIdealFrame.lean, Proof/GateUpFrame.lean and Proof/GateUpIdealFrame.lean, the other frames are the generated
   ones, nothing was idealized away, and the value equations are proved in Proof/AttnArray.lean, Proof/QkvArray.lean,
   Proof/OprojArray.lean, Proof/GateUpArray.lean and Proof/DownArray.lean. -/
module

public import proofs.«01_k».proof.Defs
public import proofs.«01_k».proof.Proof.Gen.Down.Frame
public import proofs.«01_k».proof.Proof.Gen.Qkv.Frame
public import proofs.«01_k».proof.Proof.QkvArray
public import proofs.«01_k».proof.Proof.Gen.Oproj.Frame
public import proofs.«01_k».proof.Proof.OprojArray
public import proofs.«01_k».proof.Proof.GateUpFrame
public import proofs.«01_k».proof.Proof.GateUpArray
public import proofs.«01_k».proof.Proof.DownArray
public import proofs.«01_k».proof.Proof.AttnFrame
public import proofs.«01_k».proof.Proof.AttnArray

@[expose] public section

noncomputable section

namespace Cert.Proof

open Idealize.ShloMosaic Idealize.SL.Sem

theorem cutsFacts : Cert.Pre_sorted_cuts.Facts :=
  ⟨by decide, by decide, by decide, by decide, by decide, by decide, by decide⟩

theorem claim : Cert.Claim :=
  ⟨Cert.Attn.Gen.facts, Cert.AttnIdeal.Gen.facts, Cert.AttnRefIdeal.Gen.facts,
    Cert.Qkv.Gen.facts, Cert.QkvIdeal.Gen.facts, Cert.QkvRefIdeal.Gen.facts,
    Cert.Oproj.Gen.facts, Cert.OprojIdeal.Gen.facts, Cert.OprojRefIdeal.Gen.facts,
    Cert.GateUp.Gen.facts, Cert.GateUpIdeal.Gen.facts, Cert.GateUpRefIdeal.Gen.facts,
    Cert.Down.Gen.facts, Cert.DownIdeal.Gen.facts, Cert.DownRefIdeal.Gen.facts, cutsFacts, ⟨⟩,
    fun m ρ _ => Cert.Attn.Hand.frame m ρ, fun m ρ _ => Cert.AttnIdeal.Hand.frame m ρ, fun m ρ _ => Cert.AttnIdeal.Hand.frame m ρ,
    fun m ρ _ => Cert.AttnRefIdeal.Gen.frame m ρ, fun m ρ _ => Cert.AttnRefIdeal.Gen.frame m ρ,
    fun m ρ _ => Cert.Qkv.Gen.frame m ρ, fun m ρ _ => Cert.QkvIdeal.Gen.frame m ρ, fun m ρ _ => Cert.QkvIdeal.Gen.frame m ρ,
    fun m ρ _ => Cert.QkvRefIdeal.Gen.frame m ρ, fun m ρ _ => Cert.QkvRefIdeal.Gen.frame m ρ,
    fun m ρ _ => Cert.Oproj.Gen.frame m ρ, fun m ρ _ => Cert.OprojIdeal.Gen.frame m ρ, fun m ρ _ => Cert.OprojRefIdeal.Gen.frame m ρ,
    fun m ρ _ => Cert.GateUp.Hand.frame m ρ, fun m ρ _ => Cert.GateUpIdeal.Hand.frame m ρ, fun m ρ _ => Cert.GateUpRefIdeal.Gen.frame m ρ,
    fun m ρ _ => Cert.Down.Gen.frame m ρ, fun m ρ _ => Cert.DownIdeal.Gen.frame m ρ, fun m ρ _ => Cert.DownRefIdeal.Gen.frame m ρ,
    trivial, Cert.AttnValue.Kernel.algebraic cutsFacts, trivial, Cert.QkvValue.algebraic ⟨⟩, trivial, Cert.OprojValue.algebraic, trivial, Cert.GateUpValue.algebraic, trivial, Cert.DownValue.algebraic⟩

end Cert.Proof

end
